-- ==== Defs.lean ====
def Pre_Kernel [hPre_prefix_fits : Cert.Pre_prefix_fits.Facts] (m : (ℓ : Loc Cert.Kernel.nD Cert.Kernel.τ Cert.Kernel.sig) → Buf (Elt Bits) ℓ) : Prop :=
  ∀ c : Dev Cert.Kernel.nD,
    (Cert.Pre_prefix_fits.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_prefix_fits : Cert.Pre_prefix_fits.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prefix_fits [hPre_prefix_fits : Cert.Pre_prefix_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prefix_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_prefix_fits : Cert.Pre_prefix_fits.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_prefix_fits : Cert.Pre_prefix_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_prefix_fits [hReferenceIdeal : Cert.ReferenceIdeal.Facts] [hPre_prefix_fits : Cert.Pre_prefix_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prefix_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_prefix_fits : Cert.Pre_prefix_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v33)) (v2 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_v35) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_prefix_fits : Cert.Pre_prefix_fits.Facts),
    quiescent_Kernel (hKernel := hKernel) (hPre_prefix_fits := hPre_prefix_fits)
    ∧ quiescent_KernelIdeal (hKernelIdeal := hKernelIdeal) (hPre_prefix_fits := hPre_prefix_fits)
    ∧ quiescent_ReferenceIdeal (hReferenceIdeal := hReferenceIdeal)
    ∧ quiescent_ReferenceIdeal_pre_prefix_fits (hReferenceIdeal := hReferenceIdeal) (hPre_prefix_fits := hPre_prefix_fits)
    ∧ preserves_Kernel_KernelIdeal
    ∧ algebraic_KernelIdeal_ReferenceIdeal (hKernelIdeal := hKernelIdeal) (hReferenceIdeal := hReferenceIdeal) (hPre_prefix_fits := hPre_prefix_fits)
-- ==== Pre_prefix_fits.lean ====
abbrev S6x4096x40x128 : Shape := ⟨4, ![6, 4096, 40, 128]⟩
abbrev S6x4096x40 : Shape := ⟨3, ![6, 4096, 40]⟩
abbrev S24576x10x128 : Shape := ⟨3, ![24576, 10, 128]⟩
abbrev S24576x10 : Shape := ⟨2, ![24576, 10]⟩
abbrev S6x4096x10x128 : Shape := ⟨4, ![6, 4096, 10, 128]⟩
abbrev S6x4096x10 : Shape := ⟨3, ![6, 4096, 10]⟩
abbrev S1 : Shape := ⟨1, ![1]⟩
abbrev S6 : Shape := ⟨1, ![6]⟩
abbrev S_ : Shape := ⟨0, ![]⟩

class Facts : Prop where
  shapeCasts_S1_S_ : S1.ShapeCasts S_

variable [Facts]

def fn {F : FTy → Type} [FloatOps F] (main_arg0 : FVec F S6x4096x40x128 .fp8e4m3) (main_arg1 : FVec F S6x4096x40 .f32) (main_arg2 : FVec F S24576x10x128 .fp8e4m3) (main_arg3 : FVec F S24576x10x128 .fp8e4m3) (main_arg4 : FVec F S24576x10 .f32) (main_arg5 : FVec F S24576x10 .f32) (main_arg6 : FVec F S6x4096x10x128 .fp8e4m3) (main_arg7 : FVec F S6x4096x10x128 .fp8e4m3) (main_arg8 : FVec F S6x4096x10 .f32) (main_arg9 : FVec F S6x4096x10 .f32) (main_arg10 : IVec S1 32) (main_arg11 : IVec S6 32) : IVec S_ 1 :=
  let main_v0 : IVec S_ 32 := shapeCast S_ main_arg10 shapeCasts_S1_S_
  let main_c : IVec S_ 32 := constantI S_ 32 24576#32
  let main_v1 : IVec S_ 1 := cmpi .sle main_v0 main_c
  main_v1
-- ==== Kernel.lean ====
abbrev S6x4096x40x128 : Shape := ⟨4, ![6, 4096, 40, 128]⟩
abbrev S6x4096x40 : Shape := ⟨3, ![6, 4096, 40]⟩
abbrev S24576x10x128 : Shape := ⟨3, ![24576, 10, 128]⟩
abbrev S24576x10 : Shape := ⟨2, ![24576, 10]⟩
abbrev S6x4096x10x128 : Shape := ⟨4, ![6, 4096, 10, 128]⟩
abbrev S6x4096x10 : Shape := ⟨3, ![6, 4096, 10]⟩
abbrev S1 : Shape := ⟨1, ![1]⟩
abbrev S6 : Shape := ⟨1, ![6]⟩
abbrev S6x40x128x4096 : Shape := ⟨4, ![6, 40, 128, 4096]⟩
abbrev S6x40x4096 : Shape := ⟨3, ![6, 40, 4096]⟩
abbrev S6x10x4x4096 : Shape := ⟨4, ![6, 10, 4, 4096]⟩
abbrev S10x24576x128 : Shape := ⟨3, ![10, 24576, 128]⟩
abbrev S192x128x10x128 : Shape := ⟨4, ![192, 128, 10, 128]⟩
abbrev S10x192x128x128 : Shape := ⟨4, ![10, 192, 128, 128]⟩
abbrev S10x24576 : Shape := ⟨2, ![10, 24576]⟩
abbrev S10x192x128 : Shape := ⟨3, ![10, 192, 128]⟩
abbrev S6x10x4096x128 : Shape := ⟨4, ![6, 10, 4096, 128]⟩
abbrev S6x32x128x10x128 : Shape := ⟨5, ![6, 32, 128, 10, 128]⟩
abbrev S6x10x32x128x128 : Shape := ⟨5, ![6, 10, 32, 128, 128]⟩
abbrev S6x10x4096 : Shape := ⟨3, ![6, 10, 4096]⟩
abbrev S6x10x32x128 : Shape := ⟨4, ![6, 10, 32, 128]⟩
abbrev S_ : Shape := ⟨0, ![]⟩
abbrev S6x4096x5120 : Shape := ⟨3, ![6, 4096, 5120]⟩
abbrev S32 : Shape := ⟨1, ![32]⟩
abbrev S1x32 : Shape := ⟨2, ![1, 32]⟩
abbrev S6x1 : Shape := ⟨2, ![6, 1]⟩
abbrev S6x32 : Shape := ⟨2, ![6, 32]⟩
abbrev S1x6x32 : Shape := ⟨3, ![1, 6, 32]⟩
abbrev S10x6x32 : Shape := ⟨3, ![10, 6, 32]⟩
abbrev S4x128x128 : Shape := ⟨3, ![4, 128, 128]⟩
abbrev S4x128 : Shape := ⟨2, ![4, 128]⟩
abbrev S2048x128 : Shape := ⟨2, ![2048, 128]⟩
abbrev S16x128x128 : Shape := ⟨3, ![16, 128, 128]⟩
abbrev S16x128 : Shape := ⟨2, ![16, 128]⟩
abbrev S1x512 : Shape := ⟨2, ![1, 512]⟩
abbrev S128x512 : Shape := ⟨2, ![128, 512]⟩
abbrev S1x1x1 : Shape := ⟨3, ![1, 1, 1]⟩
abbrev S1x4x128x128 : Shape := ⟨4, ![1, 4, 128, 128]⟩
abbrev S1x1x4x128 : Shape := ⟨4, ![1, 1, 4, 128]⟩
abbrev S1x128x128 : Shape := ⟨3, ![1, 128, 128]⟩
abbrev S128x128 : Shape := ⟨2, ![128, 128]⟩
abbrev S1x128 : Shape := ⟨2, ![1, 128]⟩
abbrev S1x24576x128 : Shape := ⟨3, ![1, 24576, 128]⟩
abbrev S24576x128 : Shape := ⟨2, ![24576, 128]⟩
abbrev S1x2048x128 : Shape := ⟨3, ![1, 2048, 128]⟩
abbrev S1x192x128x128 : Shape := ⟨4, ![1, 192, 128, 128]⟩
abbrev S192x128x128 : Shape := ⟨3, ![192, 128, 128]⟩
abbrev S1x16x128x128 : Shape := ⟨4, ![1, 16, 128, 128]⟩
abbrev S1x192x128 : Shape := ⟨3, ![1, 192, 128]⟩
abbrev S192x128 : Shape := ⟨2, ![192, 128]⟩
abbrev S512 : Shape := ⟨1, ![512]⟩
abbrev S1x1x4096x128 : Shape := ⟨4, ![1, 1, 4096, 128]⟩
abbrev S4096x128 : Shape := ⟨2, ![4096, 128]⟩
abbrev S1x1x2048x128 : Shape := ⟨4, ![1, 1, 2048, 128]⟩
abbrev S1x1x32x128x128 : Shape := ⟨5, ![1, 1, 32, 128, 128]⟩
abbrev S32x128x128 : Shape := ⟨3, ![32, 128, 128]⟩
abbrev S1x1x16x128x128 : Shape := ⟨5, ![1, 1, 16, 128, 128]⟩
abbrev S1x1x32x128 : Shape := ⟨4, ![1, 1, 32, 128]⟩
abbrev S32x128 : Shape := ⟨2, ![32, 128]⟩
abbrev S1x128x512 : Shape := ⟨3, ![1, 128, 512]⟩

abbrev nBuf : Space → Nat
  | .hbm => 54
  | .vmem => 13
  | .smem => 3
  | _ => 0

abbrev bufTy : (tb : Table) → Fin (tcTables nBuf tb) → BufTy
  | .hbm, ⟨0, _⟩ => ⟨S6x4096x40x128, .fp8e4m3⟩
  | .hbm, ⟨1, _⟩ => ⟨S6x4096x40, .f32⟩
  | .hbm, ⟨2, _⟩ => ⟨S24576x10x128, .fp8e4m3⟩
  | .hbm, ⟨3, _⟩ => ⟨S24576x10x128, .fp8e4m3⟩
  | .hbm, ⟨4, _⟩ => ⟨S24576x10, .f32⟩
  | .hbm, ⟨5, _⟩ => ⟨S24576x10, .f32⟩
  | .hbm, ⟨6, _⟩ => ⟨S6x4096x10x128, .fp8e4m3⟩
  | .hbm, ⟨7, _⟩ => ⟨S6x4096x10x128, .fp8e4m3⟩
  | .hbm, ⟨8, _⟩ => ⟨S6x4096x10, .f32⟩
  | .hbm, ⟨9, _⟩ => ⟨S6x4096x10, .f32⟩
  | .hbm, ⟨10, _⟩ => ⟨S1, .i32⟩
  | .hbm, ⟨11, _⟩ => ⟨S6, .i32⟩
  | .hbm, ⟨12, _⟩ => ⟨S6x40x128x4096, .fp8e4m3⟩
  | .hbm, ⟨13, _⟩ => ⟨S6x40x4096, .f32⟩
  | .hbm, ⟨14, _⟩ => ⟨S6x10x4x4096, .f32⟩
  | .hbm, ⟨15, _⟩ => ⟨S10x24576x128, .fp8e4m3⟩
  | .hbm, ⟨16, _⟩ => ⟨S192x128x10x128, .fp8e4m3⟩
  | .hbm, ⟨17, _⟩ => ⟨S10x192x128x128, .fp8e4m3⟩
  | .hbm, ⟨18, _⟩ => ⟨S10x24576, .f32⟩
  | .hbm, ⟨19, _⟩ => ⟨S10x192x128, .f32⟩
  | .hbm, ⟨20, _⟩ => ⟨S10x24576, .f32⟩
  | .hbm, ⟨21, _⟩ => ⟨S10x192x128, .f32⟩
  | .hbm, ⟨22, _⟩ => ⟨S6x10x4096x128, .fp8e4m3⟩
  | .hbm, ⟨23, _⟩ => ⟨S6x32x128x10x128, .fp8e4m3⟩
  | .hbm, ⟨24, _⟩ => ⟨S6x10x32x128x128, .fp8e4m3⟩
  | .hbm, ⟨25, _⟩ => ⟨S6x10x4096, .f32⟩
  | .hbm, ⟨26, _⟩ => ⟨S6x10x32x128, .f32⟩
  | .hbm, ⟨27, _⟩ => ⟨S6x10x4096, .f32⟩
  | .hbm, ⟨28, _⟩ => ⟨S6x10x32x128, .f32⟩
  | .hbm, ⟨29, _⟩ => ⟨S_, .bf16⟩
  | .hbm, ⟨30, _⟩ => ⟨S6x4096x5120, .bf16⟩
  | .hbm, ⟨31, _⟩ => ⟨S_, .f32⟩
  | .hbm, ⟨32, _⟩ => ⟨S6x10x4x4096, .f32⟩
  | .hbm, ⟨33, _⟩ => ⟨S_, .f32⟩
  | .hbm, ⟨34, _⟩ => ⟨S6x10x4x4096, .f32⟩
  | .hbm, ⟨35, _⟩ => ⟨S32, .i32⟩
  | .hbm, ⟨36, _⟩ => ⟨S_, .i32⟩
  | .hbm, ⟨37, _⟩ => ⟨S32, .i32⟩
  | .hbm, ⟨38, _⟩ => ⟨S32, .i32⟩
  | .hbm, ⟨39, _⟩ => ⟨S1x32, .i32⟩
  | .hbm, ⟨40, _⟩ => ⟨S6x1, .i32⟩
  | .hbm, ⟨41, _⟩ => ⟨S6x32, .i32⟩
  | .hbm, ⟨42, _⟩ => ⟨S6x32, .i32⟩
  | .hbm, ⟨43, _⟩ => ⟨S6x32, .i1⟩
  | .hbm, ⟨44, _⟩ => ⟨S6x32, .i32⟩
  | .hbm, ⟨45, _⟩ => ⟨S1x6x32, .i32⟩
  | .hbm, ⟨46, _⟩ => ⟨S10x6x32, .i32⟩
  | .hbm, ⟨47, _⟩ => ⟨S6x4096x5120, .bf16⟩
  | .hbm, ⟨48, _⟩ => ⟨S6x10x4x4096, .f32⟩
  | .hbm, ⟨49, _⟩ => ⟨S6x10x4x4096, .f32⟩
  | .hbm, ⟨50, _⟩ => ⟨S6x40x4096, .f32⟩
  | .hbm, ⟨51, _⟩ => ⟨S6x4096x40, .f32⟩
  | .hbm, ⟨52, _⟩ => ⟨S6x40x4096, .f32⟩
  | .hbm, ⟨53, _⟩ => ⟨S6x4096x40, .f32⟩
  | .local _ .vmem, ⟨0, _⟩ => ⟨S4x128x128, .fp8e4m3⟩
  | .local _ .vmem, ⟨1, _⟩ => ⟨S4x128, .f32⟩
  | .local _ .vmem, ⟨2, _⟩ => ⟨S2048x128, .fp8e4m3⟩
  | .local _ .vmem, ⟨3, _⟩ => ⟨S16x128x128, .fp8e4m3⟩
  | .local _ .vmem, ⟨4, _⟩ => ⟨S16x128, .f32⟩
  | .local _ .vmem, ⟨5, _⟩ => ⟨S16x128, .f32⟩
  | .local _ .vmem, ⟨6, _⟩ => ⟨S1x512, .f32⟩
  | .local _ .vmem, ⟨7, _⟩ => ⟨S1x512, .f32⟩
  | .local _ .vmem, ⟨8, _⟩ => ⟨S128x512, .f32⟩
  | .local _ .vmem, ⟨9, _⟩ => ⟨S128x512, .f32⟩
  | .local _ .vmem, ⟨10, _⟩ => ⟨S1x512, .f32⟩
  | .local _ .vmem, ⟨11, _⟩ => ⟨S128x512, .bf16⟩
  | .local _ .vmem, ⟨12, _⟩ => ⟨S4x128, .f32⟩
  | .local _ .smem, ⟨0, _⟩ => ⟨S10x6x32, .i32⟩
  | .local _ .smem, ⟨1, _⟩ => ⟨S6, .i32⟩
  | .local _ .smem, ⟨2, _⟩ => ⟨S1, .i32⟩
  | _, _ => ⟨S6x4096x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31_0 : Ref sig .tc := ⟨.hbm, 47, rfl⟩
abbrev main_v31_1 : Ref sig .tc := ⟨.hbm, 48, rfl⟩
abbrev main_v31_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c60_i32 : BitVec 32 := 60#32
  let v0 : BitVec 32 := Scalar.addi c0_i32 c60_i32
  let c1_i32 : BitVec 32 := 1#32
  ⟨c0_i32, v0, c1_i32⟩
@[reducible] def k0_t2_loop : Scf.Loop 32 :=
  let c0_i32_13 : BitVec 32 := 0#32
  let c32_i32 : BitVec 32 := 32#32
  let v28 : BitVec 32 := Scalar.addi c0_i32_13 c32_i32
  let c1_i32_14 : BitVec 32 := 1#32
  ⟨c0_i32_13, v28, c1_i32_14⟩
def k0_off1 (k0_t1 : Fin k0_t1_loop.trips) (k0_t2 : Fin k0_t2_loop.trips) : Fin 3 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let v29 : Index := Scalar.indexCast v17
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let v30 : Index := Scalar.indexCast v27
  let c0_i32_13 : BitVec 32 := 0#32
  let c1_i32_14 : BitVec 32 := 1#32
  let arg41 : BitVec 32 := Scf.iv c0_i32_13 c1_i32_14 k0_t2
  let v31 : Index := Scalar.indexCast arg41
  ![v29.toNat, v30.toNat, v31.toNat]
def k0_mult1 (k0_t2 : Fin k0_t2_loop.trips) : BitVec 32 :=
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  v36
def k0_off2 (k0_t1 : Fin k0_t1_loop.trips) (k0_t2 : Fin k0_t2_loop.trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c4_i32 : BitVec 32 := 4#32
  let v38 : BitVec 32 := Scalar.muli v17 c4_i32
  let c0_i32_18 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  ![v27.toNat, v38.toNat, 0, v37.toNat]
def k0_off3 (k0_t1 : Fin k0_t1_loop.trips) (k0_t2 : Fin k0_t2_loop.trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_20 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  ![v27.toNat, v17.toNat, 0, v37.toNat]
@[reducible] def k0_t3_loop (v47 : BitVec 32) : Scf.Loop 32 :=
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_58 : BitVec 32 := 1#32
  ⟨c0_i32_55, v97, c1_i32_58⟩
def k0_cond1 (v32 : BitVec 32) : BitVec 1 :=
  let c0_i32_16 : BitVec 32 := 0#32
  let v33 : BitVec 1 := Scalar.cmpi .ne v32 c0_i32_16
  let v34 : BitVec 32 := Scalar.extui v33
  let c0_i32_17 : BitVec 32 := 0#32
  let v35 : BitVec 1 := Scalar.cmpi .ne v34 c0_i32_17
  v35

def k0_off4 (k0_t1 : Fin k0_t1_loop.trips) : Fin 3 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_159 : BitVec 32 := 0#32
  let c0_i32_160 : BitVec 32 := 0#32
  ![v17.toNat, 0, 0]
def k0_off5 (v47 : BitVec 32) (k0_t3 : Fin (k0_t3_loop v47).trips) : Fin 2 → Nat :=
  let c0_i32_55 : BitVec 32 := 0#32
  let c1_i32_58 : BitVec 32 := 1#32
  let arg42 : BitVec 32 := Scf.iv c0_i32_55 c1_i32_58 k0_t3
  let c2048_i32_158 : BitVec 32 := 2048#32
  let v291 : BitVec 32 := Scalar.muli arg42 c2048_i32_158
  let c0_i32_161 : BitVec 32 := 0#32
  ![v291.toNat, 0]
def k0_off6 (k0_t1 : Fin k0_t1_loop.trips) (v47 : BitVec 32) (k0_t3 : Fin (k0_t3_loop v47).trips) : Fin 3 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_55 : BitVec 32 := 0#32
  let c1_i32_58 : BitVec 32 := 1#32
  let arg42 : BitVec 32 := Scf.iv c0_i32_55 c1_i32_58 k0_t3
  let c2048_i32_158 : BitVec 32 := 2048#32
  let v291 : BitVec 32 := Scalar.muli arg42 c2048_i32_158
  let c0_i32_160 : BitVec 32 := 0#32
  ![v17.toNat, v291.toNat, 0]
def k0_off7 (k0_t1 : Fin k0_t1_loop.trips) : Fin 4 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_165 : BitVec 32 := 0#32
  let c0_i32_166 : BitVec 32 := 0#32
  let c0_i32_167 : BitVec 32 := 0#32
  ![v17.toNat, 0, 0, 0]
def k0_off8 (v47 : BitVec 32) (k0_t3 : Fin (k0_t3_loop v47).trips) : Fin 3 → Nat :=
  let c0_i32_55 : BitVec 32 := 0#32
  let c1_i32_58 : BitVec 32 := 1#32
  let arg42 : BitVec 32 := Scf.iv c0_i32_55 c1_i32_58 k0_t3
  let c16_i32 : BitVec 32 := 16#32
  let v298 : BitVec 32 := Scalar.muli arg42 c16_i32
  let c0_i32_168 : BitVec 32 := 0#32
  let c0_i32_169 : BitVec 32 := 0#32
  ![v298.toNat, 0, 0]
def k0_off9 (k0_t1 : Fin k0_t1_loop.trips) (v47 : BitVec 32) (k0_t3 : Fin (k0_t3_loop v47).trips) : Fin 4 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_55 : BitVec 32 := 0#32
  let c1_i32_58 : BitVec 32 := 1#32
  let arg42 : BitVec 32 := Scf.iv c0_i32_55 c1_i32_58 k0_t3
  let c16_i32 : BitVec 32 := 16#32
  let v298 : BitVec 32 := Scalar.muli arg42 c16_i32
  let c0_i32_166 : BitVec 32 := 0#32
  let c0_i32_167 : BitVec 32 := 0#32
  ![v17.toNat, v298.toNat, 0, 0]
def k0_off10 (k0_t1 : Fin k0_t1_loop.trips) : Fin 3 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_176 : BitVec 32 := 0#32
  let c0_i32_177 : BitVec 32 := 0#32
  ![v17.toNat, 0, 0]
def k0_off11 (v47 : BitVec 32) (k0_t3 : Fin (k0_t3_loop v47).trips) : Fin 2 → Nat :=
  let c0_i32_55 : BitVec 32 := 0#32
  let c1_i32_58 : BitVec 32 := 1#32
  let arg42 : BitVec 32 := Scf.iv c0_i32_55 c1_i32_58 k0_t3
  let c16_i32_175 : BitVec 32 := 16#32
  let v305 : BitVec 32 := Scalar.muli arg42 c16_i32_175
  let c0_i32_178 : BitVec 32 := 0#32
  ![v305.toNat, 0]
@[reducible] def k0_t4_loop (v47 : BitVec 32) (k0_t3 : Fin (k0_t3_loop v47).trips) : Scf.Loop 32 :=
  let c0_i32_200 : BitVec 32 := 0#32
  let c16_i32_199 : BitVec 32 := 16#32
  let c0_i32_55 : BitVec 32 := 0#32
  let c1_i32_58 : BitVec 32 := 1#32
  let arg42 : BitVec 32 := Scf.iv c0_i32_55 c1_i32_58 k0_t3
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_203 : BitVec 32 := 1#32
  ⟨c0_i32_200, v345, c1_i32_203⟩
def k0_off12 (v47 : BitVec 32) (k0_t3 : Fin (k0_t3_loop v47).trips) (k0_t4 : Fin (k0_t4_loop v47 k0_t3).trips) : Fin 2 → Nat :=
  let c0_i32_200 : BitVec 32 := 0#32
  let c1_i32_203 : BitVec 32 := 1#32
  let arg44 : BitVec 32 := Scf.iv c0_i32_200 c1_i32_203 k0_t4
  let c128_i32_206 : BitVec 32 := 128#32
  let v348 : BitVec 32 := Scalar.muli arg44 c128_i32_206
  let v349 : Index := Scalar.indexCast v348
  let c0_207 : Index := 0#32
  ![v349.toNat, 0]
def k0_off13 (v47 : BitVec 32) (k0_t3 : Fin (k0_t3_loop v47).trips) (k0_t4 : Fin (k0_t4_loop v47 k0_t3).trips) : Fin 2 → Nat :=
  let c0_i32_200 : BitVec 32 := 0#32
  let c1_i32_203 : BitVec 32 := 1#32
  let arg44 : BitVec 32 := Scf.iv c0_i32_200 c1_i32_203 k0_t4
  let v352 : Index := Scalar.indexCast arg44
  let c0_209 : Index := 0#32
  ![v352.toNat, 0]
def k0_off14 (v47 : BitVec 32) (k0_t3 : Fin (k0_t3_loop v47).trips) (k0_t4 : Fin (k0_t4_loop v47 k0_t3).trips) : Fin 3 → Nat :=
  let c0_i32_200 : BitVec 32 := 0#32
  let c1_i32_203 : BitVec 32 := 1#32
  let arg44 : BitVec 32 := Scf.iv c0_i32_200 c1_i32_203 k0_t4
  let v398 : Index := Scalar.indexCast arg44
  let c0_223 : Index := 0#32
  let c0_224 : Index := 0#32
  ![v398.toNat, 0, 0]
@[reducible] def k0_t5_loop (v47 : BitVec 32) (k0_t3 : Fin (k0_t3_loop v47).trips) : Scf.Loop 32 :=
  let c0_i32_200 : BitVec 32 := 0#32
  let c16_i32_199 : BitVec 32 := 16#32
  let c0_i32_55 : BitVec 32 := 0#32
  let c1_i32_58 : BitVec 32 := 1#32
  let arg42 : BitVec 32 := Scf.iv c0_i32_55 c1_i32_58 k0_t3
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let v342 : BitVec 32 := Scalar.addi c0_i32_200 v341
  let c1_i32_204 : BitVec 32 := 1#32
  ⟨v345, v342, c1_i32_204⟩
def k0_off15 (v47 : BitVec 32) (k0_t3 : Fin (k0_t3_loop v47).trips) (k0_t5 : Fin (k0_t5_loop v47 k0_t3).trips) : Fin 2 → Nat :=
  let c0_i32_200 : BitVec 32 := 0#32
  let c16_i32_199 : BitVec 32 := 16#32
  let c0_i32_55 : BitVec 32 := 0#32
  let c1_i32_58 : BitVec 32 := 1#32
  let arg42 : BitVec 32 := Scf.iv c0_i32_55 c1_i32_58 k0_t3
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t5
  let c128_i32_206 : BitVec 32 := 128#32
  let v348 : BitVec 32 := Scalar.muli arg44 c128_i32_206
  let v349 : Index := Scalar.indexCast v348
  let c0_207 : Index := 0#32
  ![v349.toNat, 0]
def k0_off16 (v47 : BitVec 32) (k0_t3 : Fin (k0_t3_loop v47).trips) (k0_t5 : Fin (k0_t5_loop v47 k0_t3).trips) : Fin 2 → Nat :=
  let c0_i32_200 : BitVec 32 := 0#32
  let c16_i32_199 : BitVec 32 := 16#32
  let c0_i32_55 : BitVec 32 := 0#32
  let c1_i32_58 : BitVec 32 := 1#32
  let arg42 : BitVec 32 := Scf.iv c0_i32_55 c1_i32_58 k0_t3
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t5
  let v352 : Index := Scalar.indexCast arg44
  let c0_209 : Index := 0#32
  ![v352.toNat, 0]
def k0_off17 (v47 : BitVec 32) (k0_t3 : Fin (k0_t3_loop v47).trips) (k0_t5 : Fin (k0_t5_loop v47 k0_t3).trips) : Fin 3 → Nat :=
  let c0_i32_200 : BitVec 32 := 0#32
  let c16_i32_199 : BitVec 32 := 16#32
  let c0_i32_55 : BitVec 32 := 0#32
  let c1_i32_58 : BitVec 32 := 1#32
  let arg42 : BitVec 32 := Scf.iv c0_i32_55 c1_i32_58 k0_t3
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t5
  let v398 : Index := Scalar.indexCast arg44
  let c0_223 : Index := 0#32
  let c0_224 : Index := 0#32
  ![v398.toNat, 0, 0]
@[reducible] def k0_t6_loop (v47 : BitVec 32) : Scf.Loop 32 :=
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let v94 : BitVec 32 := Scalar.addi c0_i32_55 v93
  let c1_i32_59 : BitVec 32 := 1#32
  ⟨v97, v94, c1_i32_59⟩
def k0_off18 (k0_t1 : Fin k0_t1_loop.trips) : Fin 3 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_159 : BitVec 32 := 0#32
  let c0_i32_160 : BitVec 32 := 0#32
  ![v17.toNat, 0, 0]
def k0_off19 (v47 : BitVec 32) (k0_t6 : Fin (k0_t6_loop v47).trips) : Fin 2 → Nat :=
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c2048_i32_158 : BitVec 32 := 2048#32
  let v291 : BitVec 32 := Scalar.muli arg42 c2048_i32_158
  let c0_i32_161 : BitVec 32 := 0#32
  ![v291.toNat, 0]
def k0_off20 (k0_t1 : Fin k0_t1_loop.trips) (v47 : BitVec 32) (k0_t6 : Fin (k0_t6_loop v47).trips) : Fin 3 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c2048_i32_158 : BitVec 32 := 2048#32
  let v291 : BitVec 32 := Scalar.muli arg42 c2048_i32_158
  let c0_i32_160 : BitVec 32 := 0#32
  ![v17.toNat, v291.toNat, 0]
def k0_off21 (k0_t1 : Fin k0_t1_loop.trips) : Fin 4 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_165 : BitVec 32 := 0#32
  let c0_i32_166 : BitVec 32 := 0#32
  let c0_i32_167 : BitVec 32 := 0#32
  ![v17.toNat, 0, 0, 0]
def k0_off22 (v47 : BitVec 32) (k0_t6 : Fin (k0_t6_loop v47).trips) : Fin 3 → Nat :=
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c16_i32 : BitVec 32 := 16#32
  let v298 : BitVec 32 := Scalar.muli arg42 c16_i32
  let c0_i32_168 : BitVec 32 := 0#32
  let c0_i32_169 : BitVec 32 := 0#32
  ![v298.toNat, 0, 0]
def k0_off23 (k0_t1 : Fin k0_t1_loop.trips) (v47 : BitVec 32) (k0_t6 : Fin (k0_t6_loop v47).trips) : Fin 4 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c16_i32 : BitVec 32 := 16#32
  let v298 : BitVec 32 := Scalar.muli arg42 c16_i32
  let c0_i32_166 : BitVec 32 := 0#32
  let c0_i32_167 : BitVec 32 := 0#32
  ![v17.toNat, v298.toNat, 0, 0]
def k0_off24 (k0_t1 : Fin k0_t1_loop.trips) : Fin 3 → Nat :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_176 : BitVec 32 := 0#32
  let c0_i32_177 : BitVec 32 := 0#32
  ![v17.toNat, 0, 0]
def k0_off25 (v47 : BitVec 32) (k0_t6 : Fin (k0_t6_loop v47).trips) : Fin 2 → Nat :=
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c16_i32_175 : BitVec 32 := 16#32
  let v305 : BitVec 32 := Scalar.muli arg42 c16_i32_175
  let c0_i32_178 : BitVec 32 := 0#32
  ![v305.toNat, 0]
@[reducible] def k0_t7_loop (v47 : BitVec 32) (k0_t6 : Fin (k0_t6_loop v47).trips) : Scf.Loop 32 :=
  let c0_i32_200 : BitVec 32 := 0#32
  let c16_i32_199 : BitVec 32 := 16#32
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_203 : BitVec 32 := 1#32
  ⟨c0_i32_200, v345, c1_i32_203⟩
def k0_off26 (v47 : BitVec 32) (k0_t6 : Fin (k0_t6_loop v47).trips) (k0_t7 : Fin (k0_t7_loop v47 k0_t6).trips) : Fin 2 → Nat :=
  let c0_i32_200 : BitVec 32 := 0#32
  let c1_i32_203 : BitVec 32 := 1#32
  let arg44 : BitVec 32 := Scf.iv c0_i32_200 c1_i32_203 k0_t7
  let c128_i32_206 : BitVec 32 := 128#32
  let v348 : BitVec 32 := Scalar.muli arg44 c128_i32_206
  let v349 : Index := Scalar.indexCast v348
  let c0_207 : Index := 0#32
  ![v349.toNat, 0]
def k0_off27 (v47 : BitVec 32) (k0_t6 : Fin (k0_t6_loop v47).trips) (k0_t7 : Fin (k0_t7_loop v47 k0_t6).trips) : Fin 2 → Nat :=
  let c0_i32_200 : BitVec 32 := 0#32
  let c1_i32_203 : BitVec 32 := 1#32
  let arg44 : BitVec 32 := Scf.iv c0_i32_200 c1_i32_203 k0_t7
  let v352 : Index := Scalar.indexCast arg44
  let c0_209 : Index := 0#32
  ![v352.toNat, 0]
def k0_off28 (v47 : BitVec 32) (k0_t6 : Fin (k0_t6_loop v47).trips) (k0_t7 : Fin (k0_t7_loop v47 k0_t6).trips) : Fin 3 → Nat :=
  let c0_i32_200 : BitVec 32 := 0#32
  let c1_i32_203 : BitVec 32 := 1#32
  let arg44 : BitVec 32 := Scf.iv c0_i32_200 c1_i32_203 k0_t7
  let v398 : Index := Scalar.indexCast arg44
  let c0_223 : Index := 0#32
  let c0_224 : Index := 0#32
  ![v398.toNat, 0, 0]
@[reducible] def k0_t8_loop (v47 : BitVec 32) (k0_t6 : Fin (k0_t6_loop v47).trips) : Scf.Loop 32 :=
  let c0_i32_200 : BitVec 32 := 0#32
  let c16_i32_199 : BitVec 32 := 16#32
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let v342 : BitVec 32 := Scalar.addi c0_i32_200 v341
  let c1_i32_204 : BitVec 32 := 1#32
  ⟨v345, v342, c1_i32_204⟩
def k0_off29 (v47 : BitVec 32) (k0_t6 : Fin (k0_t6_loop v47).trips) (k0_t8 : Fin (k0_t8_loop v47 k0_t6).trips) : Fin 2 → Nat :=
  let c0_i32_200 : BitVec 32 := 0#32
  let c16_i32_199 : BitVec 32 := 16#32
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t8
  let c128_i32_206 : BitVec 32 := 128#32
  let v348 : BitVec 32 := Scalar.muli arg44 c128_i32_206
  let v349 : Index := Scalar.indexCast v348
  let c0_207 : Index := 0#32
  ![v349.toNat, 0]
def k0_off30 (v47 : BitVec 32) (k0_t6 : Fin (k0_t6_loop v47).trips) (k0_t8 : Fin (k0_t8_loop v47 k0_t6).trips) : Fin 2 → Nat :=
  let c0_i32_200 : BitVec 32 := 0#32
  let c16_i32_199 : BitVec 32 := 16#32
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t8
  let v352 : Index := Scalar.indexCast arg44
  let c0_209 : Index := 0#32
  ![v352.toNat, 0]
def k0_off31 (v47 : BitVec 32) (k0_t6 : Fin (k0_t6_loop v47).trips) (k0_t8 : Fin (k0_t8_loop v47 k0_t6).trips) : Fin 3 → Nat :=
  let c0_i32_200 : BitVec 32 := 0#32
  let c16_i32_199 : BitVec 32 := 16#32
  let c0_i32_55 : BitVec 32 := 0#32
  let c2048_i32 : BitVec 32 := 2048#32
  let v74 : BitVec 32 := Scalar.addi v47 c2048_i32
  let c1_i32_47 : BitVec 32 := 1#32
  let v75 : BitVec 32 := Scalar.subi v74 c1_i32_47
  let c0_i32_49 : BitVec 32 := 0#32
  let v77 : BitVec 1 := Scalar.cmpi .sgt v75 c0_i32_49
  let v78 : BitVec 32 := Scalar.extui v77
  let c0_i32_50 : BitVec 32 := 0#32
  let v79 : BitVec 1 := Scalar.cmpi .slt v75 c0_i32_50
  let v80 : BitVec 32 := Scalar.extui v79
  let v81 : BitVec 32 := Scalar.subi v78 v80
  let c2048_i32_48 : BitVec 32 := 2048#32
  let c0_i32_51 : BitVec 32 := 0#32
  let v82 : BitVec 1 := Scalar.cmpi .sgt c2048_i32_48 c0_i32_51
  let v83 : BitVec 32 := Scalar.extui v82
  let c0_i32_52 : BitVec 32 := 0#32
  let v84 : BitVec 1 := Scalar.cmpi .slt c2048_i32_48 c0_i32_52
  let v85 : BitVec 32 := Scalar.extui v84
  let v86 : BitVec 32 := Scalar.subi v83 v85
  let v87 : BitVec 1 := Scalar.cmpi .ne v81 v86
  let v88 : BitVec 32 := Scalar.remsi v75 c2048_i32_48
  let c0_i32_53 : BitVec 32 := 0#32
  let v89 : BitVec 1 := Scalar.cmpi .ne v88 c0_i32_53
  let v90 : BitVec 1 := Scalar.andi v87 v89
  let v76 : BitVec 32 := Scalar.divsi v75 c2048_i32_48
  let c1_i32_54 : BitVec 32 := 1#32
  let v91 : BitVec 32 := Scalar.subi v76 c1_i32_54
  let v92 : BitVec 32 := Scalar.select v90 v91 v76
  let v93 : BitVec 32 := Scalar.subi v92 c0_i32_55
  let c1_i32_57 : BitVec 32 := 1#32
  let v95 : BitVec 32 := Scalar.divsi v93 c1_i32_57
  let v96 : BitVec 32 := Scalar.muli v95 c1_i32_57
  let v97 : BitVec 32 := Scalar.addi c0_i32_55 v96
  let c1_i32_59 : BitVec 32 := 1#32
  let arg42 : BitVec 32 := Scf.iv v97 c1_i32_59 k0_t6
  let c2048_i32_189 : BitVec 32 := 2048#32
  let v319 : BitVec 32 := Scalar.muli arg42 c2048_i32_189
  let v320 : BitVec 32 := Scalar.subi v47 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t8
  let v398 : Index := Scalar.indexCast arg44
  let c0_223 : Index := 0#32
  let c0_224 : Index := 0#32
  ![v398.toNat, 0, 0]

def k0_chk1 (k0_t1 : Fin k0_t1_loop.trips) (v32 : BitVec 32) (v47 : BitVec 32) : Prop :=
  (∀ (k0_h1 : k0_cond1 v32 = 1#1), (k0_t3_loop v47).OK) ∧
  (∀ k0_t3 : Fin (k0_t3_loop v47).trips, ∀ (k0_h1 : k0_cond1 v32 = 1#1), ∀ a, (k0_off5 v47 k0_t3) a + S2048x128.size a ≤ S24576x128.size a) ∧
  (∀ k0_t3 : Fin (k0_t3_loop v47).trips, ∀ (k0_h1 : k0_cond1 v32 = 1#1), ∀ a, (k0_off6 k0_t1 v47 k0_t3) a + S1x2048x128.size a ≤ S10x24576x128.size a) ∧
  (∀ k0_t3 : Fin (k0_t3_loop v47).trips, ∀ (k0_h1 : k0_cond1 v32 = 1#1), ∀ (hinb : ∀ a, (k0_off6 k0_t1 v47 k0_t3) a + S1x2048x128.size a ≤ S10x24576x128.size a), (Rect.unit (s := S10x24576x128) (k0_off6 k0_t1 v47 k0_t3) S1x2048x128.size hinb).WholeWords (EltTy.packing .fp8e4m3)) ∧
  (∀ k0_t3 : Fin (k0_t3_loop v47).trips, ∀ (k0_h1 : k0_cond1 v32 = 1#1), ∀ a, (k0_off8 v47 k0_t3) a + S16x128x128.size a ≤ S192x128x128.size a) ∧
  (∀ k0_t3 : Fin (k0_t3_loop v47).trips, ∀ (k0_h1 : k0_cond1 v32 = 1#1), ∀ a, (k0_off9 k0_t1 v47 k0_t3) a + S1x16x128x128.size a ≤ S10x192x128x128.size a) ∧
  (∀ k0_t3 : Fin (k0_t3_loop v47).trips, ∀ (k0_h1 : k0_cond1 v32 = 1#1), ∀ (hinb : ∀ a, (k0_off9 k0_t1 v47 k0_t3) a + S1x16x128x128.size a ≤ S10x192x128x128.size a), (Rect.unit (s := S10x192x128x128) (k0_off9 k0_t1 v47 k0_t3) S1x16x128x128.size hinb).WholeWords (EltTy.packing .fp8e4m3)) ∧
  (∀ k0_t3 : Fin (k0_t3_loop v47).trips, ∀ (k0_h1 : k0_cond1 v32 = 1#1), ∀ a, (k0_off11 v47 k0_t3) a + S16x128.size a ≤ S192x128.size a) ∧
  (∀ k0_t3 : Fin (k0_t3_loop v47).trips, ∀ (k0_h1 : k0_cond1 v32 = 1#1), (k0_t4_loop v47 k0_t3).OK) ∧
  (∀ (k0_t3 : Fin (k0_t3_loop v47).trips) (k0_t4 : Fin (k0_t4_loop v47 k0_t3).trips), ∀ (k0_h1 : k0_cond1 v32 = 1#1), ∀ a, (k0_off12 v47 k0_t3 k0_t4) a + S128x128.size a ≤ S2048x128.size a) ∧
  (∀ (k0_t3 : Fin (k0_t3_loop v47).trips) (k0_t4 : Fin (k0_t4_loop v47 k0_t3).trips), ∀ (k0_h1 : k0_cond1 v32 = 1#1), ∀ a, (k0_off13 v47 k0_t3 k0_t4) a + S1x128.size a ≤ S16x128.size a) ∧
  (∀ (k0_t3 : Fin (k0_t3_loop v47).trips) (k0_t4 : Fin (k0_t4_loop v47 k0_t3).trips), ∀ (k0_h1 : k0_cond1 v32 = 1#1), ∀ a, (k0_off14 v47 k0_t3 k0_t4) a + S1x128x128.size a ≤ S16x128x128.size a) ∧
  (∀ k0_t3 : Fin (k0_t3_loop v47).trips, ∀ (k0_h1 : k0_cond1 v32 = 1#1), (k0_t5_loop v47 k0_t3).OK) ∧
  (∀ (k0_t3 : Fin (k0_t3_loop v47).trips) (k0_t5 : Fin (k0_t5_loop v47 k0_t3).trips), ∀ (k0_h1 : k0_cond1 v32 = 1#1), ∀ a, (k0_off15 v47 k0_t3 k0_t5) a + S128x128.size a ≤ S2048x128.size a) ∧
  (∀ (k0_t3 : Fin (k0_t3_loop v47).trips) (k0_t5 : Fin (k0_t5_loop v47 k0_t3).trips), ∀ (k0_h1 : k0_cond1 v32 = 1#1), ∀ a, (k0_off16 v47 k0_t3 k0_t5) a + S1x128.size a ≤ S16x128.size a) ∧
  (∀ (k0_t3 : Fin (k0_t3_loop v47).trips) (k0_t5 : Fin (k0_t5_loop v47 k0_t3).trips), ∀ (k0_h1 : k0_cond1 v32 = 1#1), ∀ a, (k0_off17 v47 k0_t3 k0_t5) a + S1x128x128.size a ≤ S16x128x128.size a) ∧
  (∀ (k0_h1 : k0_cond1 v32 = 1#1), (k0_t6_loop v47).OK) ∧
  (∀ k0_t6 : Fin (k0_t6_loop v47).trips, ∀ (k0_h1 : k0_cond1 v32 = 1#1), ∀ a, (k0_off19 v47 k0_t6) a + S2048x128.size a ≤ S24576x128.size a) ∧
  (∀ k0_t6 : Fin (k0_t6_loop v47).trips, ∀ (k0_h1 : k0_cond1 v32 = 1#1), ∀ a, (k0_off20 k0_t1 v47 k0_t6) a + S1x2048x128.size a ≤ S10x24576x128.size a) ∧
  (∀ k0_t6 : Fin (k0_t6_loop v47).trips, ∀ (k0_h1 : k0_cond1 v32 = 1#1), ∀ (hinb : ∀ a, (k0_off20 k0_t1 v47 k0_t6) a + S1x2048x128.size a ≤ S10x24576x128.size a), (Rect.unit (s := S10x24576x128) (k0_off20 k0_t1 v47 k0_t6) S1x2048x128.size hinb).WholeWords (EltTy.packing .fp8e4m3)) ∧
  (∀ k0_t6 : Fin (k0_t6_loop v47).trips, ∀ (k0_h1 : k0_cond1 v32 = 1#1), ∀ a, (k0_off22 v47 k0_t6) a + S16x128x128.size a ≤ S192x128x128.size a) ∧
  (∀ k0_t6 : Fin (k0_t6_loop v47).trips, ∀ (k0_h1 : k0_cond1 v32 = 1#1), ∀ a, (k0_off23 k0_t1 v47 k0_t6) a + S1x16x128x128.size a ≤ S10x192x128x128.size a) ∧
  (∀ k0_t6 : Fin (k0_t6_loop v47).trips, ∀ (k0_h1 : k0_cond1 v32 = 1#1), ∀ (hinb : ∀ a, (k0_off23 k0_t1 v47 k0_t6) a + S1x16x128x128.size a ≤ S10x192x128x128.size a), (Rect.unit (s := S10x192x128x128) (k0_off23 k0_t1 v47 k0_t6) S1x16x128x128.size hinb).WholeWords (EltTy.packing .fp8e4m3)) ∧
  (∀ k0_t6 : Fin (k0_t6_loop v47).trips, ∀ (k0_h1 : k0_cond1 v32 = 1#1), ∀ a, (k0_off25 v47 k0_t6) a + S16x128.size a ≤ S192x128.size a) ∧
  (∀ k0_t6 : Fin (k0_t6_loop v47).trips, ∀ (k0_h1 : k0_cond1 v32 = 1#1), (k0_t7_loop v47 k0_t6).OK) ∧
  (∀ (k0_t6 : Fin (k0_t6_loop v47).trips) (k0_t7 : Fin (k0_t7_loop v47 k0_t6).trips), ∀ (k0_h1 : k0_cond1 v32 = 1#1), ∀ a, (k0_off26 v47 k0_t6 k0_t7) a + S128x128.size a ≤ S2048x128.size a) ∧
  (∀ (k0_t6 : Fin (k0_t6_loop v47).trips) (k0_t7 : Fin (k0_t7_loop v47 k0_t6).trips), ∀ (k0_h1 : k0_cond1 v32 = 1#1), ∀ a, (k0_off27 v47 k0_t6 k0_t7) a + S1x128.size a ≤ S16x128.size a) ∧
  (∀ (k0_t6 : Fin (k0_t6_loop v47).trips) (k0_t7 : Fin (k0_t7_loop v47 k0_t6).trips), ∀ (k0_h1 : k0_cond1 v32 = 1#1), ∀ a, (k0_off28 v47 k0_t6 k0_t7) a + S1x128x128.size a ≤ S16x128x128.size a) ∧
  (∀ k0_t6 : Fin (k0_t6_loop v47).trips, ∀ (k0_h1 : k0_cond1 v32 = 1#1), (k0_t8_loop v47 k0_t6).OK) ∧
  (∀ (k0_t6 : Fin (k0_t6_loop v47).trips) (k0_t8 : Fin (k0_t8_loop v47 k0_t6).trips), ∀ (k0_h1 : k0_cond1 v32 = 1#1), ∀ a, (k0_off29 v47 k0_t6 k0_t8) a + S128x128.size a ≤ S2048x128.size a) ∧
  (∀ (k0_t6 : Fin (k0_t6_loop v47).trips) (k0_t8 : Fin (k0_t8_loop v47 k0_t6).trips), ∀ (k0_h1 : k0_cond1 v32 = 1#1), ∀ a, (k0_off30 v47 k0_t6 k0_t8) a + S1x128.size a ≤ S16x128.size a) ∧
  (∀ (k0_t6 : Fin (k0_t6_loop v47).trips) (k0_t8 : Fin (k0_t8_loop v47 k0_t6).trips), ∀ (k0_h1 : k0_cond1 v32 = 1#1), ∀ a, (k0_off31 v47 k0_t6 k0_t8) a + S1x128x128.size a ≤ S16x128x128.size a)
theorem k0_t3_ok : ∀ (k0_t1 : Fin k0_t1_loop.trips) (v32 : BitVec 32) (v47 : BitVec 32) (k0_hw1 : k0_chk1 k0_t1 v32 v47), ∀ (k0_h1 : k0_cond1 v32 = 1#1), (k0_t3_loop v47).OK := fun k0_t1 v32 v47 k0_hw1 k0_h1 => k0_hw1.1 k0_h1
theorem k0_off5_inb : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), ∀ a, (k0_off5 v47 k0_t3) a + S2048x128.size a ≤ S24576x128.size a := fun k0_t1 v32 v47 k0_hw1 k0_t3 k0_h1 => k0_hw1.2.1 k0_t3 k0_h1
theorem k0_off6_inb : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), ∀ a, (k0_off6 k0_t1 v47 k0_t3) a + S1x2048x128.size a ≤ S10x24576x128.size a := fun k0_t1 v32 v47 k0_hw1 k0_t3 k0_h1 => k0_hw1.2.2.1 k0_t3 k0_h1
theorem k0_off6_wordsfp8e4m3 : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), (Rect.unit (s := S10x24576x128) (k0_off6 k0_t1 v47 k0_t3) S1x2048x128.size (k0_off6_inb k0_t1 v32 v47 k0_hw1 k0_t3 k0_h1)).WholeWords (EltTy.packing .fp8e4m3) := fun k0_t1 v32 v47 k0_hw1 k0_t3 k0_h1 => k0_hw1.2.2.2.1 k0_t3 k0_h1 (k0_off6_inb k0_t1 v32 v47 k0_hw1 k0_t3 k0_h1)
theorem k0_off8_inb : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), ∀ a, (k0_off8 v47 k0_t3) a + S16x128x128.size a ≤ S192x128x128.size a := fun k0_t1 v32 v47 k0_hw1 k0_t3 k0_h1 => k0_hw1.2.2.2.2.1 k0_t3 k0_h1
theorem k0_off9_inb : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), ∀ a, (k0_off9 k0_t1 v47 k0_t3) a + S1x16x128x128.size a ≤ S10x192x128x128.size a := fun k0_t1 v32 v47 k0_hw1 k0_t3 k0_h1 => k0_hw1.2.2.2.2.2.1 k0_t3 k0_h1
theorem k0_off9_wordsfp8e4m3 : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), (Rect.unit (s := S10x192x128x128) (k0_off9 k0_t1 v47 k0_t3) S1x16x128x128.size (k0_off9_inb k0_t1 v32 v47 k0_hw1 k0_t3 k0_h1)).WholeWords (EltTy.packing .fp8e4m3) := fun k0_t1 v32 v47 k0_hw1 k0_t3 k0_h1 => k0_hw1.2.2.2.2.2.2.1 k0_t3 k0_h1 (k0_off9_inb k0_t1 v32 v47 k0_hw1 k0_t3 k0_h1)
theorem k0_off11_inb : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), ∀ a, (k0_off11 v47 k0_t3) a + S16x128.size a ≤ S192x128.size a := fun k0_t1 v32 v47 k0_hw1 k0_t3 k0_h1 => k0_hw1.2.2.2.2.2.2.2.1 k0_t3 k0_h1
theorem k0_t4_ok : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), (k0_t4_loop v47 k0_t3).OK := fun k0_t1 v32 v47 k0_hw1 k0_t3 k0_h1 => k0_hw1.2.2.2.2.2.2.2.2.1 k0_t3 k0_h1
theorem k0_off12_inb : ∀ (k0_t1 : Fin k0_t1_loop.trips) (v32 : BitVec 32) (v47 : BitVec 32) (k0_hw1 : k0_chk1 k0_t1 v32 v47) (k0_t3 : Fin (k0_t3_loop v47).trips) (k0_t4 : Fin (k0_t4_loop v47 k0_t3).trips), ∀ (k0_h1 : k0_cond1 v32 = 1#1), ∀ a, (k0_off12 v47 k0_t3 k0_t4) a + S128x128.size a ≤ S2048x128.size a := fun k0_t1 v32 v47 k0_hw1 k0_t3 k0_t4 k0_h1 => k0_hw1.2.2.2.2.2.2.2.2.2.1 k0_t3 k0_t4 k0_h1
theorem k0_off13_inb : ∀ (k0_t1 : Fin k0_t1_loop.trips) (v32 : BitVec 32) (v47 : BitVec 32) (k0_hw1 : k0_chk1 k0_t1 v32 v47) (k0_t3 : Fin (k0_t3_loop v47).trips) (k0_t4 : Fin (k0_t4_loop v47 k0_t3).trips), ∀ (k0_h1 : k0_cond1 v32 = 1#1), ∀ a, (k0_off13 v47 k0_t3 k0_t4) a + S1x128.size a ≤ S16x128.size a := fun k0_t1 v32 v47 k0_hw1 k0_t3 k0_t4 k0_h1 => k0_hw1.2.2.2.2.2.2.2.2.2.2.1 k0_t3 k0_t4 k0_h1
theorem k0_off14_inb : ∀ (k0_t1 : Fin k0_t1_loop.trips) (v32 : BitVec 32) (v47 : BitVec 32) (k0_hw1 : k0_chk1 k0_t1 v32 v47) (k0_t3 : Fin (k0_t3_loop v47).trips) (k0_t4 : Fin (k0_t4_loop v47 k0_t3).trips), ∀ (k0_h1 : k0_cond1 v32 = 1#1), ∀ a, (k0_off14 v47 k0_t3 k0_t4) a + S1x128x128.size a ≤ S16x128x128.size a := fun k0_t1 v32 v47 k0_hw1 k0_t3 k0_t4 k0_h1 => k0_hw1.2.2.2.2.2.2.2.2.2.2.2.1 k0_t3 k0_t4 k0_h1
theorem k0_t5_ok : ∀ (k0_t1 : Fin k0_t1_loop.trips) (v32 : BitVec 32) (v47 : BitVec 32) (k0_hw1 : k0_chk1 k0_t1 v32 v47) (k0_t3 : Fin (k0_t3_loop v47).trips), ∀ (k0_h1 : k0_cond1 v32 = 1#1), (k0_t5_loop v47 k0_t3).OK := fun k0_t1 v32 v47 k0_hw1 k0_t3 k0_h1 => k0_hw1.2.2.2.2.2.2.2.2.2.2.2.2.1 k0_t3 k0_h1
theorem k0_off15_inb : ∀ (k0_t1 : Fin k0_t1_loop.trips) (v32 : BitVec 32) (v47 : BitVec 32) (k0_hw1 : k0_chk1 k0_t1 v32 v47) (k0_t3 : Fin (k0_t3_loop v47).trips) (k0_t5 : Fin (k0_t5_loop v47 k0_t3).trips), ∀ (k0_h1 : k0_cond1 v32 = 1#1), ∀ a, (k0_off15 v47 k0_t3 k0_t5) a + S128x128.size a ≤ S2048x128.size a := fun k0_t1 v32 v47 k0_hw1 k0_t3 k0_t5 k0_h1 => k0_hw1.2.2.2.2.2.2.2.2.2.2.2.2.2.1 k0_t3 k0_t5 k0_h1
theorem k0_off16_inb : ∀ (k0_t1 : Fin k0_t1_loop.trips) (v32 : BitVec 32) (v47 : BitVec 32) (k0_hw1 : k0_chk1 k0_t1 v32 v47) (k0_t3 : Fin (k0_t3_loop v47).trips) (k0_t5 : Fin (k0_t5_loop v47 k0_t3).trips), ∀ (k0_h1 : k0_cond1 v32 = 1#1), ∀ a, (k0_off16 v47 k0_t3 k0_t5) a + S1x128.size a ≤ S16x128.size a := fun k0_t1 v32 v47 k0_hw1 k0_t3 k0_t5 k0_h1 => k0_hw1.2.2.2.2.2.2.2.2.2.2.2.2.2.2.1 k0_t3 k0_t5 k0_h1
theorem k0_off17_inb : ∀ (k0_t1 : Fin k0_t1_loop.trips) (v32 : BitVec 32) (v47 : BitVec 32) (k0_hw1 : k0_chk1 k0_t1 v32 v47) (k0_t3 : Fin (k0_t3_loop v47).trips) (k0_t5 : Fin (k0_t5_loop v47 k0_t3).trips), ∀ (k0_h1 : k0_cond1 v32 = 1#1), ∀ a, (k0_off17 v47 k0_t3 k0_t5) a + S1x128x128.size a ≤ S16x128x128.size a := fun k0_t1 v32 v47 k0_hw1 k0_t3 k0_t5 k0_h1 => k0_hw1.2.2.2.2.2.2.2.2.2.2.2.2.2.2.2.1 k0_t3 k0_t5 k0_h1
theorem k0_t6_ok : ∀ (k0_t1 : Fin k0_t1_loop.trips) (v32 : BitVec 32) (v47 : BitVec 32) (k0_hw1 : k0_chk1 k0_t1 v32 v47), ∀ (k0_h1 : k0_cond1 v32 = 1#1), (k0_t6_loop v47).OK := fun k0_t1 v32 v47 k0_hw1 k0_h1 => k0_hw1.2.2.2.2.2.2.2.2.2.2.2.2.2.2.2.2.1 k0_h1
theorem k0_off19_inb : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), ∀ a, (k0_off19 v47 k0_t6) a + S2048x128.size a ≤ S24576x128.size a := fun k0_t1 v32 v47 k0_hw1 k0_t6 k0_h1 => k0_hw1.2.2.2.2.2.2.2.2.2.2.2.2.2.2.2.2.2.1 k0_t6 k0_h1
theorem k0_off20_inb : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), ∀ a, (k0_off20 k0_t1 v47 k0_t6) a + S1x2048x128.size a ≤ S10x24576x128.size a := fun k0_t1 v32 v47 k0_hw1 k0_t6 k0_h1 => k0_hw1.2.2.2.2.2.2.2.2.2.2.2.2.2.2.2.2.2.2.1 k0_t6 k0_h1
theorem k0_off20_wordsfp8e4m3 : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), (Rect.unit (s := S10x24576x128) (k0_off20 k0_t1 v47 k0_t6) S1x2048x128.size (k0_off20_inb k0_t1 v32 v47 k0_hw1 k0_t6 k0_h1)).WholeWords (EltTy.packing .fp8e4m3) := fun k0_t1 v32 v47 k0_hw1 k0_t6 k0_h1 => k0_hw1.2.2.2.2.2.2.2.2.2.2.2.2.2.2.2.2.2.2.2.1 k0_t6 k0_h1 (k0_off20_inb k0_t1 v32 v47 k0_hw1 k0_t6 k0_h1)
theorem k0_off22_inb : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), ∀ a, (k0_off22 v47 k0_t6) a + S16x128x128.size a ≤ S192x128x128.size a := fun k0_t1 v32 v47 k0_hw1 k0_t6 k0_h1 => k0_hw1.2.2.2.2.2.2.2.2.2.2.2.2.2.2.2.2.2.2.2.2.1 k0_t6 k0_h1
theorem k0_off23_inb : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), ∀ a, (k0_off23 k0_t1 v47 k0_t6) a + S1x16x128x128.size a ≤ S10x192x128x128.size a := fun k0_t1 v32 v47 k0_hw1 k0_t6 k0_h1 => k0_hw1.2.2.2.2.2.2.2.2.2.2.2.2.2.2.2.2.2.2.2.2.2.1 k0_t6 k0_h1
theorem k0_off23_wordsfp8e4m3 : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), (Rect.unit (s := S10x192x128x128) (k0_off23 k0_t1 v47 k0_t6) S1x16x128x128.size (k0_off23_inb k0_t1 v32 v47 k0_hw1 k0_t6 k0_h1)).WholeWords (EltTy.packing .fp8e4m3) := fun k0_t1 v32 v47 k0_hw1 k0_t6 k0_h1 => k0_hw1.2.2.2.2.2.2.2.2.2.2.2.2.2.2.2.2.2.2.2.2.2.2.1 k0_t6 k0_h1 (k0_off23_inb k0_t1 v32 v47 k0_hw1 k0_t6 k0_h1)
theorem k0_off25_inb : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), ∀ a, (k0_off25 v47 k0_t6) a + S16x128.size a ≤ S192x128.size a := fun k0_t1 v32 v47 k0_hw1 k0_t6 k0_h1 => k0_hw1.2.2.2.2.2.2.2.2.2.2.2.2.2.2.2.2.2.2.2.2.2.2.2.1 k0_t6 k0_h1
theorem k0_t7_ok : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), (k0_t7_loop v47 k0_t6).OK := fun k0_t1 v32 v47 k0_hw1 k0_t6 k0_h1 => k0_hw1.2.2.2.2.2.2.2.2.2.2.2.2.2.2.2.2.2.2.2.2.2.2.2.2.1 k0_t6 k0_h1
theorem k0_off26_inb : ∀ (k0_t1 : Fin k0_t1_loop.trips) (v32 : BitVec 32) (v47 : BitVec 32) (k0_hw1 : k0_chk1 k0_t1 v32 v47) (k0_t6 : Fin (k0_t6_loop v47).trips) (k0_t7 : Fin (k0_t7_loop v47 k0_t6).trips), ∀ (k0_h1 : k0_cond1 v32 = 1#1), ∀ a, (k0_off26 v47 k0_t6 k0_t7) a + S128x128.size a ≤ S2048x128.size a := fun k0_t1 v32 v47 k0_hw1 k0_t6 k0_t7 k0_h1 => k0_hw1.2.2.2.2.2.2.2.2.2.2.2.2.2.2.2.2.2.2.2.2.2.2.2.2.2.1 k0_t6 k0_t7 k0_h1
theorem k0_off27_inb : ∀ (k0_t1 : Fin k0_t1_loop.trips) (v32 : BitVec 32) (v47 : BitVec 32) (k0_hw1 : k0_chk1 k0_t1 v32 v47) (k0_t6 : Fin (k0_t6_loop v47).trips) (k0_t7 : Fin (k0_t7_loop v47 k0_t6).trips), ∀ (k0_h1 : k0_cond1 v32 = 1#1), ∀ a, (k0_off27 v47 k0_t6 k0_t7) a + S1x128.size a ≤ S16x128.size a := fun k0_t1 v32 v47 k0_hw1 k0_t6 k0_t7 k0_h1 => k0_hw1.2.2.2.2.2.2.2.2.2.2.2.2.2.2.2.2.2.2.2.2.2.2.2.2.2.2.1 k0_t6 k0_t7 k0_h1
theorem k0_off28_inb : ∀ (k0_t1 : Fin k0_t1_loop.trips) (v32 : BitVec 32) (v47 : BitVec 32) (k0_hw1 : k0_chk1 k0_t1 v32 v47) (k0_t6 : Fin (k0_t6_loop v47).trips) (k0_t7 : Fin (k0_t7_loop v47 k0_t6).trips), ∀ (k0_h1 : k0_cond1 v32 = 1#1), ∀ a, (k0_off28 v47 k0_t6 k0_t7) a + S1x128x128.size a ≤ S16x128x128.size a := fun k0_t1 v32 v47 k0_hw1 k0_t6 k0_t7 k0_h1 => k0_hw1.2.2.2.2.2.2.2.2.2.2.2.2.2.2.2.2.2.2.2.2.2.2.2.2.2.2.2.1 k0_t6 k0_t7 k0_h1
theorem k0_t8_ok : ∀ (k0_t1 : Fin k0_t1_loop.trips) (v32 : BitVec 32) (v47 : BitVec 32) (k0_hw1 : k0_chk1 k0_t1 v32 v47) (k0_t6 : Fin (k0_t6_loop v47).trips), ∀ (k0_h1 : k0_cond1 v32 = 1#1), (k0_t8_loop v47 k0_t6).OK := fun k0_t1 v32 v47 k0_hw1 k0_t6 k0_h1 => k0_hw1.2.2.2.2.2.2.2.2.2.2.2.2.2.2.2.2.2.2.2.2.2.2.2.2.2.2.2.2.1 k0_t6 k0_h1
theorem k0_off29_inb : ∀ (k0_t1 : Fin k0_t1_loop.trips) (v32 : BitVec 32) (v47 : BitVec 32) (k0_hw1 : k0_chk1 k0_t1 v32 v47) (k0_t6 : Fin (k0_t6_loop v47).trips) (k0_t8 : Fin (k0_t8_loop v47 k0_t6).trips), ∀ (k0_h1 : k0_cond1 v32 = 1#1), ∀ a, (k0_off29 v47 k0_t6 k0_t8) a + S128x128.size a ≤ S2048x128.size a := fun k0_t1 v32 v47 k0_hw1 k0_t6 k0_t8 k0_h1 => k0_hw1.2.2.2.2.2.2.2.2.2.2.2.2.2.2.2.2.2.2.2.2.2.2.2.2.2.2.2.2.2.1 k0_t6 k0_t8 k0_h1
theorem k0_off30_inb : ∀ (k0_t1 : Fin k0_t1_loop.trips) (v32 : BitVec 32) (v47 : BitVec 32) (k0_hw1 : k0_chk1 k0_t1 v32 v47) (k0_t6 : Fin (k0_t6_loop v47).trips) (k0_t8 : Fin (k0_t8_loop v47 k0_t6).trips), ∀ (k0_h1 : k0_cond1 v32 = 1#1), ∀ a, (k0_off30 v47 k0_t6 k0_t8) a + S1x128.size a ≤ S16x128.size a := fun k0_t1 v32 v47 k0_hw1 k0_t6 k0_t8 k0_h1 => k0_hw1.2.2.2.2.2.2.2.2.2.2.2.2.2.2.2.2.2.2.2.2.2.2.2.2.2.2.2.2.2.2.1 k0_t6 k0_t8 k0_h1
theorem k0_off31_inb : ∀ (k0_t1 : Fin k0_t1_loop.trips) (v32 : BitVec 32) (v47 : BitVec 32) (k0_hw1 : k0_chk1 k0_t1 v32 v47) (k0_t6 : Fin (k0_t6_loop v47).trips) (k0_t8 : Fin (k0_t8_loop v47 k0_t6).trips), ∀ (k0_h1 : k0_cond1 v32 = 1#1), ∀ a, (k0_off31 v47 k0_t6 k0_t8) a + S1x128x128.size a ≤ S16x128x128.size a := fun k0_t1 v32 v47 k0_hw1 k0_t6 k0_t8 k0_h1 => k0_hw1.2.2.2.2.2.2.2.2.2.2.2.2.2.2.2.2.2.2.2.2.2.2.2.2.2.2.2.2.2.2.2 k0_t6 k0_t8 k0_h1

@[reducible] def k0_t9_loop (k0_t2 : Fin k0_t2_loop.trips) : Scf.Loop 32 :=
  let c0_i32_111 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_114 : BitVec 32 := 1#32
  ⟨c0_i32_111, v164, c1_i32_114⟩
def k0_off32 (k0_t1 : Fin k0_t1_loop.trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_159 : BitVec 32 := 0#32
  let c0_i32_160 : BitVec 32 := 0#32
  ![v27.toNat, v17.toNat, 0, 0]
def k0_off33 (k0_t2 : Fin k0_t2_loop.trips) (k0_t9 : Fin (k0_t9_loop k0_t2).trips) : Fin 2 → Nat :=
  let c0_i32_111 : BitVec 32 := 0#32
  let c1_i32_114 : BitVec 32 := 1#32
  let arg42 : BitVec 32 := Scf.iv c0_i32_111 c1_i32_114 k0_t9
  let c2048_i32_158 : BitVec 32 := 2048#32
  let v291 : BitVec 32 := Scalar.muli arg42 c2048_i32_158
  let c0_i32_161 : BitVec 32 := 0#32
  ![v291.toNat, 0]
def k0_off34 (k0_t1 : Fin k0_t1_loop.trips) (k0_t2 : Fin k0_t2_loop.trips) (k0_t9 : Fin (k0_t9_loop k0_t2).trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_111 : BitVec 32 := 0#32
  let c1_i32_114 : BitVec 32 := 1#32
  let arg42 : BitVec 32 := Scf.iv c0_i32_111 c1_i32_114 k0_t9
  let c2048_i32_158 : BitVec 32 := 2048#32
  let v291 : BitVec 32 := Scalar.muli arg42 c2048_i32_158
  let c0_i32_160 : BitVec 32 := 0#32
  ![v27.toNat, v17.toNat, v291.toNat, 0]
def k0_off35 (k0_t1 : Fin k0_t1_loop.trips) : Fin 5 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_165 : BitVec 32 := 0#32
  let c0_i32_166 : BitVec 32 := 0#32
  let c0_i32_167 : BitVec 32 := 0#32
  ![v27.toNat, v17.toNat, 0, 0, 0]
def k0_off36 (k0_t2 : Fin k0_t2_loop.trips) (k0_t9 : Fin (k0_t9_loop k0_t2).trips) : Fin 3 → Nat :=
  let c0_i32_111 : BitVec 32 := 0#32
  let c1_i32_114 : BitVec 32 := 1#32
  let arg42 : BitVec 32 := Scf.iv c0_i32_111 c1_i32_114 k0_t9
  let c16_i32 : BitVec 32 := 16#32
  let v298 : BitVec 32 := Scalar.muli arg42 c16_i32
  let c0_i32_168 : BitVec 32 := 0#32
  let c0_i32_169 : BitVec 32 := 0#32
  ![v298.toNat, 0, 0]
def k0_off37 (k0_t1 : Fin k0_t1_loop.trips) (k0_t2 : Fin k0_t2_loop.trips) (k0_t9 : Fin (k0_t9_loop k0_t2).trips) : Fin 5 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_111 : BitVec 32 := 0#32
  let c1_i32_114 : BitVec 32 := 1#32
  let arg42 : BitVec 32 := Scf.iv c0_i32_111 c1_i32_114 k0_t9
  let c16_i32 : BitVec 32 := 16#32
  let v298 : BitVec 32 := Scalar.muli arg42 c16_i32
  let c0_i32_166 : BitVec 32 := 0#32
  let c0_i32_167 : BitVec 32 := 0#32
  ![v27.toNat, v17.toNat, v298.toNat, 0, 0]
def k0_off38 (k0_t1 : Fin k0_t1_loop.trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_176 : BitVec 32 := 0#32
  let c0_i32_177 : BitVec 32 := 0#32
  ![v27.toNat, v17.toNat, 0, 0]
def k0_off39 (k0_t2 : Fin k0_t2_loop.trips) (k0_t9 : Fin (k0_t9_loop k0_t2).trips) : Fin 2 → Nat :=
  let c0_i32_111 : BitVec 32 := 0#32
  let c1_i32_114 : BitVec 32 := 1#32
  let arg42 : BitVec 32 := Scf.iv c0_i32_111 c1_i32_114 k0_t9
  let c16_i32_175 : BitVec 32 := 16#32
  let v305 : BitVec 32 := Scalar.muli arg42 c16_i32_175
  let c0_i32_178 : BitVec 32 := 0#32
  ![v305.toNat, 0]
@[reducible] def k0_t10_loop (k0_t2 : Fin k0_t2_loop.trips) (k0_t9 : Fin (k0_t9_loop k0_t2).trips) : Scf.Loop 32 :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c1_i32_114 : BitVec 32 := 1#32
  let arg42 : BitVec 32 := Scf.iv c0_i32_111 c1_i32_114 k0_t9
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_203 : BitVec 32 := 1#32
  ⟨c0_i32_200, v345, c1_i32_203⟩
def k0_off40 (k0_t2 : Fin k0_t2_loop.trips) (k0_t9 : Fin (k0_t9_loop k0_t2).trips) (k0_t10 : Fin (k0_t10_loop k0_t2 k0_t9).trips) : Fin 2 → Nat :=
  let c0_i32_200 : BitVec 32 := 0#32
  let c1_i32_203 : BitVec 32 := 1#32
  let arg44 : BitVec 32 := Scf.iv c0_i32_200 c1_i32_203 k0_t10
  let c128_i32_206 : BitVec 32 := 128#32
  let v348 : BitVec 32 := Scalar.muli arg44 c128_i32_206
  let v349 : Index := Scalar.indexCast v348
  let c0_207 : Index := 0#32
  ![v349.toNat, 0]
def k0_off41 (k0_t2 : Fin k0_t2_loop.trips) (k0_t9 : Fin (k0_t9_loop k0_t2).trips) (k0_t10 : Fin (k0_t10_loop k0_t2 k0_t9).trips) : Fin 2 → Nat :=
  let c0_i32_200 : BitVec 32 := 0#32
  let c1_i32_203 : BitVec 32 := 1#32
  let arg44 : BitVec 32 := Scf.iv c0_i32_200 c1_i32_203 k0_t10
  let v352 : Index := Scalar.indexCast arg44
  let c0_209 : Index := 0#32
  ![v352.toNat, 0]
def k0_off42 (k0_t2 : Fin k0_t2_loop.trips) (k0_t9 : Fin (k0_t9_loop k0_t2).trips) (k0_t10 : Fin (k0_t10_loop k0_t2 k0_t9).trips) : Fin 3 → Nat :=
  let c0_i32_200 : BitVec 32 := 0#32
  let c1_i32_203 : BitVec 32 := 1#32
  let arg44 : BitVec 32 := Scf.iv c0_i32_200 c1_i32_203 k0_t10
  let v402 : Index := Scalar.indexCast arg44
  let c0_224 : Index := 0#32
  let c0_225 : Index := 0#32
  ![v402.toNat, 0, 0]
@[reducible] def k0_t11_loop (k0_t2 : Fin k0_t2_loop.trips) (k0_t9 : Fin (k0_t9_loop k0_t2).trips) : Scf.Loop 32 :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c1_i32_114 : BitVec 32 := 1#32
  let arg42 : BitVec 32 := Scf.iv c0_i32_111 c1_i32_114 k0_t9
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let v342 : BitVec 32 := Scalar.addi c0_i32_200 v341
  let c1_i32_204 : BitVec 32 := 1#32
  ⟨v345, v342, c1_i32_204⟩
def k0_off43 (k0_t2 : Fin k0_t2_loop.trips) (k0_t9 : Fin (k0_t9_loop k0_t2).trips) (k0_t11 : Fin (k0_t11_loop k0_t2 k0_t9).trips) : Fin 2 → Nat :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c1_i32_114 : BitVec 32 := 1#32
  let arg42 : BitVec 32 := Scf.iv c0_i32_111 c1_i32_114 k0_t9
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t11
  let c128_i32_206 : BitVec 32 := 128#32
  let v348 : BitVec 32 := Scalar.muli arg44 c128_i32_206
  let v349 : Index := Scalar.indexCast v348
  let c0_207 : Index := 0#32
  ![v349.toNat, 0]
def k0_off44 (k0_t2 : Fin k0_t2_loop.trips) (k0_t9 : Fin (k0_t9_loop k0_t2).trips) (k0_t11 : Fin (k0_t11_loop k0_t2 k0_t9).trips) : Fin 2 → Nat :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c1_i32_114 : BitVec 32 := 1#32
  let arg42 : BitVec 32 := Scf.iv c0_i32_111 c1_i32_114 k0_t9
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t11
  let v352 : Index := Scalar.indexCast arg44
  let c0_209 : Index := 0#32
  ![v352.toNat, 0]
def k0_off45 (k0_t2 : Fin k0_t2_loop.trips) (k0_t9 : Fin (k0_t9_loop k0_t2).trips) (k0_t11 : Fin (k0_t11_loop k0_t2 k0_t9).trips) : Fin 3 → Nat :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c1_i32_114 : BitVec 32 := 1#32
  let arg42 : BitVec 32 := Scf.iv c0_i32_111 c1_i32_114 k0_t9
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t11
  let v402 : Index := Scalar.indexCast arg44
  let c0_224 : Index := 0#32
  let c0_225 : Index := 0#32
  ![v402.toNat, 0, 0]
@[reducible] def k0_t12_loop (k0_t2 : Fin k0_t2_loop.trips) : Scf.Loop 32 :=
  let c0_i32_111 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let v161 : BitVec 32 := Scalar.addi c0_i32_111 v160
  let c1_i32_115 : BitVec 32 := 1#32
  ⟨v164, v161, c1_i32_115⟩
def k0_off46 (k0_t1 : Fin k0_t1_loop.trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_159 : BitVec 32 := 0#32
  let c0_i32_160 : BitVec 32 := 0#32
  ![v27.toNat, v17.toNat, 0, 0]
def k0_off47 (k0_t2 : Fin k0_t2_loop.trips) (k0_t12 : Fin (k0_t12_loop k0_t2).trips) : Fin 2 → Nat :=
  let c0_i32_111 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c2048_i32_158 : BitVec 32 := 2048#32
  let v291 : BitVec 32 := Scalar.muli arg42 c2048_i32_158
  let c0_i32_161 : BitVec 32 := 0#32
  ![v291.toNat, 0]
def k0_off48 (k0_t1 : Fin k0_t1_loop.trips) (k0_t2 : Fin k0_t2_loop.trips) (k0_t12 : Fin (k0_t12_loop k0_t2).trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_111 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c2048_i32_158 : BitVec 32 := 2048#32
  let v291 : BitVec 32 := Scalar.muli arg42 c2048_i32_158
  let c0_i32_160 : BitVec 32 := 0#32
  ![v27.toNat, v17.toNat, v291.toNat, 0]
def k0_off49 (k0_t1 : Fin k0_t1_loop.trips) : Fin 5 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_165 : BitVec 32 := 0#32
  let c0_i32_166 : BitVec 32 := 0#32
  let c0_i32_167 : BitVec 32 := 0#32
  ![v27.toNat, v17.toNat, 0, 0, 0]
def k0_off50 (k0_t2 : Fin k0_t2_loop.trips) (k0_t12 : Fin (k0_t12_loop k0_t2).trips) : Fin 3 → Nat :=
  let c0_i32_111 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c16_i32 : BitVec 32 := 16#32
  let v298 : BitVec 32 := Scalar.muli arg42 c16_i32
  let c0_i32_168 : BitVec 32 := 0#32
  let c0_i32_169 : BitVec 32 := 0#32
  ![v298.toNat, 0, 0]
def k0_off51 (k0_t1 : Fin k0_t1_loop.trips) (k0_t2 : Fin k0_t2_loop.trips) (k0_t12 : Fin (k0_t12_loop k0_t2).trips) : Fin 5 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_111 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c16_i32 : BitVec 32 := 16#32
  let v298 : BitVec 32 := Scalar.muli arg42 c16_i32
  let c0_i32_166 : BitVec 32 := 0#32
  let c0_i32_167 : BitVec 32 := 0#32
  ![v27.toNat, v17.toNat, v298.toNat, 0, 0]
def k0_off52 (k0_t1 : Fin k0_t1_loop.trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_176 : BitVec 32 := 0#32
  let c0_i32_177 : BitVec 32 := 0#32
  ![v27.toNat, v17.toNat, 0, 0]
def k0_off53 (k0_t2 : Fin k0_t2_loop.trips) (k0_t12 : Fin (k0_t12_loop k0_t2).trips) : Fin 2 → Nat :=
  let c0_i32_111 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c16_i32_175 : BitVec 32 := 16#32
  let v305 : BitVec 32 := Scalar.muli arg42 c16_i32_175
  let c0_i32_178 : BitVec 32 := 0#32
  ![v305.toNat, 0]
@[reducible] def k0_t13_loop (k0_t2 : Fin k0_t2_loop.trips) (k0_t12 : Fin (k0_t12_loop k0_t2).trips) : Scf.Loop 32 :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_203 : BitVec 32 := 1#32
  ⟨c0_i32_200, v345, c1_i32_203⟩
def k0_off54 (k0_t2 : Fin k0_t2_loop.trips) (k0_t12 : Fin (k0_t12_loop k0_t2).trips) (k0_t13 : Fin (k0_t13_loop k0_t2 k0_t12).trips) : Fin 2 → Nat :=
  let c0_i32_200 : BitVec 32 := 0#32
  let c1_i32_203 : BitVec 32 := 1#32
  let arg44 : BitVec 32 := Scf.iv c0_i32_200 c1_i32_203 k0_t13
  let c128_i32_206 : BitVec 32 := 128#32
  let v348 : BitVec 32 := Scalar.muli arg44 c128_i32_206
  let v349 : Index := Scalar.indexCast v348
  let c0_207 : Index := 0#32
  ![v349.toNat, 0]
def k0_off55 (k0_t2 : Fin k0_t2_loop.trips) (k0_t12 : Fin (k0_t12_loop k0_t2).trips) (k0_t13 : Fin (k0_t13_loop k0_t2 k0_t12).trips) : Fin 2 → Nat :=
  let c0_i32_200 : BitVec 32 := 0#32
  let c1_i32_203 : BitVec 32 := 1#32
  let arg44 : BitVec 32 := Scf.iv c0_i32_200 c1_i32_203 k0_t13
  let v352 : Index := Scalar.indexCast arg44
  let c0_209 : Index := 0#32
  ![v352.toNat, 0]
def k0_off56 (k0_t2 : Fin k0_t2_loop.trips) (k0_t12 : Fin (k0_t12_loop k0_t2).trips) (k0_t13 : Fin (k0_t13_loop k0_t2 k0_t12).trips) : Fin 3 → Nat :=
  let c0_i32_200 : BitVec 32 := 0#32
  let c1_i32_203 : BitVec 32 := 1#32
  let arg44 : BitVec 32 := Scf.iv c0_i32_200 c1_i32_203 k0_t13
  let v402 : Index := Scalar.indexCast arg44
  let c0_224 : Index := 0#32
  let c0_225 : Index := 0#32
  ![v402.toNat, 0, 0]
@[reducible] def k0_t14_loop (k0_t2 : Fin k0_t2_loop.trips) (k0_t12 : Fin (k0_t12_loop k0_t2).trips) : Scf.Loop 32 :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let v342 : BitVec 32 := Scalar.addi c0_i32_200 v341
  let c1_i32_204 : BitVec 32 := 1#32
  ⟨v345, v342, c1_i32_204⟩
def k0_off57 (k0_t2 : Fin k0_t2_loop.trips) (k0_t12 : Fin (k0_t12_loop k0_t2).trips) (k0_t14 : Fin (k0_t14_loop k0_t2 k0_t12).trips) : Fin 2 → Nat :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t14
  let c128_i32_206 : BitVec 32 := 128#32
  let v348 : BitVec 32 := Scalar.muli arg44 c128_i32_206
  let v349 : Index := Scalar.indexCast v348
  let c0_207 : Index := 0#32
  ![v349.toNat, 0]
def k0_off58 (k0_t2 : Fin k0_t2_loop.trips) (k0_t12 : Fin (k0_t12_loop k0_t2).trips) (k0_t14 : Fin (k0_t14_loop k0_t2 k0_t12).trips) : Fin 2 → Nat :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t14
  let v352 : Index := Scalar.indexCast arg44
  let c0_209 : Index := 0#32
  ![v352.toNat, 0]
def k0_off59 (k0_t2 : Fin k0_t2_loop.trips) (k0_t12 : Fin (k0_t12_loop k0_t2).trips) (k0_t14 : Fin (k0_t14_loop k0_t2 k0_t12).trips) : Fin 3 → Nat :=
  let c0_i32_200 : BitVec 32 := 0#32
  let c16_i32_199 : BitVec 32 := 16#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c128_i32_72 : BitVec 32 := 128#32
  let v114 : BitVec 32 := Scalar.addi v37 c128_i32_72
  let c0_i32_111 : BitVec 32 := 0#32
  let c2048_i32_102 : BitVec 32 := 2048#32
  let v141 : BitVec 32 := Scalar.addi v114 c2048_i32_102
  let c1_i32_103 : BitVec 32 := 1#32
  let v142 : BitVec 32 := Scalar.subi v141 c1_i32_103
  let c0_i32_105 : BitVec 32 := 0#32
  let v144 : BitVec 1 := Scalar.cmpi .sgt v142 c0_i32_105
  let v145 : BitVec 32 := Scalar.extui v144
  let c0_i32_106 : BitVec 32 := 0#32
  let v146 : BitVec 1 := Scalar.cmpi .slt v142 c0_i32_106
  let v147 : BitVec 32 := Scalar.extui v146
  let v148 : BitVec 32 := Scalar.subi v145 v147
  let c2048_i32_104 : BitVec 32 := 2048#32
  let c0_i32_107 : BitVec 32 := 0#32
  let v149 : BitVec 1 := Scalar.cmpi .sgt c2048_i32_104 c0_i32_107
  let v150 : BitVec 32 := Scalar.extui v149
  let c0_i32_108 : BitVec 32 := 0#32
  let v151 : BitVec 1 := Scalar.cmpi .slt c2048_i32_104 c0_i32_108
  let v152 : BitVec 32 := Scalar.extui v151
  let v153 : BitVec 32 := Scalar.subi v150 v152
  let v154 : BitVec 1 := Scalar.cmpi .ne v148 v153
  let v155 : BitVec 32 := Scalar.remsi v142 c2048_i32_104
  let c0_i32_109 : BitVec 32 := 0#32
  let v156 : BitVec 1 := Scalar.cmpi .ne v155 c0_i32_109
  let v157 : BitVec 1 := Scalar.andi v154 v156
  let v143 : BitVec 32 := Scalar.divsi v142 c2048_i32_104
  let c1_i32_110 : BitVec 32 := 1#32
  let v158 : BitVec 32 := Scalar.subi v143 c1_i32_110
  let v159 : BitVec 32 := Scalar.select v157 v158 v143
  let v160 : BitVec 32 := Scalar.subi v159 c0_i32_111
  let c1_i32_113 : BitVec 32 := 1#32
  let v162 : BitVec 32 := Scalar.divsi v160 c1_i32_113
  let v163 : BitVec 32 := Scalar.muli v162 c1_i32_113
  let v164 : BitVec 32 := Scalar.addi c0_i32_111 v163
  let c1_i32_115 : BitVec 32 := 1#32
  let arg42 : BitVec 32 := Scf.iv v164 c1_i32_115 k0_t12
  let c2048_i32_189 : BitVec 32 := 2048#32
  let v319 : BitVec 32 := Scalar.muli arg42 c2048_i32_189
  let v320 : BitVec 32 := Scalar.subi v114 v319
  let c128_i32_190 : BitVec 32 := 128#32
  let v321 : BitVec 32 := Scalar.addi v320 c128_i32_190
  let c1_i32_191 : BitVec 32 := 1#32
  let v322 : BitVec 32 := Scalar.subi v321 c1_i32_191
  let c0_i32_193 : BitVec 32 := 0#32
  let v324 : BitVec 1 := Scalar.cmpi .sgt v322 c0_i32_193
  let v325 : BitVec 32 := Scalar.extui v324
  let c0_i32_194 : BitVec 32 := 0#32
  let v326 : BitVec 1 := Scalar.cmpi .slt v322 c0_i32_194
  let v327 : BitVec 32 := Scalar.extui v326
  let v328 : BitVec 32 := Scalar.subi v325 v327
  let c128_i32_192 : BitVec 32 := 128#32
  let c0_i32_195 : BitVec 32 := 0#32
  let v329 : BitVec 1 := Scalar.cmpi .sgt c128_i32_192 c0_i32_195
  let v330 : BitVec 32 := Scalar.extui v329
  let c0_i32_196 : BitVec 32 := 0#32
  let v331 : BitVec 1 := Scalar.cmpi .slt c128_i32_192 c0_i32_196
  let v332 : BitVec 32 := Scalar.extui v331
  let v333 : BitVec 32 := Scalar.subi v330 v332
  let v334 : BitVec 1 := Scalar.cmpi .ne v328 v333
  let v335 : BitVec 32 := Scalar.remsi v322 c128_i32_192
  let c0_i32_197 : BitVec 32 := 0#32
  let v336 : BitVec 1 := Scalar.cmpi .ne v335 c0_i32_197
  let v337 : BitVec 1 := Scalar.andi v334 v336
  let v323 : BitVec 32 := Scalar.divsi v322 c128_i32_192
  let c1_i32_198 : BitVec 32 := 1#32
  let v338 : BitVec 32 := Scalar.subi v323 c1_i32_198
  let v339 : BitVec 32 := Scalar.select v337 v338 v323
  let v340 : BitVec 32 := Scalar.minsi c16_i32_199 v339
  let v341 : BitVec 32 := Scalar.subi v340 c0_i32_200
  let c1_i32_202 : BitVec 32 := 1#32
  let v343 : BitVec 32 := Scalar.divsi v341 c1_i32_202
  let v344 : BitVec 32 := Scalar.muli v343 c1_i32_202
  let v345 : BitVec 32 := Scalar.addi c0_i32_200 v344
  let c1_i32_204 : BitVec 32 := 1#32
  let arg44 : BitVec 32 := Scf.iv v345 c1_i32_204 k0_t14
  let v402 : Index := Scalar.indexCast arg44
  let c0_224 : Index := 0#32
  let c0_225 : Index := 0#32
  ![v402.toNat, 0, 0]
def k0_off60 (k0_t1 : Fin k0_t1_loop.trips) : Fin 1 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let v199 : Index := Scalar.indexCast v27
  ![v199.toNat]
def k0_mult2 (k0_t1 : Fin k0_t1_loop.trips) : BitVec 32 :=
  let c0_i32 : BitVec 32 := 0#32
  let c1_i32 : BitVec 32 := 1#32
  let arg40 : BitVec 32 := Scf.iv c0_i32 c1_i32 k0_t1
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c512_i32 : BitVec 32 := 512#32
  let v231 : BitVec 32 := Scalar.muli v17 c512_i32
  v231
def k0_off61 (k0_t1 : Fin k0_t1_loop.trips) (k0_t2 : Fin k0_t2_loop.trips) : Fin 3 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c512_i32 : BitVec 32 := 512#32
  let v231 : BitVec 32 := Scalar.muli v17 c512_i32
  let v232 : BitVec 32 := v231
  ![v27.toNat, v37.toNat, v232.toNat]
def k0_off62 (k0_t1 : Fin k0_t1_loop.trips) (k0_t2 : Fin k0_t2_loop.trips) : Fin 4 → Nat :=
  let c0_i32 : BitVec 32 := 0#32
  let c1_i32 : BitVec 32 := 1#32
  let arg40 : BitVec 32 := Scf.iv c0_i32 c1_i32 k0_t1
  let c6_i32_7 : BitVec 32 := 6#32
  let c0_i32_8 : BitVec 32 := 0#32
  let v18 : BitVec 1 := Scalar.cmpi .eq c6_i32_7 c0_i32_8
  let c1_i32_9 : BitVec 32 := 1#32
  let v19 : BitVec 32 := Scalar.select v18 c1_i32_9 c6_i32_7
  let v20 : BitVec 32 := Scalar.remsi arg40 v19
  let c0_i32_11 : BitVec 32 := 0#32
  let v22 : BitVec 1 := Scalar.cmpi .slt v20 c0_i32_11
  let c0_i32_12 : BitVec 32 := 0#32
  let v23 : BitVec 1 := Scalar.cmpi .slt v19 c0_i32_12
  let v24 : BitVec 1 := Scalar.xori v22 v23
  let c0_i32_10 : BitVec 32 := 0#32
  let v21 : BitVec 1 := Scalar.cmpi .ne v20 c0_i32_10
  let v25 : BitVec 1 := Scalar.andi v24 v21
  let v26 : BitVec 32 := Scalar.addi v20 v19
  let v27 : BitVec 32 := Scalar.select v25 v26 v20
  let c0_i32_1 : BitVec 32 := 0#32
  let v2 : BitVec 1 := Scalar.cmpi .sgt arg40 c0_i32_1
  let v3 : BitVec 32 := Scalar.extui v2
  let c0_i32_2 : BitVec 32 := 0#32
  let v4 : BitVec 1 := Scalar.cmpi .slt arg40 c0_i32_2
  let v5 : BitVec 32 := Scalar.extui v4
  let v6 : BitVec 32 := Scalar.subi v3 v5
  let c6_i32 : BitVec 32 := 6#32
  let c0_i32_3 : BitVec 32 := 0#32
  let v7 : BitVec 1 := Scalar.cmpi .sgt c6_i32 c0_i32_3
  let v8 : BitVec 32 := Scalar.extui v7
  let c0_i32_4 : BitVec 32 := 0#32
  let v9 : BitVec 1 := Scalar.cmpi .slt c6_i32 c0_i32_4
  let v10 : BitVec 32 := Scalar.extui v9
  let v11 : BitVec 32 := Scalar.subi v8 v10
  let v12 : BitVec 1 := Scalar.cmpi .ne v6 v11
  let v13 : BitVec 32 := Scalar.remsi arg40 c6_i32
  let c0_i32_5 : BitVec 32 := 0#32
  let v14 : BitVec 1 := Scalar.cmpi .ne v13 c0_i32_5
  let v15 : BitVec 1 := Scalar.andi v12 v14
  let v1 : BitVec 32 := Scalar.divsi arg40 c6_i32
  let c1_i32_6 : BitVec 32 := 1#32
  let v16 : BitVec 32 := Scalar.subi v1 c1_i32_6
  let v17 : BitVec 32 := Scalar.select v15 v16 v1
  let c0_i32_145 : BitVec 32 := 0#32
  let c0_i32_13 : BitVec 32 := 0#32
  let c1_i32_14 : BitVec 32 := 1#32
  let arg41 : BitVec 32 := Scf.iv c0_i32_13 c1_i32_14 k0_t2
  let c128_i32 : BitVec 32 := 128#32
  let v36 : BitVec 32 := Scalar.muli arg41 c128_i32
  let v37 : BitVec 32 := v36
  ![v27.toNat, v17.toNat, 0, v37.toNat]
abbrev stage0_0 : Fin 1 → Memref sig .tc .smem S10x6x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S6 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S6x4096x40x128 : Shape := ⟨4, ![6, 4096, 40, 128]⟩
abbrev S6x4096x40 : Shape := ⟨3, ![6, 4096, 40]⟩
abbrev S24576x10x128 : Shape := ⟨3, ![24576, 10, 128]⟩
abbrev S24576x10 : Shape := ⟨2, ![24576, 10]⟩
abbrev S6x4096x10x128 : Shape := ⟨4, ![6, 4096, 10, 128]⟩
abbrev S6x4096x10 : Shape := ⟨3, ![6, 4096, 10]⟩
abbrev S1 : Shape := ⟨1, ![1]⟩
abbrev S6 : Shape := ⟨1, ![6]⟩
abbrev S6x4096x10x4x128 : Shape := ⟨5, ![6, 4096, 10, 4, 128]⟩
abbrev S6x4096x10x4 : Shape := ⟨4, ![6, 4096, 10, 4]⟩
abbrev S10x24576x6x4096x4 : Shape := ⟨5, ![10, 24576, 6, 4096, 4]⟩
abbrev S6x4096x10x4x24576 : Shape := ⟨5, ![6, 4096, 10, 4, 24576]⟩
abbrev S6x4096x10x4x1 : Shape := ⟨5, ![6, 4096, 10, 4, 1]⟩
abbrev S10x24576 : Shape := ⟨2, ![10, 24576]⟩
abbrev S1x1x10x1x24576 : Shape := ⟨5, ![1, 1, 10, 1, 24576]⟩
abbrev S_ : Shape := ⟨0, ![]⟩
abbrev S24576 : Shape := ⟨1, ![24576]⟩
abbrev S1x1x1x1x24576 : Shape := ⟨5, ![1, 1, 1, 1, 24576]⟩
abbrev S10x128x6x4096x4 : Shape := ⟨5, ![10, 128, 6, 4096, 4]⟩
abbrev S6x10x4096x4096x4 : Shape := ⟨5, ![6, 10, 4096, 4096, 4]⟩
abbrev S6x4096x10x4x4096 : Shape := ⟨5, ![6, 4096, 10, 4, 4096]⟩
abbrev S6x10x4096 : Shape := ⟨3, ![6, 10, 4096]⟩
abbrev S6x1x10x1x4096 : Shape := ⟨5, ![6, 1, 10, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x4096x1x1x4096 : Shape := ⟨5, ![1, 4096, 1, 1, 4096]⟩
abbrev S6x10x128x4096x4 : Shape := ⟨5, ![6, 10, 128, 4096, 4]⟩
abbrev S6x1 : Shape := ⟨2, ![6, 1]⟩
abbrev S6x4096 : Shape := ⟨2, ![6, 4096]⟩
abbrev S6x4096x1 : Shape := ⟨3, ![6, 4096, 1]⟩
abbrev S6x4096x5120 : Shape := ⟨3, ![6, 4096, 5120]⟩
abbrev S1x4096x1x1 : Shape := ⟨4, ![1, 4096, 1, 1]⟩

abbrev nBuf : Space → Nat
  | .hbm => 165
  | .vmem => 10
  | .smem => 0
  | _ => 0

abbrev hbmTy0_0 (i : Nat) : BufTy := match i % 128 with
  | 0 => ⟨S6x4096x40x128, .fp8e4m3⟩
  | 1 => ⟨S6x4096x40, .f32⟩
  | 2 => ⟨S24576x10x128, .fp8e4m3⟩
  | 3 => ⟨S24576x10x128, .fp8e4m3⟩
  | 4 => ⟨S24576x10, .f32⟩
  | 5 => ⟨S24576x10, .f32⟩
  | 6 => ⟨S6x4096x10x128, .fp8e4m3⟩
  | 7 => ⟨S6x4096x10x128, .fp8e4m3⟩
  | 8 => ⟨S6x4096x10, .f32⟩
  | 9 => ⟨S6x4096x10, .f32⟩
  | 10 => ⟨S1, .i32⟩
  | 11 => ⟨S6, .i32⟩
  | 12 => ⟨S6x4096x40x128, .f32⟩
  | 13 => ⟨S24576x10x128, .f32⟩
  | 14 => ⟨S24576x10x128, .bf16⟩
  | 15 => ⟨S6x4096x10x128, .f32⟩
  | 16 => ⟨S6x4096x10x128, .bf16⟩
  | 17 => ⟨S6x4096x10x4x128, .f32⟩
  | 18 => ⟨S6x4096x10x4, .f32⟩
  | 19 => ⟨S10x24576x6x4096x4, .f32⟩
  | 20 => ⟨S6x4096x10x4x24576, .f32⟩
  | 21 => ⟨S6x4096x10x4x1, .f32⟩
  | 22 => ⟨S6x4096x10x4x24576, .f32⟩
  | 23 => ⟨S6x4096x10x4x24576, .f32⟩
  | 24 => ⟨S10x24576, .f32⟩
  | 25 => ⟨S1x1x10x1x24576, .f32⟩
  | 26 => ⟨S6x4096x10x4x24576, .f32⟩
  | 27 => ⟨S6x4096x10x4x24576, .f32⟩
  | 28 => ⟨S_, .f32⟩
  | 29 => ⟨S6x4096x10x4x24576, .f32⟩
  | 30 => ⟨S6x4096x10x4x24576, .f32⟩
  | 31 => ⟨S24576, .i32⟩
  | 32 => ⟨S_, .i32⟩
  | 33 => ⟨S24576, .i32⟩
  | 34 => ⟨S24576, .i1⟩
  | 35 => ⟨S1x1x1x1x24576, .i1⟩
  | 36 => ⟨S_, .f32⟩
  | 37 => ⟨S_, .f32⟩
  | 38 => ⟨S6x4096x10x4x24576, .i1⟩
  | 39 => ⟨S6x4096x10x4x24576, .f32⟩
  | 40 => ⟨S6x4096x10x4x24576, .f32⟩
  | 41 => ⟨S_, .f32⟩
  | 42 => ⟨S6x4096x10x4, .f32⟩
  | 43 => ⟨S6x4096x10x4x1, .f32⟩
  | 44 => ⟨S6x4096x10x4x24576, .f32⟩
  | 45 => ⟨S6x4096x10x4x24576, .f32⟩
  | 46 => ⟨S6x4096x10x4x24576, .f32⟩
  | 47 => ⟨S_, .f32⟩
  | 48 => ⟨S6x4096x10x4, .f32⟩
  | 49 => ⟨S10x24576, .f32⟩
  | 50 => ⟨S1x1x10x1x24576, .f32⟩
  | 51 => ⟨S6x4096x10x4x24576, .f32⟩
  | 52 => ⟨S6x4096x10x4x24576, .f32⟩
  | 53 => ⟨S6x4096x10x4x24576, .bf16⟩
  | 54 => ⟨S10x128x6x4096x4, .f32⟩
  | 55 => ⟨S6x4096x10x4x128, .f32⟩
  | 56 => ⟨S6x4096x10x4x1, .f32⟩
  | 57 => ⟨S6x4096x10x4x128, .f32⟩
  | 58 => ⟨S6x4096x10x4x128, .f32⟩
  | 59 => ⟨S6x4096x10x4, .f32⟩
  | 60 => ⟨S6x4096x10x4, .f32⟩
  | 61 => ⟨S6x10x4096x4096x4, .f32⟩
  | 62 => ⟨S6x4096x10x4x4096, .f32⟩
  | 63 => ⟨S6x4096x10x4x1, .f32⟩
  | 64 => ⟨S6x4096x10x4x4096, .f32⟩
  | 65 => ⟨S6x4096x10x4x4096, .f32⟩
  | 66 => ⟨S6x10x4096, .f32⟩
  | 67 => ⟨S6x1x10x1x4096, .f32⟩
  | 68 => ⟨S6x4096x10x4x4096, .f32⟩
  | 69 => ⟨S6x4096x10x4x4096, .f32⟩
  | 70 => ⟨S_, .f32⟩
  | 71 => ⟨S6x4096x10x4x4096, .f32⟩
  | 72 => ⟨S6x4096x10x4x4096, .f32⟩
  | 73 => ⟨S4096, .i32⟩
  | 74 => ⟨S1x4096, .i32⟩
  | 75 => ⟨S4096x1, .i32⟩
  | 76 => ⟨S4096x4096, .i32⟩
  | 77 => ⟨S4096x4096, .i32⟩
  | 78 => ⟨S4096x4096, .i1⟩
  | 79 => ⟨S1x4096x1x1x4096, .i1⟩
  | 80 => ⟨S_, .f32⟩
  | 81 => ⟨S_, .f32⟩
  | 82 => ⟨S6x4096x10x4x4096, .i1⟩
  | 83 => ⟨S6x4096x10x4x4096, .f32⟩
  | 84 => ⟨S6x4096x10x4x4096, .f32⟩
  | 85 => ⟨S_, .f32⟩
  | 86 => ⟨S6x4096x10x4, .f32⟩
  | 87 => ⟨S6x4096x10x4x1, .f32⟩
  | 88 => ⟨S6x4096x10x4x4096, .f32⟩
  | 89 => ⟨S6x4096x10x4x4096, .f32⟩
  | 90 => ⟨S6x4096x10x4x4096, .f32⟩
  | 91 => ⟨S_, .f32⟩
  | 92 => ⟨S6x4096x10x4, .f32⟩
  | 93 => ⟨S6x10x4096, .f32⟩
  | 94 => ⟨S6x1x10x1x4096, .f32⟩
  | 95 => ⟨S6x4096x10x4x4096, .f32⟩
  | 96 => ⟨S6x4096x10x4x4096, .f32⟩
  | 97 => ⟨S6x4096x10x4x4096, .bf16⟩
  | 98 => ⟨S6x10x128x4096x4, .f32⟩
  | 99 => ⟨S6x4096x10x4x128, .f32⟩
  | 100 => ⟨S6x4096x10x4x1, .f32⟩
  | 101 => ⟨S6x4096x10x4x128, .f32⟩
  | 102 => ⟨S6x4096x10x4x128, .f32⟩
  | 103 => ⟨S6x4096x10x4, .f32⟩
  | 104 => ⟨S6x4096x10x4, .f32⟩
  | 105 => ⟨S6x4096x10x4, .f32⟩
  | 106 => ⟨S6x4096x10x4, .f32⟩
  | 107 => ⟨S6x4096x10x4, .i1⟩
  | 108 => ⟨S6x4096x10x4, .f32⟩
  | 109 => ⟨S6x4096x10x4, .f32⟩
  | 110 => ⟨S6x4096x10x4, .f32⟩
  | 111 => ⟨S6x4096x10x4, .f32⟩
  | 112 => ⟨S6x4096x10x4, .f32⟩
  | 113 => ⟨S6x4096x10x4, .f32⟩
  | 114 => ⟨S6x4096x10x4, .f32⟩
  | 115 => ⟨S6x4096x10x4, .f32⟩
  | 116 => ⟨S6x4096x10x4, .f32⟩
  | 117 => ⟨S6x4096x10x4x1, .f32⟩
  | 118 => ⟨S6x4096x10x4x128, .f32⟩
  | 119 => ⟨S6x4096x10x4x128, .f32⟩
  | 120 => ⟨S6x4096x10x4, .f32⟩
  | 121 => ⟨S6x4096x10x4, .f32⟩
  | 122 => ⟨S6x4096x10x4x1, .f32⟩
  | 123 => ⟨S6x4096x10x4x128, .f32⟩
  | 124 => ⟨S6x4096x10x4x128, .f32⟩
  | 125 => ⟨S6x4096x10x4x128, .f32⟩
  | 126 => ⟨S1x4096, .i32⟩
  | 127 => ⟨S6x1, .i32⟩
  | _ => ⟨S6x4096x40x128, .fp8e4m3⟩

abbrev hbmTy0_1 (i : Nat) : BufTy := match i % 128 with
  | 0 => ⟨S6x4096, .i32⟩
  | 1 => ⟨S6x4096, .i32⟩
  | 2 => ⟨S6x4096, .i1⟩
  | 3 => ⟨S6x4096x1, .i1⟩
  | 4 => ⟨S6x4096x5120, .f32⟩
  | 5 => ⟨S_, .f32⟩
  | 6 => ⟨S_, .f32⟩
  | 7 => ⟨S6x4096x5120, .i1⟩
  | 8 => ⟨S6x4096x5120, .f32⟩
  | 9 => ⟨S6x4096x5120, .f32⟩
  | 10 => ⟨S6x4096x5120, .bf16⟩
  | 11 => ⟨S_, .i32⟩
  | 12 => ⟨S_, .f32⟩
  | 13 => ⟨S_, .f32⟩
  | 14 => ⟨S6x4096x10x4, .f32⟩
  | 15 => ⟨S6x4096x10x4, .f32⟩
  | 16 => ⟨S6x4096x40, .f32⟩
  | 17 => ⟨S_, .f32⟩
  | 18 => ⟨S_, .f32⟩
  | 19 => ⟨S6x4096x40, .i1⟩
  | 20 => ⟨S6x4096x40, .f32⟩
  | 21 => ⟨S6x4096x40, .f32⟩
  | 22 => ⟨S4096, .i32⟩
  | 23 => ⟨S_, .i32⟩
  | 24 => ⟨S4096, .i32⟩
  | 25 => ⟨S4096, .i32⟩
  | 26 => ⟨S4096, .f32⟩
  | 27 => ⟨S4096, .f32⟩
  | 28 => ⟨S1x4096x1x1, .f32⟩
  | 29 => ⟨S6x4096x10x4, .f32⟩
  | 30 => ⟨S6x4096x10x4, .f32⟩
  | 31 => ⟨S6x4096x40, .f32⟩
  | 32 => ⟨S_, .f32⟩
  | 33 => ⟨S_, .f32⟩
  | 34 => ⟨S6x4096x40, .i1⟩
  | 35 => ⟨S6x4096x40, .f32⟩
  | 36 => ⟨S6x4096x40, .f32⟩
  | _ => ⟨S6x4096x40x128, .fp8e4m3⟩

abbrev hbmTy (i : Nat) : BufTy := match i / 128 with
  | 0 => hbmTy0_0 i
  | 1 => hbmTy0_1 i
  | _ => ⟨S6x4096x40x128, .fp8e4m3⟩

abbrev bufTy : (tb : Table) → Fin (tcTables nBuf tb) → BufTy
  | .hbm, ⟨i, _⟩ => hbmTy i
  | .local _ .vmem, ⟨0, _⟩ => ⟨S6x4096x40x128, .fp8e4m3⟩
  | .local _ .vmem, ⟨1, _⟩ => ⟨S24576x10x128, .fp8e4m3⟩
  | .local _ .vmem, ⟨2, _⟩ => ⟨S24576x10x128, .fp8e4m3⟩
  | .local _ .vmem, ⟨3, _⟩ => ⟨S6x4096x10x128, .fp8e4m3⟩
  | .local _ .vmem, ⟨4, _⟩ => ⟨S6x4096x10x128, .fp8e4m3⟩
  | .local _ .vmem, ⟨5, _⟩ => ⟨S6x4096x40x128, .f32⟩
  | .local _ .vmem, ⟨6, _⟩ => ⟨S24576x10x128, .f32⟩
  | .local _ .vmem, ⟨7, _⟩ => ⟨S24576x10x128, .bf16⟩
  | .local _ .vmem, ⟨8, _⟩ => ⟨S6x4096x10x128, .f32⟩
  | .local _ .vmem, ⟨9, _⟩ => ⟨S6x4096x10x128, .bf16⟩
  | _, _ => ⟨S6x4096x40x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v19 : Ref sig .tc := ⟨.hbm, 40, rfl⟩
abbrev main_cst_1 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_3 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_4 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v56 : Ref sig .tc := ⟨.hbm, 84, rfl⟩
abbrev main_cst_5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_6 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_7 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_cst_8 : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_v111 : Ref sig .tc := ⟨.hbm, 149, rfl⟩
abbrev main_v112 : Ref sig .tc := ⟨.hbm, 150, rfl⟩
abbrev main_c : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_9 : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_v121 : Ref sig .tc := ⟨.hbm, 164, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x4096x40x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x10x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x10x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x4096x10x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x10x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x4096x40x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x10x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x10x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x4096x10x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x4096x10x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Words.lean ====
/-
  Word arithmetic the kernel's index computations share: the floor division that jnp's `//` prints, read as an
  integer division, and the small sums and products it is used with. Nothing here names the kernel.
-/
module

public import Idealize.ShloMosaic.Lib.WordArith
public import Idealize.ShloMosaic.Lib.WordCmp
public import Idealize.ShloMosaic.Lib.LoopRemainder
public import Idealize.ShloMosaic.Lib.Affine

@[expose] public section

namespace Cert.Words

open Idealize.ShloMosaic

/-- jnp's floor division of a word by a word, as it prints. -/
def floorW (x d : BitVec 32) : BitVec 32 :=
  Scalar.select (Scalar.andi (Scalar.cmpi .ne
      (Scalar.subi (Scalar.extui (Scalar.cmpi .sgt x 0#32)) (Scalar.extui (Scalar.cmpi .slt x 0#32)))
      (Scalar.subi (Scalar.extui (Scalar.cmpi .sgt d 0#32)) (Scalar.extui (Scalar.cmpi .slt d 0#32))))
    (Scalar.cmpi .ne (Scalar.remsi x d) 0#32))
    (Scalar.subi (Scalar.divsi x d) 1#32) (Scalar.divsi x d)

theorem toInt_divsi (x d : BitVec 32) (hd : d = 6#32 ∨ d = 128#32 ∨ d = 2048#32) :
    (Scalar.divsi x d).toInt = x.toInt.tdiv d.toInt := by
  have hc : ¬ IntOp.SDivCorner x d := by
    unfold IntOp.SDivCorner
    rcases hd with rfl | rfl | rfl <;> simp
  unfold Scalar.divsi IntOp.divsi
  rw [if_neg hc]
  rw [BitVec.toInt_sdiv]
  have h1 := x.toInt_lt; have h2 := x.le_toInt
  have hd0 : 0 < d.toInt := by rcases hd with rfl | rfl | rfl <;> decide
  have e := Int.mul_tdiv_add_tmod x.toInt d.toInt
  have hr2 : x.toInt.tmod d.toInt < d.toInt := Int.tmod_lt_of_pos _ hd0
  have hr3 := Int.lt_tmod_of_pos x.toInt hd0
  rw [Int.bmod_eq_of_le]
  · rcases hd with rfl | rfl | rfl <;> simp at * <;> omega
  · rcases hd with rfl | rfl | rfl <;> simp at * <;> omega

theorem toInt_remsi (x d : BitVec 32) (hd : d = 6#32 ∨ d = 128#32 ∨ d = 2048#32) :
    (Scalar.remsi x d).toInt = x.toInt.tmod d.toInt := by
  have hc : ¬ IntOp.SDivCorner x d := by
    unfold IntOp.SDivCorner
    rcases hd with rfl | rfl | rfl <;> simp
  unfold Scalar.remsi IntOp.remsi
  rw [if_neg hc]
  rw [BitVec.toInt_srem]

/-- The floor division is the integer one. -/
theorem toInt_floorW (x d : BitVec 32) (hd : d = 6#32 ∨ d = 128#32 ∨ d = 2048#32) :
    (floorW x d).toInt = x.toInt / d.toInt := by
  have hq := toInt_divsi x d hd
  have hr := toInt_remsi x d hd
  have e := Int.mul_tdiv_add_tmod x.toInt d.toInt
  have h1 := x.toInt_lt; have h2 := x.le_toInt
  have hr0 : 0 ≤ x.toInt → 0 ≤ x.toInt.tmod d.toInt := fun h => Int.tmod_nonneg _ h
  have hr1 : x.toInt ≤ 0 → x.toInt.tmod d.toInt ≤ 0 := fun h => by
    have h' := Int.tmod_nonneg d.toInt (a := -x.toInt) (by omega)
    rw [Int.neg_tmod] at h'; omega
  have hd0 : 0 < d.toInt := by rcases hd with rfl | rfl | rfl <;> decide
  have hr2 : x.toInt.tmod d.toInt < d.toInt := Int.tmod_lt_of_pos _ hd0
  have hr3 : -d.toInt < x.toInt.tmod d.toInt := by
    have := Int.lt_tmod_of_pos x.toInt hd0
    omega
  have hne : (Scalar.remsi x d = 0#32) ↔ x.toInt.tmod d.toInt = 0 := by
    rw [← hr, ← BitVec.toInt_inj]; rfl
  have hsub : (Scalar.subi (Scalar.divsi x d) 1#32).toInt = (Scalar.divsi x d).toInt - 1 ∨ (Scalar.divsi x d).toInt < -2147483600 := by
    by_cases hh : (Scalar.divsi x d).toInt < -2147483600
    · exact .inr hh
    · refine .inl ?_
      have := (Scalar.divsi x d).toInt_lt
      exact WordArith.toInt_sub_of_bounds _ _ (by simp; omega) (by simp; omega)
  unfold floorW
  rw [hq] at hsub
  have hx0 : (Scalar.cmpi .sgt x 0#32) = BitVec.ofBool (decide (0 < x.toInt)) := rfl
  have hx1 : (Scalar.cmpi .slt x 0#32) = BitVec.ofBool (decide (x.toInt < 0)) := rfl
  have hd1 : Scalar.subi (Scalar.extui (Scalar.cmpi .sgt d 0#32)) (Scalar.extui (Scalar.cmpi .slt d 0#32)) = 1#32 := by
    rcases hd with rfl | rfl | rfl <;> decide
  have hdv : d.toInt = 6 ∨ d.toInt = 128 ∨ d.toInt = 2048 := by
    rcases hd with rfl | rfl | rfl
    · exact .inl rfl
    · exact .inr (.inl rfl)
    · exact .inr (.inr rfl)
  rw [hx0, hx1, hd1]
  have hcr : Scalar.cmpi .ne (Scalar.remsi x d) 0#32 = BitVec.ofBool (decide (x.toInt.tmod d.toInt ≠ 0)) := by
    rw [WordCmp.scalar_cmpi_eq, WordCmp.cmpi_ne_eq]
    exact congrArg _ (decide_eq_decide.mpr (not_congr hne))
  rw [hcr]
  generalize x.toInt.tmod d.toInt = r at *
  generalize x.toInt.tdiv d.toInt = q at *
  generalize d.toInt = D at *
  have hz : (BitVec.ofBool (decide (r ≠ 0)) = 0#1) ∨ (BitVec.ofBool (decide (r ≠ 0)) = 1#1) := by
    by_cases h : r ≠ 0 <;> simp [h]
  by_cases hpos : 0 < x.toInt
  · have hc : Scalar.cmpi .ne (Scalar.subi (Scalar.extui (BitVec.ofBool (decide (0 < x.toInt))))
        (Scalar.extui (BitVec.ofBool (decide (x.toInt < 0))))) 1#32 = 0#1 := by
      rw [decide_eq_true hpos, decide_eq_false (by omega)]; decide
    rw [hc]
    have : ∀ b : BitVec 1, Scalar.andi 0#1 b = 0#1 := by decide
    rw [this, WordCmp.select_zero, hq]
    rcases hdv with rfl | rfl | rfl <;> omega
  · have hc : Scalar.cmpi .ne (Scalar.subi (Scalar.extui (BitVec.ofBool (decide (0 < x.toInt))))
        (Scalar.extui (BitVec.ofBool (decide (x.toInt < 0))))) 1#32 = 1#1 := by
      rw [decide_eq_false hpos]
      by_cases h : x.toInt < 0
      · rw [decide_eq_true h]; decide
      · rw [decide_eq_false h]; decide
    rw [hc]
    have : ∀ b : BitVec 1, Scalar.andi 1#1 b = b := by decide
    rw [this]
    by_cases hr' : r = 0
    · rw [decide_eq_false (by simpa using hr')]
      rw [show BitVec.ofBool false = 0#1 from rfl, WordCmp.select_zero, hq]
      rcases hdv with rfl | rfl | rfl <;> omega
    · rw [decide_eq_true hr']
      rw [show BitVec.ofBool true = 1#1 from rfl, WordCmp.select_one]
      rcases hsub with hsub | hsub
      · rw [hsub]
        rcases hdv with rfl | rfl | rfl <;> omega
      · exfalso
        rcases hdv with rfl | rfl | rfl <;> omega

end Cert.Words
-- ==== Proof.Arith.lean ====
/-
  The prompt loops' trip counts and offsets, and the side condition the kernel assumes of `prefix_len`
  (`k0_chk1`): all of it follows from `prefix_len ≤ 24576`.
-/
module

public import proofs.«01_k».proof.Proof.Gen.Kernel.Skeleton
public import proofs.«01_k».proof.Proof.Words

@[expose] public section

set_option maxRecDepth 16384

namespace Cert.Kernel.Hand

open Cert.Kernel Cert.Kernel.Gen Cert.Words
open Idealize.ShloMosaic

theorem addi_zero (x : BitVec 32) : Scalar.addi 0#32 x = x := by simp [Scalar.addi, IntOp.addi]
theorem subi_zero (x : BitVec 32) : Scalar.subi x 0#32 = x := by simp [Scalar.subi, IntOp.subi]

theorem toInt_iv (k : ℕ) (hk : k < 2 ^ 31) : (Scf.iv 0#32 1#32 k).toInt = k := by
  unfold Scf.iv
  rw [BitVec.zero_add, BitVec.mul_one]
  exact WordArith.toInt_ofNat_small k hk

theorem toNat_iv (k : ℕ) (hk : k < 2 ^ 31) : (Scf.iv 0#32 1#32 k).toNat = k := by
  unfold Scf.iv
  rw [BitVec.zero_add, BitVec.mul_one]
  exact WordArith.toNat_ofNat_of_lt k (by omega)

theorem toNat_iv_mul (k : ℕ) (c : ℕ) (hk : k * c < 2 ^ 31) (hc : c < 2 ^ 31) (hk' : k < 2 ^ 31) :
    (Scalar.muli (Scf.iv 0#32 1#32 k) (BitVec.ofNat 32 c)).toNat = k * c := by
  unfold Scalar.muli IntOp.muli
  rw [BitVec.toNat_mul, toNat_iv k hk', WordArith.toNat_ofNat_of_lt c (by omega), Nat.mod_eq_of_lt (by omega)]

/-- The number of 2048-key chunks of a prompt of the length a word holds. -/
def chunks (v : BitVec 32) : ℕ := ((v.toInt + 2047) / 2048).toNat

/-- The number of 128-key tiles of chunk `t`. -/
def tiles (v : BitVec 32) (t : ℕ) : ℕ := min 16 ((v.toInt - t * 2048 + 127) / 128).toNat

theorem toInt_chunks (v : BitVec 32) (hv : v.toInt ≤ 24576) :
    (floorW (Scalar.subi (Scalar.addi v 2048#32) 1#32) 2048#32).toInt = (v.toInt + 2047) / 2048 := by
  have h2 := v.le_toInt
  rw [toInt_floorW _ _ (.inr (.inr rfl))]
  have e1 : (Scalar.addi v 2048#32).toInt = v.toInt + 2048 :=
    WordArith.toInt_add_of_bounds v 2048#32 (by rw [show (2048#32 : BitVec 32).toInt = 2048 from rfl]; omega) (by rw [show (2048#32 : BitVec 32).toInt = 2048 from rfl]; omega)
  have e2 : (Scalar.subi (Scalar.addi v 2048#32) 1#32).toInt = v.toInt + 2048 - 1 := by
    have := WordArith.toInt_sub_of_bounds (Scalar.addi v 2048#32) 1#32 (by rw [e1, show (1#32 : BitVec 32).toInt = 1 from rfl]; omega) (by rw [e1, show (1#32 : BitVec 32).toInt = 1 from rfl]; omega)
    rw [e1] at this; exact this
  rw [e2, show (2048#32 : BitVec 32).toInt = 2048 from rfl]
  omega

theorem t3_ub (v : BitVec 32) : (k0_t3_loop v).ub = floorW (Scalar.subi (Scalar.addi v 2048#32) 1#32) 2048#32 := by
  show Scalar.addi 0#32 (Scalar.muli (Scalar.divsi (Scalar.subi (floorW (Scalar.subi (Scalar.addi v 2048#32) 1#32) 2048#32) 0#32) 1#32) 1#32) = _
  rw [Scalar.muli_divsi_one, addi_zero, subi_zero]

theorem t3_trips (v : BitVec 32) (hv : v.toInt ≤ 24576) : (k0_t3_loop v).trips = chunks v := by
  show Scf.trips 0#32 (k0_t3_loop v).ub 1#32 = _
  unfold Scf.trips
  rw [t3_ub, toInt_chunks v hv]
  show (((v.toInt + 2047) / 2048 - 0 + 1 - 1) / 1).toNat = _
  unfold chunks
  omega

theorem chunks_le (v : BitVec 32) (hv : v.toInt ≤ 24576) : chunks v ≤ 12 := by
  unfold chunks; omega

theorem t3_lt (v : BitVec 32) (hv : v.toInt ≤ 24576) (t : Fin (k0_t3_loop v).trips) :
    t.val < 12 ∧ t.val * 2048 < v.toInt := by
  have h := lt_of_lt_of_eq t.isLt (t3_trips v hv)
  unfold chunks at h
  omega

theorem t3_OK (v : BitVec 32) (hv : v.toInt ≤ 24576) : (k0_t3_loop v).OK := by
  have h : (k0_t3_loop v).trips = _ := t3_trips v hv
  have hc := chunks_le v hv
  refine ⟨(by decide : 0 < (1#32 : BitVec 32).toInt), ?_⟩
  show (0#32 : BitVec 32).toInt + ((k0_t3_loop v).trips : Int) * (1#32 : BitVec 32).toInt < _
  rw [h]
  show (0 : Int) + (chunks v : Int) * 1 < 2 ^ 31
  omega

theorem toInt_tiles (v : BitVec 32) (hv : v.toInt ≤ 24576) (t : ℕ) (ht : t < 12) (hp : t * 2048 < v.toInt) :
    (Scalar.minsi 16#32 (floorW (Scalar.subi (Scalar.addi (Scalar.subi v (Scalar.muli (Scf.iv 0#32 1#32 t) 2048#32)) 128#32) 1#32) 128#32)).toInt
      = tiles v t := by
  have e0 : (Scalar.muli (Scf.iv 0#32 1#32 t) 2048#32).toInt = t * 2048 := by
    have := WordArith.toInt_mul_of_bounds (Scf.iv 0#32 1#32 t) 2048#32
      (by rw [toInt_iv t (by omega)]; simp; omega) (by rw [toInt_iv t (by omega)]; simp; omega)
    rw [toInt_iv t (by omega)] at this; exact this
  have e1 : (Scalar.subi v (Scalar.muli (Scf.iv 0#32 1#32 t) 2048#32)).toInt = v.toInt - t * 2048 := by
    have := WordArith.toInt_sub_of_bounds v (Scalar.muli (Scf.iv 0#32 1#32 t) 2048#32) (by rw [e0]; omega) (by rw [e0]; omega)
    rw [e0] at this; exact this
  generalize Scalar.subi v (Scalar.muli (Scf.iv 0#32 1#32 t) 2048#32) = w at *
  have e2 : (Scalar.addi w 128#32).toInt = w.toInt + 128 :=
    WordArith.toInt_add_of_bounds w 128#32 (by simp; omega) (by simp; omega)
  have e3 : (Scalar.subi (Scalar.addi w 128#32) 1#32).toInt = w.toInt + 128 - 1 := by
    have := WordArith.toInt_sub_of_bounds (Scalar.addi w 128#32) 1#32 (by rw [e2]; simp; omega) (by rw [e2]; simp; omega)
    rw [e2] at this; exact this
  have e4 := toInt_floorW (Scalar.subi (Scalar.addi w 128#32) 1#32) 128#32 (.inr (.inl rfl))
  rw [e3, e1, show (128#32 : BitVec 32).toInt = 128 from rfl] at e4
  generalize floorW (Scalar.subi (Scalar.addi w 128#32) 1#32) 128#32 = f at *
  have e5 : (Scalar.minsi 16#32 f).toInt = if 16 < f.toInt then 16 else f.toInt := by
    have hs : (16#32 : BitVec 32).slt f = decide (16 < f.toInt) := rfl
    unfold Scalar.minsi IntOp.minsi
    rw [hs]
    by_cases h : 16 < f.toInt <;> simp [h]
  rw [e5, e4]
  unfold tiles
  split <;> omega

theorem t4_ub (v : BitVec 32) (t : Fin (k0_t3_loop v).trips) :
    (k0_t4_loop v t).ub = Scalar.minsi 16#32 (floorW (Scalar.subi (Scalar.addi (Scalar.subi v (Scalar.muli (Scf.iv 0#32 1#32 t) 2048#32)) 128#32) 1#32) 128#32) := by
  show Scalar.addi 0#32 (Scalar.muli (Scalar.divsi (Scalar.subi (Scalar.minsi 16#32 (floorW (Scalar.subi (Scalar.addi (Scalar.subi v (Scalar.muli (Scf.iv 0#32 1#32 t) 2048#32)) 128#32) 1#32) 128#32)) 0#32) 1#32) 1#32) = _
  rw [Scalar.muli_divsi_one, addi_zero, subi_zero]

theorem t4_trips (v : BitVec 32) (hv : v.toInt ≤ 24576) (t : Fin (k0_t3_loop v).trips) : (k0_t4_loop v t).trips = tiles v t := by
  have ⟨h1, h2⟩ := t3_lt v hv t
  show Scf.trips 0#32 (k0_t4_loop v t).ub 1#32 = _
  unfold Scf.trips
  rw [t4_ub, toInt_tiles v hv t h1 h2]
  show (((tiles v t : Int) - 0 + 1 - 1) / 1).toNat = _
  omega

theorem tiles_le (v : BitVec 32) (t : ℕ) : tiles v t ≤ 16 := by unfold tiles; omega

theorem t4_OK (v : BitVec 32) (hv : v.toInt ≤ 24576) (t : Fin (k0_t3_loop v).trips) : (k0_t4_loop v t).OK := by
  have h : (k0_t4_loop v t).trips = _ := t4_trips v hv t
  have hc := tiles_le v t
  refine ⟨(by decide : 0 < (1#32 : BitVec 32).toInt), ?_⟩
  show (0#32 : BitVec 32).toInt + ((k0_t4_loop v t).trips : Int) * (1#32 : BitVec 32).toInt < _
  rw [h]
  show (0 : Int) + (tiles v t : Int) * 1 < 2 ^ 31
  omega

theorem t4_lt (v : BitVec 32) (hv : v.toInt ≤ 24576) (t : Fin (k0_t3_loop v).trips) (k : Fin (k0_t4_loop v t).trips) :
    k.val < 16 := by
  have h := lt_of_lt_of_eq k.isLt (t4_trips v hv t)
  exact lt_of_lt_of_le h (tiles_le v t)

/-! ## The tile's head and batch -/

/-- Tile row `i` of the outer loop is head `i / 6` … -/
theorem head_eq (i : ℕ) (hi : i < 60) : (floorW (Scf.iv 0#32 1#32 i) 6#32).toNat = i / 6 := by
  have h := toInt_floorW (Scf.iv 0#32 1#32 i) 6#32 (.inl rfl)
  rw [toInt_iv i (by omega)] at h
  have h6 : (6#32 : BitVec 32).toInt = 6 := rfl
  rw [h6] at h
  rw [BitVec.toInt_eq_toNat_cond] at h
  split at h <;> omega

/-! ## Offsets -/

theorem off5_eq (v : BitVec 32) (hv : v.toInt ≤ 24576) (t : Fin (k0_t3_loop v).trips) : k0_off5 v t = ![t.val * 2048, 0] := by
  have ⟨h1, h2⟩ := t3_lt v hv t
  show ![(Scalar.muli (Scf.iv 0#32 1#32 t) (BitVec.ofNat 32 2048)).toNat, 0] = _
  rw [toNat_iv_mul _ _ (by omega) (by omega) (by omega)]

theorem off6_eq (i : Fin k0_t1_loop.trips) (v : BitVec 32) (hv : v.toInt ≤ 24576) (t : Fin (k0_t3_loop v).trips) :
    k0_off6 i v t = ![i.val / 6, t.val * 2048, 0] := by
  have ⟨h1, h2⟩ := t3_lt v hv t
  show ![(floorW (Scf.iv 0#32 1#32 i) 6#32).toNat, (Scalar.muli (Scf.iv 0#32 1#32 t) (BitVec.ofNat 32 2048)).toNat, 0] = _
  rw [toNat_iv_mul _ _ (by omega) (by omega) (by omega), head_eq _ i.isLt]

theorem off8_eq (v : BitVec 32) (hv : v.toInt ≤ 24576) (t : Fin (k0_t3_loop v).trips) : k0_off8 v t = ![t.val * 16, 0, 0] := by
  have ⟨h1, h2⟩ := t3_lt v hv t
  show ![(Scalar.muli (Scf.iv 0#32 1#32 t) (BitVec.ofNat 32 16)).toNat, 0, 0] = _
  rw [toNat_iv_mul _ _ (by omega) (by omega) (by omega)]

theorem off9_eq (i : Fin k0_t1_loop.trips) (v : BitVec 32) (hv : v.toInt ≤ 24576) (t : Fin (k0_t3_loop v).trips) :
    k0_off9 i v t = ![i.val / 6, t.val * 16, 0, 0] := by
  have ⟨h1, h2⟩ := t3_lt v hv t
  show ![(floorW (Scf.iv 0#32 1#32 i) 6#32).toNat, (Scalar.muli (Scf.iv 0#32 1#32 t) (BitVec.ofNat 32 16)).toNat, 0, 0] = _
  rw [toNat_iv_mul _ _ (by omega) (by omega) (by omega), head_eq _ i.isLt]

theorem off11_eq (v : BitVec 32) (hv : v.toInt ≤ 24576) (t : Fin (k0_t3_loop v).trips) : k0_off11 v t = ![t.val * 16, 0] := by
  have ⟨h1, h2⟩ := t3_lt v hv t
  show ![(Scalar.muli (Scf.iv 0#32 1#32 t) (BitVec.ofNat 32 16)).toNat, 0] = _
  rw [toNat_iv_mul _ _ (by omega) (by omega) (by omega)]

theorem off12_eq (v : BitVec 32) (hv : v.toInt ≤ 24576) (t : Fin (k0_t3_loop v).trips) (k : Fin (k0_t4_loop v t).trips) :
    k0_off12 v t k = ![k.val * 128, 0] := by
  have h1 := t4_lt v hv t k
  show ![(Scalar.muli (Scf.iv 0#32 1#32 k) (BitVec.ofNat 32 128)).toNat, 0] = _
  rw [toNat_iv_mul _ _ (by omega) (by omega) (by omega)]

theorem off13_eq (v : BitVec 32) (hv : v.toInt ≤ 24576) (t : Fin (k0_t3_loop v).trips) (k : Fin (k0_t4_loop v t).trips) :
    k0_off13 v t k = ![k.val, 0] := by
  have h1 := t4_lt v hv t k
  show ![(Scf.iv 0#32 1#32 k).toNat, 0] = _
  rw [toNat_iv _ (by omega)]

theorem off14_eq (v : BitVec 32) (hv : v.toInt ≤ 24576) (t : Fin (k0_t3_loop v).trips) (k : Fin (k0_t4_loop v t).trips) :
    k0_off14 v t k = ![k.val, 0, 0] := by
  have h1 := t4_lt v hv t k
  show ![(Scf.iv 0#32 1#32 k).toNat, 0, 0] = _
  rw [toNat_iv _ (by omega)]

/-- The kernel's side condition of the word it reads from `prefix_len`. -/
theorem chk1 (i : Fin k0_t1_loop.trips) (f v : BitVec 32) (hv : v.toInt ≤ 24576) : k0_chk1 i f v := by
  have n5 : ∀ (t : Fin (k0_t3_loop v).trips), Fin (k0_t5_loop v t).trips → False := fun t k => Scf.rem_no_trip _ _ k
  have n6 : Fin (k0_t6_loop v).trips → False := fun k => Scf.rem_no_trip _ _ k
  have hi : i.val < 60 := i.isLt
  unfold k0_chk1
  refine ⟨fun _ => t3_OK v hv, fun t _ a => ?_, fun t _ a => ?_, fun t _ hinb => ?_, fun t _ a => ?_, fun t _ a => ?_,
    fun t _ hinb => ?_, fun t _ a => ?_, fun t _ => t4_OK v hv t, fun t k _ a => ?_, fun t k _ a => ?_, fun t k _ a => ?_,
    fun t _ => Scf.rem_ok _ _, fun t k => (n5 t k).elim, fun t k => (n5 t k).elim, fun t k => (n5 t k).elim,
    fun _ => Scf.rem_ok _ _, fun k => (n6 k).elim, fun k => (n6 k).elim, fun k => (n6 k).elim, fun k => (n6 k).elim,
    fun k => (n6 k).elim, fun k => (n6 k).elim, fun k => (n6 k).elim, fun k => (n6 k).elim, fun k => (n6 k).elim,
    fun k => (n6 k).elim, fun k => (n6 k).elim, fun k => (n6 k).elim, fun k => (n6 k).elim, fun k => (n6 k).elim,
    fun k => (n6 k).elim⟩
  · have ⟨h1, h2⟩ := t3_lt v hv t
    rw [off5_eq v hv t]
    fin_cases a
    · show t.val * 2048 + 2048 ≤ 24576; omega
    · show 0 + 128 ≤ 128; omega
  · have ⟨h1, h2⟩ := t3_lt v hv t
    rw [off6_eq i v hv t]
    fin_cases a
    · show i.val / 6 + 1 ≤ 10; omega
    · show t.val * 2048 + 2048 ≤ 24576; omega
    · show 0 + 128 ≤ 128; omega
  · have e : k0_off6 i v t 1 = t.val * 2048 := by rw [off6_eq i v hv t]; rfl
    refine .inl (.inr ⟨by decide, rfl, .inl ⟨?_, ?_⟩⟩)
    · show 4 ∣ k0_off6 i v t 1
      rw [e]; omega
    · show 4 ∣ 2048; decide
  · have ⟨h1, h2⟩ := t3_lt v hv t
    rw [off8_eq v hv t]
    fin_cases a
    · show t.val * 16 + 16 ≤ 192; omega
    · show 0 + 128 ≤ 128; omega
    · show 0 + 128 ≤ 128; omega
  · have ⟨h1, h2⟩ := t3_lt v hv t
    rw [off9_eq i v hv t]
    fin_cases a
    · show i.val / 6 + 1 ≤ 10; omega
    · show t.val * 16 + 16 ≤ 192; omega
    · show 0 + 128 ≤ 128; omega
    · show 0 + 128 ≤ 128; omega
  · have e : k0_off9 i v t 1 = t.val * 16 := by rw [off9_eq i v hv t]; rfl
    refine .inr ⟨by decide, rfl, ?_, rfl⟩
    show k0_off9 i v t 2 = 0
    rw [off9_eq i v hv t]; rfl
  · have ⟨h1, h2⟩ := t3_lt v hv t
    rw [off11_eq v hv t]
    fin_cases a
    · show t.val * 16 + 16 ≤ 192; omega
    · show 0 + 128 ≤ 128; omega
  · have h1 := t4_lt v hv t k
    rw [off12_eq v hv t k]
    fin_cases a
    · show k.val * 128 + 128 ≤ 2048; omega
    · show 0 + 128 ≤ 128; omega
  · have h1 := t4_lt v hv t k
    rw [off13_eq v hv t k]
    fin_cases a
    · show k.val + 1 ≤ 16; omega
    · show 0 + 128 ≤ 128; omega
  · have h1 := t4_lt v hv t k
    rw [off14_eq v hv t k]
    fin_cases a
    · show k.val + 1 ≤ 16; omega
    · show 0 + 128 ≤ 128; omega
    · show 0 + 128 ≤ 128; omega

end Cert.Kernel.Hand
-- ==== Proof.Operands.lean ====
module

public import proofs.«01_k».proof.Proof.Gen.Kernel.Loops
public import proofs.«01_k».proof.Proof.Gen.Kernel.Launch
public import proofs.«01_k».proof.Proof.Gen.Kernel.Points
public import proofs.«01_k».proof.Proof.Arith
public import Idealize.ShloMosaic.Lib.Pipeline.FrameBody
public import Idealize.ShloMosaic.Lib.LoopRemainder
public import Idealize.ShloMosaic.Lib.VecWindow
public import Idealize.ShloMosaic.Lib.Tactic
public import Idealize.ShloMosaic.Lib.WordCmp

@[expose] public section

set_option maxRecDepth 16384

/-! The arrays and buffers the kernel works on, by name, and what it is to hold one of them whole. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! The arrays in device memory. -/

abbrev qtM : Memref sig .tc .hbm S6x40x128x4096 .fp8e4m3 := Memref.whole main_v0
abbrev qsM : Memref sig .tc .hbm S6x10x4x4096 .f32 := Memref.whole main_v2
abbrev pkM : Memref sig .tc .hbm S10x24576x128 .fp8e4m3 := Memref.whole main_v3
abbrev pvM : Memref sig .tc .hbm S10x192x128x128 .fp8e4m3 := Memref.whole main_v5
abbrev pksM : Memref sig .tc .hbm S10x192x128 .f32 := Memref.whole main_v7
abbrev pvsM : Memref sig .tc .hbm S10x192x128 .f32 := Memref.whole main_v9
abbrev ckM : Memref sig .tc .hbm S6x10x4096x128 .fp8e4m3 := Memref.whole main_v10
abbrev cvM : Memref sig .tc .hbm S6x10x32x128x128 .fp8e4m3 := Memref.whole main_v12
abbrev cksM : Memref sig .tc .hbm S6x10x32x128 .f32 := Memref.whole main_v14
abbrev cvsM : Memref sig .tc .hbm S6x10x32x128 .f32 := Memref.whole main_v16
abbrev outM : Memref sig .tc .hbm S6x4096x5120 .bf16 := Memref.whole main_v31_0
abbrev lsePM : Memref sig .tc .hbm S6x10x4x4096 .f32 := Memref.whole main_v31_1
abbrev lseCM : Memref sig .tc .hbm S6x10x4x4096 .f32 := Memref.whole main_v31_2
abbrev qB : Memref sig .tc .vmem S4x128x128 .fp8e4m3 := Memref.whole cc0_scratch0
abbrev qsB : Memref sig .tc .vmem S4x128 .f32 := Memref.whole cc0_scratch1
abbrev kB : Memref sig .tc .vmem S2048x128 .fp8e4m3 := Memref.whole cc0_scratch2
abbrev vB : Memref sig .tc .vmem S16x128x128 .fp8e4m3 := Memref.whole cc0_scratch3
abbrev ksB : Memref sig .tc .vmem S16x128 .f32 := Memref.whole cc0_scratch4
abbrev vsB : Memref sig .tc .vmem S16x128 .f32 := Memref.whole cc0_scratch5
abbrev mB : Memref sig .tc .vmem S1x512 .f32 := Memref.whole cc0_scratch6
abbrev lB : Memref sig .tc .vmem S1x512 .f32 := Memref.whole cc0_scratch7
abbrev accB : Memref sig .tc .vmem S128x512 .f32 := Memref.whole cc0_scratch8
abbrev opB : Memref sig .tc .vmem S128x512 .f32 := Memref.whole cc0_scratch9
abbrev lsepB : Memref sig .tc .vmem S1x512 .f32 := Memref.whole cc0_scratch10
abbrev oB : Memref sig .tc .vmem S128x512 .bf16 := Memref.whole cc0_scratch11
abbrev rowB : Memref sig .tc .vmem S4x128 .f32 := Memref.whole cc0_scratch12

/-- A whole buffer owned at the contents `f`. -/
abbrev held (c : Dev nD) {sp : Space} {s : Shape} {e : EltTy} (m : Memref sig .tc sp s e) (f : BufTy.Contents (Elt F) m.view.ty) : sProp 𝕄 :=
  m.view.loc (c : Thread nD τ) ↦[m.view.set]{fullShare} f

/-- The DMA cell `n` counts nothing. -/
abbrev idle (c : Dev nD) (s : DmaSems sig S_) : sProp 𝕄 :=
  semVal ((c : Thread nD τ), SemLoc.dma s.sem) 0

/-- A whole row of 512 numbers, loaded. -/
abbrev ldRow (M : Memref sig .tc .vmem S1x512 .f32) (f : BufTy.Contents (Elt F) M.view.ty) : FVec F S1x512 .f32 :=
  View.readAt (Elt F) M.view (Rect.unit (s := S1x512) ![0, 0] S1x512.size inb_S1x512_S1x512_0_0).toLoadRect f
/-- A whole block of 128 rows of 512 numbers, loaded. -/
abbrev ldAcc (M : Memref sig .tc .vmem S128x512 .f32) (f : BufTy.Contents (Elt F) M.view.ty) : FVec F S128x512 .f32 :=
  View.readAt (Elt F) M.view (Rect.unit (s := S128x512) ![0, 0] S128x512.size inb_S128x512_S128x512_0_0).toLoadRect f

/-- The running maximum, the running sum of the weights and the running weighted sum of the values. -/
structure St (F : FTy → Type) where
  m : FVec F S1x512 .f32
  l : FVec F S1x512 .f32
  acc : FVec F S128x512 .f32

theorem writes_whole (b : Ref sig .tc) (f v) : (Memref.whole b).view.writes (Elt F) f [⟨Rect.whole _, v⟩] = v :=
  (View.read_whole (Val := Elt F) _ _).symm.trans (View.read_writes_whole (Val := Elt F) (Memref.whole b).view f v)
theorem writes_m (f v L) : (mB).view.writes (Elt F) f (⟨Rect.unit (s := S1x512) ![0, 0] S1x512.size inb_S1x512_S1x512_0_0, v⟩ :: L) = v :=
  (View.read_whole (Val := Elt F) _ _).symm.trans (View.read_writes_full (Val := Elt F) mB.view f _ v L)
theorem writes_l (f v L) : (lB).view.writes (Elt F) f (⟨Rect.unit (s := S1x512) ![0, 0] S1x512.size inb_S1x512_S1x512_0_0, v⟩ :: L) = v :=
  (View.read_whole (Val := Elt F) _ _).symm.trans (View.read_writes_full (Val := Elt F) lB.view f _ v L)
theorem writes_acc (f v L) : (accB).view.writes (Elt F) f (⟨Rect.unit (s := S128x512) ![0, 0] S128x512.size inb_S128x512_S128x512_0_0, v⟩ :: L) = v :=
  (View.read_whole (Val := Elt F) _ _).symm.trans (View.read_writes_full (Val := Elt F) accB.view f _ v L)
theorem writes_op (f v L) : (opB).view.writes (Elt F) f (⟨Rect.unit (s := S128x512) ![0, 0] S128x512.size inb_S128x512_S128x512_0_0, v⟩ :: L) = v :=
  (View.read_whole (Val := Elt F) _ _).symm.trans (View.read_writes_full (Val := Elt F) opB.view f _ v L)
theorem writes_lsep (f v L) : (lsepB).view.writes (Elt F) f (⟨Rect.unit (s := S1x512) ![0, 0] S1x512.size inb_S1x512_S1x512_0_0, v⟩ :: L) = v :=
  (View.read_whole (Val := Elt F) _ _).symm.trans (View.read_writes_full (Val := Elt F) lsepB.view f _ v L)

end Cert.Kernel.Hand

end
-- ==== Proof.Prompt.lean ====
module

public import proofs.«01_k».proof.Proof.Operands

@[expose] public section

set_option maxRecDepth 16384

/-! The kernel's loops over the prompt's keys: chunks of 2048 keys fetched by DMA, each worked through in tiles of 128. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The 2048 keys of chunk `t` of the prompt. -/
def chK (k0_t1 : Fin k0_t1_loop.trips) (v32 : Elt F .i32) (k0_h1 : k0_cond1 v32 = 1#1) (v47 : Elt F .i32) (k0_hw1 : k0_chk1 k0_t1 v32 v47) (K : BufTy.Contents (Elt F) pkM.view.ty) (t : Fin (k0_t3_loop v47).trips) : BufTy.Contents (Elt F) kB.view.ty :=
  View.read (Elt F) ((pkM.slice (Rect.unit (s := S10x24576x128) (k0_off6 k0_t1 v47 t) S1x2048x128.size (k0_off6_inb k0_t1 v32 v47 k0_hw1 t k0_h1)) (fun _ => rfl)).squeeze S2048x128 squeezes_S1x2048x128_S2048x128).view K

/-- The 2048 values of chunk `t` of the prompt. -/
def chV (k0_t1 : Fin k0_t1_loop.trips) (v32 : Elt F .i32) (k0_h1 : k0_cond1 v32 = 1#1) (v47 : Elt F .i32) (k0_hw1 : k0_chk1 k0_t1 v32 v47) (V : BufTy.Contents (Elt F) pvM.view.ty) (t : Fin (k0_t3_loop v47).trips) : BufTy.Contents (Elt F) vB.view.ty :=
  View.read (Elt F) ((pvM.slice (Rect.unit (s := S10x192x128x128) (k0_off9 k0_t1 v47 t) S1x16x128x128.size (k0_off9_inb k0_t1 v32 v47 k0_hw1 t k0_h1)) (fun _ => rfl)).squeeze S16x128x128 squeezes_S1x16x128x128_S16x128x128).view V

/-- The key scales of chunk `t` of the prompt. -/
def chKs (k0_t1 : Fin k0_t1_loop.trips) (v32 : Elt F .i32) (k0_h1 : k0_cond1 v32 = 1#1) (v47 : Elt F .i32) (k0_hw1 : k0_chk1 k0_t1 v32 v47) (Ks : BufTy.Contents (Elt F) pksM.view.ty) (t : Fin (k0_t3_loop v47).trips) : BufTy.Contents (Elt F) ksB.view.ty :=
  View.read (Elt F) (((pksM.slice (Rect.unit (s := S10x192x128) (k0_off10 k0_t1) S1x192x128.size (k0_off10_inb k0_t1)) (fun _ => rfl)).squeeze S192x128 squeezes_S1x192x128_S192x128).slice (Rect.unit (s := S192x128) (k0_off11 v47 t) S16x128.size (k0_off11_inb k0_t1 v32 v47 k0_hw1 t k0_h1)) (fun _ => rfl)).view Ks

/-- The value scales of chunk `t` of the prompt. -/
def chVs (k0_t1 : Fin k0_t1_loop.trips) (v32 : Elt F .i32) (k0_h1 : k0_cond1 v32 = 1#1) (v47 : Elt F .i32) (k0_hw1 : k0_chk1 k0_t1 v32 v47) (Vs : BufTy.Contents (Elt F) pvsM.view.ty) (t : Fin (k0_t3_loop v47).trips) : BufTy.Contents (Elt F) vsB.view.ty :=
  View.read (Elt F) (((pvsM.slice (Rect.unit (s := S10x192x128) (k0_off10 k0_t1) S1x192x128.size (k0_off10_inb k0_t1)) (fun _ => rfl)).squeeze S192x128 squeezes_S1x192x128_S192x128).slice (Rect.unit (s := S192x128) (k0_off11 v47 t) S16x128.size (k0_off11_inb k0_t1 v32 v47 k0_hw1 t k0_h1)) (fun _ => rfl)).view Vs

/-- One tile of keys of the prompt: the running values after it. -/
def stepP (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32) (t : Fin (k0_t3_loop v47).trips) (k : Fin (k0_t4_loop v47 t).trips) (kf : BufTy.Contents (Elt F) kB.view.ty) (vf : BufTy.Contents (Elt F) vB.view.ty) (ksf : BufTy.Contents (Elt F) ksB.view.ty) (vsf : BufTy.Contents (Elt F) vsB.view.ty) (s : St F) : St F :=
  let kt := View.readAt (Elt F) kB.view (Rect.unit (s := S2048x128) (k0_off12 v47 t k) S128x128.size (k0_off12_inb k0_t1 v32 v47 k0_hw1 t k k0_h1)).toLoadRect kf
  let ks := View.readAt (Elt F) ksB.view (Rect.unit (s := S16x128) (k0_off13 v47 t k) S1x128.size (k0_off13_inb k0_t1 v32 v47 k0_hw1 t k k0_h1)).toLoadRect ksf
  let vs := View.readAt (Elt F) vsB.view (Rect.unit (s := S16x128) (k0_off13 v47 t k) S1x128.size (k0_off13_inb k0_t1 v32 v47 k0_hw1 t k k0_h1)).toLoadRect vsf
  let vt := View.readAt (Elt F) vB.view (Rect.unit (s := S16x128x128) (k0_off14 v47 t k) S1x128x128.size (k0_off14_inb k0_t1 v32 v47 k0_hw1 t k k0_h1)).toLoadRect vf
  let base := Scf.iv 0#32 1#32 t
  ⟨k0_pay59 (k0_pay5 v47 v56 v61 t base 0#32 1#32 k kt ks (ldRow mB s.m)),
   k0_pay57 (k0_pay8 v47 v56 v61 t base 0#32 1#32 k kt ks (ldRow mB s.m) (ldRow lB s.l)) (k0_pay9 v47 v56 v61 t base 0#32 1#32 k kt ks (ldRow mB s.m)),
   k0_pay58 (k0_pay3 vs) (k0_pay6 v47 v56 v61 t base 0#32 1#32 k kt ks (ldRow mB s.m)) (k0_pay7 v47 v56 v61 t base 0#32 1#32 k kt ks (ldRow mB s.m)) vt (ldAcc accB s.acc)⟩

/-- The values reached after `k` tiles of chunk `t` of the prompt. -/
inductive RunP (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32) (K : BufTy.Contents (Elt F) pkM.view.ty) (V : BufTy.Contents (Elt F) pvM.view.ty) (Ks : BufTy.Contents (Elt F) pksM.view.ty) (Vs : BufTy.Contents (Elt F) pvsM.view.ty) : ℕ → ℕ → St F → Prop
  | start : RunP k0_t1 v32 k0_h1 v47 k0_hw1 v56 v61 K V Ks Vs 0 0 ⟨k0_pay54 (k0_pay53 (F := F)), k0_pay55, k0_pay56⟩
  | tile (t : Fin (k0_t3_loop v47).trips) (k : Fin (k0_t4_loop v47 t).trips) (s : St F) : RunP k0_t1 v32 k0_h1 v47 k0_hw1 v56 v61 K V Ks Vs t.val k.val s →
      RunP k0_t1 v32 k0_h1 v47 k0_hw1 v56 v61 K V Ks Vs t.val (k.val + 1) (stepP k0_t1 v32 k0_h1 v47 k0_hw1 v56 v61 t k (chK k0_t1 v32 k0_h1 v47 k0_hw1 K t) (chV k0_t1 v32 k0_h1 v47 k0_hw1 V t) (chKs k0_t1 v32 k0_h1 v47 k0_hw1 Ks t) (chVs k0_t1 v32 k0_h1 v47 k0_hw1 Vs t) s)
  | next (t : Fin (k0_t3_loop v47).trips) (s : St F) : RunP k0_t1 v32 k0_h1 v47 k0_hw1 v56 v61 K V Ks Vs t.val (k0_t4_loop v47 t).trips s → RunP k0_t1 v32 k0_h1 v47 k0_hw1 v56 v61 K V Ks Vs (t.val + 1) 0 s

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- One tile of keys, run: the buffers it reads stay, the three running values take one step. -/
theorem trip4 (c : Dev nD) (E : Set ℕ) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32)  (t : Fin (k0_t3_loop v47).trips) (k : Fin (k0_t4_loop v47 t).trips) (a : BitVec 32) (kf : BufTy.Contents (Elt F) kB.view.ty) (vf : BufTy.Contents (Elt F) vB.view.ty) (ksf : BufTy.Contents (Elt F) ksB.view.ty) (vsf : BufTy.Contents (Elt F) vsB.view.ty) (s : St F) :
    iprop(held c kB kf ∗ held c vB vf ∗ held c ksB ksf ∗ held c vsB vsf ∗ held c mB s.m ∗ held c lB s.l ∗ held c accB s.acc)
      ⊢ (wp frame (wpE (defs₀ (F := F)) Variants.none (c : Thread nD τ) none) E
          (k0_t4_body (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 (k0_pay53 (F := F)) t (Scf.iv 0#32 1#32 t) k a)
          (fun y => iprop(held c kB kf ∗ held c vB vf ∗ held c ksB ksf ∗ held c vsB vsf
            ∗ ∃ s' : St F, held c mB s'.m ∗ held c lB s'.l ∗ held c accB s'.acc ∗ ⌜s' = stepP k0_t1 v32 k0_h1 v47 k0_hw1 v56 v61 t k kf vf ksf vsf s⌝)) : sProp 𝕄) := by
  unfold k0_t4_body
  iintro ⟨H1, H2, H3, H4, H5, H6, H7⟩
  sl_exec
  sl_step
  isplitl [H1]; · iexact H1
  isplitl [H2]; · iexact H2
  isplitl [H3]; · iexact H3
  isplitl [H4]; · iexact H4
  iexists ⟨_, _, _⟩
  isplitl [H5]; · iexact H5
  isplitl [H6]; · iexact H6
  isplitl [H7]; · iexact H7
  ipureintro
  rw [writes_m, writes_l, writes_acc]
  rfl

/-- Before tile `k` of chunk `t`: the chunk is in the buffers, the running values are those of the tiles before. -/
abbrev inv4 (c : Dev nD) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32) (t : Fin (k0_t3_loop v47).trips) (K : BufTy.Contents (Elt F) pkM.view.ty) (V : BufTy.Contents (Elt F) pvM.view.ty) (Ks : BufTy.Contents (Elt F) pksM.view.ty) (Vs : BufTy.Contents (Elt F) pvsM.view.ty) (k : ℕ) : sProp 𝕄 :=
  iprop(held c kB (chK k0_t1 v32 k0_h1 v47 k0_hw1 K t) ∗ held c vB (chV k0_t1 v32 k0_h1 v47 k0_hw1 V t) ∗ held c ksB (chKs k0_t1 v32 k0_h1 v47 k0_hw1 Ks t) ∗ held c vsB (chVs k0_t1 v32 k0_h1 v47 k0_hw1 Vs t)
    ∗ ∃ m l acc, held c mB m ∗ held c lB l ∗ held c accB acc ∗ ⌜RunP k0_t1 v32 k0_h1 v47 k0_hw1 v56 v61 K V Ks Vs t.val k ⟨m, l, acc⟩⌝)

set_option warn.classDefReducibility false in
/-- The tiles of one chunk. -/
def loop4 (c : Dev nD) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32)  (t : Fin (k0_t3_loop v47).trips) (K : BufTy.Contents (Elt F) pkM.view.ty) (V : BufTy.Contents (Elt F) pvM.view.ty) (Ks : BufTy.Contents (Elt F) pksM.view.ty) (Vs : BufTy.Contents (Elt F) pvsM.view.ty) (init : BitVec 32) :
    LoopInvTy_k0_t4 (F := F) Unit ℕ (Pipeline.UD sig nD τ) ℕ Variants.none c none Set.univ arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 (k0_pay53 (F := F)) t (Scf.iv 0#32 1#32 t) init where
  inv := fun k _ => inv4 c k0_t1 v32 k0_h1 v47 k0_hw1 v56 v61 t K V Ks Vs k
  step k a := by
    iintro ⟨H1, H2, H3, H4, %m, %l, %acc, H5, H6, H7, %hr⟩
    iapply (wp_wand_r Idealize.ShloMosaic.frame (wpE (defs₀ (F := F)) Variants.none (c : Thread nD τ) none) Set.univ)
    isplitl [H1 H2 H3 H4 H5 H6 H7]
    · iapply trip4 c Set.univ k0_t1 v32 k0_h1 v47 k0_hw1 v56 v61 t k a _ _ _ _ ⟨m, l, acc⟩
      isplitl [H1]; · iexact H1
      isplitl [H2]; · iexact H2
      isplitl [H3]; · iexact H3
      isplitl [H4]; · iexact H4
      isplitl [H5]; · iexact H5
      isplitl [H6]; · iexact H6
      iexact H7
    · iintro %y ⟨H1, H2, H3, H4, %s', H5, H6, H7, %hs⟩
      isplitl [H1]; · iexact H1
      isplitl [H2]; · iexact H2
      isplitl [H3]; · iexact H3
      isplitl [H4]; · iexact H4
      iexists s'.m, s'.l, s'.acc
      isplitl [H5]; · iexact H5
      isplitl [H6]; · iexact H6
      isplitl [H7]; · iexact H7
      ipureintro
      have h := RunP.tile (F := F) t k _ hr
      rw [← hs] at h
      exact h

/-- Before chunk `t`: the arrays are whole, the buffers hold anything, the running values are those of the chunks before. -/
abbrev inv3 (c : Dev nD) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32) (K : BufTy.Contents (Elt F) pkM.view.ty) (V : BufTy.Contents (Elt F) pvM.view.ty) (Ks : BufTy.Contents (Elt F) pksM.view.ty) (Vs : BufTy.Contents (Elt F) pvsM.view.ty) (t : ℕ) : sProp 𝕄 :=
  iprop(held c pkM K ∗ held c pvM V ∗ held c pksM Ks ∗ held c pvsM Vs
    ∗ (∃ f, held c kB f) ∗ (∃ f, held c vB f) ∗ (∃ f, held c ksB f) ∗ (∃ f, held c vsB f)
    ∗ (∃ m l acc, held c mB m ∗ held c lB l ∗ held c accB acc ∗ ⌜RunP k0_t1 v32 k0_h1 v47 k0_hw1 v56 v61 K V Ks Vs t 0 ⟨m, l, acc⟩⌝)
    ∗ idle c cc0_scratch15 ∗ idle c cc0_scratch16 ∗ idle c cc0_scratch17 ∗ idle c cc0_scratch18 ∗ (∃ W, owes (c : Thread nD τ) 0 W))

set_option warn.classDefReducibility false in
/-- The chunks. -/
def loop3 (c : Dev nD) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32)  (K : BufTy.Contents (Elt F) pkM.view.ty) (V : BufTy.Contents (Elt F) pvM.view.ty) (Ks : BufTy.Contents (Elt F) pksM.view.ty) (Vs : BufTy.Contents (Elt F) pvsM.view.ty) (init : BitVec 32) :
    LoopInvTy_k0_t3 (F := F) Unit ℕ (Pipeline.UD sig nD τ) ℕ Variants.none c none Set.univ arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 (k0_pay53 (F := F)) init where
  inv := fun t _ => inv3 c k0_t1 v32 k0_h1 v47 k0_hw1 v56 v61 K V Ks Vs t
  step t a := by
    unfold k0_t3_body
    iintro ⟨G1, G2, G3, G4, ⟨%f1, H1⟩, ⟨%f2, H2⟩, ⟨%f3, H3⟩, ⟨%f4, H4⟩, ⟨%m, %l, %acc, H5, H6, H7, %hr⟩, S1, S2, S3, S4, ⟨%W, HW⟩⟩
    sl_exec
    have e1 : kB.view.writes (Elt F) kB.view.junk [⟨Rect.whole _, loop3.sl.dma0 k0_t1 v32 k0_h1 v47 k0_hw1 K t⟩] = chK k0_t1 v32 k0_h1 v47 k0_hw1 K t :=
      writes_whole (F := F) cc0_scratch2 kB.view.junk _
    have e2 : vB.view.writes (Elt F) vB.view.junk [⟨Rect.whole _, loop3.sl.dma0_1 k0_t1 v32 k0_h1 v47 k0_hw1 V t⟩] = chV k0_t1 v32 k0_h1 v47 k0_hw1 V t :=
      writes_whole (F := F) cc0_scratch3 vB.view.junk _
    have e3 : ksB.view.writes (Elt F) ksB.view.junk [⟨Rect.whole _, loop3.sl.dma0_2 k0_t1 v32 k0_h1 v47 k0_hw1 Ks t⟩] = chKs k0_t1 v32 k0_h1 v47 k0_hw1 Ks t :=
      writes_whole (F := F) cc0_scratch4 ksB.view.junk _
    have e4 : vsB.view.writes (Elt F) vsB.view.junk [⟨Rect.whole _, loop3.sl.dma0_3 k0_t1 v32 k0_h1 v47 k0_hw1 Vs t⟩] = chVs k0_t1 v32 k0_h1 v47 k0_hw1 Vs t :=
      writes_whole (F := F) cc0_scratch5 vsB.view.junk _
    rw [e1, e2, e3, e4, show loop3.sl.arg42 v47 t = Scf.iv 0#32 1#32 t from rfl]
    clear e1 e2 e3 e4
    let L4 := loop4 (F := F) (harg0 := harg0) (harg1 := harg1) (harg2 := harg2) c k0_t1 v32 k0_h1 v47 k0_hw1 v56 v61 t K V Ks Vs 0#32
    sl_exec
    sl_step
    isplitl [G1]; · iexact G1
    isplitl [G2]; · iexact G2
    isplitl [G3]; · iexact G3
    isplitl [G4]; · iexact G4
    isplitl [H1]; · iexists _; iexact H1
    isplitl [H2]; · iexists _; iexact H2
    isplitl [H3]; · iexists _; iexact H3
    isplitl [H4]; · iexists _; iexact H4
    isplitl [H5 H6 H7]
    · iexists _, _, _
      isplitl [H5]; · iexact H5
      isplitl [H6]; · iexact H6
      isplitl [H7]; · iexact H7
      ipureintro
      exact RunP.next t _ ‹_›
    isplitl [S1]; · iexact S1
    isplitl [S2]; · iexact S2
    isplitl [S3]; · iexact S3
    isplitl [S4]; · iexact S4
    iexists _; iexact HW

end Cert.Kernel.Hand

end
-- ==== Proof.Completion.lean ====
module

public import proofs.«01_k».proof.Proof.Operands

@[expose] public section

set_option maxRecDepth 16384

/-! The kernel's loops over the completion's keys, up to the tile of the queries: chunks of 2048 keys fetched by DMA, each worked through in tiles of 128. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The 2048 keys of chunk `t` of the completion. -/
def ccK (k0_t1 : Fin k0_t1_loop.trips) (k0_t2 : Fin k0_t2_loop.trips) (K : BufTy.Contents (Elt F) ckM.view.ty) (t : Fin (k0_t9_loop k0_t2).trips) : BufTy.Contents (Elt F) kB.view.ty :=
  View.read (Elt F) ((ckM.slice (Rect.unit (s := S6x10x4096x128) (k0_off34 k0_t1 k0_t2 t) S1x1x2048x128.size (k0_off34_inb k0_t1 k0_t2 t)) (fun _ => rfl)).squeeze S2048x128 squeezes_S1x1x2048x128_S2048x128).view K

/-- The 2048 values of chunk `t` of the completion. -/
def ccV (k0_t1 : Fin k0_t1_loop.trips) (k0_t2 : Fin k0_t2_loop.trips) (V : BufTy.Contents (Elt F) cvM.view.ty) (t : Fin (k0_t9_loop k0_t2).trips) : BufTy.Contents (Elt F) vB.view.ty :=
  View.read (Elt F) ((cvM.slice (Rect.unit (s := S6x10x32x128x128) (k0_off37 k0_t1 k0_t2 t) S1x1x16x128x128.size (k0_off37_inb k0_t1 k0_t2 t)) (fun _ => rfl)).squeeze S16x128x128 squeezes_S1x1x16x128x128_S16x128x128).view V

/-- The key scales of chunk `t` of the completion. -/
def ccKs (k0_t1 : Fin k0_t1_loop.trips) (k0_t2 : Fin k0_t2_loop.trips) (Ks : BufTy.Contents (Elt F) cksM.view.ty) (t : Fin (k0_t9_loop k0_t2).trips) : BufTy.Contents (Elt F) ksB.view.ty :=
  View.read (Elt F) (((cksM.slice (Rect.unit (s := S6x10x32x128) (k0_off38 k0_t1) S1x1x32x128.size (k0_off38_inb k0_t1)) (fun _ => rfl)).squeeze S32x128 squeezes_S1x1x32x128_S32x128).slice (Rect.unit (s := S32x128) (k0_off39 k0_t2 t) S16x128.size (k0_off39_inb k0_t2 t)) (fun _ => rfl)).view Ks

/-- The value scales of chunk `t` of the completion. -/
def ccVs (k0_t1 : Fin k0_t1_loop.trips) (k0_t2 : Fin k0_t2_loop.trips) (Vs : BufTy.Contents (Elt F) cvsM.view.ty) (t : Fin (k0_t9_loop k0_t2).trips) : BufTy.Contents (Elt F) vsB.view.ty :=
  View.read (Elt F) (((cvsM.slice (Rect.unit (s := S6x10x32x128) (k0_off38 k0_t1) S1x1x32x128.size (k0_off38_inb k0_t1)) (fun _ => rfl)).squeeze S32x128 squeezes_S1x1x32x128_S32x128).slice (Rect.unit (s := S32x128) (k0_off39 k0_t2 t) S16x128.size (k0_off39_inb k0_t2 t)) (fun _ => rfl)).view Vs

/-- One tile of keys of the completion: the running values after it. -/
def stepC (k0_t1 : Fin k0_t1_loop.trips) (k0_t2 : Fin k0_t2_loop.trips) (v37 : BitVec 32) (v123 : FVec F S128x512 .fp8e4m3) (v128 : FVec F S1x512 .f32) (t : Fin (k0_t9_loop k0_t2).trips) (k : Fin (k0_t10_loop k0_t2 t).trips) (kf : BufTy.Contents (Elt F) kB.view.ty) (vf : BufTy.Contents (Elt F) vB.view.ty) (ksf : BufTy.Contents (Elt F) ksB.view.ty) (vsf : BufTy.Contents (Elt F) vsB.view.ty) (s : St F) : St F :=
  let kt := View.readAt (Elt F) kB.view (Rect.unit (s := S2048x128) (k0_off40 k0_t2 t k) S128x128.size (k0_off40_inb k0_t2 t k)).toLoadRect kf
  let ks := View.readAt (Elt F) ksB.view (Rect.unit (s := S16x128) (k0_off41 k0_t2 t k) S1x128.size (k0_off41_inb k0_t2 t k)).toLoadRect ksf
  let vs := View.readAt (Elt F) vsB.view (Rect.unit (s := S16x128) (k0_off41 k0_t2 t k) S1x128.size (k0_off41_inb k0_t2 t k)).toLoadRect vsf
  let vt := View.readAt (Elt F) vB.view (Rect.unit (s := S16x128x128) (k0_off42 k0_t2 t k) S1x128x128.size (k0_off42_inb k0_t2 t k)).toLoadRect vf
  let base := Scf.iv 0#32 1#32 t
  let v386 := k0_pay33 k0_t2 v37 v123 v128 t base 0#32 1#32 k kt ks (ldRow mB s.m)
  let v388 := k0_pay34 k0_t2 v37 v123 v128 t base 0#32 1#32 k kt ks (ldRow mB s.m)
  let v391 := k0_pay35 k0_t2 v37 v123 v128 t base 0#32 1#32 k kt ks (ldRow mB s.m)
  ⟨k0_pay78 v386, k0_pay76 v388 v391 (ldRow lB s.l), k0_pay77 (k0_pay31 vs) v388 v391 vt (ldAcc accB s.acc)⟩

/-- The values reached after `k` tiles of chunk `t` of the completion. -/
inductive RunC (k0_t1 : Fin k0_t1_loop.trips) (k0_t2 : Fin k0_t2_loop.trips) (v37 : BitVec 32) (v123 : FVec F S128x512 .fp8e4m3) (v128 : FVec F S1x512 .f32) (K : BufTy.Contents (Elt F) ckM.view.ty) (V : BufTy.Contents (Elt F) cvM.view.ty) (Ks : BufTy.Contents (Elt F) cksM.view.ty) (Vs : BufTy.Contents (Elt F) cvsM.view.ty) : ℕ → ℕ → St F → Prop
  | start : RunC k0_t1 k0_t2 v37 v123 v128 K V Ks Vs 0 0 ⟨k0_pay73, k0_pay74, k0_pay75⟩
  | tile (t : Fin (k0_t9_loop k0_t2).trips) (k : Fin (k0_t10_loop k0_t2 t).trips) (s : St F) : RunC k0_t1 k0_t2 v37 v123 v128 K V Ks Vs t.val k.val s →
      RunC k0_t1 k0_t2 v37 v123 v128 K V Ks Vs t.val (k.val + 1) (stepC k0_t1 k0_t2 v37 v123 v128 t k (ccK k0_t1 k0_t2 K t) (ccV k0_t1 k0_t2 V t) (ccKs k0_t1 k0_t2 Ks t) (ccVs k0_t1 k0_t2 Vs t) s)
  | next (t : Fin (k0_t9_loop k0_t2).trips) (s : St F) : RunC k0_t1 k0_t2 v37 v123 v128 K V Ks Vs t.val (k0_t10_loop k0_t2 t).trips s → RunC k0_t1 k0_t2 v37 v123 v128 K V Ks Vs (t.val + 1) 0 s

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- One tile of keys, run: the buffers it reads stay, the three running values take one step. -/
theorem trip10 (c : Dev nD) (E : Set ℕ) (k0_t1 : Fin k0_t1_loop.trips) (v27 : BitVec 32) (k0_t2 : Fin k0_t2_loop.trips) (v37 v114 : BitVec 32) (v123 : FVec F S128x512 .fp8e4m3) (v128 : FVec F S1x512 .f32) (v159 : BitVec 32)  (t : Fin (k0_t9_loop k0_t2).trips) (k : Fin (k0_t10_loop k0_t2 t).trips) (a : BitVec 32) (kf : BufTy.Contents (Elt F) kB.view.ty) (vf : BufTy.Contents (Elt F) vB.view.ty) (ksf : BufTy.Contents (Elt F) ksB.view.ty) (vsf : BufTy.Contents (Elt F) vsB.view.ty) (s : St F) :
    iprop(held c kB kf ∗ held c vB vf ∗ held c ksB ksf ∗ held c vsB vsf ∗ held c mB s.m ∗ held c lB s.l ∗ held c accB s.acc)
      ⊢ (wp frame (wpE (defs₀ (F := F)) Variants.none (c : Thread nD τ) none) E
          (k0_t10_body (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v27 k0_t2 v37 v114 v123 v128 v159 0#32 0#32 t (Scf.iv 0#32 1#32 t) k a)
          (fun y => iprop(held c kB kf ∗ held c vB vf ∗ held c ksB ksf ∗ held c vsB vsf
            ∗ ∃ s' : St F, held c mB s'.m ∗ held c lB s'.l ∗ held c accB s'.acc ∗ ⌜s' = stepC k0_t1 k0_t2 v37 v123 v128 t k kf vf ksf vsf s⌝)) : sProp 𝕄) := by
  unfold k0_t10_body
  iintro ⟨H1, H2, H3, H4, H5, H6, H7⟩
  sl_exec
  sl_step
  isplitl [H1]; · iexact H1
  isplitl [H2]; · iexact H2
  isplitl [H3]; · iexact H3
  isplitl [H4]; · iexact H4
  iexists ⟨_, _, _⟩
  isplitl [H5]; · iexact H5
  isplitl [H6]; · iexact H6
  isplitl [H7]; · iexact H7
  ipureintro
  rw [writes_m, writes_l, writes_acc]
  rfl

/-- Before tile `k` of chunk `t`: the chunk is in the buffers, the running values are those of the tiles before. -/
abbrev inv10 (c : Dev nD) (k0_t1 : Fin k0_t1_loop.trips) (k0_t2 : Fin k0_t2_loop.trips) (v37 : BitVec 32) (v123 : FVec F S128x512 .fp8e4m3) (v128 : FVec F S1x512 .f32) (t : Fin (k0_t9_loop k0_t2).trips) (K : BufTy.Contents (Elt F) ckM.view.ty) (V : BufTy.Contents (Elt F) cvM.view.ty) (Ks : BufTy.Contents (Elt F) cksM.view.ty) (Vs : BufTy.Contents (Elt F) cvsM.view.ty) (k : ℕ) : sProp 𝕄 :=
  iprop(held c kB (ccK k0_t1 k0_t2 K t) ∗ held c vB (ccV k0_t1 k0_t2 V t) ∗ held c ksB (ccKs k0_t1 k0_t2 Ks t) ∗ held c vsB (ccVs k0_t1 k0_t2 Vs t)
    ∗ ∃ m l acc, held c mB m ∗ held c lB l ∗ held c accB acc ∗ ⌜RunC k0_t1 k0_t2 v37 v123 v128 K V Ks Vs t.val k ⟨m, l, acc⟩⌝)

set_option warn.classDefReducibility false in
/-- The tiles of one chunk. -/
def loop10 (c : Dev nD) (k0_t1 : Fin k0_t1_loop.trips) (v27 : BitVec 32) (k0_t2 : Fin k0_t2_loop.trips) (v37 v114 : BitVec 32) (v123 : FVec F S128x512 .fp8e4m3) (v128 : FVec F S1x512 .f32) (v159 : BitVec 32)  (t : Fin (k0_t9_loop k0_t2).trips) (K : BufTy.Contents (Elt F) ckM.view.ty) (V : BufTy.Contents (Elt F) cvM.view.ty) (Ks : BufTy.Contents (Elt F) cksM.view.ty) (Vs : BufTy.Contents (Elt F) cvsM.view.ty) (init : BitVec 32) :
    LoopInvTy_k0_t10 (F := F) Unit ℕ (Pipeline.UD sig nD τ) ℕ Variants.none c none Set.univ arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v27 k0_t2 v37 v114 v123 v128 v159 0#32 0#32 t (Scf.iv 0#32 1#32 t) init where
  inv := fun k _ => inv10 c k0_t1 k0_t2 v37 v123 v128 t K V Ks Vs k
  step k a := by
    iintro ⟨H1, H2, H3, H4, %m, %l, %acc, H5, H6, H7, %hr⟩
    iapply (wp_wand_r Idealize.ShloMosaic.frame (wpE (defs₀ (F := F)) Variants.none (c : Thread nD τ) none) Set.univ)
    isplitl [H1 H2 H3 H4 H5 H6 H7]
    · iapply trip10 c Set.univ k0_t1 v27 k0_t2 v37 v114 v123 v128 v159 t k a _ _ _ _ ⟨m, l, acc⟩
      isplitl [H1]; · iexact H1
      isplitl [H2]; · iexact H2
      isplitl [H3]; · iexact H3
      isplitl [H4]; · iexact H4
      isplitl [H5]; · iexact H5
      isplitl [H6]; · iexact H6
      iexact H7
    · iintro %y ⟨H1, H2, H3, H4, %s', H5, H6, H7, %hs⟩
      isplitl [H1]; · iexact H1
      isplitl [H2]; · iexact H2
      isplitl [H3]; · iexact H3
      isplitl [H4]; · iexact H4
      iexists s'.m, s'.l, s'.acc
      isplitl [H5]; · iexact H5
      isplitl [H6]; · iexact H6
      isplitl [H7]; · iexact H7
      ipureintro
      have h := RunC.tile (F := F) t k _ hr
      rw [← hs] at h
      exact h

/-- Before chunk `t`: the arrays are whole, the buffers hold anything, the running values are those of the chunks before. -/
abbrev inv9 (c : Dev nD) (k0_t1 : Fin k0_t1_loop.trips) (k0_t2 : Fin k0_t2_loop.trips) (v37 : BitVec 32) (v123 : FVec F S128x512 .fp8e4m3) (v128 : FVec F S1x512 .f32) (K : BufTy.Contents (Elt F) ckM.view.ty) (V : BufTy.Contents (Elt F) cvM.view.ty) (Ks : BufTy.Contents (Elt F) cksM.view.ty) (Vs : BufTy.Contents (Elt F) cvsM.view.ty) (t : ℕ) : sProp 𝕄 :=
  iprop(held c ckM K ∗ held c cvM V ∗ held c cksM Ks ∗ held c cvsM Vs
    ∗ (∃ f, held c kB f) ∗ (∃ f, held c vB f) ∗ (∃ f, held c ksB f) ∗ (∃ f, held c vsB f)
    ∗ (∃ m l acc, held c mB m ∗ held c lB l ∗ held c accB acc ∗ ⌜RunC k0_t1 k0_t2 v37 v123 v128 K V Ks Vs t 0 ⟨m, l, acc⟩⌝)
    ∗ idle c cc0_scratch15 ∗ idle c cc0_scratch16 ∗ idle c cc0_scratch17 ∗ idle c cc0_scratch18 ∗ (∃ W, owes (c : Thread nD τ) 0 W))

set_option warn.classDefReducibility false in
/-- The chunks. -/
def loop9 (c : Dev nD) (k0_t1 : Fin k0_t1_loop.trips) (v27 : BitVec 32) (k0_t2 : Fin k0_t2_loop.trips) (v37 v114 : BitVec 32) (v123 : FVec F S128x512 .fp8e4m3) (v128 : FVec F S1x512 .f32) (v159 : BitVec 32)  (K : BufTy.Contents (Elt F) ckM.view.ty) (V : BufTy.Contents (Elt F) cvM.view.ty) (Ks : BufTy.Contents (Elt F) cksM.view.ty) (Vs : BufTy.Contents (Elt F) cvsM.view.ty) (init : BitVec 32) :
    LoopInvTy_k0_t9 (F := F) Unit ℕ (Pipeline.UD sig nD τ) ℕ Variants.none c none Set.univ arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v27 k0_t2 v37 v114 v123 v128 v159 0#32 0#32 init where
  inv := fun t _ => inv9 c k0_t1 k0_t2 v37 v123 v128 K V Ks Vs t
  step t a := by
    unfold k0_t9_body
    iintro ⟨G1, G2, G3, G4, ⟨%f1, H1⟩, ⟨%f2, H2⟩, ⟨%f3, H3⟩, ⟨%f4, H4⟩, ⟨%m, %l, %acc, H5, H6, H7, %hr⟩, S1, S2, S3, S4, ⟨%W, HW⟩⟩
    sl_exec
    have e1 : kB.view.writes (Elt F) kB.view.junk [⟨Rect.whole _, loop9.sl.dma0 k0_t1 k0_t2 K t⟩] = ccK k0_t1 k0_t2 K t :=
      writes_whole (F := F) cc0_scratch2 kB.view.junk _
    have e2 : vB.view.writes (Elt F) vB.view.junk [⟨Rect.whole _, loop9.sl.dma0_1 k0_t1 k0_t2 V t⟩] = ccV k0_t1 k0_t2 V t :=
      writes_whole (F := F) cc0_scratch3 vB.view.junk _
    have e3 : ksB.view.writes (Elt F) ksB.view.junk [⟨Rect.whole _, loop9.sl.dma0_2 k0_t1 k0_t2 Ks t⟩] = ccKs k0_t1 k0_t2 Ks t :=
      writes_whole (F := F) cc0_scratch4 ksB.view.junk _
    have e4 : vsB.view.writes (Elt F) vsB.view.junk [⟨Rect.whole _, loop9.sl.dma0_3 k0_t1 k0_t2 Vs t⟩] = ccVs k0_t1 k0_t2 Vs t :=
      writes_whole (F := F) cc0_scratch5 vsB.view.junk _
    rw [e1, e2, e3, e4, show loop9.sl.arg42 k0_t2 t = Scf.iv 0#32 1#32 t from rfl]
    clear e1 e2 e3 e4
    let L4 := loop10 (F := F) (harg0 := harg0) (harg1 := harg1) (harg2 := harg2) c k0_t1 v27 k0_t2 v37 v114 v123 v128 v159 t K V Ks Vs 0#32
    sl_exec
    sl_step
    isplitl [G1]; · iexact G1
    isplitl [G2]; · iexact G2
    isplitl [G3]; · iexact G3
    isplitl [G4]; · iexact G4
    isplitl [H1]; · iexists _; iexact H1
    isplitl [H2]; · iexists _; iexact H2
    isplitl [H3]; · iexists _; iexact H3
    isplitl [H4]; · iexists _; iexact H4
    isplitl [H5 H6 H7]
    · iexists _, _, _
      isplitl [H5]; · iexact H5
      isplitl [H6]; · iexact H6
      isplitl [H7]; · iexact H7
      ipureintro
      exact RunC.next t _ ‹_›
    isplitl [S1]; · iexact S1
    isplitl [S2]; · iexact S2
    isplitl [S3]; · iexact S3
    isplitl [S4]; · iexact S4
    iexists _; iexact HW

end Cert.Kernel.Hand

end
-- ==== Proof.Stages.lean ====
module

public import proofs.«01_k».proof.Proof.Prompt
public import proofs.«01_k».proof.Proof.Completion

@[expose] public section

set_option maxRecDepth 16384

/-! One tile of queries, in the five stages of the program: fetch the queries, go through the prompt, start anew, go through the completion, write out. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- Head 0 of the group in the query buffer. -/
abbrev ldQ0 (f : BufTy.Contents (Elt F) qB.view.ty) : Vec F S1x128x128 .fp8e4m3 :=
  View.readAt (Elt F) qB.view (Rect.unit (s := S4x128x128) ![0, 0, 0] S1x128x128.size inb_S4x128x128_S1x128x128_0_0_0).toLoadRect f
/-- Head 1 of the group in the query buffer. -/
abbrev ldQ1 (f : BufTy.Contents (Elt F) qB.view.ty) : Vec F S1x128x128 .fp8e4m3 :=
  View.readAt (Elt F) qB.view (Rect.unit (s := S4x128x128) ![1, 0, 0] S1x128x128.size inb_S4x128x128_S1x128x128_1_0_0).toLoadRect f
/-- Head 2 of the group in the query buffer. -/
abbrev ldQ2 (f : BufTy.Contents (Elt F) qB.view.ty) : Vec F S1x128x128 .fp8e4m3 :=
  View.readAt (Elt F) qB.view (Rect.unit (s := S4x128x128) ![2, 0, 0] S1x128x128.size inb_S4x128x128_S1x128x128_2_0_0).toLoadRect f
/-- Head 3 of the group in the query buffer. -/
abbrev ldQ3 (f : BufTy.Contents (Elt F) qB.view.ty) : Vec F S1x128x128 .fp8e4m3 :=
  View.readAt (Elt F) qB.view (Rect.unit (s := S4x128x128) ![3, 0, 0] S1x128x128.size inb_S4x128x128_S1x128x128_3_0_0).toLoadRect f
/-- Row 0 of the query scales' buffer. -/
abbrev ldS0 (f : BufTy.Contents (Elt F) qsB.view.ty) : Vec F S1x128 .f32 :=
  View.readAt (Elt F) qsB.view (Rect.unit (s := S4x128) ![0, 0] S1x128.size inb_S4x128_S1x128_0_0).toLoadRect f
/-- Row 1 of the query scales' buffer. -/
abbrev ldS1 (f : BufTy.Contents (Elt F) qsB.view.ty) : Vec F S1x128 .f32 :=
  View.readAt (Elt F) qsB.view (Rect.unit (s := S4x128) ![1, 0] S1x128.size inb_S4x128_S1x128_1_0).toLoadRect f
/-- Row 2 of the query scales' buffer. -/
abbrev ldS2 (f : BufTy.Contents (Elt F) qsB.view.ty) : Vec F S1x128 .f32 :=
  View.readAt (Elt F) qsB.view (Rect.unit (s := S4x128) ![2, 0] S1x128.size inb_S4x128_S1x128_2_0).toLoadRect f
/-- Row 3 of the query scales' buffer. -/
abbrev ldS3 (f : BufTy.Contents (Elt F) qsB.view.ty) : Vec F S1x128 .f32 :=
  View.readAt (Elt F) qsB.view (Rect.unit (s := S4x128) ![3, 0] S1x128.size inb_S4x128_S1x128_3_0).toLoadRect f

/-- The four heads' queries of the tile, fetched. -/
def fetchQ (k0_t1 : Fin k0_t1_loop.trips) (k0_t2 : Fin k0_t2_loop.trips) (Q : BufTy.Contents (Elt F) qtM.view.ty) : BufTy.Contents (Elt F) qB.view.ty :=
  View.read (Elt F) ((qtM.slice (Rect.unit (s := S6x40x128x4096) (k0_off2 k0_t1 k0_t2) S1x4x128x128.size (k0_off2_inb k0_t1 k0_t2)) (fun _ => rfl)).squeeze S4x128x128 squeezes_S1x4x128x128_S4x128x128).view Q
/-- The scales of the four heads' queries of the tile, fetched. -/
def fetchQs (k0_t1 : Fin k0_t1_loop.trips) (k0_t2 : Fin k0_t2_loop.trips) (Qs : BufTy.Contents (Elt F) qsM.view.ty) : BufTy.Contents (Elt F) qsB.view.ty :=
  View.read (Elt F) ((qsM.slice (Rect.unit (s := S6x10x4x4096) (k0_off3 k0_t1 k0_t2) S1x1x4x128.size (k0_off3_inb k0_t1 k0_t2)) (fun _ => rfl)).squeeze S4x128 squeezes_S1x1x4x128_S4x128).view Qs

/-- The length of the prompt, read from its one-word array. -/
def plenW (a2 : BufTy.Contents (Elt F) arg2.view.ty) : Elt F .i32 :=
  View.readAt (Elt F) arg2.view (Rect.unit (s := S1) ![0] S1.size inb_S1_S1_0).toLoadRect a2 (Shape.Idx.first (numel1_S1.symm ▸ Nat.one_pos))

theorem readCov_q (v : BufTy.Contents (Elt F) qB.view.ty) (B : LoadRect S4x128x128) : qB.view.readCov [⟨Rect.whole _, v⟩] B = View.readAt (Elt F) qB.view B v := by
  exact congrArg (View.readAt (Elt F) qB.view B) (writes_whole (F := F) cc0_scratch0 _ v)
theorem readCov_qs (v : BufTy.Contents (Elt F) qsB.view.ty) (B : LoadRect S4x128) : qsB.view.readCov [⟨Rect.whole _, v⟩] B = View.readAt (Elt F) qsB.view B v := by
  exact congrArg (View.readAt (Elt F) qsB.view B) (writes_whole (F := F) cc0_scratch1 _ v)

/-- The length of the completion of the point's sequence. -/
def clenW (k0_t1 : Fin k0_t1_loop.trips) (a1 : BufTy.Contents (Elt F) arg1.view.ty) : Elt F .i32 :=
  View.readAt (Elt F) arg1.view (Rect.unit (s := S6) (k0_off60 k0_t1) S1.size (k0_off60_inb k0_t1)).toLoadRect a1 (Shape.Idx.first (numel1_S1.symm ▸ Nat.one_pos))

/-- A block of four rows of 128 numbers, by its rows. -/
def rowBlk (w0 w1 w2 w3 : FVec F S1x128 .f32) : BufTy.Contents (Elt F) rowB.view.ty :=
  rowB.view.writes (Elt F) rowB.view.junk [⟨Rect.unit (s := S4x128) ![3, 0] S1x128.size inb_S4x128_S1x128_3_0, w3⟩, ⟨Rect.unit (s := S4x128) ![2, 0] S1x128.size inb_S4x128_S1x128_2_0, w2⟩, ⟨Rect.unit (s := S4x128) ![1, 0] S1x128.size inb_S4x128_S1x128_1_0, w1⟩, ⟨Rect.unit (s := S4x128) ![0, 0] S1x128.size inb_S4x128_S1x128_0_0, w0⟩]
/-- A block of 128 rows of 512 numbers, by its four blocks of 128 columns. -/
def colBlk (w0 w1 w2 w3 : FVec F S128x128 .bf16) : BufTy.Contents (Elt F) oB.view.ty :=
  oB.view.writes (Elt F) oB.view.junk [⟨Rect.unit (s := S128x512) ![0, 384] S128x128.size inb_S128x512_S128x128_0_384, w3⟩, ⟨Rect.unit (s := S128x512) ![0, 256] S128x128.size inb_S128x512_S128x128_0_256, w2⟩, ⟨Rect.unit (s := S128x512) ![0, 128] S128x128.size inb_S128x512_S128x128_0_128, w1⟩, ⟨Rect.unit (s := S128x512) ![0, 0] S128x128.size inb_S128x512_S128x128_0_0, w0⟩]

/-- Under the newest piece, what was there before does not matter. -/
theorem cons_congr {sp : Space} {s : Shape} {e : EltTy} (v : View sig .tc sp s e) (f f' : BufTy.Contents (Elt F) v.ty) {off size : Fin s.rank → ℕ}
    (inb : ∀ a, off a + size a ≤ s.size a) (w) (L L' : List (View.Piece (Elt F) s e)) (y : s.Idx)
    (h : (¬ ∀ a, off a ≤ (y a).val ∧ (y a).val < off a + size a) → v.read (Elt F) (v.writes (Elt F) f L) y = v.read (Elt F) (v.writes (Elt F) f' L') y) :
    v.read (Elt F) (v.writes (Elt F) f ((⟨Rect.unit off size inb, w⟩ : View.Piece (Elt F) s e) :: L)) y
      = v.read (Elt F) (v.writes (Elt F) f' ((⟨Rect.unit off size inb, w⟩ : View.Piece (Elt F) s e) :: L')) y := by
  rw [View.read_writes_cons_unit v f inb w L y rfl, View.read_writes_cons_unit v f' inb w L' y rfl]
  split
  · rfl
  · exact h ‹_›

/-- Four rows written over a block of four rows leave nothing of what was there. -/
theorem writes_rows (f : BufTy.Contents (Elt F) rowB.view.ty) (w0 w1 w2 w3 : FVec F S1x128 .f32) (L) :
    rowB.view.writes (Elt F) f (⟨Rect.unit (s := S4x128) ![3, 0] S1x128.size inb_S4x128_S1x128_3_0, w3⟩ :: ⟨Rect.unit (s := S4x128) ![2, 0] S1x128.size inb_S4x128_S1x128_2_0, w2⟩ :: ⟨Rect.unit (s := S4x128) ![1, 0] S1x128.size inb_S4x128_S1x128_1_0, w1⟩ :: ⟨Rect.unit (s := S4x128) ![0, 0] S1x128.size inb_S4x128_S1x128_0_0, w0⟩ :: L) = rowBlk w0 w1 w2 w3 := by
  refine (View.read_whole (Val := Elt F) _ _).symm.trans (Eq.trans ?_ (View.read_whole (Val := Elt F) cc0_scratch12 _))
  funext x
  have h0 : (x 0).val < 4 := (x 0).isLt
  have h1 : (x 1).val < 128 := (x 1).isLt
  unfold rowBlk
  refine cons_congr _ _ _ _ _ _ _ _ fun n3 => ?_
  refine cons_congr _ _ _ _ _ _ _ _ fun n2 => ?_
  refine cons_congr _ _ _ _ _ _ _ _ fun n1 => ?_
  refine cons_congr _ _ _ _ _ _ _ _ fun n0 => ?_
  exfalso
  have g : ∀ i : ℕ, (x 0).val = i → ∀ a : Fin 2, ![i, 0] a ≤ (x a).val ∧ (x a).val < ![i, 0] a + S1x128.size a := fun i hi =>
    Fin.forall_fin_two.mpr ⟨⟨hi.symm.le, (by rw [hi]; exact Nat.lt_succ_self i)⟩, ⟨Nat.zero_le _, (by simpa using h1)⟩⟩
  have : (x 0).val = 0 ∨ (x 0).val = 1 ∨ (x 0).val = 2 ∨ (x 0).val = 3 := by omega
  rcases this with h | h | h | h
  · exact n0 (g 0 h)
  · exact n1 (g 1 h)
  · exact n2 (g 2 h)
  · exact n3 (g 3 h)

/-- Four blocks of columns written over a block leave nothing of what was there. -/
theorem writes_cols (f : BufTy.Contents (Elt F) oB.view.ty) (w0 w1 w2 w3 : FVec F S128x128 .bf16) (L) :
    oB.view.writes (Elt F) f (⟨Rect.unit (s := S128x512) ![0, 384] S128x128.size inb_S128x512_S128x128_0_384, w3⟩ :: ⟨Rect.unit (s := S128x512) ![0, 256] S128x128.size inb_S128x512_S128x128_0_256, w2⟩ :: ⟨Rect.unit (s := S128x512) ![0, 128] S128x128.size inb_S128x512_S128x128_0_128, w1⟩ :: ⟨Rect.unit (s := S128x512) ![0, 0] S128x128.size inb_S128x512_S128x128_0_0, w0⟩ :: L) = colBlk w0 w1 w2 w3 := by
  refine (View.read_whole (Val := Elt F) _ _).symm.trans (Eq.trans ?_ (View.read_whole (Val := Elt F) cc0_scratch11 _))
  funext x
  have h0 : (x 0).val < 128 := (x 0).isLt
  have h1 : (x 1).val < 512 := (x 1).isLt
  unfold colBlk
  refine cons_congr _ _ _ _ _ _ _ _ fun n3 => ?_
  refine cons_congr _ _ _ _ _ _ _ _ fun n2 => ?_
  refine cons_congr _ _ _ _ _ _ _ _ fun n1 => ?_
  refine cons_congr _ _ _ _ _ _ _ _ fun n0 => ?_
  exfalso
  have g : ∀ i : ℕ, i ≤ (x 1).val → (x 1).val < i + 128 → ∀ a : Fin 2, ![0, i] a ≤ (x a).val ∧ (x a).val < ![0, i] a + S128x128.size a := fun i hi hj =>
    Fin.forall_fin_two.mpr ⟨⟨Nat.zero_le _, (by simpa using h0)⟩, ⟨hi, hj⟩⟩
  have : (x 1).val < 128 ∨ (128 ≤ (x 1).val ∧ (x 1).val < 256) ∨ (256 ≤ (x 1).val ∧ (x 1).val < 384) ∨ 384 ≤ (x 1).val := by omega
  rcases this with h | h | h | h
  · exact n0 (g 0 (Nat.zero_le _) (by omega))
  · exact n1 (g 128 h.1 (by omega))
  · exact n2 (g 256 h.1 (by omega))
  · exact n3 (g 384 h (by omega))

/-- The tile's block of the result, written. -/
def putO (k0_t1 : Fin k0_t1_loop.trips) (k0_t2 : Fin k0_t2_loop.trips) (O : BufTy.Contents (Elt F) outM.view.ty) (b : BufTy.Contents (Elt F) oB.view.ty) : BufTy.Contents (Elt F) outM.view.ty :=
  View.write (Elt F) ((outM.slice (Rect.unit (s := S6x4096x5120) (k0_off61 k0_t1 k0_t2) S1x128x512.size (k0_off61_inb k0_t1 k0_t2)) (fun _ => rfl)).squeeze S128x512 squeezes_S1x128x512_S128x512).view O b Finset.univ
/-- The tile's block of the prompt's log-sum-exp, written. -/
def putP (k0_t1 : Fin k0_t1_loop.trips) (k0_t2 : Fin k0_t2_loop.trips) (O : BufTy.Contents (Elt F) lsePM.view.ty) (b : BufTy.Contents (Elt F) rowB.view.ty) : BufTy.Contents (Elt F) lsePM.view.ty :=
  View.write (Elt F) ((lsePM.slice (Rect.unit (s := S6x10x4x4096) (k0_off62 k0_t1 k0_t2) S1x1x4x128.size (k0_off62_inb k0_t1 k0_t2)) (fun _ => rfl)).squeeze S4x128 squeezes_S1x1x4x128_S4x128).view O b Finset.univ
/-- The tile's block of the completion's log-sum-exp, written. -/
def putC (k0_t1 : Fin k0_t1_loop.trips) (k0_t2 : Fin k0_t2_loop.trips) (O : BufTy.Contents (Elt F) lseCM.view.ty) (b : BufTy.Contents (Elt F) rowB.view.ty) : BufTy.Contents (Elt F) lseCM.view.ty :=
  View.write (Elt F) ((lseCM.slice (Rect.unit (s := S6x10x4x4096) (k0_off62 k0_t1 k0_t2) S1x1x4x128.size (k0_off62_inb k0_t1 k0_t2)) (fun _ => rfl)).squeeze S4x128 squeezes_S1x1x4x128_S4x128).view O b Finset.univ

/-- The queries of the tile and their scales come in, and the length of the prompt is read. -/
theorem stageA (c : Dev nD) (k0_t1 : Fin k0_t1_loop.trips) (v17 : BitVec 32) (k0_t2 : Fin k0_t2_loop.trips) (v32 : Elt F .i32)
   (a2 : BufTy.Contents (Elt F) arg2.view.ty)
   (hv : ∀ x, (arg2.view.read (Elt F) a2 x : BitVec 32).toInt ≤ 24576) (pl : Elt F .i32) (hp : plenW a2 = pl) Q Qs :
   iprop(held c arg2 a2 ∗ held c qtM Q ∗ held c qsM Qs ∗ (∃ f, held c qB f) ∗ (∃ f, held c qsB f) ∗ idle c cc0_scratch13 ∗ idle c cc0_scratch14
     ∗ (∃ W, owes (c : Thread nD τ) 0 W))
   ⊢ (wp frame (wpE (defs₀ (F := F)) Variants.none (c : Thread nD τ) none) Set.univ
      (k0_part13 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v17 k0_t2 (Scf.iv 0#32 1#32 k0_t2) v32)
      (fun r => iprop(held c arg2 a2 ∗ held c qtM Q ∗ held c qsM Qs ∗ held c qB (fetchQ k0_t1 k0_t2 Q) ∗ held c qsB (fetchQs k0_t1 k0_t2 Qs) ∗ idle c cc0_scratch13 ∗ idle c cc0_scratch14 ∗ (∃ W, owes (c : Thread nD τ) 0 W)
     ∗ ⌜∃ hw, r = ⟨Scalar.muli (Scf.iv 0#32 1#32 k0_t2) 128#32, pl, hw,
         k0_pay51 (ldQ0 (fetchQ k0_t1 k0_t2 Q)) (ldQ1 (fetchQ k0_t1 k0_t2 Q)) (ldQ2 (fetchQ k0_t1 k0_t2 Q)) (ldQ3 (fetchQ k0_t1 k0_t2 Q)),
         k0_pay52 (ldS0 (fetchQs k0_t1 k0_t2 Qs)) (ldS1 (fetchQs k0_t1 k0_t2 Qs)) (ldS2 (fetchQs k0_t1 k0_t2 Qs)) (ldS3 (fetchQs k0_t1 k0_t2 Qs)), k0_pay53⟩⌝)) : sProp 𝕄) := by
  subst hp
  iintro ⟨A2, G1, G2, ⟨%b1, B1⟩, ⟨%b2, B2⟩, S1, S2, ⟨%W, HW⟩⟩
  sl_exec (disch := exact chk1 _ _ _ (hv _))
  have e1 : qB.view.writes (Elt F) b1 [⟨Rect.whole _, stageA.sl.dma0 k0_t1 k0_t2 Q⟩] = fetchQ k0_t1 k0_t2 Q := writes_whole (F := F) cc0_scratch0 _ _
  have e2 : qsB.view.writes (Elt F) b2 [⟨Rect.whole _, stageA.sl.dma0_1 k0_t1 k0_t2 Qs⟩] = fetchQs k0_t1 k0_t2 Qs := writes_whole (F := F) cc0_scratch1 _ _
  rw [e1, e2]
  have q0 : stageA.sl.v48 k0_t1 k0_t2 Q = ldQ0 (fetchQ k0_t1 k0_t2 Q) := readCov_q (fetchQ k0_t1 k0_t2 Q) _
  have q1 : stageA.sl.v50 k0_t1 k0_t2 Q = ldQ1 (fetchQ k0_t1 k0_t2 Q) := readCov_q (fetchQ k0_t1 k0_t2 Q) _
  have q2 : stageA.sl.v52 k0_t1 k0_t2 Q = ldQ2 (fetchQ k0_t1 k0_t2 Q) := readCov_q (fetchQ k0_t1 k0_t2 Q) _
  have q3 : stageA.sl.v54 k0_t1 k0_t2 Q = ldQ3 (fetchQ k0_t1 k0_t2 Q) := readCov_q (fetchQ k0_t1 k0_t2 Q) _
  have s0 : stageA.sl.v57 k0_t1 k0_t2 Qs = ldS0 (fetchQs k0_t1 k0_t2 Qs) := readCov_qs (fetchQs k0_t1 k0_t2 Qs) _
  have s1 : stageA.sl.v58 k0_t1 k0_t2 Qs = ldS1 (fetchQs k0_t1 k0_t2 Qs) := readCov_qs (fetchQs k0_t1 k0_t2 Qs) _
  have s2 : stageA.sl.v59 k0_t1 k0_t2 Qs = ldS2 (fetchQs k0_t1 k0_t2 Qs) := readCov_qs (fetchQs k0_t1 k0_t2 Qs) _
  have s3 : stageA.sl.v60 k0_t1 k0_t2 Qs = ldS3 (fetchQs k0_t1 k0_t2 Qs) := readCov_qs (fetchQs k0_t1 k0_t2 Qs) _
  rw [q0, q1, q2, q3, s0, s1, s2, s3]
  sl_step
  isplitl [A2]; · iexact A2
  isplitl [G1]; · iexact G1
  isplitl [G2]; · iexact G2
  isplitl [B1]; · iexact B1
  isplitl [B2]; · iexact B2
  isplitl [S1]; · iexact S1
  isplitl [S2]; · iexact S2
  isplitl [HW]; · iexists _; iexact HW
  ipureintro
  exact ⟨_, rfl⟩

set_option maxHeartbeats 1000000 in
/-- The prompt's keys: the three running values start anew, go through every chunk, and what they come to is kept. -/
theorem stageB (c : Dev nD) (k0_t1 : Fin k0_t1_loop.trips) (v32 : Elt F .i32) (k0_h1 : k0_cond1 v32 = 1#1) (v37 : BitVec 32) (v47 : Elt F .i32) (k0_hw1 : k0_chk1 k0_t1 v32 v47)
   (v56 : FVec F S128x512 .fp8e4m3) (v61 : FVec F S1x512 .f32) K V Ks Vs fq fqs :
   iprop(held c pkM K ∗ held c pvM V ∗ held c pksM Ks ∗ held c pvsM Vs ∗ held c qB fq ∗ held c qsB fqs
     ∗ (∃ f, held c kB f) ∗ (∃ f, held c vB f) ∗ (∃ f, held c ksB f) ∗ (∃ f, held c vsB f) ∗ (∃ f, held c mB f) ∗ (∃ f, held c lB f) ∗ (∃ f, held c accB f) ∗ (∃ f, held c opB f) ∗ (∃ f, held c lsepB f)
     ∗ idle c cc0_scratch15 ∗ idle c cc0_scratch16 ∗ idle c cc0_scratch17 ∗ idle c cc0_scratch18 ∗ (∃ W, owes (c : Thread nD τ) 0 W))
   ⊢ (wp frame (wpE (defs₀ (F := F)) Variants.none (c : Thread nD τ) none) Set.univ
      (do let ⟨v97, v98⟩ ← k0_part14 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 k0_pay53; k0_part15 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v37 v47 k0_hw1 v56 v61 v97 v98)
      (fun r => iprop(held c pkM K ∗ held c pvM V ∗ held c pksM Ks ∗ held c pvsM Vs ∗ held c qB fq ∗ held c qsB fqs
     ∗ (∃ f, held c kB f) ∗ (∃ f, held c vB f) ∗ (∃ f, held c ksB f) ∗ (∃ f, held c vsB f) ∗ (∃ f, held c mB f) ∗ (∃ f, held c lB f) ∗ (∃ f, held c accB f)
     ∗ (∃ s : St F, ⌜RunP k0_t1 v32 k0_h1 v47 k0_hw1 v56 v61 K V Ks Vs (k0_t3_loop v47).trips 0 s⌝
         ∗ held c opB (k0_pay69 (ldAcc accB s.acc) (ldRow lB s.l)) ∗ held c lsepB (k0_pay70 (ldRow mB s.m) (ldRow lB s.l)))
     ∗ idle c cc0_scratch15 ∗ idle c cc0_scratch16 ∗ idle c cc0_scratch17 ∗ idle c cc0_scratch18 ∗ (∃ W, owes (c : Thread nD τ) 0 W)
     ∗ ⌜r = ⟨Scalar.addi v37 128#32, k0_pay71 (ldQ0 fq) (ldQ1 fq) (ldQ2 fq) (ldQ3 fq), ldS0 fqs, ldS1 fqs⟩⌝)) : sProp 𝕄) := by
  iintro ⟨G3, G4, G5, G6, B1, B2, ⟨%f3, B3⟩, ⟨%f4, B4⟩, ⟨%f5, B5⟩, ⟨%f6, B6⟩, ⟨%f7, B7⟩, ⟨%f8, B8⟩, ⟨%f9, B9⟩, ⟨%f10, B10⟩, ⟨%f11, B11⟩, S3, S4, S5, S6, ⟨%W, HW⟩⟩
  sl_exec
  have e7 : mB.view.writes (Elt F) mB.view.junk stageB.sl.B7_1 = k0_pay54 (k0_pay53 (F := F)) := writes_m _ _ []
  have e8 : lB.view.writes (Elt F) lB.view.junk stageB.sl.B8_1 = k0_pay55 (F := F) := writes_l _ _ []
  have e9 : accB.view.writes (Elt F) accB.view.junk stageB.sl.B9_1 = k0_pay56 (F := F) := writes_acc _ _ []
  rw [e7, e8, e9]
  clear e7 e8 e9
  have hr := RunP.start (F := F) (k0_t1 := k0_t1) (k0_h1 := k0_h1) (k0_hw1 := k0_hw1) (v56 := v56) (v61 := v61) (K := K) (V := V) (Ks := Ks) (Vs := Vs)
  let L3 := loop3 (F := F) (harg0 := harg0) (harg1 := harg1) (harg2 := harg2) c k0_t1 v32 k0_h1 v47 k0_hw1 v56 v61 K V Ks Vs 0#32
  sl_exec
  rw [writes_op, writes_lsep]
  sl_step
  isplitl [G3]; · iexact G3
  isplitl [G4]; · iexact G4
  isplitl [G5]; · iexact G5
  isplitl [G6]; · iexact G6
  isplitl [B1]; · iexact B1
  isplitl [B2]; · iexact B2
  isplitl [B3]; · iexists _; iexact B3
  isplitl [B4]; · iexists _; iexact B4
  isplitl [B5]; · iexists _; iexact B5
  isplitl [B6]; · iexists _; iexact B6
  isplitl [B7]; · iexists _; iexact B7
  isplitl [B8]; · iexists _; iexact B8
  isplitl [B9]; · iexists _; iexact B9
  isplitl [B10 B11]
  · iexists ⟨_, _, _⟩
    isplitr; · ipureintro; assumption
    isplitl [B10]; · iexact B10
    iexact B11
  isplitl [S3]; · iexact S3
  isplitl [S4]; · iexact S4
  isplitl [S5]; · iexact S5
  isplitl [S6]; · iexact S6
  isplitl [HW]; · iexists _; iexact HW
  ipureintro; rfl

/-- `stageB`, its two parts one after the other. -/
theorem stageB2 (c : Dev nD) (k0_t1 : Fin k0_t1_loop.trips) (v32 : Elt F .i32) (k0_h1 : k0_cond1 v32 = 1#1) (v37 : BitVec 32) (v47 : Elt F .i32) (k0_hw1 : k0_chk1 k0_t1 v32 v47)
   (v56 : FVec F S128x512 .fp8e4m3) (v61 : FVec F S1x512 .f32) K V Ks Vs fq fqs :
   iprop(held c pkM K ∗ held c pvM V ∗ held c pksM Ks ∗ held c pvsM Vs ∗ held c qB fq ∗ held c qsB fqs
     ∗ (∃ f, held c kB f) ∗ (∃ f, held c vB f) ∗ (∃ f, held c ksB f) ∗ (∃ f, held c vsB f) ∗ (∃ f, held c mB f) ∗ (∃ f, held c lB f) ∗ (∃ f, held c accB f) ∗ (∃ f, held c opB f) ∗ (∃ f, held c lsepB f)
     ∗ idle c cc0_scratch15 ∗ idle c cc0_scratch16 ∗ idle c cc0_scratch17 ∗ idle c cc0_scratch18 ∗ (∃ W, owes (c : Thread nD τ) 0 W))
   ⊢ (wp frame (wpE (defs₀ (F := F)) Variants.none (c : Thread nD τ) none) Set.univ
      (k0_part14 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 k0_pay53)
      (fun x => wp frame (wpE (defs₀ (F := F)) Variants.none (c : Thread nD τ) none) Set.univ (k0_part15 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v37 v47 k0_hw1 v56 v61 x.1 x.2)
        (fun r => iprop(held c pkM K ∗ held c pvM V ∗ held c pksM Ks ∗ held c pvsM Vs ∗ held c qB fq ∗ held c qsB fqs
     ∗ (∃ f, held c kB f) ∗ (∃ f, held c vB f) ∗ (∃ f, held c ksB f) ∗ (∃ f, held c vsB f) ∗ (∃ f, held c mB f) ∗ (∃ f, held c lB f) ∗ (∃ f, held c accB f)
     ∗ (∃ s : St F, ⌜RunP k0_t1 v32 k0_h1 v47 k0_hw1 v56 v61 K V Ks Vs (k0_t3_loop v47).trips 0 s⌝
         ∗ held c opB (k0_pay69 (ldAcc accB s.acc) (ldRow lB s.l)) ∗ held c lsepB (k0_pay70 (ldRow mB s.m) (ldRow lB s.l)))
     ∗ idle c cc0_scratch15 ∗ idle c cc0_scratch16 ∗ idle c cc0_scratch17 ∗ idle c cc0_scratch18 ∗ (∃ W, owes (c : Thread nD τ) 0 W)
     ∗ ⌜r = ⟨Scalar.addi v37 128#32, k0_pay71 (ldQ0 fq) (ldQ1 fq) (ldQ2 fq) (ldQ3 fq), ldS0 fqs, ldS1 fqs⟩⌝))) : sProp 𝕄) := by
  have h := stageB (harg0 := harg0) (harg1 := harg1) (harg2 := harg2) c k0_t1 v32 k0_h1 v37 v47 k0_hw1 v56 v61 K V Ks Vs fq fqs
  rw [wp_bind] at h
  exact h

/-- The running values start anew for the completion's keys. -/
theorem stageC (c : Dev nD) (v114 : BitVec 32) (v124 v125 : Vec F S1x128 .f32) fqs :
   iprop(held c qsB fqs ∗ (∃ f, held c mB f) ∗ (∃ f, held c lB f) ∗ (∃ f, held c accB f))
   ⊢ (wp frame (wpE (defs₀ (F := F)) Variants.none (c : Thread nD τ) none) Set.univ
      (k0_part16 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 v114 v124 v125)
      (fun r => iprop(held c qsB fqs ∗ held c mB (k0_pay73 (F := F)) ∗ held c lB (k0_pay74 (F := F)) ∗ held c accB (k0_pay75 (F := F))
     ∗ ⌜∃ w, r = ⟨k0_pay72 v124 v125 (ldS2 fqs) (ldS3 fqs), w, 0#32, 0#32⟩⌝)) : sProp 𝕄) := by
  iintro ⟨B2, ⟨%f7, B7⟩, ⟨%f8, B8⟩, ⟨%f9, B9⟩⟩
  sl_exec
  rw [writes_m, writes_l, writes_acc]
  sl_step
  isplitl [B2]; · iexact B2
  isplitl [B7]; · iexact B7
  isplitl [B8]; · iexact B8
  isplitl [B9]; · iexact B9
  ipureintro; exact ⟨_, rfl⟩

set_option maxHeartbeats 1000000 in
/-- The completion's keys, and the two parts put together. -/
theorem stageD (c : Dev nD) (k0_t1 : Fin k0_t1_loop.trips) (v27 : BitVec 32) (k0_t2 : Fin k0_t2_loop.trips) (v37 v114 : BitVec 32) (v123 : FVec F S128x512 .fp8e4m3) (v128 : FVec F S1x512 .f32) (v159 : BitVec 32)
   (a1 : BufTy.Contents (Elt F) arg1.view.ty) (cl : Elt F .i32) (hc : clenW k0_t1 a1 = cl) K V Ks Vs op lsep :
   iprop(held c arg1 a1 ∗ held c ckM K ∗ held c cvM V ∗ held c cksM Ks ∗ held c cvsM Vs
     ∗ (∃ f, held c kB f) ∗ (∃ f, held c vB f) ∗ (∃ f, held c ksB f) ∗ (∃ f, held c vsB f) ∗ held c mB (k0_pay73 (F := F)) ∗ held c lB (k0_pay74 (F := F)) ∗ held c accB (k0_pay75 (F := F)) ∗ held c opB op ∗ held c lsepB lsep
     ∗ idle c cc0_scratch15 ∗ idle c cc0_scratch16 ∗ idle c cc0_scratch17 ∗ idle c cc0_scratch18 ∗ (∃ W, owes (c : Thread nD τ) 0 W))
   ⊢ (wp frame (wpE (defs₀ (F := F)) Variants.none (c : Thread nD τ) none) Set.univ
      (k0_part17 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v27 k0_t2 v37 v114 v123 v128 v159 0#32 0#32)
      (fun r => iprop(held c arg1 a1 ∗ held c ckM K ∗ held c cvM V ∗ held c cksM Ks ∗ held c cvsM Vs
     ∗ (∃ f, held c kB f) ∗ (∃ f, held c vB f) ∗ (∃ f, held c ksB f) ∗ (∃ f, held c vsB f) ∗ (∃ f, held c mB f) ∗ (∃ f, held c lB f) ∗ (∃ f, held c accB f) ∗ held c opB op ∗ held c lsepB lsep
     ∗ idle c cc0_scratch15 ∗ idle c cc0_scratch16 ∗ idle c cc0_scratch17 ∗ idle c cc0_scratch18 ∗ (∃ W, owes (c : Thread nD τ) 0 W)
     ∗ ⌜∃ s : St F, RunC k0_t1 k0_t2 v37 v123 v128 K V Ks Vs (k0_t9_loop k0_t2).trips 0 s
         ∧ r = ⟨k0_pay88 (ldRow mB s.m) (ldRow lB s.l), ldRow lsepB lsep,
             k0_pay89 (ldAcc accB s.acc) (ldRow lB s.l) (ldRow mB s.m) (ldRow lB s.l) (ldRow lsepB lsep) (ldAcc opB op), k0_pay90 v37,
             k0_pay91 v37 cl, Scalar.ofBits .f32 0x00000000#32⟩⌝)) : sProp 𝕄) := by
  subst hc
  iintro ⟨A1, G3, G4, G5, G6, ⟨%f3, B3⟩, ⟨%f4, B4⟩, ⟨%f5, B5⟩, ⟨%f6, B6⟩, B7, B8, B9, B10, B11, S3, S4, S5, S6, ⟨%W, HW⟩⟩
  have hr := RunC.start (F := F) (k0_t1 := k0_t1) (k0_t2 := k0_t2) (v37 := v37) (v123 := v123) (v128 := v128) (K := K) (V := V) (Ks := Ks) (Vs := Vs)
  sl_exec
  let L9 := loop9 (F := F) (harg0 := harg0) (harg1 := harg1) (harg2 := harg2) c k0_t1 v27 k0_t2 v37 v114 v123 v128 v159 K V Ks Vs 0#32
  sl_exec
  sl_step
  isplitl [A1]; · iexact A1
  isplitl [G3]; · iexact G3
  isplitl [G4]; · iexact G4
  isplitl [G5]; · iexact G5
  isplitl [G6]; · iexact G6
  isplitl [B3]; · iexists _; iexact B3
  isplitl [B4]; · iexists _; iexact B4
  isplitl [B5]; · iexists _; iexact B5
  isplitl [B6]; · iexists _; iexact B6
  isplitl [B7]; · iexists _; iexact B7
  isplitl [B8]; · iexists _; iexact B8
  isplitl [B9]; · iexists _; iexact B9
  isplitl [B10]; · iexact B10
  isplitl [B11]; · iexact B11
  isplitl [S3]; · iexact S3
  isplitl [S4]; · iexact S4
  isplitl [S5]; · iexact S5
  isplitl [S6]; · iexact S6
  isplitl [HW]; · iexists _; iexact HW
  ipureintro
  exact ⟨⟨_, _, _⟩, ‹_›, rfl⟩

set_option maxHeartbeats 1000000 in
/-- The three blocks of the tile go out. -/
theorem stageE (c : Dev nD) (k0_t1 : Fin k0_t1_loop.trips) (v17 : BitVec 32) (k0_t2 : Fin k0_t2_loop.trips) (v174 : FVec F S1x512 .f32) (v175 : Vec F S1x512 .f32) (v193 : FVec F S128x512 .f32) (v198 : IVec S1x512 32) (v202 : IVec S1x512 1) (cst : F .f32)
   (a2 : BufTy.Contents (Elt F) arg2.view.ty) (pl : Elt F .i32) (hp : plenW a2 = pl) O LP LC :
   iprop(held c arg2 a2 ∗ held c outM O ∗ held c lsePM LP ∗ held c lseCM LC ∗ (∃ f, held c oB f) ∗ (∃ f, held c rowB f) ∗ idle c cc0_scratch19 ∗ idle c cc0_scratch20 ∗ (∃ W, owes (c : Thread nD τ) 0 W))
   ⊢ (wp frame (wpE (defs₀ (F := F)) Variants.none (c : Thread nD τ) none) Set.univ
      (do
      let ⟨v244, v245⟩ ← k0_part18 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v17 k0_t2 v175 v193 v198 v202 cst
      let ⟨v270, v279⟩ ← k0_part19 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 k0_t2 v174 v202 v244 v245
      let v280 : Vec F S1x128 .f32 ← Prog.lift (.load rowB (Rect.unit (s := S4x128) ![2, 0] S1x128.size inb_S4x128_S1x128_2_0).toLoadRect (View.loadsAt_vmem h_S1x128))
      Prog.lift (.store rowB (Rect.unit (s := S4x128) ![2, 0] S1x128.size inb_S4x128_S1x128_2_0) (k0_pay1 v279) Finset.univ (View.stores_vmem_bits_univ h_S1x128 rfl) (.inl rfl))
      let v284 : Vec F S1x128 .f32 ← Prog.lift (.load rowB (Rect.unit (s := S4x128) ![3, 0] S1x128.size inb_S4x128_S1x128_3_0).toLoadRect (View.loadsAt_vmem h_S1x128))
      Prog.lift (.store rowB (Rect.unit (s := S4x128) ![3, 0] S1x128.size inb_S4x128_S1x128_3_0) (k0_pay2 v270) Finset.univ (View.stores_vmem_bits_univ h_S1x128 rfl) (.inl rfl))
      let v287 : Memref sig .tc .hbm S1x1x4x128 .f32 := lseCM.slice (Rect.unit (s := S6x10x4x4096) (k0_off62 k0_t1 k0_t2) S1x1x4x128.size (k0_off62_inb k0_t1 k0_t2)) (fun _ => rfl)
      let v288 : Memref sig .tc .hbm S4x128 .f32 := v287.squeeze S4x128 squeezes_S1x1x4x128_S4x128
      Prog.lift (.enqueueDma rowB (.here v288) (.dma cc0_scratch20.sem) (Memref.isWhole_whole _).wordExact ((View.wordExact_bits rfl).reshape _ _) ⟨Or.inl rfl, trivial⟩)
      let v289 : Memref sig .tc .hbm S1x1x4x128 .f32 := lseCM.slice (Rect.unit (s := S6x10x4x4096) (k0_off62 k0_t1 k0_t2) S1x1x4x128.size (k0_off62_inb k0_t1 k0_t2)) (fun _ => rfl)
      let v290 : Memref sig .tc .hbm S4x128 .f32 := v289.squeeze S4x128 squeezes_S1x1x4x128_S4x128
      Prog.lift (.waitDma2 cc0_scratch20.sem rowB v290 (Memref.isWhole_whole _).wordExact ((View.wordExact_bits rfl).reshape _ _))
      pure PUnit.unit)
      (fun r => iprop(held c arg2 a2 ∗ held c outM (putO k0_t1 k0_t2 O (colBlk (k0_pay93 v193 v202 cst) (k0_pay94 v193 v202 cst) (k0_pay95 v193 v202 cst) (k0_pay96 v193 v202 cst)))
     ∗ held c lsePM (putP k0_t1 k0_t2 LP (rowBlk (k0_pay100 v202 (k0_pay98 v175 pl)) (k0_pay101 v202 (k0_pay98 v175 pl)) (k0_pay102 v202 (k0_pay98 v175 pl)) (k0_pay103 v202 (k0_pay98 v175 pl))))
     ∗ held c lseCM (putC k0_t1 k0_t2 LC (rowBlk (k0_pay105 v174 v202 (k0_pay97 v198)) (k0_pay106 v174 v202 (k0_pay97 v198)) (k0_pay1 (k0_pay107 v174 v202 (k0_pay97 v198))) (k0_pay2 (k0_pay104 v174 v202 (k0_pay97 v198)))))
     ∗ (∃ f, held c oB f) ∗ (∃ f, held c rowB f) ∗ idle c cc0_scratch19 ∗ idle c cc0_scratch20 ∗ (∃ W, owes (c : Thread nD τ) 0 W))) : sProp 𝕄) := by
  subst hp
  iintro ⟨A2, O1, O2, O3, ⟨%f12, B12⟩, ⟨%f13, B13⟩, S7, S8, ⟨%W, HW⟩⟩
  sl_exec
  have d8 : stageE.sl.dma8 v193 v202 cst f12 = colBlk (k0_pay93 v193 v202 cst) (k0_pay94 v193 v202 cst) (k0_pay95 v193 v202 cst) (k0_pay96 v193 v202 cst) := by
    unfold stageE.sl.dma8 stageE.sl.B12_4
    exact (View.read_whole (Val := Elt F) cc0_scratch11 _).trans (writes_cols f12 _ _ _ _ [])
  have d17 : stageE.sl.dma17 v175 v202 a2 f13 = rowBlk (k0_pay100 v202 (k0_pay98 v175 (plenW a2))) (k0_pay101 v202 (k0_pay98 v175 (plenW a2))) (k0_pay102 v202 (k0_pay98 v175 (plenW a2))) (k0_pay103 v202 (k0_pay98 v175 (plenW a2))) := by
    unfold stageE.sl.dma17 stageE.sl.B13_4
    exact (View.read_whole (Val := Elt F) cc0_scratch12 _).trans (writes_rows f13 _ _ _ _ [])
  have d25 : stageE.sl.dma25 v174 v175 v198 v202 a2 f13 = rowBlk (k0_pay105 v174 v202 (k0_pay97 v198)) (k0_pay106 v174 v202 (k0_pay97 v198)) (k0_pay1 (k0_pay107 v174 v202 (k0_pay97 v198))) (k0_pay2 (k0_pay104 v174 v202 (k0_pay97 v198))) := by
    unfold stageE.sl.dma25 stageE.sl.B13_8
    exact (View.read_whole (Val := Elt F) cc0_scratch12 _).trans (writes_rows f13 _ _ _ _ _)
  have e1 : stageE.sl.O1_w0 k0_t1 k0_t2 v193 v202 cst O f12 = putO k0_t1 k0_t2 O _ := congrArg (putO k0_t1 k0_t2 O) d8
  have e2 : stageE.sl.O2_w1 k0_t1 k0_t2 v175 v202 a2 LP f13 = putP k0_t1 k0_t2 LP _ := congrArg (putP k0_t1 k0_t2 LP) d17
  have e3 : stageE.sl.O3_w2 k0_t1 k0_t2 v174 v175 v198 v202 a2 LC f13 = putC k0_t1 k0_t2 LC _ := congrArg (putC k0_t1 k0_t2 LC) d25
  rw [e1, e2, e3]
  sl_step
  isplitl [A2]; · iexact A2
  isplitl [O1]; · iexact O1
  isplitl [O2]; · iexact O2
  isplitl [O3]; · iexact O3
  isplitl [B12]; · iexists _; iexact B12
  isplitl [B13]; · iexists _; iexact B13
  isplitl [S7]; · iexact S7
  isplitl [S8]; · iexact S8
  iexists _; iexact HW

end Cert.Kernel.Hand

end
-- ==== Proof.Tile.lean ====
module

public import proofs.«01_k».proof.Proof.Stages

@[expose] public section

set_option maxRecDepth 16384

/-! One tile of queries, whole: what it leaves in the three arrays. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-- The values after the tiles done are determined. -/
theorem RunP.det {k0_t1 : Fin k0_t1_loop.trips} {v32 : Elt F .i32} {k0_h1 : k0_cond1 v32 = 1#1} {v47 : Elt F .i32} {k0_hw1 : k0_chk1 k0_t1 v32 v47} {v56 : FVec F S128x512 .fp8e4m3} {v61 : FVec F S1x512 .f32} {K : BufTy.Contents (Elt F) pkM.view.ty} {V : BufTy.Contents (Elt F) pvM.view.ty} {Ks : BufTy.Contents (Elt F) pksM.view.ty} {Vs : BufTy.Contents (Elt F) pvsM.view.ty}
    {n k : ℕ} {s : St F} (h : RunP k0_t1 v32 k0_h1 v47 k0_hw1 v56 v61 K V Ks Vs n k s) : ∀ n' k' s', RunP k0_t1 v32 k0_h1 v47 k0_hw1 v56 v61 K V Ks Vs n' k' s' → n = n' → k = k' → s = s' := by
  induction h with
  | start =>
    intro n' k' s' h' hn hk
    cases h' with
    | start => rfl
    | tile t k s _ => omega
    | next t s _ => omega
  | tile t k s _ ih =>
    intro n' k' s' h' hn hk
    cases h' with
    | start => omega
    | tile t' kk s' hs' =>
      obtain rfl : t = t' := Fin.ext hn
      obtain rfl : k = kk := Fin.ext (by omega)
      rw [ih _ _ _ hs' rfl rfl]
    | next t' s' _ => omega
  | next t s _ ih =>
    intro n' k' s' h' hn hk
    cases h' with
    | start => omega
    | tile t' kk s' hs' => omega
    | next t' s' hs' =>
      obtain rfl : t = t' := Fin.ext (by omega)
      exact ih _ _ _ hs' rfl rfl

/-- The values after the tiles done are determined. -/
theorem RunC.det {k0_t1 : Fin k0_t1_loop.trips} {k0_t2 : Fin k0_t2_loop.trips} {v37 : BitVec 32} {v123 : FVec F S128x512 .fp8e4m3} {v128 : FVec F S1x512 .f32} {K : BufTy.Contents (Elt F) ckM.view.ty} {V : BufTy.Contents (Elt F) cvM.view.ty} {Ks : BufTy.Contents (Elt F) cksM.view.ty} {Vs : BufTy.Contents (Elt F) cvsM.view.ty}
    {n k : ℕ} {s : St F} (h : RunC k0_t1 k0_t2 v37 v123 v128 K V Ks Vs n k s) : ∀ n' k' s', RunC k0_t1 k0_t2 v37 v123 v128 K V Ks Vs n' k' s' → n = n' → k = k' → s = s' := by
  induction h with
  | start =>
    intro n' k' s' h' hn hk
    cases h' with
    | start => rfl
    | tile t k s _ => omega
    | next t s _ => omega
  | tile t k s _ ih =>
    intro n' k' s' h' hn hk
    cases h' with
    | start => omega
    | tile t' kk s' hs' =>
      obtain rfl : t = t' := Fin.ext hn
      obtain rfl : k = kk := Fin.ext (by omega)
      rw [ih _ _ _ hs' rfl rfl]
    | next t' s' _ => omega
  | next t s _ ih =>
    intro n' k' s' h' hn hk
    cases h' with
    | start => omega
    | tile t' kk s' hs' => omega
    | next t' s' hs' =>
      obtain rfl : t = t' := Fin.ext (by omega)
      exact ih _ _ _ hs' rfl rfl

/-- What the kernel is given: which tiles of queries to work on, the lengths, and the arrays as it finds them. -/
structure Ins (F : FTy → Type) where
  flag : Fin k0_t1_loop.trips → Fin k0_t2_loop.trips → Elt F .i32
  clen : Fin k0_t1_loop.trips → Elt F .i32
  plen : Elt F .i32
  Q : BufTy.Contents (Elt F) qtM.view.ty
  Qs : BufTy.Contents (Elt F) qsM.view.ty
  K : BufTy.Contents (Elt F) pkM.view.ty
  V : BufTy.Contents (Elt F) pvM.view.ty
  Ks : BufTy.Contents (Elt F) pksM.view.ty
  Vs : BufTy.Contents (Elt F) pvsM.view.ty
  CK : BufTy.Contents (Elt F) ckM.view.ty
  CV : BufTy.Contents (Elt F) cvM.view.ty
  CKs : BufTy.Contents (Elt F) cksM.view.ty
  CVs : BufTy.Contents (Elt F) cvsM.view.ty

/-- The three arrays the kernel fills. -/
structure Outs (F : FTy → Type) where
  O : BufTy.Contents (Elt F) outM.view.ty
  P : BufTy.Contents (Elt F) lsePM.view.ty
  C : BufTy.Contents (Elt F) lseCM.view.ty

instance : Nonempty (St F) := ⟨⟨k0_pay73, k0_pay74, k0_pay75⟩⟩

/-- The first query of tile `t`. -/
def v37 (t : Fin k0_t2_loop.trips) : BitVec 32 := Scalar.muli (Scf.iv 0#32 1#32 t) 128#32

namespace Ins

variable (X : Ins F) (i : Fin k0_t1_loop.trips) (t : Fin k0_t2_loop.trips)

def v56 : FVec F S128x512 .fp8e4m3 :=
  k0_pay51 (ldQ0 (fetchQ i t X.Q)) (ldQ1 (fetchQ i t X.Q)) (ldQ2 (fetchQ i t X.Q)) (ldQ3 (fetchQ i t X.Q))
def v61 : FVec F S1x512 .f32 :=
  k0_pay52 (ldS0 (fetchQs i t X.Qs)) (ldS1 (fetchQs i t X.Qs)) (ldS2 (fetchQs i t X.Qs)) (ldS3 (fetchQs i t X.Qs))
def v123 : FVec F S128x512 .fp8e4m3 :=
  k0_pay71 (ldQ0 (fetchQ i t X.Q)) (ldQ1 (fetchQ i t X.Q)) (ldQ2 (fetchQ i t X.Q)) (ldQ3 (fetchQ i t X.Q))
def v128 : FVec F S1x512 .f32 :=
  k0_pay72 (ldS0 (fetchQs i t X.Qs)) (ldS1 (fetchQs i t X.Qs)) (ldS2 (fetchQs i t X.Qs)) (ldS3 (fetchQs i t X.Qs))

/-- What the prompt's keys come to. -/
def endP (h1 : k0_cond1 (X.flag i t) = 1#1) (hw : k0_chk1 i (X.flag i t) X.plen) : St F := Classical.epsilon fun s => RunP i (X.flag i t) h1 X.plen hw (X.v56 i t) (X.v61 i t) X.K X.V X.Ks X.Vs (k0_t3_loop X.plen).trips 0 s
/-- What the completion's keys come to. -/
def endC : St F := Classical.epsilon fun s => RunC i t (v37 t) (X.v123 i t) (X.v128 i t) X.CK X.CV X.CKs X.CVs (k0_t9_loop t).trips 0 s

theorem endP_eq (h1 : k0_cond1 (X.flag i t) = 1#1) (hw : k0_chk1 i (X.flag i t) X.plen) {s} (h : RunP i (X.flag i t) h1 X.plen hw (X.v56 i t) (X.v61 i t) X.K X.V X.Ks X.Vs (k0_t3_loop X.plen).trips 0 s) : X.endP i t h1 hw = s :=
  (Classical.epsilon_spec (p := fun s => RunP i (X.flag i t) h1 X.plen hw (X.v56 i t) (X.v61 i t) X.K X.V X.Ks X.Vs (k0_t3_loop X.plen).trips 0 s) ⟨s, h⟩).det _ _ _ h rfl rfl
theorem endC_eq {s} (h : RunC i t (v37 t) (X.v123 i t) (X.v128 i t) X.CK X.CV X.CKs X.CVs (k0_t9_loop t).trips 0 s) : X.endC i t = s :=
  (Classical.epsilon_spec (p := fun s => RunC i t (v37 t) (X.v123 i t) (X.v128 i t) X.CK X.CV X.CKs X.CVs (k0_t9_loop t).trips 0 s) ⟨s, h⟩).det _ _ _ h rfl rfl

/-- The prompt's part of the result and its log-sum-exp, and the completion's. -/
def op (h1 : k0_cond1 (X.flag i t) = 1#1) (hw : k0_chk1 i (X.flag i t) X.plen) : FVec F S128x512 .f32 := k0_pay69 (ldAcc accB (X.endP i t h1 hw).acc) (ldRow lB (X.endP i t h1 hw).l)
def lsep (h1 : k0_cond1 (X.flag i t) = 1#1) (hw : k0_chk1 i (X.flag i t) X.plen) : FVec F S1x512 .f32 := k0_pay70 (ldRow mB (X.endP i t h1 hw).m) (ldRow lB (X.endP i t h1 hw).l)
def lsec : FVec F S1x512 .f32 := k0_pay88 (ldRow mB (X.endC i t).m) (ldRow lB (X.endC i t).l)
/-- The two parts put together. -/
def v193 (h1 : k0_cond1 (X.flag i t) = 1#1) (hw : k0_chk1 i (X.flag i t) X.plen) : FVec F S128x512 .f32 :=
  k0_pay89 (ldAcc accB (X.endC i t).acc) (ldRow lB (X.endC i t).l) (ldRow mB (X.endC i t).m) (ldRow lB (X.endC i t).l) (ldRow lsepB (X.lsep i t h1 hw)) (ldAcc opB (X.op i t h1 hw))
/-- Which queries of the tile the completion has. -/
def v202 : IVec S1x512 1 := k0_pay91 (v37 t) (X.clen i)

/-- The tile's blocks. -/
def blkO (h1 : k0_cond1 (X.flag i t) = 1#1) (hw : k0_chk1 i (X.flag i t) X.plen) : BufTy.Contents (Elt F) oB.view.ty :=
  colBlk (k0_pay93 (X.v193 i t h1 hw) (X.v202 i t) (Scalar.ofBits .f32 0x00000000#32)) (k0_pay94 (X.v193 i t h1 hw) (X.v202 i t) (Scalar.ofBits .f32 0x00000000#32))
    (k0_pay95 (X.v193 i t h1 hw) (X.v202 i t) (Scalar.ofBits .f32 0x00000000#32)) (k0_pay96 (X.v193 i t h1 hw) (X.v202 i t) (Scalar.ofBits .f32 0x00000000#32))
def blkP (h1 : k0_cond1 (X.flag i t) = 1#1) (hw : k0_chk1 i (X.flag i t) X.plen) : BufTy.Contents (Elt F) rowB.view.ty :=
  let x := k0_pay98 (ldRow lsepB (X.lsep i t h1 hw)) X.plen
  rowBlk (k0_pay100 (X.v202 i t) x) (k0_pay101 (X.v202 i t) x) (k0_pay102 (X.v202 i t) x) (k0_pay103 (X.v202 i t) x)
def blkC : BufTy.Contents (Elt F) rowB.view.ty :=
  let x := k0_pay97 (F := F) (k0_pay90 (v37 t))
  rowBlk (k0_pay105 (X.lsec i t) (X.v202 i t) x) (k0_pay106 (X.lsec i t) (X.v202 i t) x) (k0_pay1 (k0_pay107 (X.lsec i t) (X.v202 i t) x)) (k0_pay2 (k0_pay104 (X.lsec i t) (X.v202 i t) x))

open Classical in
/-- The three arrays after tile `t` of point `i`. -/
def step (o : Outs F) : Outs F :=
  if h1 : k0_cond1 (X.flag i t) = 1#1 then
    if hw : k0_chk1 i (X.flag i t) X.plen then
      ⟨putO i t o.O (X.blkO i t h1 hw), putP i t o.P (X.blkP i t h1 hw), putC i t o.C (X.blkC i t)⟩
    else o
  else o

/-- The three arrays after `k` tiles of point `i`. -/
def tiles (i : Fin k0_t1_loop.trips) (o : Outs F) : ℕ → Outs F
  | 0 => o
  | k + 1 => if h : k < k0_t2_loop.trips then X.step i ⟨k, h⟩ (tiles i o k) else tiles i o k

/-- The three arrays after `n` points. -/
def points (o : Outs F) : ℕ → Outs F
  | 0 => o
  | n + 1 => if h : n < k0_t1_loop.trips then X.tiles ⟨n, h⟩ (points o n) k0_t2_loop.trips else points o n

end Ins

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- The word of the table of tiles at tile `t` of point `i`. -/
def flagW (i : Fin k0_t1_loop.trips) (t : Fin k0_t2_loop.trips) (a0 : BufTy.Contents (Elt F) arg0.view.ty) : Elt F .i32 :=
  View.readAt (Elt F) arg0.view (Rect.unit (s := S10x6x32) (k0_off1 i t) S1x1x1.size (k0_off1_inb i t)).toLoadRect a0 (Shape.Idx.first (numel1_S1x1x1.symm ▸ Nat.one_pos))

/-- The arrays the kernel reads. -/
abbrev reads (c : Dev nD) (X : Ins F) : sProp 𝕄 :=
  iprop(held c qtM X.Q ∗ held c qsM X.Qs ∗ held c pkM X.K ∗ held c pvM X.V ∗ held c pksM X.Ks ∗ held c pvsM X.Vs ∗ held c ckM X.CK ∗ held c cvM X.CV ∗ held c cksM X.CKs ∗ held c cvsM X.CVs)
/-- The arrays the kernel fills. -/
abbrev fills (c : Dev nD) (o : Outs F) : sProp 𝕄 :=
  iprop(held c outM o.O ∗ held c lsePM o.P ∗ held c lseCM o.C)
/-- The kernel's own buffers, at any contents. -/
abbrev bufs (c : Dev nD) : sProp 𝕄 :=
  iprop((∃ f : BufTy.Contents (Elt F) qB.view.ty, held c qB f) ∗ (∃ f : BufTy.Contents (Elt F) qsB.view.ty, held c qsB f) ∗ (∃ f : BufTy.Contents (Elt F) kB.view.ty, held c kB f) ∗ (∃ f : BufTy.Contents (Elt F) vB.view.ty, held c vB f) ∗ (∃ f : BufTy.Contents (Elt F) ksB.view.ty, held c ksB f) ∗ (∃ f : BufTy.Contents (Elt F) vsB.view.ty, held c vsB f) ∗ (∃ f : BufTy.Contents (Elt F) mB.view.ty, held c mB f) ∗ (∃ f : BufTy.Contents (Elt F) lB.view.ty, held c lB f) ∗ (∃ f : BufTy.Contents (Elt F) accB.view.ty, held c accB f) ∗ (∃ f : BufTy.Contents (Elt F) opB.view.ty, held c opB f) ∗ (∃ f : BufTy.Contents (Elt F) lsepB.view.ty, held c lsepB f) ∗ (∃ f : BufTy.Contents (Elt F) oB.view.ty, held c oB f) ∗ (∃ f : BufTy.Contents (Elt F) rowB.view.ty, held c rowB f))
/-- The kernel's own semaphores, at rest, and nothing owed at the start. -/
abbrev rest (c : Dev nD) : sProp 𝕄 :=
  iprop(idle c cc0_scratch13 ∗ idle c cc0_scratch14 ∗ idle c cc0_scratch15 ∗ idle c cc0_scratch16 ∗ idle c cc0_scratch17 ∗ idle c cc0_scratch18 ∗ idle c cc0_scratch19 ∗ idle c cc0_scratch20 ∗ (∃ W, owes (c : Thread nD τ) 0 W))

set_option maxHeartbeats 2000000 in
/-- One tile of queries. -/
theorem tile (c : Dev nD) (X : Ins F) (i : Fin k0_t1_loop.trips) (v17 v27 : BitVec 32) (t : Fin k0_t2_loop.trips) (o : Outs F)
   (a0 : BufTy.Contents (Elt F) arg0.view.ty) (a1 : BufTy.Contents (Elt F) arg1.view.ty) (a2 : BufTy.Contents (Elt F) arg2.view.ty)
   (hv : ∀ x, (arg2.view.read (Elt F) a2 x : BitVec 32).toInt ≤ 24576)
   (hf : flagW i t a0 = X.flag i t) (hc : clenW i a1 = X.clen i) (hp : plenW a2 = X.plen) :
   iprop(held c arg0 a0 ∗ held c arg1 a1 ∗ held c arg2 a2 ∗ reads c X ∗ fills c o ∗ bufs c ∗ rest c)
   ⊢ (wp frame (wpE (defs₀ (F := F)) Variants.none (c : Thread nD τ) none) Set.univ
      (k0_t2_body (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 i v17 v27 t ⟨⟩)
      (fun r => iprop(held c arg0 a0 ∗ held c arg1 a1 ∗ held c arg2 a2 ∗ reads c X ∗ fills c (X.step i t o) ∗ bufs c ∗ rest c)) : sProp 𝕄) := by
  unfold k0_t2_body
  iintro ⟨A0, A1, A2, ⟨G1, G2, G3, G4, G5, G6, G7, G8, G9, G10⟩, ⟨O1, O2, O3⟩, ⟨⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩, ⟨%b11, B11⟩, ⟨%b12, B12⟩, ⟨%b13, B13⟩⟩, ⟨S1, S2, S3, S4, S5, S6, S7, S8, ⟨%W, HW⟩⟩⟩
  set_option sl_exec.stopBefore "k0_cond1" in sl_exec
  have e0 : tile.sl.r i t a0 = X.flag i t := hf
  rw [e0]
  by_cases h1 : k0_cond1 (X.flag i t) = 1#1
  · set_option sl_exec.stopBefore "k0_part13" in sl_exec
    rw [wp_bind]
    iapply (wp_wand_r Idealize.ShloMosaic.frame (wpE (defs₀ (F := F)) Variants.none (c : Thread nD τ) none) Set.univ)
    isplitl [A2 G1 G2 B1 B2 S1 S2 HW]
    · iapply stageA c i v17 t (X.flag i t) a2 hv X.plen hp X.Q X.Qs
      isplitl [A2]; · iexact A2
      isplitl [G1]; · iexact G1
      isplitl [G2]; · iexact G2
      isplitl [B1]; · iexists _; iexact B1
      isplitl [B2]; · iexists _; iexact B2
      isplitl [S1]; · iexact S1
      isplitl [S2]; · iexact S2
      iexists _; iexact HW
    iintro %r ⟨A2, G1, G2, B1, B2, S1, S2, ⟨%W1, HW⟩, %hr⟩
    obtain ⟨hw, rfl⟩ := hr
    dsimp only
    rw [wp_bind]
    iapply (wp_wand_r Idealize.ShloMosaic.frame (wpE (defs₀ (F := F)) Variants.none (c : Thread nD τ) none) Set.univ)
    isplitl [G3 G4 G5 G6 B1 B2 B3 B4 B5 B6 B7 B8 B9 B10 B11 S3 S4 S5 S6 HW]
    · iapply stageB2 c i (X.flag i t) h1 (v37 t) X.plen hw (X.v56 i t) (X.v61 i t) X.K X.V X.Ks X.Vs (fetchQ i t X.Q) (fetchQs i t X.Qs)
      isplitl [G3]; · iexact G3
      isplitl [G4]; · iexact G4
      isplitl [G5]; · iexact G5
      isplitl [G6]; · iexact G6
      isplitl [B1]; · iexact B1
      isplitl [B2]; · iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      isplitl [B9]; · iexists _; iexact B9
      isplitl [B10]; · iexists _; iexact B10
      isplitl [B11]; · iexists _; iexact B11
      isplitl [S3]; · iexact S3
      isplitl [S4]; · iexact S4
      isplitl [S5]; · iexact S5
      isplitl [S6]; · iexact S6
      iexists _; iexact HW
    iintro %x H
    obtain ⟨x1, x2⟩ := x
    dsimp only
    rw [wp_bind]
    iapply (wp_wand_r Idealize.ShloMosaic.frame (wpE (defs₀ (F := F)) Variants.none (c : Thread nD τ) none) Set.univ)
    isplitl [H]
    · iexact H
    iintro %r ⟨G3, G4, G5, G6, B1, B2, ⟨%d3, B3⟩, ⟨%d4, B4⟩, ⟨%d5, B5⟩, ⟨%d6, B6⟩, ⟨%d7, B7⟩, ⟨%d8, B8⟩, ⟨%d9, B9⟩, ⟨%sP, %hsP, B10, B11⟩, S3, S4, S5, S6, ⟨%W2, HW⟩, %hr⟩
    subst hr
    dsimp only
    have hP := X.endP_eq i t h1 hw hsP
    rw [wp_bind]
    iapply (wp_wand_r Idealize.ShloMosaic.frame (wpE (defs₀ (F := F)) Variants.none (c : Thread nD τ) none) Set.univ)
    isplitl [B2 B7 B8 B9]
    · iapply stageC c _ _ _ (fetchQs i t X.Qs)
      isplitl [B2]; · iexact B2
      isplitl [B7]; · iexists _; iexact B7
      isplitl [B8]; · iexists _; iexact B8
      iexists _; iexact B9
    iintro %r ⟨B2, B7, B8, B9, %hr⟩
    obtain ⟨w, rfl⟩ := hr
    dsimp only
    rw [wp_bind]
    iapply (wp_wand_r Idealize.ShloMosaic.frame (wpE (defs₀ (F := F)) Variants.none (c : Thread nD τ) none) Set.univ)
    isplitl [A1 G7 G8 G9 G10 B3 B4 B5 B6 B7 B8 B9 B10 B11 S3 S4 S5 S6 HW]
    · iapply stageD c i v27 t (v37 t) _ (X.v123 i t) (X.v128 i t) w a1 (X.clen i) hc X.CK X.CV X.CKs X.CVs _ _
      isplitl [A1]; · iexact A1
      isplitl [G7]; · iexact G7
      isplitl [G8]; · iexact G8
      isplitl [G9]; · iexact G9
      isplitl [G10]; · iexact G10
      isplitl [B3]; · iexists _; iexact B3
      isplitl [B4]; · iexists _; iexact B4
      isplitl [B5]; · iexists _; iexact B5
      isplitl [B6]; · iexists _; iexact B6
      isplitl [B7]; · iexact B7
      isplitl [B8]; · iexact B8
      isplitl [B9]; · iexact B9
      isplitl [B10]; · iexact B10
      isplitl [B11]; · iexact B11
      isplitl [S3]; · iexact S3
      isplitl [S4]; · iexact S4
      isplitl [S5]; · iexact S5
      isplitl [S6]; · iexact S6
      iexists _; iexact HW
    iintro %r ⟨A1, G7, G8, G9, G10, ⟨%e3, B3⟩, ⟨%e4, B4⟩, ⟨%e5, B5⟩, ⟨%e6, B6⟩, ⟨%e7, B7⟩, ⟨%e8, B8⟩, ⟨%e9, B9⟩, B10, B11, S3, S4, S5, S6, ⟨%W3, HW⟩, %hr⟩
    obtain ⟨sC, hsC, rfl⟩ := hr
    dsimp only
    have hC := X.endC_eq i t hsC
    subst hP hC
    iapply (wp_wand_r Idealize.ShloMosaic.frame (wpE (defs₀ (F := F)) Variants.none (c : Thread nD τ) none) Set.univ)
    isplitl [A2 O1 O2 O3 B12 B13 S7 S8 HW]
    · iapply stageE c i v17 t _ _ _ _ _ _ a2 X.plen hp o.O o.P o.C
      isplitl [A2]; · iexact A2
      isplitl [O1]; · iexact O1
      isplitl [O2]; · iexact O2
      isplitl [O3]; · iexact O3
      isplitl [B12]; · iexists _; iexact B12
      isplitl [B13]; · iexists _; iexact B13
      isplitl [S7]; · iexact S7
      isplitl [S8]; · iexact S8
      iexists _; iexact HW
    iintro %r ⟨A2, O1, O2, O3, ⟨%f12, B12⟩, ⟨%f13, B13⟩, S7, S8, ⟨%W4, HW⟩⟩
    have e : X.step i t o = ⟨putO i t o.O (X.blkO i t h1 hw), putP i t o.P (X.blkP i t h1 hw), putC i t o.C (X.blkC i t)⟩ := by unfold Ins.step; rw [dif_pos h1, dif_pos hw]
    rw [e]
    isplitl [A0]; · iexact A0
    isplitl [A1]; · iexact A1
    isplitl [A2]; · iexact A2
    isplitl [G1 G2 G3 G4 G5 G6 G7 G8 G9 G10]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      iexact G10
    isplitl [O1 O2 O3]
    · isplitl [O1]; · iexact O1
      isplitl [O2]; · iexact O2
      iexact O3
    isplitl [B1 B2 B3 B4 B5 B6 B7 B8 B9 B10 B11 B12 B13]
    · isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      isplitl [B9]; · iexists _; iexact B9
      isplitl [B10]; · iexists _; iexact B10
      isplitl [B11]; · iexists _; iexact B11
      isplitl [B12]; · iexists _; iexact B12
      iexists _; iexact B13
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexists _; iexact HW
  · sl_exec
    sl_step
    have e : X.step i t o = o := by unfold Ins.step; rw [dif_neg h1]
    rw [e]
    isplitl [A0]; · iexact A0
    isplitl [A1]; · iexact A1
    isplitl [A2]; · iexact A2
    isplitl [G1 G2 G3 G4 G5 G6 G7 G8 G9 G10]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      iexact G10
    isplitl [O1 O2 O3]
    · isplitl [O1]; · iexact O1
      isplitl [O2]; · iexact O2
      iexact O3
    isplitl [B1 B2 B3 B4 B5 B6 B7 B8 B9 B10 B11 B12 B13]
    · isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      isplitl [B9]; · iexists _; iexact B9
      isplitl [B10]; · iexists _; iexact B10
      isplitl [B11]; · iexists _; iexact B11
      isplitl [B12]; · iexists _; iexact B12
      iexists _; iexact B13
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexists _; iexact HW

end Cert.Kernel.Hand

end
-- ==== Proof.Body.lean ====
module

public import proofs.«01_k».proof.Proof.Tile

@[expose] public section

set_option maxRecDepth 16384

/-! The kernel's body: the two outer loops, over tiles and over points. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
theorem Ins.tiles_succ (X : Ins F) (i : Fin k0_t1_loop.trips) (o : Outs F) (t : Fin k0_t2_loop.trips) : X.tiles i o (t.val + 1) = X.step i t (X.tiles i o t.val) :=
  dif_pos t.isLt

theorem Ins.points_succ (X : Ins F) (o : Outs F) (i : Fin k0_t1_loop.trips) : X.points o (i.val + 1) = X.tiles i (X.points o i.val) k0_t2_loop.trips :=
  dif_pos i.isLt

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- The three small arrays hold the words that `X` names. -/
structure Fits (X : Ins F) (a0 : BufTy.Contents (Elt F) arg0.view.ty) (a1 : BufTy.Contents (Elt F) arg1.view.ty) (a2 : BufTy.Contents (Elt F) arg2.view.ty) : Prop where
  le : ∀ x, (arg2.view.read (Elt F) a2 x : BitVec 32).toInt ≤ 24576
  flag : ∀ i t, flagW i t a0 = X.flag i t
  clen : ∀ i, clenW i a1 = X.clen i
  plen : plenW a2 = X.plen

/-- All tiles of one point. -/
theorem point (c : Dev nD) (X : Ins F) (i : Fin k0_t1_loop.trips) (o : Outs F) (a0 : BufTy.Contents (Elt F) arg0.view.ty) (a1 : BufTy.Contents (Elt F) arg1.view.ty) (a2 : BufTy.Contents (Elt F) arg2.view.ty)
    (h : Fits X a0 a1 a2) :
   iprop(held c arg0 a0 ∗ held c arg1 a1 ∗ held c arg2 a2 ∗ reads c X ∗ fills c (o) ∗ bufs c ∗ rest c)
   ⊢ (wp frame (wpE (defs₀ (F := F)) Variants.none (c : Thread nD τ) none) Set.univ
      (k0_t1_body (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 i ⟨⟩)
      (fun r => iprop(held c arg0 a0 ∗ held c arg1 a1 ∗ held c arg2 a2 ∗ reads c X ∗ fills c (X.tiles i o k0_t2_loop.trips) ∗ bufs c ∗ rest c)) : sProp 𝕄) := by
  unfold k0_t1_body
  dsimp only
  rw [wp_bind]
  iintro H
  iapply (Scf.wp_for frame (wpE (defs₀ (F := F)) Variants.none (c : Thread nD τ) none) Set.univ _ _ _ _ _ _ (fun k _ => iprop(held c arg0 a0 ∗ held c arg1 a1 ∗ held c arg2 a2 ∗ reads c X ∗ fills c (X.tiles i o k) ∗ bufs c ∗ rest c))
    (fun t _ => by
      dsimp only
      rw [X.tiles_succ i o t]
      exact (tile (harg0 := harg0) (harg1 := harg1) (harg2 := harg2) c X i _ _ t (X.tiles i o t) a0 a1 a2 h.le (h.flag i t) (h.clen i) h.plen)))
  isplitl [H]
  · iexact H
  iintro %r H
  sl_step
  iexact H

/-- The kernel's body: all points. -/
theorem body (c : Dev nD) (X : Ins F) (o : Outs F) (a0 : BufTy.Contents (Elt F) arg0.view.ty) (a1 : BufTy.Contents (Elt F) arg1.view.ty) (a2 : BufTy.Contents (Elt F) arg2.view.ty)
    (h : Fits X a0 a1 a2) :
   iprop(held c arg0 a0 ∗ held c arg1 a1 ∗ held c arg2 a2 ∗ reads c X ∗ fills c (o) ∗ bufs c ∗ rest c)
   ⊢ (wp frame (wpE (defs₀ (F := F)) Variants.none (c : Thread nD τ) none) Set.univ
      (cc0_attend_general (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20)
      (fun r => iprop(held c arg0 a0 ∗ held c arg1 a1 ∗ held c arg2 a2 ∗ reads c X ∗ fills c (X.points o k0_t1_loop.trips) ∗ bufs c ∗ rest c)) : sProp 𝕄) := by
  rw [cc0_attend_general_eq_skeleton]
  unfold cc0_attend_general_skel
  rw [wp_bind]
  iintro H
  iapply (Scf.wp_for frame (wpE (defs₀ (F := F)) Variants.none (c : Thread nD τ) none) Set.univ _ _ _ _ _ _ (fun k _ => iprop(held c arg0 a0 ∗ held c arg1 a1 ∗ held c arg2 a2 ∗ reads c X ∗ fills c (X.points o k) ∗ bufs c ∗ rest c))
    (fun i _ => by
      dsimp only
      rw [X.points_succ o i]
      exact (point (harg0 := harg0) (harg1 := harg1) (harg2 := harg2) c X i (X.points o i) a0 a1 a2 h)))
  isplitl [H]
  · iexact H
  iintro %r H
  sl_step
  iexact H

end Cert.Kernel.Hand

end
-- ==== Proof.Launch.lean ====
module

public import proofs.«01_k».proof.Proof.Body
public import proofs.«01_k».proof.Proof.Gen.Kernel.Frame
public import Idealize.ShloMosaic.Lib.Pipeline.FrameSuffixV

@[expose] public section

set_option maxRecDepth 16384

/-! The kernel launched: its region inside the program, from the buffers it finds to the buffers it leaves. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
variable (m : (ℓ : Loc nD τ sig) → Buf (Elt F) ℓ) (ρ : Dev nD → PrngReg)

/-! The program around the kernel's region. -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The kernel's own DMA cells. -/
abbrev osem0 : Fin 8 → SemLoc sig := fun j => (![SemLoc.dma 3, SemLoc.dma 4, SemLoc.dma 5, SemLoc.dma 6, SemLoc.dma 7, SemLoc.dma 8, SemLoc.dma 9, SemLoc.dma 10] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(idle c cc0_scratch13 ∗ idle c cc0_scratch14 ∗ idle c cc0_scratch15 ∗ idle c cc0_scratch16 ∗ idle c cc0_scratch17 ∗ idle c cc0_scratch18 ∗ idle c cc0_scratch19 ∗ idle c cc0_scratch20) := by
  rw [Pipeline.ownSems0_eq_of_list c osem0 [0, 1, 2, 3, 4, 5, 6, 7] (by decide) (by decide)]; rfl

/-- The arrays the kernel's transfers read, -/
def H0 : Finset (Ref sig .tc) := {main_v0, main_v2, main_v3, main_v5, main_v7, main_v9, main_v10, main_v12, main_v14, main_v16}
theorem H0_sub : H0 ⊆ Pipeline.restRefs sig spec0 := by decide
/-- and those they fill. -/
def R0 : Finset (Ref sig .tc) := {main_v31_0, main_v31_1, main_v31_2}
theorem R0_sub : R0 ⊆ Pipeline.restRefs sig spec0 \ H0 := by decide

theorem held_whole (c : Dev nD) (b : Ref sig .tc) (f : Buf (Elt F) ((c : Thread nD τ).loc b)) :
    (held (F := F) c (Memref.whole b) f : sProp 𝕄) = ((c : Thread nD τ).loc b) ↦{fullShare} f := by
  unfold held
  simp only [Memref.view_whole, View.set_whole]

theorem held_any (c : Dev nD) (b : Ref sig .tc) :
    (iprop(∃ f : Buf (Elt F) ((c : Thread nD τ).loc b), ((c : Thread nD τ).loc b) ↦{fullShare} f) : sProp 𝕄) = iprop(∃ f, held (F := F) c (Memref.whole b) f) :=
  congrArg BIBase.exists (funext fun f => (held_whole c b f).symm)

theorem both {A B C D : sProp 𝕄} (h : A = B) (h' : C = D) : iprop(A ∗ C) = iprop(B ∗ D) := by rw [h, h']

theorem bufs_eq (c : Dev nD) : (Pipeline.scopedRest (Ix := Unit) (Name := ℕ) (U := Pipeline.UD sig nD τ) (Lvl := ℕ) (Val := Elt F) spec0 c : sProp 𝕄) = bufs c := by
  rw [scopedRest0_eq]
  exact both (held_any c cc0_scratch0) (both (held_any c cc0_scratch1) (both (held_any c cc0_scratch2) (both (held_any c cc0_scratch3) (both (held_any c cc0_scratch4) (both (held_any c cc0_scratch5) (both (held_any c cc0_scratch6) (both (held_any c cc0_scratch7) (both (held_any c cc0_scratch8) (both (held_any c cc0_scratch9) (both (held_any c cc0_scratch10) (both (held_any c cc0_scratch11) (held_any c cc0_scratch12))))))))))))

/-- What the kernel is given: the words of its three small arrays and the ten large ones. -/
def insOf (w0 : S10x6x32.Idx → Elt F .i32) (w1 : S6.Idx → Elt F .i32) (w2 : S1.Idx → Elt F .i32) (W : (b : Ref sig .tc) → BufTy.Contents (Elt F) b.ty) : Ins F where
  flag i t := w0 ((Rect.unit (s := S10x6x32) (k0_off1 i t) S1x1x1.size (k0_off1_inb i t)).toLoadRect.idx (Shape.Idx.first (numel1_S1x1x1.symm ▸ Nat.one_pos)))
  clen i := w1 ((Rect.unit (s := S6) (k0_off60 i) S1.size (k0_off60_inb i)).toLoadRect.idx (Shape.Idx.first (numel1_S1.symm ▸ Nat.one_pos)))
  plen := w2 ((Rect.unit (s := S1) ![0] S1.size inb_S1_S1_0).toLoadRect.idx (Shape.Idx.first (numel1_S1.symm ▸ Nat.one_pos)))
  Q := W main_v0
  Qs := W main_v2
  K := W main_v3
  V := W main_v5
  Ks := W main_v7
  Vs := W main_v9
  CK := W main_v10
  CV := W main_v12
  CKs := W main_v14
  CVs := W main_v16

/-- What it is given in the run. -/
def ins (c : Dev nD) : Ins F := insOf (iblk m c 0 t0_0) (iblk m c 1 t0_0) (iblk m c 2 t0_0) (V m c)

/-- The three result arrays as the region finds them, -/
def outs0 (c : Dev nD) : Outs F := ⟨V m c main_v31_0, V m c main_v31_1, V m c main_v31_2⟩
/-- and as it leaves them. -/
def outs1 (c : Dev nD) : Outs F := (ins m c).points (outs0 m c) k0_t1_loop.trips

/-- The contents the region leaves. -/
def G (c : Dev nD) (b : Ref sig .tc) : Buf (Elt F) ((c : Thread nD τ).loc b) :=
  Function.update (Function.update (Function.update (V m c) main_v31_0 (outs1 m c).O) main_v31_1 (outs1 m c).P) main_v31_2 (outs1 m c).C b

theorem G_0 (c : Dev nD) : G m c main_v31_0 = (outs1 m c).O := by
  unfold G
  rw [Function.update_of_ne (by decide), Function.update_of_ne (by decide), Function.update_self]
theorem G_1 (c : Dev nD) : G m c main_v31_1 = (outs1 m c).P := by
  unfold G
  rw [Function.update_of_ne (by decide), Function.update_self]
theorem G_2 (c : Dev nD) : G m c main_v31_2 = (outs1 m c).C := by
  unfold G
  rw [Function.update_self]

theorem reads_eq (c : Dev nD) (w0 w1 w2) (W : (b : Ref sig .tc) → BufTy.Contents (Elt F) b.ty) : (bigSep H0 (fun b => ((c : Thread nD τ).loc b) ↦{fullShare} (W b : Buf (Elt F) ((c : Thread nD τ).loc b))) : sProp 𝕄) = reads c (insOf w0 w1 w2 W) := by
  rw [BI.bigSep_eq_bigSepL_of_eq [main_v0, main_v2, main_v3, main_v5, main_v7, main_v9, main_v10, main_v12, main_v14, main_v16] (by decide) (by decide)]
  exact both ((held_whole c main_v0 _).symm) (both ((held_whole c main_v2 _).symm) (both ((held_whole c main_v3 _).symm) (both ((held_whole c main_v5 _).symm) (both ((held_whole c main_v7 _).symm) (both ((held_whole c main_v9 _).symm) (both ((held_whole c main_v10 _).symm) (both ((held_whole c main_v12 _).symm) (both ((held_whole c main_v14 _).symm) ((held_whole c main_v16 _).symm)))))))))

theorem fills_eq (c : Dev nD) (W : (c : Dev nD) → (b : Ref sig .tc) → Buf (Elt F) ((c : Thread nD τ).loc b)) :
    (bigSep R0 (fun b => ((c : Thread nD τ).loc b) ↦{fullShare} W c b) : sProp 𝕄) = fills c ⟨W c main_v31_0, W c main_v31_1, W c main_v31_2⟩ := by
  rw [BI.bigSep_eq_bigSepL_of_eq [main_v31_0, main_v31_1, main_v31_2] (by decide) (by decide)]
  exact both ((held_whole c main_v31_0 _).symm) (both ((held_whole c main_v31_1 _).symm) ((held_whole c main_v31_2 _).symm))

/-- The proof data of the region: its small arrays stay, its results go from what it finds to what it leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ j := Pipeline.ΦDRV osem0 spec0 H0 R0 (V m) (if j.val = 0 then V m else G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

abbrev ms0_0 (t : Fin cfg0.N) : Memref sig .tc .smem S10x6x32 .i32 := win0_0.stage (cfg0.slots t 0)
abbrev ms0_1 (t : Fin cfg0.N) : Memref sig .tc .smem S6 .i32 := win0_1.stage (cfg0.slots t 1)
abbrev ms0_2 (t : Fin cfg0.N) : Memref sig .tc .smem S1 .i32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 2000000 in
theorem sound_body (hv : ∀ c x, (iblk m c 2 t0_0 x : BitVec 32).toInt ≤ 24576) (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0, after0_1, after0_2]
  simp only [before0_0, before0_1, before0_2]
  rw [show (dats m 0 c).Φ t0_0.succ = Pipeline.ΦDRV osem0 spec0 H0 R0 (V m) (G m) c from rfl]
  rw [show (dats m 0 c).Φ t0_0.castSucc = Pipeline.ΦDRV osem0 spec0 H0 R0 (V m) (V m) c from rfl]
  unfold Pipeline.ΦDRV
  rw [bufs_eq, ownSems00_eq, reads_eq, fills_eq, fills_eq, G_0, G_1, G_2]
  unfold Dat.owesAt Pipeline.owesWithin
  rw [show (dats m 0 c).owed t0_0.castSucc = 0 from rfl, show (dats m 0 c).owed t0_0.succ = 0 from rfl]
  unfold owns
  iintro ⟨⟨HB, ⟨S1, S2, S3, S4, S5, S6, S7, S8⟩, HG, HO⟩, ⟨%W, -, HW⟩, ⟨%d0, %a0, %h0, A0⟩, ⟨%d1, %a1, %h1, A1⟩, ⟨%d2, %a2, %h2, A2⟩⟩
  have fits : Fits (ins m c) a0 a1 a2 := ⟨fun x => by rw [h2]; exact hv c x, fun i t => congrFun h0 _, fun i => congrFun h1 _, congrFun h2 _⟩
  have hb := body (harg0 := hstage0_0 0) (harg1 := hstage0_1 0) (harg2 := hstage0_2 0) c (ins m c) (outs0 m c) a0 a1 a2 fits
  rw [show (ins m c).points (outs0 m c) k0_t1_loop.trips = outs1 m c from rfl] at hb
  generalize outs1 m c = o1 at hb ⊢
  iapply (wp_wand_r Idealize.ShloMosaic.frame (wpE (defs₀ (F := F)) Variants.none (c : Thread nD τ) none) Set.univ)
  isplitl [HB S1 S2 S3 S4 S5 S6 S7 S8 HG HO HW A0 A1 A2]
  · iapply hb
    isplitl [A0]; · iexact A0
    isplitl [A1]; · iexact A1
    isplitl [A2]; · iexact A2
    isplitl [HG]; · iexact HG
    isplitl [HO]; · iexact HO
    isplitl [HB]; · iexact HB
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexists W; iexact HW
  iintro %r ⟨A0, A1, A2, HG, HO, HB, S1, S2, S3, S4, S5, S6, S7, S8, ⟨%W', HW'⟩⟩
  isplitl [HB S1 S2 S3 S4 S5 S6 S7 S8 HG HO]
  · isplitl [HB]; · iexact HB
    isplitl [S1 S2 S3 S4 S5 S6 S7 S8]
    · isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [HG]; · iexact HG
    iexact HO
  isplitl [HW']
  · iexists W'; isplitr; · ipureintro; exact fun _ _ => Or.inl trivial
    iexact HW'
  isplitl [A0]
  · iexists a0; isplitr; · ipureintro; exact h0
    iexact A0
  isplitl [A1]
  · iexists a1; isplitr; · ipureintro; exact h1
    iexact A1
  iexists a2; isplitr; · ipureintro; exact h2
  iexact A2

theorem defs₀_row (t : Fin cfg0.N) :
    defs₀ (F := F) .tc cfg0.body (cfg0.bodyArgs t (cfg0.slots t)) = bodyAt0 t := by
  unfold defs₀; rw [Defs.onTc_tc]

theorem body_obligation (hv : ∀ c x, (iblk m c 2 t0_0 x : BitVec 32).toInt ≤ 24576) (c : Dev nD) : BodyObligation (dats (F := F) m 0 c) (defs₀ (F := F)) Variants.none () Set.univ := fun t => by
  rw [bigSep_W0, bigSep_W0, defs₀_row]
  exact triple_restated (sound_body m hv c t) rfl .rfl fun _ => .rfl

/-- What the run ends with: every buffer outside the region's small arrays holds what the lines after the region make of
    what the region leaves, and every counter is at zero. -/
def RunPost (r : PUnit × MemSt nD τ sig (Elt F)) : Prop :=
  (∀ c : Dev nD, (∀ w, r.2.mem ((spec0 w).arr.view.loc (c : Thread nD τ)) = (dats m 0 c).arrAt w cfg0.N)
    ∧ ∀ b ∈ Pipeline.restRefs sig spec0, r.2.mem ((c : Thread nD τ).loc b)
      = StableHlo.after (List.flatten [hostOps1]) (Pipeline.withArrays spec0 c (Pipeline.withR (V0 m c) R0 c (G m c)) fun w => (dats m 0 c).arrAt w cfg0.N) (Proc.devRef .tc b))
  ∧ r.2.sem = fun _ => 0

set_option backward.isDefEq.respectTransparency.types false in
theorem run_main (hv : ∀ c x, (iblk m c 2 t0_0 x : BitVec 32).toInt ≤ 24576) : θ_run defs (onTc (τ := τ) (main (F := F))) (s₀ m ρ) (RunPost m) :=
  Pipeline.θ_run_frame_dmaR_aroundV (Q' := RunPost m) (hQ' := fun r h => ⟨h.1, h.2⟩) cfgs (dats m) (0 : Fin 1) launch0 osem0 defs₀ Variants.none ownSemFacts0 H0 R0 H0_sub R0_sub m ρ main
    (hbody := fun c => (body_obligation m hv c).loose) (hshare := fun c => (dats m 0 c).share_full fun _ => rfl)
    (howed := fun _ _ => rfl) (V₀ := V0 m) (opss := [hostOps1]) (hsub := sfx_sub) (hfresh := sfx_fresh) (hkeep := sfx_keeps) (G := G m) (hmain := hmainD m Variants.none) (hA := A_eq m)
    (hin := fun _ => .rfl) (hout := fun _ => .rfl)

end Cert.Kernel.Hand

end
-- ==== Proof.Frames.lean ====
module

public import proofs.«01_k».proof.Proof.Launch

@[expose] public section

set_option maxRecDepth 16384

/-! What the run leaves of the arguments. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
variable (m : (ℓ : Loc nD τ sig) → Buf (Elt F) ℓ) (ρ : Dev nD → PrngReg)

/-- The lines after the region write four buffers only. -/
theorem tail_keeps (b : Ref sig .tc) (h2 : b ≠ main_v32) (h3 : b ≠ main_v33) (h4 : b ≠ main_v34) (h5 : b ≠ main_v35) :
    ∀ op ∈ (List.flatten [hostOps1] : List (HloOp τ sig (Elt F))), Proc.devRef .tc b ∉ op.writes := by
  refine List.forall_iff_forall_mem.mp ?_
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  exact ⟨StableHlo.devRef_ne_of_ne h2, StableHlo.devRef_ne_of_ne h3, StableHlo.devRef_ne_of_ne h4, StableHlo.devRef_ne_of_ne h5⟩

/-- A buffer that neither the region nor the lines after it write ends as the region found it. -/
theorem kept {r : PUnit × MemSt nD τ sig (Elt F)} (h : RunPost m r) (c : Dev nD) (b : Ref sig .tc) (hb : b ∈ Pipeline.restRefs sig spec0)
    (h2 : b ≠ main_v32) (h3 : b ≠ main_v33) (h4 : b ≠ main_v34) (h5 : b ≠ main_v35) (hw : ∀ w, Pipeline.arrRef spec0 w ≠ b) (hR : b ∉ R0) :
    r.2.mem ((c : Thread nD τ).loc b) = V m c b := by
  rw [(h.1 c).2 b hb, StableHlo.after_of_forall_not_mem (b := Proc.devRef .tc b) _ _ (tail_keeps b h2 h3 h4 h5),
    Pipeline.withArrays_of_ne _ c _ _ b hw, Pipeline.withR_of_not_mem _ _ c _ b hR]

/-- The arguments end as launched. -/
theorem args_kept {r : PUnit × MemSt nD τ sig (Elt F)} (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(kept m h c main_arg0 (Pipeline.mem_restRefs_of main_arg0 (by decide) (by decide)) (by decide) (by decide) (by decide) (by decide) (by decide) (by decide)).trans (V_main_arg0 m c),
    (kept m h c main_arg1 (Pipeline.mem_restRefs_of main_arg1 (by decide) (by decide)) (by decide) (by decide) (by decide) (by decide) (by decide) (by decide)).trans (V_main_arg1 m c),
    (kept m h c main_arg2 (Pipeline.mem_restRefs_of main_arg2 (by decide) (by decide)) (by decide) (by decide) (by decide) (by decide) (by decide) (by decide)).trans (V_main_arg2 m c),
    (kept m h c main_arg3 (Pipeline.mem_restRefs_of main_arg3 (by decide) (by decide)) (by decide) (by decide) (by decide) (by decide) (by decide) (by decide)).trans (V_main_arg3 m c),
    (kept m h c main_arg4 (Pipeline.mem_restRefs_of main_arg4 (by decide) (by decide)) (by decide) (by decide) (by decide) (by decide) (by decide) (by decide)).trans (V_main_arg4 m c),
    (kept m h c main_arg5 (Pipeline.mem_restRefs_of main_arg5 (by decide) (by decide)) (by decide) (by decide) (by decide) (by decide) (by decide) (by decide)).trans (V_main_arg5 m c),
    (kept m h c main_arg6 (Pipeline.mem_restRefs_of main_arg6 (by decide) (by decide)) (by decide) (by decide) (by decide) (by decide) (by decide) (by decide)).trans (V_main_arg6 m c),
    (kept m h c main_arg7 (Pipeline.mem_restRefs_of main_arg7 (by decide) (by decide)) (by decide) (by decide) (by decide) (by decide) (by decide) (by decide)).trans (V_main_arg7 m c),
    (kept m h c main_arg8 (Pipeline.mem_restRefs_of main_arg8 (by decide) (by decide)) (by decide) (by decide) (by decide) (by decide) (by decide) (by decide)).trans (V_main_arg8 m c),
    (kept m h c main_arg9 (Pipeline.mem_restRefs_of main_arg9 (by decide) (by decide)) (by decide) (by decide) (by decide) (by decide) (by decide) (by decide)).trans (V_main_arg9 m c),
    ((h.1 c).1 2).trans (((dats m 0 c).arrAt_in 2 rfl _).trans ((A_eq m c 2).trans (V_main_arg10 m c))),
    ((h.1 c).1 1).trans (((dats m 0 c).arrAt_in 1 rfl _).trans ((A_eq m c 1).trans (V_main_arg11 m c)))⟩

/-- The length of the prompt, as the region finds it, is the argument's. -/
theorem plen_eq (c : Dev nD) (x : S1.Idx) : ∃ y : S1.Idx, iblk m c 2 t0_0 x = m ((c.tc : Thread nD τ).loc main_arg10) y := by
  exact ⟨((cfg0.win 2).blk t0_0).view.emb x, congrFun (V_main_arg10 m c) _⟩

/-- The frame: from a fitting prompt length every run ends with the arguments as launched and every counter at zero. -/
theorem quiet (hv : ∀ c : Dev nD, ∀ x : S1.Idx, (show BitVec 32 from m ((c.tc : Thread nD τ).loc main_arg10) x).toInt ≤ 24576) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨args_kept m h, h.2⟩) (run_main m ρ fun c x => by
    obtain ⟨y, hy⟩ := plen_eq m c x
    rw [hy]
    exact hv c y)

end Cert.Kernel.Hand

end
-- ==== Proof.ArithIdeal.lean ====
/-
  The prompt loops' trip counts and offsets, and the side condition the kernel assumes of `prefix_len`
  (`k0_chk1`): all of it follows from `prefix_len ≤ 24576`.
-/
module

public import proofs.«01_k».proof.Proof.Gen.KernelIdeal.Skeleton
public import proofs.«01_k».proof.Proof.Words

@[expose] public section

set_option maxRecDepth 16384

namespace Cert.KernelIdeal.Hand

open Cert.KernelIdeal Cert.KernelIdeal.Gen Cert.Words
open Idealize.ShloMosaic

theorem addi_zero (x : BitVec 32) : Scalar.addi 0#32 x = x := by simp [Scalar.addi, IntOp.addi]
theorem subi_zero (x : BitVec 32) : Scalar.subi x 0#32 = x := by simp [Scalar.subi, IntOp.subi]

theorem toInt_iv (k : ℕ) (hk : k < 2 ^ 31) : (Scf.iv 0#32 1#32 k).toInt = k := by
  unfold Scf.iv
  rw [BitVec.zero_add, BitVec.mul_one]
  exact WordArith.toInt_ofNat_small k hk

theorem toNat_iv (k : ℕ) (hk : k < 2 ^ 31) : (Scf.iv 0#32 1#32 k).toNat = k := by
  unfold Scf.iv
  rw [BitVec.zero_add, BitVec.mul_one]
  exact WordArith.toNat_ofNat_of_lt k (by omega)

theorem toNat_iv_mul (k : ℕ) (c : ℕ) (hk : k * c < 2 ^ 31) (hc : c < 2 ^ 31) (hk' : k < 2 ^ 31) :
    (Scalar.muli (Scf.iv 0#32 1#32 k) (BitVec.ofNat 32 c)).toNat = k * c := by
  unfold Scalar.muli IntOp.muli
  rw [BitVec.toNat_mul, toNat_iv k hk', WordArith.toNat_ofNat_of_lt c (by omega), Nat.mod_eq_of_lt (by omega)]

/-- The number of 2048-key chunks of a prompt of the length a word holds. -/
def chunks (v : BitVec 32) : ℕ := ((v.toInt + 2047) / 2048).toNat

/-- The number of 128-key tiles of chunk `t`. -/
def tiles (v : BitVec 32) (t : ℕ) : ℕ := min 16 ((v.toInt - t * 2048 + 127) / 128).toNat

theorem toInt_chunks (v : BitVec 32) (hv : v.toInt ≤ 24576) :
    (floorW (Scalar.subi (Scalar.addi v 2048#32) 1#32) 2048#32).toInt = (v.toInt + 2047) / 2048 := by
  have h2 := v.le_toInt
  rw [toInt_floorW _ _ (.inr (.inr rfl))]
  have e1 : (Scalar.addi v 2048#32).toInt = v.toInt + 2048 :=
    WordArith.toInt_add_of_bounds v 2048#32 (by rw [show (2048#32 : BitVec 32).toInt = 2048 from rfl]; omega) (by rw [show (2048#32 : BitVec 32).toInt = 2048 from rfl]; omega)
  have e2 : (Scalar.subi (Scalar.addi v 2048#32) 1#32).toInt = v.toInt + 2048 - 1 := by
    have := WordArith.toInt_sub_of_bounds (Scalar.addi v 2048#32) 1#32 (by rw [e1, show (1#32 : BitVec 32).toInt = 1 from rfl]; omega) (by rw [e1, show (1#32 : BitVec 32).toInt = 1 from rfl]; omega)
    rw [e1] at this; exact this
  rw [e2, show (2048#32 : BitVec 32).toInt = 2048 from rfl]
  omega

theorem t3_ub (v : BitVec 32) : (k0_t3_loop v).ub = floorW (Scalar.subi (Scalar.addi v 2048#32) 1#32) 2048#32 := by
  show Scalar.addi 0#32 (Scalar.muli (Scalar.divsi (Scalar.subi (floorW (Scalar.subi (Scalar.addi v 2048#32) 1#32) 2048#32) 0#32) 1#32) 1#32) = _
  rw [Scalar.muli_divsi_one, addi_zero, subi_zero]

theorem t3_trips (v : BitVec 32) (hv : v.toInt ≤ 24576) : (k0_t3_loop v).trips = chunks v := by
  show Scf.trips 0#32 (k0_t3_loop v).ub 1#32 = _
  unfold Scf.trips
  rw [t3_ub, toInt_chunks v hv]
  show (((v.toInt + 2047) / 2048 - 0 + 1 - 1) / 1).toNat = _
  unfold chunks
  omega

theorem chunks_le (v : BitVec 32) (hv : v.toInt ≤ 24576) : chunks v ≤ 12 := by
  unfold chunks; omega

theorem t3_lt (v : BitVec 32) (hv : v.toInt ≤ 24576) (t : Fin (k0_t3_loop v).trips) :
    t.val < 12 ∧ t.val * 2048 < v.toInt := by
  have h := lt_of_lt_of_eq t.isLt (t3_trips v hv)
  unfold chunks at h
  omega

theorem t3_OK (v : BitVec 32) (hv : v.toInt ≤ 24576) : (k0_t3_loop v).OK := by
  have h : (k0_t3_loop v).trips = _ := t3_trips v hv
  have hc := chunks_le v hv
  refine ⟨(by decide : 0 < (1#32 : BitVec 32).toInt), ?_⟩
  show (0#32 : BitVec 32).toInt + ((k0_t3_loop v).trips : Int) * (1#32 : BitVec 32).toInt < _
  rw [h]
  show (0 : Int) + (chunks v : Int) * 1 < 2 ^ 31
  omega

theorem toInt_tiles (v : BitVec 32) (hv : v.toInt ≤ 24576) (t : ℕ) (ht : t < 12) (hp : t * 2048 < v.toInt) :
    (Scalar.minsi 16#32 (floorW (Scalar.subi (Scalar.addi (Scalar.subi v (Scalar.muli (Scf.iv 0#32 1#32 t) 2048#32)) 128#32) 1#32) 128#32)).toInt
      = tiles v t := by
  have e0 : (Scalar.muli (Scf.iv 0#32 1#32 t) 2048#32).toInt = t * 2048 := by
    have := WordArith.toInt_mul_of_bounds (Scf.iv 0#32 1#32 t) 2048#32
      (by rw [toInt_iv t (by omega)]; simp; omega) (by rw [toInt_iv t (by omega)]; simp; omega)
    rw [toInt_iv t (by omega)] at this; exact this
  have e1 : (Scalar.subi v (Scalar.muli (Scf.iv 0#32 1#32 t) 2048#32)).toInt = v.toInt - t * 2048 := by
    have := WordArith.toInt_sub_of_bounds v (Scalar.muli (Scf.iv 0#32 1#32 t) 2048#32) (by rw [e0]; omega) (by rw [e0]; omega)
    rw [e0] at this; exact this
  generalize Scalar.subi v (Scalar.muli (Scf.iv 0#32 1#32 t) 2048#32) = w at *
  have e2 : (Scalar.addi w 128#32).toInt = w.toInt + 128 :=
    WordArith.toInt_add_of_bounds w 128#32 (by simp; omega) (by simp; omega)
  have e3 : (Scalar.subi (Scalar.addi w 128#32) 1#32).toInt = w.toInt + 128 - 1 := by
    have := WordArith.toInt_sub_of_bounds (Scalar.addi w 128#32) 1#32 (by rw [e2]; simp; omega) (by rw [e2]; simp; omega)
    rw [e2] at this; exact this
  have e4 := toInt_floorW (Scalar.subi (Scalar.addi w 128#32) 1#32) 128#32 (.inr (.inl rfl))
  rw [e3, e1, show (128#32 : BitVec 32).toInt = 128 from rfl] at e4
  generalize floorW (Scalar.subi (Scalar.addi w 128#32) 1#32) 128#32 = f at *
  have e5 : (Scalar.minsi 16#32 f).toInt = if 16 < f.toInt then 16 else f.toInt := by
    have hs : (16#32 : BitVec 32).slt f = decide (16 < f.toInt) := rfl
    unfold Scalar.minsi IntOp.minsi
    rw [hs]
    by_cases h : 16 < f.toInt <;> simp [h]
  rw [e5, e4]
  unfold tiles
  split <;> omega

theorem t4_ub (v : BitVec 32) (t : Fin (k0_t3_loop v).trips) :
    (k0_t4_loop v t).ub = Scalar.minsi 16#32 (floorW (Scalar.subi (Scalar.addi (Scalar.subi v (Scalar.muli (Scf.iv 0#32 1#32 t) 2048#32)) 128#32) 1#32) 128#32) := by
  show Scalar.addi 0#32 (Scalar.muli (Scalar.divsi (Scalar.subi (Scalar.minsi 16#32 (floorW (Scalar.subi (Scalar.addi (Scalar.subi v (Scalar.muli (Scf.iv 0#32 1#32 t) 2048#32)) 128#32) 1#32) 128#32)) 0#32) 1#32) 1#32) = _
  rw [Scalar.muli_divsi_one, addi_zero, subi_zero]

theorem t4_trips (v : BitVec 32) (hv : v.toInt ≤ 24576) (t : Fin (k0_t3_loop v).trips) : (k0_t4_loop v t).trips = tiles v t := by
  have ⟨h1, h2⟩ := t3_lt v hv t
  show Scf.trips 0#32 (k0_t4_loop v t).ub 1#32 = _
  unfold Scf.trips
  rw [t4_ub, toInt_tiles v hv t h1 h2]
  show (((tiles v t : Int) - 0 + 1 - 1) / 1).toNat = _
  omega

theorem tiles_le (v : BitVec 32) (t : ℕ) : tiles v t ≤ 16 := by unfold tiles; omega

theorem t4_OK (v : BitVec 32) (hv : v.toInt ≤ 24576) (t : Fin (k0_t3_loop v).trips) : (k0_t4_loop v t).OK := by
  have h : (k0_t4_loop v t).trips = _ := t4_trips v hv t
  have hc := tiles_le v t
  refine ⟨(by decide : 0 < (1#32 : BitVec 32).toInt), ?_⟩
  show (0#32 : BitVec 32).toInt + ((k0_t4_loop v t).trips : Int) * (1#32 : BitVec 32).toInt < _
  rw [h]
  show (0 : Int) + (tiles v t : Int) * 1 < 2 ^ 31
  omega

theorem t4_lt (v : BitVec 32) (hv : v.toInt ≤ 24576) (t : Fin (k0_t3_loop v).trips) (k : Fin (k0_t4_loop v t).trips) :
    k.val < 16 := by
  have h := lt_of_lt_of_eq k.isLt (t4_trips v hv t)
  exact lt_of_lt_of_le h (tiles_le v t)

/-! ## The tile's head and batch -/

/-- Tile row `i` of the outer loop is head `i / 6` … -/
theorem head_eq (i : ℕ) (hi : i < 60) : (floorW (Scf.iv 0#32 1#32 i) 6#32).toNat = i / 6 := by
  have h := toInt_floorW (Scf.iv 0#32 1#32 i) 6#32 (.inl rfl)
  rw [toInt_iv i (by omega)] at h
  have h6 : (6#32 : BitVec 32).toInt = 6 := rfl
  rw [h6] at h
  rw [BitVec.toInt_eq_toNat_cond] at h
  split at h <;> omega

/-! ## Offsets -/

theorem off5_eq (v : BitVec 32) (hv : v.toInt ≤ 24576) (t : Fin (k0_t3_loop v).trips) : k0_off5 v t = ![t.val * 2048, 0] := by
  have ⟨h1, h2⟩ := t3_lt v hv t
  show ![(Scalar.muli (Scf.iv 0#32 1#32 t) (BitVec.ofNat 32 2048)).toNat, 0] = _
  rw [toNat_iv_mul _ _ (by omega) (by omega) (by omega)]

theorem off6_eq (i : Fin k0_t1_loop.trips) (v : BitVec 32) (hv : v.toInt ≤ 24576) (t : Fin (k0_t3_loop v).trips) :
    k0_off6 i v t = ![i.val / 6, t.val * 2048, 0] := by
  have ⟨h1, h2⟩ := t3_lt v hv t
  show ![(floorW (Scf.iv 0#32 1#32 i) 6#32).toNat, (Scalar.muli (Scf.iv 0#32 1#32 t) (BitVec.ofNat 32 2048)).toNat, 0] = _
  rw [toNat_iv_mul _ _ (by omega) (by omega) (by omega), head_eq _ i.isLt]

theorem off8_eq (v : BitVec 32) (hv : v.toInt ≤ 24576) (t : Fin (k0_t3_loop v).trips) : k0_off8 v t = ![t.val * 16, 0, 0] := by
  have ⟨h1, h2⟩ := t3_lt v hv t
  show ![(Scalar.muli (Scf.iv 0#32 1#32 t) (BitVec.ofNat 32 16)).toNat, 0, 0] = _
  rw [toNat_iv_mul _ _ (by omega) (by omega) (by omega)]

theorem off9_eq (i : Fin k0_t1_loop.trips) (v : BitVec 32) (hv : v.toInt ≤ 24576) (t : Fin (k0_t3_loop v).trips) :
    k0_off9 i v t = ![i.val / 6, t.val * 16, 0, 0] := by
  have ⟨h1, h2⟩ := t3_lt v hv t
  show ![(floorW (Scf.iv 0#32 1#32 i) 6#32).toNat, (Scalar.muli (Scf.iv 0#32 1#32 t) (BitVec.ofNat 32 16)).toNat, 0, 0] = _
  rw [toNat_iv_mul _ _ (by omega) (by omega) (by omega), head_eq _ i.isLt]

theorem off11_eq (v : BitVec 32) (hv : v.toInt ≤ 24576) (t : Fin (k0_t3_loop v).trips) : k0_off11 v t = ![t.val * 16, 0] := by
  have ⟨h1, h2⟩ := t3_lt v hv t
  show ![(Scalar.muli (Scf.iv 0#32 1#32 t) (BitVec.ofNat 32 16)).toNat, 0] = _
  rw [toNat_iv_mul _ _ (by omega) (by omega) (by omega)]

theorem off12_eq (v : BitVec 32) (hv : v.toInt ≤ 24576) (t : Fin (k0_t3_loop v).trips) (k : Fin (k0_t4_loop v t).trips) :
    k0_off12 v t k = ![k.val * 128, 0] := by
  have h1 := t4_lt v hv t k
  show ![(Scalar.muli (Scf.iv 0#32 1#32 k) (BitVec.ofNat 32 128)).toNat, 0] = _
  rw [toNat_iv_mul _ _ (by omega) (by omega) (by omega)]

theorem off13_eq (v : BitVec 32) (hv : v.toInt ≤ 24576) (t : Fin (k0_t3_loop v).trips) (k : Fin (k0_t4_loop v t).trips) :
    k0_off13 v t k = ![k.val, 0] := by
  have h1 := t4_lt v hv t k
  show ![(Scf.iv 0#32 1#32 k).toNat, 0] = _
  rw [toNat_iv _ (by omega)]

theorem off14_eq (v : BitVec 32) (hv : v.toInt ≤ 24576) (t : Fin (k0_t3_loop v).trips) (k : Fin (k0_t4_loop v t).trips) :
    k0_off14 v t k = ![k.val, 0, 0] := by
  have h1 := t4_lt v hv t k
  show ![(Scf.iv 0#32 1#32 k).toNat, 0, 0] = _
  rw [toNat_iv _ (by omega)]

/-- The kernel's side condition of the word it reads from `prefix_len`. -/
theorem chk1 (i : Fin k0_t1_loop.trips) (f v : BitVec 32) (hv : v.toInt ≤ 24576) : k0_chk1 i f v := by
  have n5 : ∀ (t : Fin (k0_t3_loop v).trips), Fin (k0_t5_loop v t).trips → False := fun t k => Scf.rem_no_trip _ _ k
  have n6 : Fin (k0_t6_loop v).trips → False := fun k => Scf.rem_no_trip _ _ k
  have hi : i.val < 60 := i.isLt
  unfold k0_chk1
  refine ⟨fun _ => t3_OK v hv, fun t _ a => ?_, fun t _ a => ?_, fun t _ hinb => ?_, fun t _ a => ?_, fun t _ a => ?_,
    fun t _ hinb => ?_, fun t _ a => ?_, fun t _ => t4_OK v hv t, fun t k _ a => ?_, fun t k _ a => ?_, fun t k _ a => ?_,
    fun t _ => Scf.rem_ok _ _, fun t k => (n5 t k).elim, fun t k => (n5 t k).elim, fun t k => (n5 t k).elim,
    fun _ => Scf.rem_ok _ _, fun k => (n6 k).elim, fun k => (n6 k).elim, fun k => (n6 k).elim, fun k => (n6 k).elim,
    fun k => (n6 k).elim, fun k => (n6 k).elim, fun k => (n6 k).elim, fun k => (n6 k).elim, fun k => (n6 k).elim,
    fun k => (n6 k).elim, fun k => (n6 k).elim, fun k => (n6 k).elim, fun k => (n6 k).elim, fun k => (n6 k).elim,
    fun k => (n6 k).elim⟩
  · have ⟨h1, h2⟩ := t3_lt v hv t
    rw [off5_eq v hv t]
    fin_cases a
    · show t.val * 2048 + 2048 ≤ 24576; omega
    · show 0 + 128 ≤ 128; omega
  · have ⟨h1, h2⟩ := t3_lt v hv t
    rw [off6_eq i v hv t]
    fin_cases a
    · show i.val / 6 + 1 ≤ 10; omega
    · show t.val * 2048 + 2048 ≤ 24576; omega
    · show 0 + 128 ≤ 128; omega
  · have e : k0_off6 i v t 1 = t.val * 2048 := by rw [off6_eq i v hv t]; rfl
    refine .inl (.inr ⟨by decide, rfl, .inl ⟨?_, ?_⟩⟩)
    · show 4 ∣ k0_off6 i v t 1
      rw [e]; omega
    · show 4 ∣ 2048; decide
  · have ⟨h1, h2⟩ := t3_lt v hv t
    rw [off8_eq v hv t]
    fin_cases a
    · show t.val * 16 + 16 ≤ 192; omega
    · show 0 + 128 ≤ 128; omega
    · show 0 + 128 ≤ 128; omega
  · have ⟨h1, h2⟩ := t3_lt v hv t
    rw [off9_eq i v hv t]
    fin_cases a
    · show i.val / 6 + 1 ≤ 10; omega
    · show t.val * 16 + 16 ≤ 192; omega
    · show 0 + 128 ≤ 128; omega
    · show 0 + 128 ≤ 128; omega
  · have e : k0_off9 i v t 1 = t.val * 16 := by rw [off9_eq i v hv t]; rfl
    refine .inr ⟨by decide, rfl, ?_, rfl⟩
    show k0_off9 i v t 2 = 0
    rw [off9_eq i v hv t]; rfl
  · have ⟨h1, h2⟩ := t3_lt v hv t
    rw [off11_eq v hv t]
    fin_cases a
    · show t.val * 16 + 16 ≤ 192; omega
    · show 0 + 128 ≤ 128; omega
  · have h1 := t4_lt v hv t k
    rw [off12_eq v hv t k]
    fin_cases a
    · show k.val * 128 + 128 ≤ 2048; omega
    · show 0 + 128 ≤ 128; omega
  · have h1 := t4_lt v hv t k
    rw [off13_eq v hv t k]
    fin_cases a
    · show k.val + 1 ≤ 16; omega
    · show 0 + 128 ≤ 128; omega
  · have h1 := t4_lt v hv t k
    rw [off14_eq v hv t k]
    fin_cases a
    · show k.val + 1 ≤ 16; omega
    · show 0 + 128 ≤ 128; omega
    · show 0 + 128 ≤ 128; omega

end Cert.KernelIdeal.Hand
-- ==== Proof.OperandsIdeal.lean ====
module

public import proofs.«01_k».proof.Proof.Gen.KernelIdeal.Loops
public import proofs.«01_k».proof.Proof.Gen.KernelIdeal.Launch
public import proofs.«01_k».proof.Proof.Gen.KernelIdeal.Points
public import proofs.«01_k».proof.Proof.ArithIdeal
public import Idealize.ShloMosaic.Lib.Pipeline.FrameBody
public import Idealize.ShloMosaic.Lib.LoopRemainder
public import Idealize.ShloMosaic.Lib.VecWindow
public import Idealize.ShloMosaic.Lib.Tactic
public import Idealize.ShloMosaic.Lib.WordCmp

@[expose] public section

set_option maxRecDepth 16384

/-! The arrays and buffers the kernel works on, by name, and what it is to hold one of them whole. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! The arrays in device memory. -/

abbrev qtM : Memref sig .tc .hbm S6x40x128x4096 .fp8e4m3 := Memref.whole main_v0
abbrev qsM : Memref sig .tc .hbm S6x10x4x4096 .f32 := Memref.whole main_v2
abbrev pkM : Memref sig .tc .hbm S10x24576x128 .fp8e4m3 := Memref.whole main_v3
abbrev pvM : Memref sig .tc .hbm S10x192x128x128 .fp8e4m3 := Memref.whole main_v5
abbrev pksM : Memref sig .tc .hbm S10x192x128 .f32 := Memref.whole main_v7
abbrev pvsM : Memref sig .tc .hbm S10x192x128 .f32 := Memref.whole main_v9
abbrev ckM : Memref sig .tc .hbm S6x10x4096x128 .fp8e4m3 := Memref.whole main_v10
abbrev cvM : Memref sig .tc .hbm S6x10x32x128x128 .fp8e4m3 := Memref.whole main_v12
abbrev cksM : Memref sig .tc .hbm S6x10x32x128 .f32 := Memref.whole main_v14
abbrev cvsM : Memref sig .tc .hbm S6x10x32x128 .f32 := Memref.whole main_v16
abbrev outM : Memref sig .tc .hbm S6x4096x5120 .bf16 := Memref.whole main_v31_0
abbrev lsePM : Memref sig .tc .hbm S6x10x4x4096 .f32 := Memref.whole main_v31_1
abbrev lseCM : Memref sig .tc .hbm S6x10x4x4096 .f32 := Memref.whole main_v31_2
abbrev qB : Memref sig .tc .vmem S4x128x128 .fp8e4m3 := Memref.whole cc0_scratch0
abbrev qsB : Memref sig .tc .vmem S4x128 .f32 := Memref.whole cc0_scratch1
abbrev kB : Memref sig .tc .vmem S2048x128 .fp8e4m3 := Memref.whole cc0_scratch2
abbrev vB : Memref sig .tc .vmem S16x128x128 .fp8e4m3 := Memref.whole cc0_scratch3
abbrev ksB : Memref sig .tc .vmem S16x128 .f32 := Memref.whole cc0_scratch4
abbrev vsB : Memref sig .tc .vmem S16x128 .f32 := Memref.whole cc0_scratch5
abbrev mB : Memref sig .tc .vmem S1x512 .f32 := Memref.whole cc0_scratch6
abbrev lB : Memref sig .tc .vmem S1x512 .f32 := Memref.whole cc0_scratch7
abbrev accB : Memref sig .tc .vmem S128x512 .f32 := Memref.whole cc0_scratch8
abbrev opB : Memref sig .tc .vmem S128x512 .f32 := Memref.whole cc0_scratch9
abbrev lsepB : Memref sig .tc .vmem S1x512 .f32 := Memref.whole cc0_scratch10
abbrev oB : Memref sig .tc .vmem S128x512 .bf16 := Memref.whole cc0_scratch11
abbrev rowB : Memref sig .tc .vmem S4x128 .f32 := Memref.whole cc0_scratch12

/-- A whole buffer owned at the contents `f`. -/
abbrev held (c : Dev nD) {sp : Space} {s : Shape} {e : EltTy} (m : Memref sig .tc sp s e) (f : BufTy.Contents (Elt F) m.view.ty) : sProp 𝕄 :=
  m.view.loc (c : Thread nD τ) ↦[m.view.set]{fullShare} f

/-- The DMA cell `n` counts nothing. -/
abbrev idle (c : Dev nD) (s : DmaSems sig S_) : sProp 𝕄 :=
  semVal ((c : Thread nD τ), SemLoc.dma s.sem) 0

/-- A whole row of 512 numbers, loaded. -/
abbrev ldRow (M : Memref sig .tc .vmem S1x512 .f32) (f : BufTy.Contents (Elt F) M.view.ty) : FVec F S1x512 .f32 :=
  View.readAt (Elt F) M.view (Rect.unit (s := S1x512) ![0, 0] S1x512.size inb_S1x512_S1x512_0_0).toLoadRect f
/-- A whole block of 128 rows of 512 numbers, loaded. -/
abbrev ldAcc (M : Memref sig .tc .vmem S128x512 .f32) (f : BufTy.Contents (Elt F) M.view.ty) : FVec F S128x512 .f32 :=
  View.readAt (Elt F) M.view (Rect.unit (s := S128x512) ![0, 0] S128x512.size inb_S128x512_S128x512_0_0).toLoadRect f

/-- The running maximum, the running sum of the weights and the running weighted sum of the values. -/
structure St (F : FTy → Type) where
  m : FVec F S1x512 .f32
  l : FVec F S1x512 .f32
  acc : FVec F S128x512 .f32

theorem writes_whole (b : Ref sig .tc) (f v) : (Memref.whole b).view.writes (Elt F) f [⟨Rect.whole _, v⟩] = v :=
  (View.read_whole (Val := Elt F) _ _).symm.trans (View.read_writes_whole (Val := Elt F) (Memref.whole b).view f v)
theorem writes_m (f v L) : (mB).view.writes (Elt F) f (⟨Rect.unit (s := S1x512) ![0, 0] S1x512.size inb_S1x512_S1x512_0_0, v⟩ :: L) = v :=
  (View.read_whole (Val := Elt F) _ _).symm.trans (View.read_writes_full (Val := Elt F) mB.view f _ v L)
theorem writes_l (f v L) : (lB).view.writes (Elt F) f (⟨Rect.unit (s := S1x512) ![0, 0] S1x512.size inb_S1x512_S1x512_0_0, v⟩ :: L) = v :=
  (View.read_whole (Val := Elt F) _ _).symm.trans (View.read_writes_full (Val := Elt F) lB.view f _ v L)
theorem writes_acc (f v L) : (accB).view.writes (Elt F) f (⟨Rect.unit (s := S128x512) ![0, 0] S128x512.size inb_S128x512_S128x512_0_0, v⟩ :: L) = v :=
  (View.read_whole (Val := Elt F) _ _).symm.trans (View.read_writes_full (Val := Elt F) accB.view f _ v L)
theorem writes_op (f v L) : (opB).view.writes (Elt F) f (⟨Rect.unit (s := S128x512) ![0, 0] S128x512.size inb_S128x512_S128x512_0_0, v⟩ :: L) = v :=
  (View.read_whole (Val := Elt F) _ _).symm.trans (View.read_writes_full (Val := Elt F) opB.view f _ v L)
theorem writes_lsep (f v L) : (lsepB).view.writes (Elt F) f (⟨Rect.unit (s := S1x512) ![0, 0] S1x512.size inb_S1x512_S1x512_0_0, v⟩ :: L) = v :=
  (View.read_whole (Val := Elt F) _ _).symm.trans (View.read_writes_full (Val := Elt F) lsepB.view f _ v L)

end Cert.KernelIdeal.Hand

end
-- ==== Proof.PromptIdeal.lean ====
module

public import proofs.«01_k».proof.Proof.OperandsIdeal

@[expose] public section

set_option maxRecDepth 16384

/-! The kernel's loops over the prompt's keys: chunks of 2048 keys fetched by DMA, each worked through in tiles of 128. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The 2048 keys of chunk `t` of the prompt. -/
def chK (k0_t1 : Fin k0_t1_loop.trips) (v32 : Elt F .i32) (k0_h1 : k0_cond1 v32 = 1#1) (v47 : Elt F .i32) (k0_hw1 : k0_chk1 k0_t1 v32 v47) (K : BufTy.Contents (Elt F) pkM.view.ty) (t : Fin (k0_t3_loop v47).trips) : BufTy.Contents (Elt F) kB.view.ty :=
  View.read (Elt F) ((pkM.slice (Rect.unit (s := S10x24576x128) (k0_off6 k0_t1 v47 t) S1x2048x128.size (k0_off6_inb k0_t1 v32 v47 k0_hw1 t k0_h1)) (fun _ => rfl)).squeeze S2048x128 squeezes_S1x2048x128_S2048x128).view K

/-- The 2048 values of chunk `t` of the prompt. -/
def chV (k0_t1 : Fin k0_t1_loop.trips) (v32 : Elt F .i32) (k0_h1 : k0_cond1 v32 = 1#1) (v47 : Elt F .i32) (k0_hw1 : k0_chk1 k0_t1 v32 v47) (V : BufTy.Contents (Elt F) pvM.view.ty) (t : Fin (k0_t3_loop v47).trips) : BufTy.Contents (Elt F) vB.view.ty :=
  View.read (Elt F) ((pvM.slice (Rect.unit (s := S10x192x128x128) (k0_off9 k0_t1 v47 t) S1x16x128x128.size (k0_off9_inb k0_t1 v32 v47 k0_hw1 t k0_h1)) (fun _ => rfl)).squeeze S16x128x128 squeezes_S1x16x128x128_S16x128x128).view V

/-- The key scales of chunk `t` of the prompt. -/
def chKs (k0_t1 : Fin k0_t1_loop.trips) (v32 : Elt F .i32) (k0_h1 : k0_cond1 v32 = 1#1) (v47 : Elt F .i32) (k0_hw1 : k0_chk1 k0_t1 v32 v47) (Ks : BufTy.Contents (Elt F) pksM.view.ty) (t : Fin (k0_t3_loop v47).trips) : BufTy.Contents (Elt F) ksB.view.ty :=
  View.read (Elt F) (((pksM.slice (Rect.unit (s := S10x192x128) (k0_off10 k0_t1) S1x192x128.size (k0_off10_inb k0_t1)) (fun _ => rfl)).squeeze S192x128 squeezes_S1x192x128_S192x128).slice (Rect.unit (s := S192x128) (k0_off11 v47 t) S16x128.size (k0_off11_inb k0_t1 v32 v47 k0_hw1 t k0_h1)) (fun _ => rfl)).view Ks

/-- The value scales of chunk `t` of the prompt. -/
def chVs (k0_t1 : Fin k0_t1_loop.trips) (v32 : Elt F .i32) (k0_h1 : k0_cond1 v32 = 1#1) (v47 : Elt F .i32) (k0_hw1 : k0_chk1 k0_t1 v32 v47) (Vs : BufTy.Contents (Elt F) pvsM.view.ty) (t : Fin (k0_t3_loop v47).trips) : BufTy.Contents (Elt F) vsB.view.ty :=
  View.read (Elt F) (((pvsM.slice (Rect.unit (s := S10x192x128) (k0_off10 k0_t1) S1x192x128.size (k0_off10_inb k0_t1)) (fun _ => rfl)).squeeze S192x128 squeezes_S1x192x128_S192x128).slice (Rect.unit (s := S192x128) (k0_off11 v47 t) S16x128.size (k0_off11_inb k0_t1 v32 v47 k0_hw1 t k0_h1)) (fun _ => rfl)).view Vs

/-- One tile of keys of the prompt: the running values after it. -/
def stepP (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32) (t : Fin (k0_t3_loop v47).trips) (k : Fin (k0_t4_loop v47 t).trips) (kf : BufTy.Contents (Elt F) kB.view.ty) (vf : BufTy.Contents (Elt F) vB.view.ty) (ksf : BufTy.Contents (Elt F) ksB.view.ty) (vsf : BufTy.Contents (Elt F) vsB.view.ty) (s : St F) : St F :=
  let kt := View.readAt (Elt F) kB.view (Rect.unit (s := S2048x128) (k0_off12 v47 t k) S128x128.size (k0_off12_inb k0_t1 v32 v47 k0_hw1 t k k0_h1)).toLoadRect kf
  let ks := View.readAt (Elt F) ksB.view (Rect.unit (s := S16x128) (k0_off13 v47 t k) S1x128.size (k0_off13_inb k0_t1 v32 v47 k0_hw1 t k k0_h1)).toLoadRect ksf
  let vs := View.readAt (Elt F) vsB.view (Rect.unit (s := S16x128) (k0_off13 v47 t k) S1x128.size (k0_off13_inb k0_t1 v32 v47 k0_hw1 t k k0_h1)).toLoadRect vsf
  let vt := View.readAt (Elt F) vB.view (Rect.unit (s := S16x128x128) (k0_off14 v47 t k) S1x128x128.size (k0_off14_inb k0_t1 v32 v47 k0_hw1 t k k0_h1)).toLoadRect vf
  let base := Scf.iv 0#32 1#32 t
  ⟨k0_pay59 (k0_pay5 v47 v56 v61 t base 0#32 1#32 k kt ks (ldRow mB s.m)),
   k0_pay57 (k0_pay8 v47 v56 v61 t base 0#32 1#32 k kt ks (ldRow mB s.m) (ldRow lB s.l)) (k0_pay9 v47 v56 v61 t base 0#32 1#32 k kt ks (ldRow mB s.m)),
   k0_pay58 (k0_pay3 vs) (k0_pay6 v47 v56 v61 t base 0#32 1#32 k kt ks (ldRow mB s.m)) (k0_pay7 v47 v56 v61 t base 0#32 1#32 k kt ks (ldRow mB s.m)) vt (ldAcc accB s.acc)⟩

/-- The values reached after `k` tiles of chunk `t` of the prompt. -/
inductive RunP (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32) (K : BufTy.Contents (Elt F) pkM.view.ty) (V : BufTy.Contents (Elt F) pvM.view.ty) (Ks : BufTy.Contents (Elt F) pksM.view.ty) (Vs : BufTy.Contents (Elt F) pvsM.view.ty) : ℕ → ℕ → St F → Prop
  | start : RunP k0_t1 v32 k0_h1 v47 k0_hw1 v56 v61 K V Ks Vs 0 0 ⟨k0_pay54 (k0_pay53 (F := F)), k0_pay55, k0_pay56⟩
  | tile (t : Fin (k0_t3_loop v47).trips) (k : Fin (k0_t4_loop v47 t).trips) (s : St F) : RunP k0_t1 v32 k0_h1 v47 k0_hw1 v56 v61 K V Ks Vs t.val k.val s →
      RunP k0_t1 v32 k0_h1 v47 k0_hw1 v56 v61 K V Ks Vs t.val (k.val + 1) (stepP k0_t1 v32 k0_h1 v47 k0_hw1 v56 v61 t k (chK k0_t1 v32 k0_h1 v47 k0_hw1 K t) (chV k0_t1 v32 k0_h1 v47 k0_hw1 V t) (chKs k0_t1 v32 k0_h1 v47 k0_hw1 Ks t) (chVs k0_t1 v32 k0_h1 v47 k0_hw1 Vs t) s)
  | next (t : Fin (k0_t3_loop v47).trips) (s : St F) : RunP k0_t1 v32 k0_h1 v47 k0_hw1 v56 v61 K V Ks Vs t.val (k0_t4_loop v47 t).trips s → RunP k0_t1 v32 k0_h1 v47 k0_hw1 v56 v61 K V Ks Vs (t.val + 1) 0 s

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- One tile of keys, run: the buffers it reads stay, the three running values take one step. -/
theorem trip4 (c : Dev nD) (E : Set ℕ) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32)  (t : Fin (k0_t3_loop v47).trips) (k : Fin (k0_t4_loop v47 t).trips) (a : BitVec 32) (kf : BufTy.Contents (Elt F) kB.view.ty) (vf : BufTy.Contents (Elt F) vB.view.ty) (ksf : BufTy.Contents (Elt F) ksB.view.ty) (vsf : BufTy.Contents (Elt F) vsB.view.ty) (s : St F) :
    iprop(held c kB kf ∗ held c vB vf ∗ held c ksB ksf ∗ held c vsB vsf ∗ held c mB s.m ∗ held c lB s.l ∗ held c accB s.acc)
      ⊢ (wp frame (wpE (defs₀ (F := F)) Variants.none (c : Thread nD τ) none) E
          (k0_t4_body (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 (k0_pay53 (F := F)) t (Scf.iv 0#32 1#32 t) k a)
          (fun y => iprop(held c kB kf ∗ held c vB vf ∗ held c ksB ksf ∗ held c vsB vsf
            ∗ ∃ s' : St F, held c mB s'.m ∗ held c lB s'.l ∗ held c accB s'.acc ∗ ⌜s' = stepP k0_t1 v32 k0_h1 v47 k0_hw1 v56 v61 t k kf vf ksf vsf s⌝)) : sProp 𝕄) := by
  unfold k0_t4_body
  iintro ⟨H1, H2, H3, H4, H5, H6, H7⟩
  sl_exec
  sl_step
  isplitl [H1]; · iexact H1
  isplitl [H2]; · iexact H2
  isplitl [H3]; · iexact H3
  isplitl [H4]; · iexact H4
  iexists ⟨_, _, _⟩
  isplitl [H5]; · iexact H5
  isplitl [H6]; · iexact H6
  isplitl [H7]; · iexact H7
  ipureintro
  rw [writes_m, writes_l, writes_acc]
  rfl

/-- Before tile `k` of chunk `t`: the chunk is in the buffers, the running values are those of the tiles before. -/
abbrev inv4 (c : Dev nD) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32) (t : Fin (k0_t3_loop v47).trips) (K : BufTy.Contents (Elt F) pkM.view.ty) (V : BufTy.Contents (Elt F) pvM.view.ty) (Ks : BufTy.Contents (Elt F) pksM.view.ty) (Vs : BufTy.Contents (Elt F) pvsM.view.ty) (k : ℕ) : sProp 𝕄 :=
  iprop(held c kB (chK k0_t1 v32 k0_h1 v47 k0_hw1 K t) ∗ held c vB (chV k0_t1 v32 k0_h1 v47 k0_hw1 V t) ∗ held c ksB (chKs k0_t1 v32 k0_h1 v47 k0_hw1 Ks t) ∗ held c vsB (chVs k0_t1 v32 k0_h1 v47 k0_hw1 Vs t)
    ∗ ∃ m l acc, held c mB m ∗ held c lB l ∗ held c accB acc ∗ ⌜RunP k0_t1 v32 k0_h1 v47 k0_hw1 v56 v61 K V Ks Vs t.val k ⟨m, l, acc⟩⌝)

set_option warn.classDefReducibility false in
/-- The tiles of one chunk. -/
def loop4 (c : Dev nD) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32)  (t : Fin (k0_t3_loop v47).trips) (K : BufTy.Contents (Elt F) pkM.view.ty) (V : BufTy.Contents (Elt F) pvM.view.ty) (Ks : BufTy.Contents (Elt F) pksM.view.ty) (Vs : BufTy.Contents (Elt F) pvsM.view.ty) (init : BitVec 32) :
    LoopInvTy_k0_t4 (F := F) Unit ℕ (Pipeline.UD sig nD τ) ℕ Variants.none c none Set.univ arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 (k0_pay53 (F := F)) t (Scf.iv 0#32 1#32 t) init where
  inv := fun k _ => inv4 c k0_t1 v32 k0_h1 v47 k0_hw1 v56 v61 t K V Ks Vs k
  step k a := by
    iintro ⟨H1, H2, H3, H4, %m, %l, %acc, H5, H6, H7, %hr⟩
    iapply (wp_wand_r Idealize.ShloMosaic.frame (wpE (defs₀ (F := F)) Variants.none (c : Thread nD τ) none) Set.univ)
    isplitl [H1 H2 H3 H4 H5 H6 H7]
    · iapply trip4 c Set.univ k0_t1 v32 k0_h1 v47 k0_hw1 v56 v61 t k a _ _ _ _ ⟨m, l, acc⟩
      isplitl [H1]; · iexact H1
      isplitl [H2]; · iexact H2
      isplitl [H3]; · iexact H3
      isplitl [H4]; · iexact H4
      isplitl [H5]; · iexact H5
      isplitl [H6]; · iexact H6
      iexact H7
    · iintro %y ⟨H1, H2, H3, H4, %s', H5, H6, H7, %hs⟩
      isplitl [H1]; · iexact H1
      isplitl [H2]; · iexact H2
      isplitl [H3]; · iexact H3
      isplitl [H4]; · iexact H4
      iexists s'.m, s'.l, s'.acc
      isplitl [H5]; · iexact H5
      isplitl [H6]; · iexact H6
      isplitl [H7]; · iexact H7
      ipureintro
      have h := RunP.tile (F := F) t k _ hr
      rw [← hs] at h
      exact h

/-- Before chunk `t`: the arrays are whole, the buffers hold anything, the running values are those of the chunks before. -/
abbrev inv3 (c : Dev nD) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32) (K : BufTy.Contents (Elt F) pkM.view.ty) (V : BufTy.Contents (Elt F) pvM.view.ty) (Ks : BufTy.Contents (Elt F) pksM.view.ty) (Vs : BufTy.Contents (Elt F) pvsM.view.ty) (t : ℕ) : sProp 𝕄 :=
  iprop(held c pkM K ∗ held c pvM V ∗ held c pksM Ks ∗ held c pvsM Vs
    ∗ (∃ f, held c kB f) ∗ (∃ f, held c vB f) ∗ (∃ f, held c ksB f) ∗ (∃ f, held c vsB f)
    ∗ (∃ m l acc, held c mB m ∗ held c lB l ∗ held c accB acc ∗ ⌜RunP k0_t1 v32 k0_h1 v47 k0_hw1 v56 v61 K V Ks Vs t 0 ⟨m, l, acc⟩⌝)
    ∗ idle c cc0_scratch15 ∗ idle c cc0_scratch16 ∗ idle c cc0_scratch17 ∗ idle c cc0_scratch18 ∗ (∃ W, owes (c : Thread nD τ) 0 W))

set_option warn.classDefReducibility false in
/-- The chunks. -/
def loop3 (c : Dev nD) (k0_t1 : Fin k0_t1_loop.trips) (v32 : Elt F .i32) (k0_h1 : k0_cond1 v32 = 1#1) (v47 : Elt F .i32) (k0_hw1 : k0_chk1 k0_t1 v32 v47) (v56 : FVec F S128x512 .fp8e4m3) (v61 : FVec F S1x512 .f32)  (K : BufTy.Contents (Elt F) pkM.view.ty) (V : BufTy.Contents (Elt F) pvM.view.ty) (Ks : BufTy.Contents (Elt F) pksM.view.ty) (Vs : BufTy.Contents (Elt F) pvsM.view.ty) (init : BitVec 32) :
    LoopInvTy_k0_t3 (F := F) Unit ℕ (Pipeline.UD sig nD τ) ℕ Variants.none c none Set.univ arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 (k0_pay53 (F := F)) init where
  inv := fun t _ => inv3 c k0_t1 v32 k0_h1 v47 k0_hw1 v56 v61 K V Ks Vs t
  step t a := by
    unfold k0_t3_body
    iintro ⟨G1, G2, G3, G4, ⟨%f1, H1⟩, ⟨%f2, H2⟩, ⟨%f3, H3⟩, ⟨%f4, H4⟩, ⟨%m, %l, %acc, H5, H6, H7, %hr⟩, S1, S2, S3, S4, ⟨%W, HW⟩⟩
    sl_exec
    have e1 : kB.view.writes (Elt F) kB.view.junk [⟨Rect.whole _, loop3.sl.dma0 k0_t1 v32 k0_h1 v47 k0_hw1 K t⟩] = chK k0_t1 v32 k0_h1 v47 k0_hw1 K t :=
      writes_whole (F := F) cc0_scratch2 kB.view.junk _
    have e2 : vB.view.writes (Elt F) vB.view.junk [⟨Rect.whole _, loop3.sl.dma0_1 k0_t1 v32 k0_h1 v47 k0_hw1 V t⟩] = chV k0_t1 v32 k0_h1 v47 k0_hw1 V t :=
      writes_whole (F := F) cc0_scratch3 vB.view.junk _
    have e3 : ksB.view.writes (Elt F) ksB.view.junk [⟨Rect.whole _, loop3.sl.dma0_2 k0_t1 v32 k0_h1 v47 k0_hw1 Ks t⟩] = chKs k0_t1 v32 k0_h1 v47 k0_hw1 Ks t :=
      writes_whole (F := F) cc0_scratch4 ksB.view.junk _
    have e4 : vsB.view.writes (Elt F) vsB.view.junk [⟨Rect.whole _, loop3.sl.dma0_3 k0_t1 v32 k0_h1 v47 k0_hw1 Vs t⟩] = chVs k0_t1 v32 k0_h1 v47 k0_hw1 Vs t :=
      writes_whole (F := F) cc0_scratch5 vsB.view.junk _
    rw [e1, e2, e3, e4, show loop3.sl.arg42 v47 t = Scf.iv 0#32 1#32 t from rfl]
    clear e1 e2 e3 e4
    let L4 := loop4 (F := F) (harg0 := harg0) (harg1 := harg1) (harg2 := harg2) c k0_t1 v32 k0_h1 v47 k0_hw1 v56 v61 t K V Ks Vs 0#32
    sl_exec
    sl_step
    isplitl [G1]; · iexact G1
    isplitl [G2]; · iexact G2
    isplitl [G3]; · iexact G3
    isplitl [G4]; · iexact G4
    isplitl [H1]; · iexists _; iexact H1
    isplitl [H2]; · iexists _; iexact H2
    isplitl [H3]; · iexists _; iexact H3
    isplitl [H4]; · iexists _; iexact H4
    isplitl [H5 H6 H7]
    · iexists _, _, _
      isplitl [H5]; · iexact H5
      isplitl [H6]; · iexact H6
      isplitl [H7]; · iexact H7
      ipureintro
      exact RunP.next t _ ‹_›
    isplitl [S1]; · iexact S1
    isplitl [S2]; · iexact S2
    isplitl [S3]; · iexact S3
    isplitl [S4]; · iexact S4
    iexists _; iexact HW

end Cert.KernelIdeal.Hand

end
-- ==== Proof.CompletionIdeal.lean ====
module

public import proofs.«01_k».proof.Proof.OperandsIdeal

@[expose] public section

set_option maxRecDepth 16384

/-! The kernel's loops over the completion's keys, up to the tile of the queries: chunks of 2048 keys fetched by DMA, each worked through in tiles of 128. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The 2048 keys of chunk `t` of the completion. -/
def ccK (k0_t1 : Fin k0_t1_loop.trips) (k0_t2 : Fin k0_t2_loop.trips) (K : BufTy.Contents (Elt F) ckM.view.ty) (t : Fin (k0_t9_loop k0_t2).trips) : BufTy.Contents (Elt F) kB.view.ty :=
  View.read (Elt F) ((ckM.slice (Rect.unit (s := S6x10x4096x128) (k0_off34 k0_t1 k0_t2 t) S1x1x2048x128.size (k0_off34_inb k0_t1 k0_t2 t)) (fun _ => rfl)).squeeze S2048x128 squeezes_S1x1x2048x128_S2048x128).view K

/-- The 2048 values of chunk `t` of the completion. -/
def ccV (k0_t1 : Fin k0_t1_loop.trips) (k0_t2 : Fin k0_t2_loop.trips) (V : BufTy.Contents (Elt F) cvM.view.ty) (t : Fin (k0_t9_loop k0_t2).trips) : BufTy.Contents (Elt F) vB.view.ty :=
  View.read (Elt F) ((cvM.slice (Rect.unit (s := S6x10x32x128x128) (k0_off37 k0_t1 k0_t2 t) S1x1x16x128x128.size (k0_off37_inb k0_t1 k0_t2 t)) (fun _ => rfl)).squeeze S16x128x128 squeezes_S1x1x16x128x128_S16x128x128).view V

/-- The key scales of chunk `t` of the completion. -/
def ccKs (k0_t1 : Fin k0_t1_loop.trips) (k0_t2 : Fin k0_t2_loop.trips) (Ks : BufTy.Contents (Elt F) cksM.view.ty) (t : Fin (k0_t9_loop k0_t2).trips) : BufTy.Contents (Elt F) ksB.view.ty :=
  View.read (Elt F) (((cksM.slice (Rect.unit (s := S6x10x32x128) (k0_off38 k0_t1) S1x1x32x128.size (k0_off38_inb k0_t1)) (fun _ => rfl)).squeeze S32x128 squeezes_S1x1x32x128_S32x128).slice (Rect.unit (s := S32x128) (k0_off39 k0_t2 t) S16x128.size (k0_off39_inb k0_t2 t)) (fun _ => rfl)).view Ks

/-- The value scales of chunk `t` of the completion. -/
def ccVs (k0_t1 : Fin k0_t1_loop.trips) (k0_t2 : Fin k0_t2_loop.trips) (Vs : BufTy.Contents (Elt F) cvsM.view.ty) (t : Fin (k0_t9_loop k0_t2).trips) : BufTy.Contents (Elt F) vsB.view.ty :=
  View.read (Elt F) (((cvsM.slice (Rect.unit (s := S6x10x32x128) (k0_off38 k0_t1) S1x1x32x128.size (k0_off38_inb k0_t1)) (fun _ => rfl)).squeeze S32x128 squeezes_S1x1x32x128_S32x128).slice (Rect.unit (s := S32x128) (k0_off39 k0_t2 t) S16x128.size (k0_off39_inb k0_t2 t)) (fun _ => rfl)).view Vs

/-- One tile of keys of the completion: the running values after it. -/
def stepC (k0_t1 : Fin k0_t1_loop.trips) (k0_t2 : Fin k0_t2_loop.trips) (v37 : BitVec 32) (v123 : FVec F S128x512 .fp8e4m3) (v128 : FVec F S1x512 .f32) (t : Fin (k0_t9_loop k0_t2).trips) (k : Fin (k0_t10_loop k0_t2 t).trips) (kf : BufTy.Contents (Elt F) kB.view.ty) (vf : BufTy.Contents (Elt F) vB.view.ty) (ksf : BufTy.Contents (Elt F) ksB.view.ty) (vsf : BufTy.Contents (Elt F) vsB.view.ty) (s : St F) : St F :=
  let kt := View.readAt (Elt F) kB.view (Rect.unit (s := S2048x128) (k0_off40 k0_t2 t k) S128x128.size (k0_off40_inb k0_t2 t k)).toLoadRect kf
  let ks := View.readAt (Elt F) ksB.view (Rect.unit (s := S16x128) (k0_off41 k0_t2 t k) S1x128.size (k0_off41_inb k0_t2 t k)).toLoadRect ksf
  let vs := View.readAt (Elt F) vsB.view (Rect.unit (s := S16x128) (k0_off41 k0_t2 t k) S1x128.size (k0_off41_inb k0_t2 t k)).toLoadRect vsf
  let vt := View.readAt (Elt F) vB.view (Rect.unit (s := S16x128x128) (k0_off42 k0_t2 t k) S1x128x128.size (k0_off42_inb k0_t2 t k)).toLoadRect vf
  let base := Scf.iv 0#32 1#32 t
  let v386 := k0_pay33 k0_t2 v37 v123 v128 t base 0#32 1#32 k kt ks (ldRow mB s.m)
  let v388 := k0_pay34 k0_t2 v37 v123 v128 t base 0#32 1#32 k kt ks (ldRow mB s.m)
  let v391 := k0_pay35 k0_t2 v37 v123 v128 t base 0#32 1#32 k kt ks (ldRow mB s.m)
  ⟨k0_pay78 v386, k0_pay76 v388 v391 (ldRow lB s.l), k0_pay77 (k0_pay31 vs) v388 v391 vt (ldAcc accB s.acc)⟩

/-- The values reached after `k` tiles of chunk `t` of the completion. -/
inductive RunC (k0_t1 : Fin k0_t1_loop.trips) (k0_t2 : Fin k0_t2_loop.trips) (v37 : BitVec 32) (v123 : FVec F S128x512 .fp8e4m3) (v128 : FVec F S1x512 .f32) (K : BufTy.Contents (Elt F) ckM.view.ty) (V : BufTy.Contents (Elt F) cvM.view.ty) (Ks : BufTy.Contents (Elt F) cksM.view.ty) (Vs : BufTy.Contents (Elt F) cvsM.view.ty) : ℕ → ℕ → St F → Prop
  | start : RunC k0_t1 k0_t2 v37 v123 v128 K V Ks Vs 0 0 ⟨k0_pay73, k0_pay74, k0_pay75⟩
  | tile (t : Fin (k0_t9_loop k0_t2).trips) (k : Fin (k0_t10_loop k0_t2 t).trips) (s : St F) : RunC k0_t1 k0_t2 v37 v123 v128 K V Ks Vs t.val k.val s →
      RunC k0_t1 k0_t2 v37 v123 v128 K V Ks Vs t.val (k.val + 1) (stepC k0_t1 k0_t2 v37 v123 v128 t k (ccK k0_t1 k0_t2 K t) (ccV k0_t1 k0_t2 V t) (ccKs k0_t1 k0_t2 Ks t) (ccVs k0_t1 k0_t2 Vs t) s)
  | next (t : Fin (k0_t9_loop k0_t2).trips) (s : St F) : RunC k0_t1 k0_t2 v37 v123 v128 K V Ks Vs t.val (k0_t10_loop k0_t2 t).trips s → RunC k0_t1 k0_t2 v37 v123 v128 K V Ks Vs (t.val + 1) 0 s

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- One tile of keys, run: the buffers it reads stay, the three running values take one step. -/
theorem trip10 (c : Dev nD) (E : Set ℕ) (k0_t1 : Fin k0_t1_loop.trips) (v27 : BitVec 32) (k0_t2 : Fin k0_t2_loop.trips) (v37 v114 : BitVec 32) (v123 : FVec F S128x512 .fp8e4m3) (v128 : FVec F S1x512 .f32) (v159 : BitVec 32)  (t : Fin (k0_t9_loop k0_t2).trips) (k : Fin (k0_t10_loop k0_t2 t).trips) (a : BitVec 32) (kf : BufTy.Contents (Elt F) kB.view.ty) (vf : BufTy.Contents (Elt F) vB.view.ty) (ksf : BufTy.Contents (Elt F) ksB.view.ty) (vsf : BufTy.Contents (Elt F) vsB.view.ty) (s : St F) :
    iprop(held c kB kf ∗ held c vB vf ∗ held c ksB ksf ∗ held c vsB vsf ∗ held c mB s.m ∗ held c lB s.l ∗ held c accB s.acc)
      ⊢ (wp frame (wpE (defs₀ (F := F)) Variants.none (c : Thread nD τ) none) E
          (k0_t10_body (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v27 k0_t2 v37 v114 v123 v128 v159 0#32 0#32 t (Scf.iv 0#32 1#32 t) k a)
          (fun y => iprop(held c kB kf ∗ held c vB vf ∗ held c ksB ksf ∗ held c vsB vsf
            ∗ ∃ s' : St F, held c mB s'.m ∗ held c lB s'.l ∗ held c accB s'.acc ∗ ⌜s' = stepC k0_t1 k0_t2 v37 v123 v128 t k kf vf ksf vsf s⌝)) : sProp 𝕄) := by
  unfold k0_t10_body
  iintro ⟨H1, H2, H3, H4, H5, H6, H7⟩
  sl_exec
  sl_step
  isplitl [H1]; · iexact H1
  isplitl [H2]; · iexact H2
  isplitl [H3]; · iexact H3
  isplitl [H4]; · iexact H4
  iexists ⟨_, _, _⟩
  isplitl [H5]; · iexact H5
  isplitl [H6]; · iexact H6
  isplitl [H7]; · iexact H7
  ipureintro
  rw [writes_m, writes_l, writes_acc]
  rfl

/-- Before tile `k` of chunk `t`: the chunk is in the buffers, the running values are those of the tiles before. -/
abbrev inv10 (c : Dev nD) (k0_t1 : Fin k0_t1_loop.trips) (k0_t2 : Fin k0_t2_loop.trips) (v37 : BitVec 32) (v123 : FVec F S128x512 .fp8e4m3) (v128 : FVec F S1x512 .f32) (t : Fin (k0_t9_loop k0_t2).trips) (K : BufTy.Contents (Elt F) ckM.view.ty) (V : BufTy.Contents (Elt F) cvM.view.ty) (Ks : BufTy.Contents (Elt F) cksM.view.ty) (Vs : BufTy.Contents (Elt F) cvsM.view.ty) (k : ℕ) : sProp 𝕄 :=
  iprop(held c kB (ccK k0_t1 k0_t2 K t) ∗ held c vB (ccV k0_t1 k0_t2 V t) ∗ held c ksB (ccKs k0_t1 k0_t2 Ks t) ∗ held c vsB (ccVs k0_t1 k0_t2 Vs t)
    ∗ ∃ m l acc, held c mB m ∗ held c lB l ∗ held c accB acc ∗ ⌜RunC k0_t1 k0_t2 v37 v123 v128 K V Ks Vs t.val k ⟨m, l, acc⟩⌝)

set_option warn.classDefReducibility false in
/-- The tiles of one chunk. -/
def loop10 (c : Dev nD) (k0_t1 : Fin k0_t1_loop.trips) (v27 : BitVec 32) (k0_t2 : Fin k0_t2_loop.trips) (v37 v114 : BitVec 32) (v123 : FVec F S128x512 .fp8e4m3) (v128 : FVec F S1x512 .f32) (v159 : BitVec 32)  (t : Fin (k0_t9_loop k0_t2).trips) (K : BufTy.Contents (Elt F) ckM.view.ty) (V : BufTy.Contents (Elt F) cvM.view.ty) (Ks : BufTy.Contents (Elt F) cksM.view.ty) (Vs : BufTy.Contents (Elt F) cvsM.view.ty) (init : BitVec 32) :
    LoopInvTy_k0_t10 (F := F) Unit ℕ (Pipeline.UD sig nD τ) ℕ Variants.none c none Set.univ arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v27 k0_t2 v37 v114 v123 v128 v159 0#32 0#32 t (Scf.iv 0#32 1#32 t) init where
  inv := fun k _ => inv10 c k0_t1 k0_t2 v37 v123 v128 t K V Ks Vs k
  step k a := by
    iintro ⟨H1, H2, H3, H4, %m, %l, %acc, H5, H6, H7, %hr⟩
    iapply (wp_wand_r Idealize.ShloMosaic.frame (wpE (defs₀ (F := F)) Variants.none (c : Thread nD τ) none) Set.univ)
    isplitl [H1 H2 H3 H4 H5 H6 H7]
    · iapply trip10 c Set.univ k0_t1 v27 k0_t2 v37 v114 v123 v128 v159 t k a _ _ _ _ ⟨m, l, acc⟩
      isplitl [H1]; · iexact H1
      isplitl [H2]; · iexact H2
      isplitl [H3]; · iexact H3
      isplitl [H4]; · iexact H4
      isplitl [H5]; · iexact H5
      isplitl [H6]; · iexact H6
      iexact H7
    · iintro %y ⟨H1, H2, H3, H4, %s', H5, H6, H7, %hs⟩
      isplitl [H1]; · iexact H1
      isplitl [H2]; · iexact H2
      isplitl [H3]; · iexact H3
      isplitl [H4]; · iexact H4
      iexists s'.m, s'.l, s'.acc
      isplitl [H5]; · iexact H5
      isplitl [H6]; · iexact H6
      isplitl [H7]; · iexact H7
      ipureintro
      have h := RunC.tile (F := F) t k _ hr
      rw [← hs] at h
      exact h

/-- Before chunk `t`: the arrays are whole, the buffers hold anything, the running values are those of the chunks before. -/
abbrev inv9 (c : Dev nD) (k0_t1 : Fin k0_t1_loop.trips) (k0_t2 : Fin k0_t2_loop.trips) (v37 : BitVec 32) (v123 : FVec F S128x512 .fp8e4m3) (v128 : FVec F S1x512 .f32) (K : BufTy.Contents (Elt F) ckM.view.ty) (V : BufTy.Contents (Elt F) cvM.view.ty) (Ks : BufTy.Contents (Elt F) cksM.view.ty) (Vs : BufTy.Contents (Elt F) cvsM.view.ty) (t : ℕ) : sProp 𝕄 :=
  iprop(held c ckM K ∗ held c cvM V ∗ held c cksM Ks ∗ held c cvsM Vs
    ∗ (∃ f, held c kB f) ∗ (∃ f, held c vB f) ∗ (∃ f, held c ksB f) ∗ (∃ f, held c vsB f)
    ∗ (∃ m l acc, held c mB m ∗ held c lB l ∗ held c accB acc ∗ ⌜RunC k0_t1 k0_t2 v37 v123 v128 K V Ks Vs t 0 ⟨m, l, acc⟩⌝)
    ∗ idle c cc0_scratch15 ∗ idle c cc0_scratch16 ∗ idle c cc0_scratch17 ∗ idle c cc0_scratch18 ∗ (∃ W, owes (c : Thread nD τ) 0 W))

set_option warn.classDefReducibility false in
/-- The chunks. -/
def loop9 (c : Dev nD) (k0_t1 : Fin k0_t1_loop.trips) (v27 : BitVec 32) (k0_t2 : Fin k0_t2_loop.trips) (v37 v114 : BitVec 32) (v123 : FVec F S128x512 .fp8e4m3) (v128 : FVec F S1x512 .f32) (v159 : BitVec 32)  (K : BufTy.Contents (Elt F) ckM.view.ty) (V : BufTy.Contents (Elt F) cvM.view.ty) (Ks : BufTy.Contents (Elt F) cksM.view.ty) (Vs : BufTy.Contents (Elt F) cvsM.view.ty) (init : BitVec 32) :
    LoopInvTy_k0_t9 (F := F) Unit ℕ (Pipeline.UD sig nD τ) ℕ Variants.none c none Set.univ arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v27 k0_t2 v37 v114 v123 v128 v159 0#32 0#32 init where
  inv := fun t _ => inv9 c k0_t1 k0_t2 v37 v123 v128 K V Ks Vs t
  step t a := by
    unfold k0_t9_body
    iintro ⟨G1, G2, G3, G4, ⟨%f1, H1⟩, ⟨%f2, H2⟩, ⟨%f3, H3⟩, ⟨%f4, H4⟩, ⟨%m, %l, %acc, H5, H6, H7, %hr⟩, S1, S2, S3, S4, ⟨%W, HW⟩⟩
    sl_exec
    have e1 : kB.view.writes (Elt F) kB.view.junk [⟨Rect.whole _, loop9.sl.dma0 k0_t1 k0_t2 K t⟩] = ccK k0_t1 k0_t2 K t :=
      writes_whole (F := F) cc0_scratch2 kB.view.junk _
    have e2 : vB.view.writes (Elt F) vB.view.junk [⟨Rect.whole _, loop9.sl.dma0_1 k0_t1 k0_t2 V t⟩] = ccV k0_t1 k0_t2 V t :=
      writes_whole (F := F) cc0_scratch3 vB.view.junk _
    have e3 : ksB.view.writes (Elt F) ksB.view.junk [⟨Rect.whole _, loop9.sl.dma0_2 k0_t1 k0_t2 Ks t⟩] = ccKs k0_t1 k0_t2 Ks t :=
      writes_whole (F := F) cc0_scratch4 ksB.view.junk _
    have e4 : vsB.view.writes (Elt F) vsB.view.junk [⟨Rect.whole _, loop9.sl.dma0_3 k0_t1 k0_t2 Vs t⟩] = ccVs k0_t1 k0_t2 Vs t :=
      writes_whole (F := F) cc0_scratch5 vsB.view.junk _
    rw [e1, e2, e3, e4, show loop9.sl.arg42 k0_t2 t = Scf.iv 0#32 1#32 t from rfl]
    clear e1 e2 e3 e4
    let L4 := loop10 (F := F) (harg0 := harg0) (harg1 := harg1) (harg2 := harg2) c k0_t1 v27 k0_t2 v37 v114 v123 v128 v159 t K V Ks Vs 0#32
    sl_exec
    sl_step
    isplitl [G1]; · iexact G1
    isplitl [G2]; · iexact G2
    isplitl [G3]; · iexact G3
    isplitl [G4]; · iexact G4
    isplitl [H1]; · iexists _; iexact H1
    isplitl [H2]; · iexists _; iexact H2
    isplitl [H3]; · iexists _; iexact H3
    isplitl [H4]; · iexists _; iexact H4
    isplitl [H5 H6 H7]
    · iexists _, _, _
      isplitl [H5]; · iexact H5
      isplitl [H6]; · iexact H6
      isplitl [H7]; · iexact H7
      ipureintro
      exact RunC.next t _ ‹_›
    isplitl [S1]; · iexact S1
    isplitl [S2]; · iexact S2
    isplitl [S3]; · iexact S3
    isplitl [S4]; · iexact S4
    iexists _; iexact HW

end Cert.KernelIdeal.Hand

end
-- ==== Proof.StagesIdeal.lean ====
module

public import proofs.«01_k».proof.Proof.PromptIdeal
public import proofs.«01_k».proof.Proof.CompletionIdeal

@[expose] public section

set_option maxRecDepth 16384

/-! One tile of queries, in the five stages of the program: fetch the queries, go through the prompt, start anew, go through the completion, write out. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- Head 0 of the group in the query buffer. -/
abbrev ldQ0 (f : BufTy.Contents (Elt F) qB.view.ty) : Vec F S1x128x128 .fp8e4m3 :=
  View.readAt (Elt F) qB.view (Rect.unit (s := S4x128x128) ![0, 0, 0] S1x128x128.size inb_S4x128x128_S1x128x128_0_0_0).toLoadRect f
/-- Head 1 of the group in the query buffer. -/
abbrev ldQ1 (f : BufTy.Contents (Elt F) qB.view.ty) : Vec F S1x128x128 .fp8e4m3 :=
  View.readAt (Elt F) qB.view (Rect.unit (s := S4x128x128) ![1, 0, 0] S1x128x128.size inb_S4x128x128_S1x128x128_1_0_0).toLoadRect f
/-- Head 2 of the group in the query buffer. -/
abbrev ldQ2 (f : BufTy.Contents (Elt F) qB.view.ty) : Vec F S1x128x128 .fp8e4m3 :=
  View.readAt (Elt F) qB.view (Rect.unit (s := S4x128x128) ![2, 0, 0] S1x128x128.size inb_S4x128x128_S1x128x128_2_0_0).toLoadRect f
/-- Head 3 of the group in the query buffer. -/
abbrev ldQ3 (f : BufTy.Contents (Elt F) qB.view.ty) : Vec F S1x128x128 .fp8e4m3 :=
  View.readAt (Elt F) qB.view (Rect.unit (s := S4x128x128) ![3, 0, 0] S1x128x128.size inb_S4x128x128_S1x128x128_3_0_0).toLoadRect f
/-- Row 0 of the query scales' buffer. -/
abbrev ldS0 (f : BufTy.Contents (Elt F) qsB.view.ty) : Vec F S1x128 .f32 :=
  View.readAt (Elt F) qsB.view (Rect.unit (s := S4x128) ![0, 0] S1x128.size inb_S4x128_S1x128_0_0).toLoadRect f
/-- Row 1 of the query scales' buffer. -/
abbrev ldS1 (f : BufTy.Contents (Elt F) qsB.view.ty) : Vec F S1x128 .f32 :=
  View.readAt (Elt F) qsB.view (Rect.unit (s := S4x128) ![1, 0] S1x128.size inb_S4x128_S1x128_1_0).toLoadRect f
/-- Row 2 of the query scales' buffer. -/
abbrev ldS2 (f : BufTy.Contents (Elt F) qsB.view.ty) : Vec F S1x128 .f32 :=
  View.readAt (Elt F) qsB.view (Rect.unit (s := S4x128) ![2, 0] S1x128.size inb_S4x128_S1x128_2_0).toLoadRect f
/-- Row 3 of the query scales' buffer. -/
abbrev ldS3 (f : BufTy.Contents (Elt F) qsB.view.ty) : Vec F S1x128 .f32 :=
  View.readAt (Elt F) qsB.view (Rect.unit (s := S4x128) ![3, 0] S1x128.size inb_S4x128_S1x128_3_0).toLoadRect f

/-- The four heads' queries of the tile, fetched. -/
def fetchQ (k0_t1 : Fin k0_t1_loop.trips) (k0_t2 : Fin k0_t2_loop.trips) (Q : BufTy.Contents (Elt F) qtM.view.ty) : BufTy.Contents (Elt F) qB.view.ty :=
  View.read (Elt F) ((qtM.slice (Rect.unit (s := S6x40x128x4096) (k0_off2 k0_t1 k0_t2) S1x4x128x128.size (k0_off2_inb k0_t1 k0_t2)) (fun _ => rfl)).squeeze S4x128x128 squeezes_S1x4x128x128_S4x128x128).view Q
/-- The scales of the four heads' queries of the tile, fetched. -/
def fetchQs (k0_t1 : Fin k0_t1_loop.trips) (k0_t2 : Fin k0_t2_loop.trips) (Qs : BufTy.Contents (Elt F) qsM.view.ty) : BufTy.Contents (Elt F) qsB.view.ty :=
  View.read (Elt F) ((qsM.slice (Rect.unit (s := S6x10x4x4096) (k0_off3 k0_t1 k0_t2) S1x1x4x128.size (k0_off3_inb k0_t1 k0_t2)) (fun _ => rfl)).squeeze S4x128 squeezes_S1x1x4x128_S4x128).view Qs

/-- The length of the prompt, read from its one-word array. -/
def plenW (a2 : BufTy.Contents (Elt F) arg2.view.ty) : Elt F .i32 :=
  View.readAt (Elt F) arg2.view (Rect.unit (s := S1) ![0] S1.size inb_S1_S1_0).toLoadRect a2 (Shape.Idx.first (numel1_S1.symm ▸ Nat.one_pos))

theorem readCov_q (v : BufTy.Contents (Elt F) qB.view.ty) (B : LoadRect S4x128x128) : qB.view.readCov [⟨Rect.whole _, v⟩] B = View.readAt (Elt F) qB.view B v := by
  exact congrArg (View.readAt (Elt F) qB.view B) (writes_whole (F := F) cc0_scratch0 _ v)
theorem readCov_qs (v : BufTy.Contents (Elt F) qsB.view.ty) (B : LoadRect S4x128) : qsB.view.readCov [⟨Rect.whole _, v⟩] B = View.readAt (Elt F) qsB.view B v := by
  exact congrArg (View.readAt (Elt F) qsB.view B) (writes_whole (F := F) cc0_scratch1 _ v)

/-- The length of the completion of the point's sequence. -/
def clenW (k0_t1 : Fin k0_t1_loop.trips) (a1 : BufTy.Contents (Elt F) arg1.view.ty) : Elt F .i32 :=
  View.readAt (Elt F) arg1.view (Rect.unit (s := S6) (k0_off60 k0_t1) S1.size (k0_off60_inb k0_t1)).toLoadRect a1 (Shape.Idx.first (numel1_S1.symm ▸ Nat.one_pos))

/-- A block of four rows of 128 numbers, by its rows. -/
def rowBlk (w0 w1 w2 w3 : FVec F S1x128 .f32) : BufTy.Contents (Elt F) rowB.view.ty :=
  rowB.view.writes (Elt F) rowB.view.junk [⟨Rect.unit (s := S4x128) ![3, 0] S1x128.size inb_S4x128_S1x128_3_0, w3⟩, ⟨Rect.unit (s := S4x128) ![2, 0] S1x128.size inb_S4x128_S1x128_2_0, w2⟩, ⟨Rect.unit (s := S4x128) ![1, 0] S1x128.size inb_S4x128_S1x128_1_0, w1⟩, ⟨Rect.unit (s := S4x128) ![0, 0] S1x128.size inb_S4x128_S1x128_0_0, w0⟩]
/-- A block of 128 rows of 512 numbers, by its four blocks of 128 columns. -/
def colBlk (w0 w1 w2 w3 : FVec F S128x128 .bf16) : BufTy.Contents (Elt F) oB.view.ty :=
  oB.view.writes (Elt F) oB.view.junk [⟨Rect.unit (s := S128x512) ![0, 384] S128x128.size inb_S128x512_S128x128_0_384, w3⟩, ⟨Rect.unit (s := S128x512) ![0, 256] S128x128.size inb_S128x512_S128x128_0_256, w2⟩, ⟨Rect.unit (s := S128x512) ![0, 128] S128x128.size inb_S128x512_S128x128_0_128, w1⟩, ⟨Rect.unit (s := S128x512) ![0, 0] S128x128.size inb_S128x512_S128x128_0_0, w0⟩]

/-- Under the newest piece, what was there before does not matter. -/
theorem cons_congr {sp : Space} {s : Shape} {e : EltTy} (v : View sig .tc sp s e) (f f' : BufTy.Contents (Elt F) v.ty) {off size : Fin s.rank → ℕ}
    (inb : ∀ a, off a + size a ≤ s.size a) (w) (L L' : List (View.Piece (Elt F) s e)) (y : s.Idx)
    (h : (¬ ∀ a, off a ≤ (y a).val ∧ (y a).val < off a + size a) → v.read (Elt F) (v.writes (Elt F) f L) y = v.read (Elt F) (v.writes (Elt F) f' L') y) :
    v.read (Elt F) (v.writes (Elt F) f ((⟨Rect.unit off size inb, w⟩ : View.Piece (Elt F) s e) :: L)) y
      = v.read (Elt F) (v.writes (Elt F) f' ((⟨Rect.unit off size inb, w⟩ : View.Piece (Elt F) s e) :: L')) y := by
  rw [View.read_writes_cons_unit v f inb w L y rfl, View.read_writes_cons_unit v f' inb w L' y rfl]
  split
  · rfl
  · exact h ‹_›

/-- Four rows written over a block of four rows leave nothing of what was there. -/
theorem writes_rows (f : BufTy.Contents (Elt F) rowB.view.ty) (w0 w1 w2 w3 : FVec F S1x128 .f32) (L) :
    rowB.view.writes (Elt F) f (⟨Rect.unit (s := S4x128) ![3, 0] S1x128.size inb_S4x128_S1x128_3_0, w3⟩ :: ⟨Rect.unit (s := S4x128) ![2, 0] S1x128.size inb_S4x128_S1x128_2_0, w2⟩ :: ⟨Rect.unit (s := S4x128) ![1, 0] S1x128.size inb_S4x128_S1x128_1_0, w1⟩ :: ⟨Rect.unit (s := S4x128) ![0, 0] S1x128.size inb_S4x128_S1x128_0_0, w0⟩ :: L) = rowBlk w0 w1 w2 w3 := by
  refine (View.read_whole (Val := Elt F) _ _).symm.trans (Eq.trans ?_ (View.read_whole (Val := Elt F) cc0_scratch12 _))
  funext x
  have h0 : (x 0).val < 4 := (x 0).isLt
  have h1 : (x 1).val < 128 := (x 1).isLt
  unfold rowBlk
  refine cons_congr _ _ _ _ _ _ _ _ fun n3 => ?_
  refine cons_congr _ _ _ _ _ _ _ _ fun n2 => ?_
  refine cons_congr _ _ _ _ _ _ _ _ fun n1 => ?_
  refine cons_congr _ _ _ _ _ _ _ _ fun n0 => ?_
  exfalso
  have g : ∀ i : ℕ, (x 0).val = i → ∀ a : Fin 2, ![i, 0] a ≤ (x a).val ∧ (x a).val < ![i, 0] a + S1x128.size a := fun i hi =>
    Fin.forall_fin_two.mpr ⟨⟨hi.symm.le, (by rw [hi]; exact Nat.lt_succ_self i)⟩, ⟨Nat.zero_le _, (by simpa using h1)⟩⟩
  have : (x 0).val = 0 ∨ (x 0).val = 1 ∨ (x 0).val = 2 ∨ (x 0).val = 3 := by omega
  rcases this with h | h | h | h
  · exact n0 (g 0 h)
  · exact n1 (g 1 h)
  · exact n2 (g 2 h)
  · exact n3 (g 3 h)

/-- Four blocks of columns written over a block leave nothing of what was there. -/
theorem writes_cols (f : BufTy.Contents (Elt F) oB.view.ty) (w0 w1 w2 w3 : FVec F S128x128 .bf16) (L) :
    oB.view.writes (Elt F) f (⟨Rect.unit (s := S128x512) ![0, 384] S128x128.size inb_S128x512_S128x128_0_384, w3⟩ :: ⟨Rect.unit (s := S128x512) ![0, 256] S128x128.size inb_S128x512_S128x128_0_256, w2⟩ :: ⟨Rect.unit (s := S128x512) ![0, 128] S128x128.size inb_S128x512_S128x128_0_128, w1⟩ :: ⟨Rect.unit (s := S128x512) ![0, 0] S128x128.size inb_S128x512_S128x128_0_0, w0⟩ :: L) = colBlk w0 w1 w2 w3 := by
  refine (View.read_whole (Val := Elt F) _ _).symm.trans (Eq.trans ?_ (View.read_whole (Val := Elt F) cc0_scratch11 _))
  funext x
  have h0 : (x 0).val < 128 := (x 0).isLt
  have h1 : (x 1).val < 512 := (x 1).isLt
  unfold colBlk
  refine cons_congr _ _ _ _ _ _ _ _ fun n3 => ?_
  refine cons_congr _ _ _ _ _ _ _ _ fun n2 => ?_
  refine cons_congr _ _ _ _ _ _ _ _ fun n1 => ?_
  refine cons_congr _ _ _ _ _ _ _ _ fun n0 => ?_
  exfalso
  have g : ∀ i : ℕ, i ≤ (x 1).val → (x 1).val < i + 128 → ∀ a : Fin 2, ![0, i] a ≤ (x a).val ∧ (x a).val < ![0, i] a + S128x128.size a := fun i hi hj =>
    Fin.forall_fin_two.mpr ⟨⟨Nat.zero_le _, (by simpa using h0)⟩, ⟨hi, hj⟩⟩
  have : (x 1).val < 128 ∨ (128 ≤ (x 1).val ∧ (x 1).val < 256) ∨ (256 ≤ (x 1).val ∧ (x 1).val < 384) ∨ 384 ≤ (x 1).val := by omega
  rcases this with h | h | h | h
  · exact n0 (g 0 (Nat.zero_le _) (by omega))
  · exact n1 (g 128 h.1 (by omega))
  · exact n2 (g 256 h.1 (by omega))
  · exact n3 (g 384 h (by omega))

/-- The tile's block of the result, written. -/
def putO (k0_t1 : Fin k0_t1_loop.trips) (k0_t2 : Fin k0_t2_loop.trips) (O : BufTy.Contents (Elt F) outM.view.ty) (b : BufTy.Contents (Elt F) oB.view.ty) : BufTy.Contents (Elt F) outM.view.ty :=
  View.write (Elt F) ((outM.slice (Rect.unit (s := S6x4096x5120) (k0_off61 k0_t1 k0_t2) S1x128x512.size (k0_off61_inb k0_t1 k0_t2)) (fun _ => rfl)).squeeze S128x512 squeezes_S1x128x512_S128x512).view O b Finset.univ
/-- The tile's block of the prompt's log-sum-exp, written. -/
def putP (k0_t1 : Fin k0_t1_loop.trips) (k0_t2 : Fin k0_t2_loop.trips) (O : BufTy.Contents (Elt F) lsePM.view.ty) (b : BufTy.Contents (Elt F) rowB.view.ty) : BufTy.Contents (Elt F) lsePM.view.ty :=
  View.write (Elt F) ((lsePM.slice (Rect.unit (s := S6x10x4x4096) (k0_off62 k0_t1 k0_t2) S1x1x4x128.size (k0_off62_inb k0_t1 k0_t2)) (fun _ => rfl)).squeeze S4x128 squeezes_S1x1x4x128_S4x128).view O b Finset.univ
/-- The tile's block of the completion's log-sum-exp, written. -/
def putC (k0_t1 : Fin k0_t1_loop.trips) (k0_t2 : Fin k0_t2_loop.trips) (O : BufTy.Contents (Elt F) lseCM.view.ty) (b : BufTy.Contents (Elt F) rowB.view.ty) : BufTy.Contents (Elt F) lseCM.view.ty :=
  View.write (Elt F) ((lseCM.slice (Rect.unit (s := S6x10x4x4096) (k0_off62 k0_t1 k0_t2) S1x1x4x128.size (k0_off62_inb k0_t1 k0_t2)) (fun _ => rfl)).squeeze S4x128 squeezes_S1x1x4x128_S4x128).view O b Finset.univ

/-- The queries of the tile and their scales come in, and the length of the prompt is read. -/
theorem stageA (c : Dev nD) (k0_t1 : Fin k0_t1_loop.trips) (v17 : BitVec 32) (k0_t2 : Fin k0_t2_loop.trips) (v32 : Elt F .i32)
   (a2 : BufTy.Contents (Elt F) arg2.view.ty)
   (hv : ∀ x, (arg2.view.read (Elt F) a2 x : BitVec 32).toInt ≤ 24576) (pl : Elt F .i32) (hp : plenW a2 = pl) Q Qs :
   iprop(held c arg2 a2 ∗ held c qtM Q ∗ held c qsM Qs ∗ (∃ f, held c qB f) ∗ (∃ f, held c qsB f) ∗ idle c cc0_scratch13 ∗ idle c cc0_scratch14
     ∗ (∃ W, owes (c : Thread nD τ) 0 W))
   ⊢ (wp frame (wpE (defs₀ (F := F)) Variants.none (c : Thread nD τ) none) Set.univ
      (k0_part13 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v17 k0_t2 (Scf.iv 0#32 1#32 k0_t2) v32)
      (fun r => iprop(held c arg2 a2 ∗ held c qtM Q ∗ held c qsM Qs ∗ held c qB (fetchQ k0_t1 k0_t2 Q) ∗ held c qsB (fetchQs k0_t1 k0_t2 Qs) ∗ idle c cc0_scratch13 ∗ idle c cc0_scratch14 ∗ (∃ W, owes (c : Thread nD τ) 0 W)
     ∗ ⌜∃ hw, r = ⟨Scalar.muli (Scf.iv 0#32 1#32 k0_t2) 128#32, pl, hw,
         k0_pay51 (ldQ0 (fetchQ k0_t1 k0_t2 Q)) (ldQ1 (fetchQ k0_t1 k0_t2 Q)) (ldQ2 (fetchQ k0_t1 k0_t2 Q)) (ldQ3 (fetchQ k0_t1 k0_t2 Q)),
         k0_pay52 (ldS0 (fetchQs k0_t1 k0_t2 Qs)) (ldS1 (fetchQs k0_t1 k0_t2 Qs)) (ldS2 (fetchQs k0_t1 k0_t2 Qs)) (ldS3 (fetchQs k0_t1 k0_t2 Qs)), k0_pay53⟩⌝)) : sProp 𝕄) := by
  subst hp
  iintro ⟨A2, G1, G2, ⟨%b1, B1⟩, ⟨%b2, B2⟩, S1, S2, ⟨%W, HW⟩⟩
  sl_exec (disch := exact chk1 _ _ _ (hv _))
  have e1 : qB.view.writes (Elt F) b1 [⟨Rect.whole _, stageA.sl.dma0 k0_t1 k0_t2 Q⟩] = fetchQ k0_t1 k0_t2 Q := writes_whole (F := F) cc0_scratch0 _ _
  have e2 : qsB.view.writes (Elt F) b2 [⟨Rect.whole _, stageA.sl.dma0_1 k0_t1 k0_t2 Qs⟩] = fetchQs k0_t1 k0_t2 Qs := writes_whole (F := F) cc0_scratch1 _ _
  rw [e1, e2]
  have q0 : stageA.sl.v48 k0_t1 k0_t2 Q = ldQ0 (fetchQ k0_t1 k0_t2 Q) := readCov_q (fetchQ k0_t1 k0_t2 Q) _
  have q1 : stageA.sl.v50 k0_t1 k0_t2 Q = ldQ1 (fetchQ k0_t1 k0_t2 Q) := readCov_q (fetchQ k0_t1 k0_t2 Q) _
  have q2 : stageA.sl.v52 k0_t1 k0_t2 Q = ldQ2 (fetchQ k0_t1 k0_t2 Q) := readCov_q (fetchQ k0_t1 k0_t2 Q) _
  have q3 : stageA.sl.v54 k0_t1 k0_t2 Q = ldQ3 (fetchQ k0_t1 k0_t2 Q) := readCov_q (fetchQ k0_t1 k0_t2 Q) _
  have s0 : stageA.sl.v57 k0_t1 k0_t2 Qs = ldS0 (fetchQs k0_t1 k0_t2 Qs) := readCov_qs (fetchQs k0_t1 k0_t2 Qs) _
  have s1 : stageA.sl.v58 k0_t1 k0_t2 Qs = ldS1 (fetchQs k0_t1 k0_t2 Qs) := readCov_qs (fetchQs k0_t1 k0_t2 Qs) _
  have s2 : stageA.sl.v59 k0_t1 k0_t2 Qs = ldS2 (fetchQs k0_t1 k0_t2 Qs) := readCov_qs (fetchQs k0_t1 k0_t2 Qs) _
  have s3 : stageA.sl.v60 k0_t1 k0_t2 Qs = ldS3 (fetchQs k0_t1 k0_t2 Qs) := readCov_qs (fetchQs k0_t1 k0_t2 Qs) _
  rw [q0, q1, q2, q3, s0, s1, s2, s3]
  sl_step
  isplitl [A2]; · iexact A2
  isplitl [G1]; · iexact G1
  isplitl [G2]; · iexact G2
  isplitl [B1]; · iexact B1
  isplitl [B2]; · iexact B2
  isplitl [S1]; · iexact S1
  isplitl [S2]; · iexact S2
  isplitl [HW]; · iexists _; iexact HW
  ipureintro
  exact ⟨_, rfl⟩

set_option maxHeartbeats 1000000 in
/-- The prompt's keys: the three running values start anew, go through every chunk, and what they come to is kept. -/
theorem stageB (c : Dev nD) (k0_t1 : Fin k0_t1_loop.trips) (v32 : Elt F .i32) (k0_h1 : k0_cond1 v32 = 1#1) (v37 : BitVec 32) (v47 : Elt F .i32) (k0_hw1 : k0_chk1 k0_t1 v32 v47)
   (v56 : FVec F S128x512 .fp8e4m3) (v61 : FVec F S1x512 .f32) K V Ks Vs fq fqs :
   iprop(held c pkM K ∗ held c pvM V ∗ held c pksM Ks ∗ held c pvsM Vs ∗ held c qB fq ∗ held c qsB fqs
     ∗ (∃ f, held c kB f) ∗ (∃ f, held c vB f) ∗ (∃ f, held c ksB f) ∗ (∃ f, held c vsB f) ∗ (∃ f, held c mB f) ∗ (∃ f, held c lB f) ∗ (∃ f, held c accB f) ∗ (∃ f, held c opB f) ∗ (∃ f, held c lsepB f)
     ∗ idle c cc0_scratch15 ∗ idle c cc0_scratch16 ∗ idle c cc0_scratch17 ∗ idle c cc0_scratch18 ∗ (∃ W, owes (c : Thread nD τ) 0 W))
   ⊢ (wp frame (wpE (defs₀ (F := F)) Variants.none (c : Thread nD τ) none) Set.univ
      (do let ⟨v97, v98⟩ ← k0_part14 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 k0_pay53; k0_part15 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v37 v47 k0_hw1 v56 v61 v97 v98)
      (fun r => iprop(held c pkM K ∗ held c pvM V ∗ held c pksM Ks ∗ held c pvsM Vs ∗ held c qB fq ∗ held c qsB fqs
     ∗ (∃ f, held c kB f) ∗ (∃ f, held c vB f) ∗ (∃ f, held c ksB f) ∗ (∃ f, held c vsB f) ∗ (∃ f, held c mB f) ∗ (∃ f, held c lB f) ∗ (∃ f, held c accB f)
     ∗ (∃ s : St F, ⌜RunP k0_t1 v32 k0_h1 v47 k0_hw1 v56 v61 K V Ks Vs (k0_t3_loop v47).trips 0 s⌝
         ∗ held c opB (k0_pay69 (ldAcc accB s.acc) (ldRow lB s.l)) ∗ held c lsepB (k0_pay70 (ldRow mB s.m) (ldRow lB s.l)))
     ∗ idle c cc0_scratch15 ∗ idle c cc0_scratch16 ∗ idle c cc0_scratch17 ∗ idle c cc0_scratch18 ∗ (∃ W, owes (c : Thread nD τ) 0 W)
     ∗ ⌜r = ⟨Scalar.addi v37 128#32, k0_pay71 (ldQ0 fq) (ldQ1 fq) (ldQ2 fq) (ldQ3 fq), ldS0 fqs, ldS1 fqs⟩⌝)) : sProp 𝕄) := by
  iintro ⟨G3, G4, G5, G6, B1, B2, ⟨%f3, B3⟩, ⟨%f4, B4⟩, ⟨%f5, B5⟩, ⟨%f6, B6⟩, ⟨%f7, B7⟩, ⟨%f8, B8⟩, ⟨%f9, B9⟩, ⟨%f10, B10⟩, ⟨%f11, B11⟩, S3, S4, S5, S6, ⟨%W, HW⟩⟩
  sl_exec
  have e7 : mB.view.writes (Elt F) mB.view.junk stageB.sl.B7_1 = k0_pay54 (k0_pay53 (F := F)) := writes_m _ _ []
  have e8 : lB.view.writes (Elt F) lB.view.junk stageB.sl.B8_1 = k0_pay55 (F := F) := writes_l _ _ []
  have e9 : accB.view.writes (Elt F) accB.view.junk stageB.sl.B9_1 = k0_pay56 (F := F) := writes_acc _ _ []
  rw [e7, e8, e9]
  clear e7 e8 e9
  have hr := RunP.start (F := F) (k0_t1 := k0_t1) (k0_h1 := k0_h1) (k0_hw1 := k0_hw1) (v56 := v56) (v61 := v61) (K := K) (V := V) (Ks := Ks) (Vs := Vs)
  let L3 := loop3 (F := F) (harg0 := harg0) (harg1 := harg1) (harg2 := harg2) c k0_t1 v32 k0_h1 v47 k0_hw1 v56 v61 K V Ks Vs 0#32
  sl_exec
  rw [writes_op, writes_lsep]
  sl_step
  isplitl [G3]; · iexact G3
  isplitl [G4]; · iexact G4
  isplitl [G5]; · iexact G5
  isplitl [G6]; · iexact G6
  isplitl [B1]; · iexact B1
  isplitl [B2]; · iexact B2
  isplitl [B3]; · iexists _; iexact B3
  isplitl [B4]; · iexists _; iexact B4
  isplitl [B5]; · iexists _; iexact B5
  isplitl [B6]; · iexists _; iexact B6
  isplitl [B7]; · iexists _; iexact B7
  isplitl [B8]; · iexists _; iexact B8
  isplitl [B9]; · iexists _; iexact B9
  isplitl [B10 B11]
  · iexists ⟨_, _, _⟩
    isplitr; · ipureintro; assumption
    isplitl [B10]; · iexact B10
    iexact B11
  isplitl [S3]; · iexact S3
  isplitl [S4]; · iexact S4
  isplitl [S5]; · iexact S5
  isplitl [S6]; · iexact S6
  isplitl [HW]; · iexists _; iexact HW
  ipureintro; rfl

/-- `stageB`, its two parts one after the other. -/
theorem stageB2 (c : Dev nD) (k0_t1 : Fin k0_t1_loop.trips) (v32 : Elt F .i32) (k0_h1 : k0_cond1 v32 = 1#1) (v37 : BitVec 32) (v47 : Elt F .i32) (k0_hw1 : k0_chk1 k0_t1 v32 v47)
   (v56 : FVec F S128x512 .fp8e4m3) (v61 : FVec F S1x512 .f32) K V Ks Vs fq fqs :
   iprop(held c pkM K ∗ held c pvM V ∗ held c pksM Ks ∗ held c pvsM Vs ∗ held c qB fq ∗ held c qsB fqs
     ∗ (∃ f, held c kB f) ∗ (∃ f, held c vB f) ∗ (∃ f, held c ksB f) ∗ (∃ f, held c vsB f) ∗ (∃ f, held c mB f) ∗ (∃ f, held c lB f) ∗ (∃ f, held c accB f) ∗ (∃ f, held c opB f) ∗ (∃ f, held c lsepB f)
     ∗ idle c cc0_scratch15 ∗ idle c cc0_scratch16 ∗ idle c cc0_scratch17 ∗ idle c cc0_scratch18 ∗ (∃ W, owes (c : Thread nD τ) 0 W))
   ⊢ (wp frame (wpE (defs₀ (F := F)) Variants.none (c : Thread nD τ) none) Set.univ
      (k0_part14 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v47 k0_hw1 v56 v61 k0_pay53)
      (fun x => wp frame (wpE (defs₀ (F := F)) Variants.none (c : Thread nD τ) none) Set.univ (k0_part15 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v32 k0_h1 v37 v47 k0_hw1 v56 v61 x.1 x.2)
        (fun r => iprop(held c pkM K ∗ held c pvM V ∗ held c pksM Ks ∗ held c pvsM Vs ∗ held c qB fq ∗ held c qsB fqs
     ∗ (∃ f, held c kB f) ∗ (∃ f, held c vB f) ∗ (∃ f, held c ksB f) ∗ (∃ f, held c vsB f) ∗ (∃ f, held c mB f) ∗ (∃ f, held c lB f) ∗ (∃ f, held c accB f)
     ∗ (∃ s : St F, ⌜RunP k0_t1 v32 k0_h1 v47 k0_hw1 v56 v61 K V Ks Vs (k0_t3_loop v47).trips 0 s⌝
         ∗ held c opB (k0_pay69 (ldAcc accB s.acc) (ldRow lB s.l)) ∗ held c lsepB (k0_pay70 (ldRow mB s.m) (ldRow lB s.l)))
     ∗ idle c cc0_scratch15 ∗ idle c cc0_scratch16 ∗ idle c cc0_scratch17 ∗ idle c cc0_scratch18 ∗ (∃ W, owes (c : Thread nD τ) 0 W)
     ∗ ⌜r = ⟨Scalar.addi v37 128#32, k0_pay71 (ldQ0 fq) (ldQ1 fq) (ldQ2 fq) (ldQ3 fq), ldS0 fqs, ldS1 fqs⟩⌝))) : sProp 𝕄) := by
  have h := stageB (harg0 := harg0) (harg1 := harg1) (harg2 := harg2) c k0_t1 v32 k0_h1 v37 v47 k0_hw1 v56 v61 K V Ks Vs fq fqs
  rw [wp_bind] at h
  exact h

/-- The running values start anew for the completion's keys. -/
theorem stageC (c : Dev nD) (v114 : BitVec 32) (v124 v125 : Vec F S1x128 .f32) fqs :
   iprop(held c qsB fqs ∗ (∃ f, held c mB f) ∗ (∃ f, held c lB f) ∗ (∃ f, held c accB f))
   ⊢ (wp frame (wpE (defs₀ (F := F)) Variants.none (c : Thread nD τ) none) Set.univ
      (k0_part16 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 v114 v124 v125)
      (fun r => iprop(held c qsB fqs ∗ held c mB (k0_pay73 (F := F)) ∗ held c lB (k0_pay74 (F := F)) ∗ held c accB (k0_pay75 (F := F))
     ∗ ⌜∃ w, r = ⟨k0_pay72 v124 v125 (ldS2 fqs) (ldS3 fqs), w, 0#32, 0#32⟩⌝)) : sProp 𝕄) := by
  iintro ⟨B2, ⟨%f7, B7⟩, ⟨%f8, B8⟩, ⟨%f9, B9⟩⟩
  sl_exec
  rw [writes_m, writes_l, writes_acc]
  sl_step
  isplitl [B2]; · iexact B2
  isplitl [B7]; · iexact B7
  isplitl [B8]; · iexact B8
  isplitl [B9]; · iexact B9
  ipureintro; exact ⟨_, rfl⟩

set_option maxHeartbeats 1000000 in
/-- The completion's keys, and the two parts put together. -/
theorem stageD (c : Dev nD) (k0_t1 : Fin k0_t1_loop.trips) (v27 : BitVec 32) (k0_t2 : Fin k0_t2_loop.trips) (v37 v114 : BitVec 32) (v123 : FVec F S128x512 .fp8e4m3) (v128 : FVec F S1x512 .f32) (v159 : BitVec 32)
   (a1 : BufTy.Contents (Elt F) arg1.view.ty) (cl : Elt F .i32) (hc : clenW k0_t1 a1 = cl) K V Ks Vs op lsep :
   iprop(held c arg1 a1 ∗ held c ckM K ∗ held c cvM V ∗ held c cksM Ks ∗ held c cvsM Vs
     ∗ (∃ f, held c kB f) ∗ (∃ f, held c vB f) ∗ (∃ f, held c ksB f) ∗ (∃ f, held c vsB f) ∗ held c mB (k0_pay73 (F := F)) ∗ held c lB (k0_pay74 (F := F)) ∗ held c accB (k0_pay75 (F := F)) ∗ held c opB op ∗ held c lsepB lsep
     ∗ idle c cc0_scratch15 ∗ idle c cc0_scratch16 ∗ idle c cc0_scratch17 ∗ idle c cc0_scratch18 ∗ (∃ W, owes (c : Thread nD τ) 0 W))
   ⊢ (wp frame (wpE (defs₀ (F := F)) Variants.none (c : Thread nD τ) none) Set.univ
      (k0_part17 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v27 k0_t2 v37 v114 v123 v128 v159 0#32 0#32)
      (fun r => iprop(held c arg1 a1 ∗ held c ckM K ∗ held c cvM V ∗ held c cksM Ks ∗ held c cvsM Vs
     ∗ (∃ f, held c kB f) ∗ (∃ f, held c vB f) ∗ (∃ f, held c ksB f) ∗ (∃ f, held c vsB f) ∗ (∃ f, held c mB f) ∗ (∃ f, held c lB f) ∗ (∃ f, held c accB f) ∗ held c opB op ∗ held c lsepB lsep
     ∗ idle c cc0_scratch15 ∗ idle c cc0_scratch16 ∗ idle c cc0_scratch17 ∗ idle c cc0_scratch18 ∗ (∃ W, owes (c : Thread nD τ) 0 W)
     ∗ ⌜∃ s : St F, RunC k0_t1 k0_t2 v37 v123 v128 K V Ks Vs (k0_t9_loop k0_t2).trips 0 s
         ∧ r = ⟨k0_pay88 (ldRow mB s.m) (ldRow lB s.l), ldRow lsepB lsep,
             k0_pay89 (ldAcc accB s.acc) (ldRow lB s.l) (ldRow mB s.m) (ldRow lB s.l) (ldRow lsepB lsep) (ldAcc opB op), k0_pay90 v37,
             k0_pay91 v37 cl, Scalar.ofBits .f32 0x00000000#32⟩⌝)) : sProp 𝕄) := by
  subst hc
  iintro ⟨A1, G3, G4, G5, G6, ⟨%f3, B3⟩, ⟨%f4, B4⟩, ⟨%f5, B5⟩, ⟨%f6, B6⟩, B7, B8, B9, B10, B11, S3, S4, S5, S6, ⟨%W, HW⟩⟩
  have hr := RunC.start (F := F) (k0_t1 := k0_t1) (k0_t2 := k0_t2) (v37 := v37) (v123 := v123) (v128 := v128) (K := K) (V := V) (Ks := Ks) (Vs := Vs)
  sl_exec
  let L9 := loop9 (F := F) (harg0 := harg0) (harg1 := harg1) (harg2 := harg2) c k0_t1 v27 k0_t2 v37 v114 v123 v128 v159 K V Ks Vs 0#32
  sl_exec
  sl_step
  isplitl [A1]; · iexact A1
  isplitl [G3]; · iexact G3
  isplitl [G4]; · iexact G4
  isplitl [G5]; · iexact G5
  isplitl [G6]; · iexact G6
  isplitl [B3]; · iexists _; iexact B3
  isplitl [B4]; · iexists _; iexact B4
  isplitl [B5]; · iexists _; iexact B5
  isplitl [B6]; · iexists _; iexact B6
  isplitl [B7]; · iexists _; iexact B7
  isplitl [B8]; · iexists _; iexact B8
  isplitl [B9]; · iexists _; iexact B9
  isplitl [B10]; · iexact B10
  isplitl [B11]; · iexact B11
  isplitl [S3]; · iexact S3
  isplitl [S4]; · iexact S4
  isplitl [S5]; · iexact S5
  isplitl [S6]; · iexact S6
  isplitl [HW]; · iexists _; iexact HW
  ipureintro
  exact ⟨⟨_, _, _⟩, ‹_›, rfl⟩

set_option maxHeartbeats 1000000 in
/-- The three blocks of the tile go out. -/
theorem stageE (c : Dev nD) (k0_t1 : Fin k0_t1_loop.trips) (v17 : BitVec 32) (k0_t2 : Fin k0_t2_loop.trips) (v174 : FVec F S1x512 .f32) (v175 : Vec F S1x512 .f32) (v193 : FVec F S128x512 .f32) (v198 : IVec S1x512 32) (v202 : IVec S1x512 1) (cst : F .f32)
   (a2 : BufTy.Contents (Elt F) arg2.view.ty) (pl : Elt F .i32) (hp : plenW a2 = pl) O LP LC :
   iprop(held c arg2 a2 ∗ held c outM O ∗ held c lsePM LP ∗ held c lseCM LC ∗ (∃ f, held c oB f) ∗ (∃ f, held c rowB f) ∗ idle c cc0_scratch19 ∗ idle c cc0_scratch20 ∗ (∃ W, owes (c : Thread nD τ) 0 W))
   ⊢ (wp frame (wpE (defs₀ (F := F)) Variants.none (c : Thread nD τ) none) Set.univ
      (do
      let ⟨v244, v245⟩ ← k0_part18 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 v17 k0_t2 v175 v193 v198 v202 cst
      let ⟨v270, v279⟩ ← k0_part19 (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 k0_t1 k0_t2 v174 v202 v244 v245
      let v280 : Vec F S1x128 .f32 ← Prog.lift (.load rowB (Rect.unit (s := S4x128) ![2, 0] S1x128.size inb_S4x128_S1x128_2_0).toLoadRect (View.loadsAt_vmem h_S1x128))
      Prog.lift (.store rowB (Rect.unit (s := S4x128) ![2, 0] S1x128.size inb_S4x128_S1x128_2_0) (k0_pay1 v279) Finset.univ (View.stores_vmem_bits_univ h_S1x128 rfl) (.inl rfl))
      let v284 : Vec F S1x128 .f32 ← Prog.lift (.load rowB (Rect.unit (s := S4x128) ![3, 0] S1x128.size inb_S4x128_S1x128_3_0).toLoadRect (View.loadsAt_vmem h_S1x128))
      Prog.lift (.store rowB (Rect.unit (s := S4x128) ![3, 0] S1x128.size inb_S4x128_S1x128_3_0) (k0_pay2 v270) Finset.univ (View.stores_vmem_bits_univ h_S1x128 rfl) (.inl rfl))
      let v287 : Memref sig .tc .hbm S1x1x4x128 .f32 := lseCM.slice (Rect.unit (s := S6x10x4x4096) (k0_off62 k0_t1 k0_t2) S1x1x4x128.size (k0_off62_inb k0_t1 k0_t2)) (fun _ => rfl)
      let v288 : Memref sig .tc .hbm S4x128 .f32 := v287.squeeze S4x128 squeezes_S1x1x4x128_S4x128
      Prog.lift (.enqueueDma rowB (.here v288) (.dma cc0_scratch20.sem) (Memref.isWhole_whole _).wordExact ((View.wordExact_bits rfl).reshape _ _) ⟨Or.inl rfl, trivial⟩)
      let v289 : Memref sig .tc .hbm S1x1x4x128 .f32 := lseCM.slice (Rect.unit (s := S6x10x4x4096) (k0_off62 k0_t1 k0_t2) S1x1x4x128.size (k0_off62_inb k0_t1 k0_t2)) (fun _ => rfl)
      let v290 : Memref sig .tc .hbm S4x128 .f32 := v289.squeeze S4x128 squeezes_S1x1x4x128_S4x128
      Prog.lift (.waitDma2 cc0_scratch20.sem rowB v290 (Memref.isWhole_whole _).wordExact ((View.wordExact_bits rfl).reshape _ _))
      pure PUnit.unit)
      (fun r => iprop(held c arg2 a2 ∗ held c outM (putO k0_t1 k0_t2 O (colBlk (k0_pay93 v193 v202 cst) (k0_pay94 v193 v202 cst) (k0_pay95 v193 v202 cst) (k0_pay96 v193 v202 cst)))
     ∗ held c lsePM (putP k0_t1 k0_t2 LP (rowBlk (k0_pay100 v202 (k0_pay98 v175 pl)) (k0_pay101 v202 (k0_pay98 v175 pl)) (k0_pay102 v202 (k0_pay98 v175 pl)) (k0_pay103 v202 (k0_pay98 v175 pl))))
     ∗ held c lseCM (putC k0_t1 k0_t2 LC (rowBlk (k0_pay105 v174 v202 (k0_pay97 v198)) (k0_pay106 v174 v202 (k0_pay97 v198)) (k0_pay1 (k0_pay107 v174 v202 (k0_pay97 v198))) (k0_pay2 (k0_pay104 v174 v202 (k0_pay97 v198)))))
     ∗ (∃ f, held c oB f) ∗ (∃ f, held c rowB f) ∗ idle c cc0_scratch19 ∗ idle c cc0_scratch20 ∗ (∃ W, owes (c : Thread nD τ) 0 W))) : sProp 𝕄) := by
  subst hp
  iintro ⟨A2, O1, O2, O3, ⟨%f12, B12⟩, ⟨%f13, B13⟩, S7, S8, ⟨%W, HW⟩⟩
  sl_exec
  have d8 : stageE.sl.dma8 v193 v202 cst f12 = colBlk (k0_pay93 v193 v202 cst) (k0_pay94 v193 v202 cst) (k0_pay95 v193 v202 cst) (k0_pay96 v193 v202 cst) := by
    unfold stageE.sl.dma8 stageE.sl.B12_4
    exact (View.read_whole (Val := Elt F) cc0_scratch11 _).trans (writes_cols f12 _ _ _ _ [])
  have d17 : stageE.sl.dma17 v175 v202 a2 f13 = rowBlk (k0_pay100 v202 (k0_pay98 v175 (plenW a2))) (k0_pay101 v202 (k0_pay98 v175 (plenW a2))) (k0_pay102 v202 (k0_pay98 v175 (plenW a2))) (k0_pay103 v202 (k0_pay98 v175 (plenW a2))) := by
    unfold stageE.sl.dma17 stageE.sl.B13_4
    exact (View.read_whole (Val := Elt F) cc0_scratch12 _).trans (writes_rows f13 _ _ _ _ [])
  have d25 : stageE.sl.dma25 v174 v175 v198 v202 a2 f13 = rowBlk (k0_pay105 v174 v202 (k0_pay97 v198)) (k0_pay106 v174 v202 (k0_pay97 v198)) (k0_pay1 (k0_pay107 v174 v202 (k0_pay97 v198))) (k0_pay2 (k0_pay104 v174 v202 (k0_pay97 v198))) := by
    unfold stageE.sl.dma25 stageE.sl.B13_8
    exact (View.read_whole (Val := Elt F) cc0_scratch12 _).trans (writes_rows f13 _ _ _ _ _)
  have e1 : stageE.sl.O1_w0 k0_t1 k0_t2 v193 v202 cst O f12 = putO k0_t1 k0_t2 O _ := congrArg (putO k0_t1 k0_t2 O) d8
  have e2 : stageE.sl.O2_w1 k0_t1 k0_t2 v175 v202 a2 LP f13 = putP k0_t1 k0_t2 LP _ := congrArg (putP k0_t1 k0_t2 LP) d17
  have e3 : stageE.sl.O3_w2 k0_t1 k0_t2 v174 v175 v198 v202 a2 LC f13 = putC k0_t1 k0_t2 LC _ := congrArg (putC k0_t1 k0_t2 LC) d25
  rw [e1, e2, e3]
  sl_step
  isplitl [A2]; · iexact A2
  isplitl [O1]; · iexact O1
  isplitl [O2]; · iexact O2
  isplitl [O3]; · iexact O3
  isplitl [B12]; · iexists _; iexact B12
  isplitl [B13]; · iexists _; iexact B13
  isplitl [S7]; · iexact S7
  isplitl [S8]; · iexact S8
  iexists _; iexact HW

end Cert.KernelIdeal.Hand

end
-- ==== Proof.TileIdeal.lean ====
module

public import proofs.«01_k».proof.Proof.StagesIdeal

@[expose] public section

set_option maxRecDepth 16384

/-! One tile of queries, whole: what it leaves in the three arrays. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
/-- The values after the tiles done are determined. -/
theorem RunP.det {k0_t1 : Fin k0_t1_loop.trips} {v32 : Elt F .i32} {k0_h1 : k0_cond1 v32 = 1#1} {v47 : Elt F .i32} {k0_hw1 : k0_chk1 k0_t1 v32 v47} {v56 : FVec F S128x512 .fp8e4m3} {v61 : FVec F S1x512 .f32} {K : BufTy.Contents (Elt F) pkM.view.ty} {V : BufTy.Contents (Elt F) pvM.view.ty} {Ks : BufTy.Contents (Elt F) pksM.view.ty} {Vs : BufTy.Contents (Elt F) pvsM.view.ty}
    {n k : ℕ} {s : St F} (h : RunP k0_t1 v32 k0_h1 v47 k0_hw1 v56 v61 K V Ks Vs n k s) : ∀ n' k' s', RunP k0_t1 v32 k0_h1 v47 k0_hw1 v56 v61 K V Ks Vs n' k' s' → n = n' → k = k' → s = s' := by
  induction h with
  | start =>
    intro n' k' s' h' hn hk
    cases h' with
    | start => rfl
    | tile t k s _ => omega
    | next t s _ => omega
  | tile t k s _ ih =>
    intro n' k' s' h' hn hk
    cases h' with
    | start => omega
    | tile t' kk s' hs' =>
      obtain rfl : t = t' := Fin.ext hn
      obtain rfl : k = kk := Fin.ext (by omega)
      rw [ih _ _ _ hs' rfl rfl]
    | next t' s' _ => omega
  | next t s _ ih =>
    intro n' k' s' h' hn hk
    cases h' with
    | start => omega
    | tile t' kk s' hs' => omega
    | next t' s' hs' =>
      obtain rfl : t = t' := Fin.ext (by omega)
      exact ih _ _ _ hs' rfl rfl

/-- The values after the tiles done are determined. -/
theorem RunC.det {k0_t1 : Fin k0_t1_loop.trips} {k0_t2 : Fin k0_t2_loop.trips} {v37 : BitVec 32} {v123 : FVec F S128x512 .fp8e4m3} {v128 : FVec F S1x512 .f32} {K : BufTy.Contents (Elt F) ckM.view.ty} {V : BufTy.Contents (Elt F) cvM.view.ty} {Ks : BufTy.Contents (Elt F) cksM.view.ty} {Vs : BufTy.Contents (Elt F) cvsM.view.ty}
    {n k : ℕ} {s : St F} (h : RunC k0_t1 k0_t2 v37 v123 v128 K V Ks Vs n k s) : ∀ n' k' s', RunC k0_t1 k0_t2 v37 v123 v128 K V Ks Vs n' k' s' → n = n' → k = k' → s = s' := by
  induction h with
  | start =>
    intro n' k' s' h' hn hk
    cases h' with
    | start => rfl
    | tile t k s _ => omega
    | next t s _ => omega
  | tile t k s _ ih =>
    intro n' k' s' h' hn hk
    cases h' with
    | start => omega
    | tile t' kk s' hs' =>
      obtain rfl : t = t' := Fin.ext hn
      obtain rfl : k = kk := Fin.ext (by omega)
      rw [ih _ _ _ hs' rfl rfl]
    | next t' s' _ => omega
  | next t s _ ih =>
    intro n' k' s' h' hn hk
    cases h' with
    | start => omega
    | tile t' kk s' hs' => omega
    | next t' s' hs' =>
      obtain rfl : t = t' := Fin.ext (by omega)
      exact ih _ _ _ hs' rfl rfl

/-- What the kernel is given: which tiles of queries to work on, the lengths, and the arrays as it finds them. -/
structure Ins (F : FTy → Type) where
  flag : Fin k0_t1_loop.trips → Fin k0_t2_loop.trips → Elt F .i32
  clen : Fin k0_t1_loop.trips → Elt F .i32
  plen : Elt F .i32
  Q : BufTy.Contents (Elt F) qtM.view.ty
  Qs : BufTy.Contents (Elt F) qsM.view.ty
  K : BufTy.Contents (Elt F) pkM.view.ty
  V : BufTy.Contents (Elt F) pvM.view.ty
  Ks : BufTy.Contents (Elt F) pksM.view.ty
  Vs : BufTy.Contents (Elt F) pvsM.view.ty
  CK : BufTy.Contents (Elt F) ckM.view.ty
  CV : BufTy.Contents (Elt F) cvM.view.ty
  CKs : BufTy.Contents (Elt F) cksM.view.ty
  CVs : BufTy.Contents (Elt F) cvsM.view.ty

/-- The three arrays the kernel fills. -/
structure Outs (F : FTy → Type) where
  O : BufTy.Contents (Elt F) outM.view.ty
  P : BufTy.Contents (Elt F) lsePM.view.ty
  C : BufTy.Contents (Elt F) lseCM.view.ty

instance : Nonempty (St F) := ⟨⟨k0_pay73, k0_pay74, k0_pay75⟩⟩

/-- The first query of tile `t`. -/
def v37 (t : Fin k0_t2_loop.trips) : BitVec 32 := Scalar.muli (Scf.iv 0#32 1#32 t) 128#32

namespace Ins

variable (X : Ins F) (i : Fin k0_t1_loop.trips) (t : Fin k0_t2_loop.trips)

def v56 : FVec F S128x512 .fp8e4m3 :=
  k0_pay51 (ldQ0 (fetchQ i t X.Q)) (ldQ1 (fetchQ i t X.Q)) (ldQ2 (fetchQ i t X.Q)) (ldQ3 (fetchQ i t X.Q))
def v61 : FVec F S1x512 .f32 :=
  k0_pay52 (ldS0 (fetchQs i t X.Qs)) (ldS1 (fetchQs i t X.Qs)) (ldS2 (fetchQs i t X.Qs)) (ldS3 (fetchQs i t X.Qs))
def v123 : FVec F S128x512 .fp8e4m3 :=
  k0_pay71 (ldQ0 (fetchQ i t X.Q)) (ldQ1 (fetchQ i t X.Q)) (ldQ2 (fetchQ i t X.Q)) (ldQ3 (fetchQ i t X.Q))
def v128 : FVec F S1x512 .f32 :=
  k0_pay72 (ldS0 (fetchQs i t X.Qs)) (ldS1 (fetchQs i t X.Qs)) (ldS2 (fetchQs i t X.Qs)) (ldS3 (fetchQs i t X.Qs))

/-- What the prompt's keys come to. -/
def endP (h1 : k0_cond1 (X.flag i t) = 1#1) (hw : k0_chk1 i (X.flag i t) X.plen) : St F := Classical.epsilon fun s => RunP i (X.flag i t) h1 X.plen hw (X.v56 i t) (X.v61 i t) X.K X.V X.Ks X.Vs (k0_t3_loop X.plen).trips 0 s
/-- What the completion's keys come to. -/
def endC : St F := Classical.epsilon fun s => RunC i t (v37 t) (X.v123 i t) (X.v128 i t) X.CK X.CV X.CKs X.CVs (k0_t9_loop t).trips 0 s

theorem endP_eq (h1 : k0_cond1 (X.flag i t) = 1#1) (hw : k0_chk1 i (X.flag i t) X.plen) {s} (h : RunP i (X.flag i t) h1 X.plen hw (X.v56 i t) (X.v61 i t) X.K X.V X.Ks X.Vs (k0_t3_loop X.plen).trips 0 s) : X.endP i t h1 hw = s :=
  (Classical.epsilon_spec (p := fun s => RunP i (X.flag i t) h1 X.plen hw (X.v56 i t) (X.v61 i t) X.K X.V X.Ks X.Vs (k0_t3_loop X.plen).trips 0 s) ⟨s, h⟩).det _ _ _ h rfl rfl
theorem endC_eq {s} (h : RunC i t (v37 t) (X.v123 i t) (X.v128 i t) X.CK X.CV X.CKs X.CVs (k0_t9_loop t).trips 0 s) : X.endC i t = s :=
  (Classical.epsilon_spec (p := fun s => RunC i t (v37 t) (X.v123 i t) (X.v128 i t) X.CK X.CV X.CKs X.CVs (k0_t9_loop t).trips 0 s) ⟨s, h⟩).det _ _ _ h rfl rfl

/-- The prompt's part of the result and its log-sum-exp, and the completion's. -/
def op (h1 : k0_cond1 (X.flag i t) = 1#1) (hw : k0_chk1 i (X.flag i t) X.plen) : FVec F S128x512 .f32 := k0_pay69 (ldAcc accB (X.endP i t h1 hw).acc) (ldRow lB (X.endP i t h1 hw).l)
def lsep (h1 : k0_cond1 (X.flag i t) = 1#1) (hw : k0_chk1 i (X.flag i t) X.plen) : FVec F S1x512 .f32 := k0_pay70 (ldRow mB (X.endP i t h1 hw).m) (ldRow lB (X.endP i t h1 hw).l)
def lsec : FVec F S1x512 .f32 := k0_pay88 (ldRow mB (X.endC i t).m) (ldRow lB (X.endC i t).l)
/-- The two parts put together. -/
def v193 (h1 : k0_cond1 (X.flag i t) = 1#1) (hw : k0_chk1 i (X.flag i t) X.plen) : FVec F S128x512 .f32 :=
  k0_pay89 (ldAcc accB (X.endC i t).acc) (ldRow lB (X.endC i t).l) (ldRow mB (X.endC i t).m) (ldRow lB (X.endC i t).l) (ldRow lsepB (X.lsep i t h1 hw)) (ldAcc opB (X.op i t h1 hw))
/-- Which queries of the tile the completion has. -/
def v202 : IVec S1x512 1 := k0_pay91 (v37 t) (X.clen i)

/-- The tile's blocks. -/
def blkO (h1 : k0_cond1 (X.flag i t) = 1#1) (hw : k0_chk1 i (X.flag i t) X.plen) : BufTy.Contents (Elt F) oB.view.ty :=
  colBlk (k0_pay93 (X.v193 i t h1 hw) (X.v202 i t) (Scalar.ofBits .f32 0x00000000#32)) (k0_pay94 (X.v193 i t h1 hw) (X.v202 i t) (Scalar.ofBits .f32 0x00000000#32))
    (k0_pay95 (X.v193 i t h1 hw) (X.v202 i t) (Scalar.ofBits .f32 0x00000000#32)) (k0_pay96 (X.v193 i t h1 hw) (X.v202 i t) (Scalar.ofBits .f32 0x00000000#32))
def blkP (h1 : k0_cond1 (X.flag i t) = 1#1) (hw : k0_chk1 i (X.flag i t) X.plen) : BufTy.Contents (Elt F) rowB.view.ty :=
  let x := k0_pay98 (ldRow lsepB (X.lsep i t h1 hw)) X.plen
  rowBlk (k0_pay100 (X.v202 i t) x) (k0_pay101 (X.v202 i t) x) (k0_pay102 (X.v202 i t) x) (k0_pay103 (X.v202 i t) x)
def blkC : BufTy.Contents (Elt F) rowB.view.ty :=
  let x := k0_pay97 (F := F) (k0_pay90 (v37 t))
  rowBlk (k0_pay105 (X.lsec i t) (X.v202 i t) x) (k0_pay106 (X.lsec i t) (X.v202 i t) x) (k0_pay1 (k0_pay107 (X.lsec i t) (X.v202 i t) x)) (k0_pay2 (k0_pay104 (X.lsec i t) (X.v202 i t) x))

open Classical in
/-- The three arrays after tile `t` of point `i`. -/
def step (o : Outs F) : Outs F :=
  if h1 : k0_cond1 (X.flag i t) = 1#1 then
    if hw : k0_chk1 i (X.flag i t) X.plen then
      ⟨putO i t o.O (X.blkO i t h1 hw), putP i t o.P (X.blkP i t h1 hw), putC i t o.C (X.blkC i t)⟩
    else o
  else o

/-- The three arrays after `k` tiles of point `i`. -/
def tiles (i : Fin k0_t1_loop.trips) (o : Outs F) : ℕ → Outs F
  | 0 => o
  | k + 1 => if h : k < k0_t2_loop.trips then X.step i ⟨k, h⟩ (tiles i o k) else tiles i o k

/-- The three arrays after `n` points. -/
def points (o : Outs F) : ℕ → Outs F
  | 0 => o
  | n + 1 => if h : n < k0_t1_loop.trips then X.tiles ⟨n, h⟩ (points o n) k0_t2_loop.trips else points o n

end Ins

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- The word of the table of tiles at tile `t` of point `i`. -/
def flagW (i : Fin k0_t1_loop.trips) (t : Fin k0_t2_loop.trips) (a0 : BufTy.Contents (Elt F) arg0.view.ty) : Elt F .i32 :=
  View.readAt (Elt F) arg0.view (Rect.unit (s := S10x6x32) (k0_off1 i t) S1x1x1.size (k0_off1_inb i t)).toLoadRect a0 (Shape.Idx.first (numel1_S1x1x1.symm ▸ Nat.one_pos))

/-- The arrays the kernel reads. -/
abbrev reads (c : Dev nD) (X : Ins F) : sProp 𝕄 :=
  iprop(held c qtM X.Q ∗ held c qsM X.Qs ∗ held c pkM X.K ∗ held c pvM X.V ∗ held c pksM X.Ks ∗ held c pvsM X.Vs ∗ held c ckM X.CK ∗ held c cvM X.CV ∗ held c cksM X.CKs ∗ held c cvsM X.CVs)
/-- The arrays the kernel fills. -/
abbrev fills (c : Dev nD) (o : Outs F) : sProp 𝕄 :=
  iprop(held c outM o.O ∗ held c lsePM o.P ∗ held c lseCM o.C)
/-- The kernel's own buffers, at any contents. -/
abbrev bufs (c : Dev nD) : sProp 𝕄 :=
  iprop((∃ f : BufTy.Contents (Elt F) qB.view.ty, held c qB f) ∗ (∃ f : BufTy.Contents (Elt F) qsB.view.ty, held c qsB f) ∗ (∃ f : BufTy.Contents (Elt F) kB.view.ty, held c kB f) ∗ (∃ f : BufTy.Contents (Elt F) vB.view.ty, held c vB f) ∗ (∃ f : BufTy.Contents (Elt F) ksB.view.ty, held c ksB f) ∗ (∃ f : BufTy.Contents (Elt F) vsB.view.ty, held c vsB f) ∗ (∃ f : BufTy.Contents (Elt F) mB.view.ty, held c mB f) ∗ (∃ f : BufTy.Contents (Elt F) lB.view.ty, held c lB f) ∗ (∃ f : BufTy.Contents (Elt F) accB.view.ty, held c accB f) ∗ (∃ f : BufTy.Contents (Elt F) opB.view.ty, held c opB f) ∗ (∃ f : BufTy.Contents (Elt F) lsepB.view.ty, held c lsepB f) ∗ (∃ f : BufTy.Contents (Elt F) oB.view.ty, held c oB f) ∗ (∃ f : BufTy.Contents (Elt F) rowB.view.ty, held c rowB f))
/-- The kernel's own semaphores, at rest, and nothing owed at the start. -/
abbrev rest (c : Dev nD) : sProp 𝕄 :=
  iprop(idle c cc0_scratch13 ∗ idle c cc0_scratch14 ∗ idle c cc0_scratch15 ∗ idle c cc0_scratch16 ∗ idle c cc0_scratch17 ∗ idle c cc0_scratch18 ∗ idle c cc0_scratch19 ∗ idle c cc0_scratch20 ∗ (∃ W, owes (c : Thread nD τ) 0 W))

set_option maxHeartbeats 2000000 in
/-- One tile of queries. -/
theorem tile (c : Dev nD) (X : Ins F) (i : Fin k0_t1_loop.trips) (v17 v27 : BitVec 32) (t : Fin k0_t2_loop.trips) (o : Outs F)
   (a0 : BufTy.Contents (Elt F) arg0.view.ty) (a1 : BufTy.Contents (Elt F) arg1.view.ty) (a2 : BufTy.Contents (Elt F) arg2.view.ty)
   (hv : ∀ x, (arg2.view.read (Elt F) a2 x : BitVec 32).toInt ≤ 24576)
   (hf : flagW i t a0 = X.flag i t) (hc : clenW i a1 = X.clen i) (hp : plenW a2 = X.plen) :
   iprop(held c arg0 a0 ∗ held c arg1 a1 ∗ held c arg2 a2 ∗ reads c X ∗ fills c o ∗ bufs c ∗ rest c)
   ⊢ (wp frame (wpE (defs₀ (F := F)) Variants.none (c : Thread nD τ) none) Set.univ
      (k0_t2_body (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 i v17 v27 t ⟨⟩)
      (fun r => iprop(held c arg0 a0 ∗ held c arg1 a1 ∗ held c arg2 a2 ∗ reads c X ∗ fills c (X.step i t o) ∗ bufs c ∗ rest c)) : sProp 𝕄) := by
  unfold k0_t2_body
  iintro ⟨A0, A1, A2, ⟨G1, G2, G3, G4, G5, G6, G7, G8, G9, G10⟩, ⟨O1, O2, O3⟩, ⟨⟨%b1, B1⟩, ⟨%b2, B2⟩, ⟨%b3, B3⟩, ⟨%b4, B4⟩, ⟨%b5, B5⟩, ⟨%b6, B6⟩, ⟨%b7, B7⟩, ⟨%b8, B8⟩, ⟨%b9, B9⟩, ⟨%b10, B10⟩, ⟨%b11, B11⟩, ⟨%b12, B12⟩, ⟨%b13, B13⟩⟩, ⟨S1, S2, S3, S4, S5, S6, S7, S8, ⟨%W, HW⟩⟩⟩
  set_option sl_exec.stopBefore "k0_cond1" in sl_exec
  have e0 : tile.sl.r i t a0 = X.flag i t := hf
  rw [e0]
  by_cases h1 : k0_cond1 (X.flag i t) = 1#1
  · set_option sl_exec.stopBefore "k0_part13" in sl_exec
    rw [wp_bind]
    iapply (wp_wand_r Idealize.ShloMosaic.frame (wpE (defs₀ (F := F)) Variants.none (c : Thread nD τ) none) Set.univ)
    isplitl [A2 G1 G2 B1 B2 S1 S2 HW]
    · iapply stageA c i v17 t (X.flag i t) a2 hv X.plen hp X.Q X.Qs
      isplitl [A2]; · iexact A2
      isplitl [G1]; · iexact G1
      isplitl [G2]; · iexact G2
      isplitl [B1]; · iexists _; iexact B1
      isplitl [B2]; · iexists _; iexact B2
      isplitl [S1]; · iexact S1
      isplitl [S2]; · iexact S2
      iexists _; iexact HW
    iintro %r ⟨A2, G1, G2, B1, B2, S1, S2, ⟨%W1, HW⟩, %hr⟩
    obtain ⟨hw, rfl⟩ := hr
    dsimp only
    rw [wp_bind]
    iapply (wp_wand_r Idealize.ShloMosaic.frame (wpE (defs₀ (F := F)) Variants.none (c : Thread nD τ) none) Set.univ)
    isplitl [G3 G4 G5 G6 B1 B2 B3 B4 B5 B6 B7 B8 B9 B10 B11 S3 S4 S5 S6 HW]
    · iapply stageB2 c i (X.flag i t) h1 (v37 t) X.plen hw (X.v56 i t) (X.v61 i t) X.K X.V X.Ks X.Vs (fetchQ i t X.Q) (fetchQs i t X.Qs)
      isplitl [G3]; · iexact G3
      isplitl [G4]; · iexact G4
      isplitl [G5]; · iexact G5
      isplitl [G6]; · iexact G6
      isplitl [B1]; · iexact B1
      isplitl [B2]; · iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      isplitl [B9]; · iexists _; iexact B9
      isplitl [B10]; · iexists _; iexact B10
      isplitl [B11]; · iexists _; iexact B11
      isplitl [S3]; · iexact S3
      isplitl [S4]; · iexact S4
      isplitl [S5]; · iexact S5
      isplitl [S6]; · iexact S6
      iexists _; iexact HW
    iintro %x H
    obtain ⟨x1, x2⟩ := x
    dsimp only
    rw [wp_bind]
    iapply (wp_wand_r Idealize.ShloMosaic.frame (wpE (defs₀ (F := F)) Variants.none (c : Thread nD τ) none) Set.univ)
    isplitl [H]
    · iexact H
    iintro %r ⟨G3, G4, G5, G6, B1, B2, ⟨%d3, B3⟩, ⟨%d4, B4⟩, ⟨%d5, B5⟩, ⟨%d6, B6⟩, ⟨%d7, B7⟩, ⟨%d8, B8⟩, ⟨%d9, B9⟩, ⟨%sP, %hsP, B10, B11⟩, S3, S4, S5, S6, ⟨%W2, HW⟩, %hr⟩
    subst hr
    dsimp only
    have hP := X.endP_eq i t h1 hw hsP
    rw [wp_bind]
    iapply (wp_wand_r Idealize.ShloMosaic.frame (wpE (defs₀ (F := F)) Variants.none (c : Thread nD τ) none) Set.univ)
    isplitl [B2 B7 B8 B9]
    · iapply stageC c _ _ _ (fetchQs i t X.Qs)
      isplitl [B2]; · iexact B2
      isplitl [B7]; · iexists _; iexact B7
      isplitl [B8]; · iexists _; iexact B8
      iexists _; iexact B9
    iintro %r ⟨B2, B7, B8, B9, %hr⟩
    obtain ⟨w, rfl⟩ := hr
    dsimp only
    rw [wp_bind]
    iapply (wp_wand_r Idealize.ShloMosaic.frame (wpE (defs₀ (F := F)) Variants.none (c : Thread nD τ) none) Set.univ)
    isplitl [A1 G7 G8 G9 G10 B3 B4 B5 B6 B7 B8 B9 B10 B11 S3 S4 S5 S6 HW]
    · iapply stageD c i v27 t (v37 t) _ (X.v123 i t) (X.v128 i t) w a1 (X.clen i) hc X.CK X.CV X.CKs X.CVs _ _
      isplitl [A1]; · iexact A1
      isplitl [G7]; · iexact G7
      isplitl [G8]; · iexact G8
      isplitl [G9]; · iexact G9
      isplitl [G10]; · iexact G10
      isplitl [B3]; · iexists _; iexact B3
      isplitl [B4]; · iexists _; iexact B4
      isplitl [B5]; · iexists _; iexact B5
      isplitl [B6]; · iexists _; iexact B6
      isplitl [B7]; · iexact B7
      isplitl [B8]; · iexact B8
      isplitl [B9]; · iexact B9
      isplitl [B10]; · iexact B10
      isplitl [B11]; · iexact B11
      isplitl [S3]; · iexact S3
      isplitl [S4]; · iexact S4
      isplitl [S5]; · iexact S5
      isplitl [S6]; · iexact S6
      iexists _; iexact HW
    iintro %r ⟨A1, G7, G8, G9, G10, ⟨%e3, B3⟩, ⟨%e4, B4⟩, ⟨%e5, B5⟩, ⟨%e6, B6⟩, ⟨%e7, B7⟩, ⟨%e8, B8⟩, ⟨%e9, B9⟩, B10, B11, S3, S4, S5, S6, ⟨%W3, HW⟩, %hr⟩
    obtain ⟨sC, hsC, rfl⟩ := hr
    dsimp only
    have hC := X.endC_eq i t hsC
    subst hP hC
    iapply (wp_wand_r Idealize.ShloMosaic.frame (wpE (defs₀ (F := F)) Variants.none (c : Thread nD τ) none) Set.univ)
    isplitl [A2 O1 O2 O3 B12 B13 S7 S8 HW]
    · iapply stageE c i v17 t _ _ _ _ _ _ a2 X.plen hp o.O o.P o.C
      isplitl [A2]; · iexact A2
      isplitl [O1]; · iexact O1
      isplitl [O2]; · iexact O2
      isplitl [O3]; · iexact O3
      isplitl [B12]; · iexists _; iexact B12
      isplitl [B13]; · iexists _; iexact B13
      isplitl [S7]; · iexact S7
      isplitl [S8]; · iexact S8
      iexists _; iexact HW
    iintro %r ⟨A2, O1, O2, O3, ⟨%f12, B12⟩, ⟨%f13, B13⟩, S7, S8, ⟨%W4, HW⟩⟩
    have e : X.step i t o = ⟨putO i t o.O (X.blkO i t h1 hw), putP i t o.P (X.blkP i t h1 hw), putC i t o.C (X.blkC i t)⟩ := by unfold Ins.step; rw [dif_pos h1, dif_pos hw]
    rw [e]
    isplitl [A0]; · iexact A0
    isplitl [A1]; · iexact A1
    isplitl [A2]; · iexact A2
    isplitl [G1 G2 G3 G4 G5 G6 G7 G8 G9 G10]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      iexact G10
    isplitl [O1 O2 O3]
    · isplitl [O1]; · iexact O1
      isplitl [O2]; · iexact O2
      iexact O3
    isplitl [B1 B2 B3 B4 B5 B6 B7 B8 B9 B10 B11 B12 B13]
    · isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      isplitl [B9]; · iexists _; iexact B9
      isplitl [B10]; · iexists _; iexact B10
      isplitl [B11]; · iexists _; iexact B11
      isplitl [B12]; · iexists _; iexact B12
      iexists _; iexact B13
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexists _; iexact HW
  · sl_exec
    sl_step
    have e : X.step i t o = o := by unfold Ins.step; rw [dif_neg h1]
    rw [e]
    isplitl [A0]; · iexact A0
    isplitl [A1]; · iexact A1
    isplitl [A2]; · iexact A2
    isplitl [G1 G2 G3 G4 G5 G6 G7 G8 G9 G10]
    · isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      iexact G10
    isplitl [O1 O2 O3]
    · isplitl [O1]; · iexact O1
      isplitl [O2]; · iexact O2
      iexact O3
    isplitl [B1 B2 B3 B4 B5 B6 B7 B8 B9 B10 B11 B12 B13]
    · isplitl [B1]; · iexists _; iexact B1
      isplitl [B2]; · iexists _; iexact B2
      isplitl [B3]; · iexists _; iexact B3
      isplitl [B4]; · iexists _; iexact B4
      isplitl [B5]; · iexists _; iexact B5
      isplitl [B6]; · iexists _; iexact B6
      isplitl [B7]; · iexists _; iexact B7
      isplitl [B8]; · iexists _; iexact B8
      isplitl [B9]; · iexists _; iexact B9
      isplitl [B10]; · iexists _; iexact B10
      isplitl [B11]; · iexists _; iexact B11
      isplitl [B12]; · iexists _; iexact B12
      iexists _; iexact B13
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexists _; iexact HW

end Cert.KernelIdeal.Hand

end
-- ==== Proof.BodyIdeal.lean ====
module

public import proofs.«01_k».proof.Proof.TileIdeal

@[expose] public section

set_option maxRecDepth 16384

/-! The kernel's body: the two outer loops, over tiles and over points. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
theorem Ins.tiles_succ (X : Ins F) (i : Fin k0_t1_loop.trips) (o : Outs F) (t : Fin k0_t2_loop.trips) : X.tiles i o (t.val + 1) = X.step i t (X.tiles i o t.val) :=
  dif_pos t.isLt

theorem Ins.points_succ (X : Ins F) (o : Outs F) (i : Fin k0_t1_loop.trips) : X.points o (i.val + 1) = X.tiles i (X.points o i.val) k0_t2_loop.trips :=
  dif_pos i.isLt

variable {arg0 : Memref sig .tc .smem S10x6x32 .i32} {harg0 : arg0.IsWhole} {arg1 : Memref sig .tc .smem S6 .i32} {harg1 : arg1.IsWhole} {arg2 : Memref sig .tc .smem S1 .i32} {harg2 : arg2.IsWhole}

/-- The three small arrays hold the words that `X` names. -/
structure Fits (X : Ins F) (a0 : BufTy.Contents (Elt F) arg0.view.ty) (a1 : BufTy.Contents (Elt F) arg1.view.ty) (a2 : BufTy.Contents (Elt F) arg2.view.ty) : Prop where
  le : ∀ x, (arg2.view.read (Elt F) a2 x : BitVec 32).toInt ≤ 24576
  flag : ∀ i t, flagW i t a0 = X.flag i t
  clen : ∀ i, clenW i a1 = X.clen i
  plen : plenW a2 = X.plen

/-- All tiles of one point. -/
theorem point (c : Dev nD) (X : Ins F) (i : Fin k0_t1_loop.trips) (o : Outs F) (a0 : BufTy.Contents (Elt F) arg0.view.ty) (a1 : BufTy.Contents (Elt F) arg1.view.ty) (a2 : BufTy.Contents (Elt F) arg2.view.ty)
    (h : Fits X a0 a1 a2) :
   iprop(held c arg0 a0 ∗ held c arg1 a1 ∗ held c arg2 a2 ∗ reads c X ∗ fills c (o) ∗ bufs c ∗ rest c)
   ⊢ (wp frame (wpE (defs₀ (F := F)) Variants.none (c : Thread nD τ) none) Set.univ
      (k0_t1_body (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20 i ⟨⟩)
      (fun r => iprop(held c arg0 a0 ∗ held c arg1 a1 ∗ held c arg2 a2 ∗ reads c X ∗ fills c (X.tiles i o k0_t2_loop.trips) ∗ bufs c ∗ rest c)) : sProp 𝕄) := by
  unfold k0_t1_body
  dsimp only
  rw [wp_bind]
  iintro H
  iapply (Scf.wp_for frame (wpE (defs₀ (F := F)) Variants.none (c : Thread nD τ) none) Set.univ _ _ _ _ _ _ (fun k _ => iprop(held c arg0 a0 ∗ held c arg1 a1 ∗ held c arg2 a2 ∗ reads c X ∗ fills c (X.tiles i o k) ∗ bufs c ∗ rest c))
    (fun t _ => by
      dsimp only
      rw [X.tiles_succ i o t]
      exact (tile (harg0 := harg0) (harg1 := harg1) (harg2 := harg2) c X i _ _ t (X.tiles i o t) a0 a1 a2 h.le (h.flag i t) (h.clen i) h.plen)))
  isplitl [H]
  · iexact H
  iintro %r H
  sl_step
  iexact H

/-- The kernel's body: all points. -/
theorem body (c : Dev nD) (X : Ins F) (o : Outs F) (a0 : BufTy.Contents (Elt F) arg0.view.ty) (a1 : BufTy.Contents (Elt F) arg1.view.ty) (a2 : BufTy.Contents (Elt F) arg2.view.ty)
    (h : Fits X a0 a1 a2) :
   iprop(held c arg0 a0 ∗ held c arg1 a1 ∗ held c arg2 a2 ∗ reads c X ∗ fills c (o) ∗ bufs c ∗ rest c)
   ⊢ (wp frame (wpE (defs₀ (F := F)) Variants.none (c : Thread nD τ) none) Set.univ
      (cc0_attend_general (F := F) arg0 harg0 arg1 harg1 arg2 harg2 qtM (Memref.isWhole_whole _) qsM (Memref.isWhole_whole _) pkM (Memref.isWhole_whole _) pvM (Memref.isWhole_whole _) pksM (Memref.isWhole_whole _) pvsM (Memref.isWhole_whole _) ckM (Memref.isWhole_whole _) cvM (Memref.isWhole_whole _) cksM (Memref.isWhole_whole _) cvsM (Memref.isWhole_whole _) outM (Memref.isWhole_whole _) lsePM (Memref.isWhole_whole _) lseCM (Memref.isWhole_whole _) outM (Memref.isWhole_whole _) lsePM (Memref.isWhole_whole _) lseCM (Memref.isWhole_whole _) qB (Memref.isWhole_whole _) qsB (Memref.isWhole_whole _) kB (Memref.isWhole_whole _) vB (Memref.isWhole_whole _) ksB (Memref.isWhole_whole _) vsB (Memref.isWhole_whole _) mB (Memref.isWhole_whole _) lB (Memref.isWhole_whole _) accB (Memref.isWhole_whole _) opB (Memref.isWhole_whole _) lsepB (Memref.isWhole_whole _) oB (Memref.isWhole_whole _) rowB (Memref.isWhole_whole _) cc0_scratch13 cc0_scratch14 cc0_scratch15 cc0_scratch16 cc0_scratch17 cc0_scratch18 cc0_scratch19 cc0_scratch20)
      (fun r => iprop(held c arg0 a0 ∗ held c arg1 a1 ∗ held c arg2 a2 ∗ reads c X ∗ fills c (X.points o k0_t1_loop.trips) ∗ bufs c ∗ rest c)) : sProp 𝕄) := by
  rw [cc0_attend_general_eq_skeleton]
  unfold cc0_attend_general_skel
  rw [wp_bind]
  iintro H
  iapply (Scf.wp_for frame (wpE (defs₀ (F := F)) Variants.none (c : Thread nD τ) none) Set.univ _ _ _ _ _ _ (fun k _ => iprop(held c arg0 a0 ∗ held c arg1 a1 ∗ held c arg2 a2 ∗ reads c X ∗ fills c (X.points o k) ∗ bufs c ∗ rest c))
    (fun i _ => by
      dsimp only
      rw [X.points_succ o i]
      exact (point (harg0 := harg0) (harg1 := harg1) (harg2 := harg2) c X i (X.points o i) a0 a1 a2 h)))
  isplitl [H]
  · iexact H
  iintro %r H
  sl_step
  iexact H

end Cert.KernelIdeal.Hand

end
-- ==== Proof.LaunchIdeal.lean ====
module

public import proofs.«01_k».proof.Proof.BodyIdeal
public import proofs.«01_k».proof.Proof.Gen.KernelIdeal.Frame
public import Idealize.ShloMosaic.Lib.Pipeline.FrameSuffixV

@[expose] public section

set_option maxRecDepth 16384

/-! The kernel launched: its region inside the program, from the buffers it finds to the buffers it leaves. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
variable (m : (ℓ : Loc nD τ sig) → Buf (Elt F) ℓ) (ρ : Dev nD → PrngReg)

/-! The program around the kernel's region. -/

theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The kernel's own DMA cells. -/
abbrev osem0 : Fin 8 → SemLoc sig := fun j => (![SemLoc.dma 3, SemLoc.dma 4, SemLoc.dma 5, SemLoc.dma 6, SemLoc.dma 7, SemLoc.dma 8, SemLoc.dma 9, SemLoc.dma 10] : Fin 8 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(idle c cc0_scratch13 ∗ idle c cc0_scratch14 ∗ idle c cc0_scratch15 ∗ idle c cc0_scratch16 ∗ idle c cc0_scratch17 ∗ idle c cc0_scratch18 ∗ idle c cc0_scratch19 ∗ idle c cc0_scratch20) := by
  rw [Pipeline.ownSems0_eq_of_list c osem0 [0, 1, 2, 3, 4, 5, 6, 7] (by decide) (by decide)]; rfl

/-- The arrays the kernel's transfers read, -/
def H0 : Finset (Ref sig .tc) := {main_v0, main_v2, main_v3, main_v5, main_v7, main_v9, main_v10, main_v12, main_v14, main_v16}
theorem H0_sub : H0 ⊆ Pipeline.restRefs sig spec0 := by decide
/-- and those they fill. -/
def R0 : Finset (Ref sig .tc) := {main_v31_0, main_v31_1, main_v31_2}
theorem R0_sub : R0 ⊆ Pipeline.restRefs sig spec0 \ H0 := by decide

theorem held_whole (c : Dev nD) (b : Ref sig .tc) (f : Buf (Elt F) ((c : Thread nD τ).loc b)) :
    (held (F := F) c (Memref.whole b) f : sProp 𝕄) = ((c : Thread nD τ).loc b) ↦{fullShare} f := by
  unfold held
  simp only [Memref.view_whole, View.set_whole]

theorem held_any (c : Dev nD) (b : Ref sig .tc) :
    (iprop(∃ f : Buf (Elt F) ((c : Thread nD τ).loc b), ((c : Thread nD τ).loc b) ↦{fullShare} f) : sProp 𝕄) = iprop(∃ f, held (F := F) c (Memref.whole b) f) :=
  congrArg BIBase.exists (funext fun f => (held_whole c b f).symm)

theorem both {A B C D : sProp 𝕄} (h : A = B) (h' : C = D) : iprop(A ∗ C) = iprop(B ∗ D) := by rw [h, h']

theorem bufs_eq (c : Dev nD) : (Pipeline.scopedRest (Ix := Unit) (Name := ℕ) (U := Pipeline.UD sig nD τ) (Lvl := ℕ) (Val := Elt F) spec0 c : sProp 𝕄) = bufs c := by
  rw [scopedRest0_eq]
  exact both (held_any c cc0_scratch0) (both (held_any c cc0_scratch1) (both (held_any c cc0_scratch2) (both (held_any c cc0_scratch3) (both (held_any c cc0_scratch4) (both (held_any c cc0_scratch5) (both (held_any c cc0_scratch6) (both (held_any c cc0_scratch7) (both (held_any c cc0_scratch8) (both (held_any c cc0_scratch9) (both (held_any c cc0_scratch10) (both (held_any c cc0_scratch11) (held_any c cc0_scratch12))))))))))))

/-- What the kernel is given: the words of its three small arrays and the ten large ones. -/
def insOf (w0 : S10x6x32.Idx → Elt F .i32) (w1 : S6.Idx → Elt F .i32) (w2 : S1.Idx → Elt F .i32) (W : (b : Ref sig .tc) → BufTy.Contents (Elt F) b.ty) : Ins F where
  flag i t := w0 ((Rect.unit (s := S10x6x32) (k0_off1 i t) S1x1x1.size (k0_off1_inb i t)).toLoadRect.idx (Shape.Idx.first (numel1_S1x1x1.symm ▸ Nat.one_pos)))
  clen i := w1 ((Rect.unit (s := S6) (k0_off60 i) S1.size (k0_off60_inb i)).toLoadRect.idx (Shape.Idx.first (numel1_S1.symm ▸ Nat.one_pos)))
  plen := w2 ((Rect.unit (s := S1) ![0] S1.size inb_S1_S1_0).toLoadRect.idx (Shape.Idx.first (numel1_S1.symm ▸ Nat.one_pos)))
  Q := W main_v0
  Qs := W main_v2
  K := W main_v3
  V := W main_v5
  Ks := W main_v7
  Vs := W main_v9
  CK := W main_v10
  CV := W main_v12
  CKs := W main_v14
  CVs := W main_v16

/-- What it is given in the run. -/
def ins (c : Dev nD) : Ins F := insOf (iblk m c 0 t0_0) (iblk m c 1 t0_0) (iblk m c 2 t0_0) (V m c)

/-- The three result arrays as the region finds them, -/
def outs0 (c : Dev nD) : Outs F := ⟨V m c main_v31_0, V m c main_v31_1, V m c main_v31_2⟩
/-- and as it leaves them. -/
def outs1 (c : Dev nD) : Outs F := (ins m c).points (outs0 m c) k0_t1_loop.trips

/-- The contents the region leaves. -/
def G (c : Dev nD) (b : Ref sig .tc) : Buf (Elt F) ((c : Thread nD τ).loc b) :=
  Function.update (Function.update (Function.update (V m c) main_v31_0 (outs1 m c).O) main_v31_1 (outs1 m c).P) main_v31_2 (outs1 m c).C b

theorem G_0 (c : Dev nD) : G m c main_v31_0 = (outs1 m c).O := by
  unfold G
  rw [Function.update_of_ne (by decide), Function.update_of_ne (by decide), Function.update_self]
theorem G_1 (c : Dev nD) : G m c main_v31_1 = (outs1 m c).P := by
  unfold G
  rw [Function.update_of_ne (by decide), Function.update_self]
theorem G_2 (c : Dev nD) : G m c main_v31_2 = (outs1 m c).C := by
  unfold G
  rw [Function.update_self]

theorem reads_eq (c : Dev nD) (w0 w1 w2) (W : (b : Ref sig .tc) → BufTy.Contents (Elt F) b.ty) : (bigSep H0 (fun b => ((c : Thread nD τ).loc b) ↦{fullShare} (W b : Buf (Elt F) ((c : Thread nD τ).loc b))) : sProp 𝕄) = reads c (insOf w0 w1 w2 W) := by
  rw [BI.bigSep_eq_bigSepL_of_eq [main_v0, main_v2, main_v3, main_v5, main_v7, main_v9, main_v10, main_v12, main_v14, main_v16] (by decide) (by decide)]
  exact both ((held_whole c main_v0 _).symm) (both ((held_whole c main_v2 _).symm) (both ((held_whole c main_v3 _).symm) (both ((held_whole c main_v5 _).symm) (both ((held_whole c main_v7 _).symm) (both ((held_whole c main_v9 _).symm) (both ((held_whole c main_v10 _).symm) (both ((held_whole c main_v12 _).symm) (both ((held_whole c main_v14 _).symm) ((held_whole c main_v16 _).symm)))))))))

theorem fills_eq (c : Dev nD) (W : (c : Dev nD) → (b : Ref sig .tc) → Buf (Elt F) ((c : Thread nD τ).loc b)) :
    (bigSep R0 (fun b => ((c : Thread nD τ).loc b) ↦{fullShare} W c b) : sProp 𝕄) = fills c ⟨W c main_v31_0, W c main_v31_1, W c main_v31_2⟩ := by
  rw [BI.bigSep_eq_bigSepL_of_eq [main_v31_0, main_v31_1, main_v31_2] (by decide) (by decide)]
  exact both ((held_whole c main_v31_0 _).symm) (both ((held_whole c main_v31_1 _).symm) ((held_whole c main_v31_2 _).symm))

/-- The proof data of the region: its small arrays stay, its results go from what it finds to what it leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ j := Pipeline.ΦDRV osem0 spec0 H0 R0 (V m) (if j.val = 0 then V m else G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

abbrev ms0_0 (t : Fin cfg0.N) : Memref sig .tc .smem S10x6x32 .i32 := win0_0.stage (cfg0.slots t 0)
abbrev ms0_1 (t : Fin cfg0.N) : Memref sig .tc .smem S6 .i32 := win0_1.stage (cfg0.slots t 1)
abbrev ms0_2 (t : Fin cfg0.N) : Memref sig .tc .smem S1 .i32 := win0_2.stage (cfg0.slots t 2)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t))

set_option maxHeartbeats 2000000 in
theorem sound_body (hv : ∀ c x, (iblk m c 2 t0_0 x : BitVec 32).toInt ≤ 24576) (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0, after0_1, after0_2]
  simp only [before0_0, before0_1, before0_2]
  rw [show (dats m 0 c).Φ t0_0.succ = Pipeline.ΦDRV osem0 spec0 H0 R0 (V m) (G m) c from rfl]
  rw [show (dats m 0 c).Φ t0_0.castSucc = Pipeline.ΦDRV osem0 spec0 H0 R0 (V m) (V m) c from rfl]
  unfold Pipeline.ΦDRV
  rw [bufs_eq, ownSems00_eq, reads_eq, fills_eq, fills_eq, G_0, G_1, G_2]
  unfold Dat.owesAt Pipeline.owesWithin
  rw [show (dats m 0 c).owed t0_0.castSucc = 0 from rfl, show (dats m 0 c).owed t0_0.succ = 0 from rfl]
  unfold owns
  iintro ⟨⟨HB, ⟨S1, S2, S3, S4, S5, S6, S7, S8⟩, HG, HO⟩, ⟨%W, -, HW⟩, ⟨%d0, %a0, %h0, A0⟩, ⟨%d1, %a1, %h1, A1⟩, ⟨%d2, %a2, %h2, A2⟩⟩
  have fits : Fits (ins m c) a0 a1 a2 := ⟨fun x => by rw [h2]; exact hv c x, fun i t => congrFun h0 _, fun i => congrFun h1 _, congrFun h2 _⟩
  have hb := body (harg0 := hstage0_0 0) (harg1 := hstage0_1 0) (harg2 := hstage0_2 0) c (ins m c) (outs0 m c) a0 a1 a2 fits
  rw [show (ins m c).points (outs0 m c) k0_t1_loop.trips = outs1 m c from rfl] at hb
  generalize outs1 m c = o1 at hb ⊢
  iapply (wp_wand_r Idealize.ShloMosaic.frame (wpE (defs₀ (F := F)) Variants.none (c : Thread nD τ) none) Set.univ)
  isplitl [HB S1 S2 S3 S4 S5 S6 S7 S8 HG HO HW A0 A1 A2]
  · iapply hb
    isplitl [A0]; · iexact A0
    isplitl [A1]; · iexact A1
    isplitl [A2]; · iexact A2
    isplitl [HG]; · iexact HG
    isplitl [HO]; · iexact HO
    isplitl [HB]; · iexact HB
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexists W; iexact HW
  iintro %r ⟨A0, A1, A2, HG, HO, HB, S1, S2, S3, S4, S5, S6, S7, S8, ⟨%W', HW'⟩⟩
  isplitl [HB S1 S2 S3 S4 S5 S6 S7 S8 HG HO]
  · isplitl [HB]; · iexact HB
    isplitl [S1 S2 S3 S4 S5 S6 S7 S8]
    · isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [HG]; · iexact HG
    iexact HO
  isplitl [HW']
  · iexists W'; isplitr; · ipureintro; exact fun _ _ => Or.inl trivial
    iexact HW'
  isplitl [A0]
  · iexists a0; isplitr; · ipureintro; exact h0
    iexact A0
  isplitl [A1]
  · iexists a1; isplitr; · ipureintro; exact h1
    iexact A1
  iexists a2; isplitr; · ipureintro; exact h2
  iexact A2

theorem defs₀_row (t : Fin cfg0.N) :
    defs₀ (F := F) .tc cfg0.body (cfg0.bodyArgs t (cfg0.slots t)) = bodyAt0 t := by
  unfold defs₀; rw [Defs.onTc_tc]

theorem body_obligation (hv : ∀ c x, (iblk m c 2 t0_0 x : BitVec 32).toInt ≤ 24576) (c : Dev nD) : BodyObligation (dats (F := F) m 0 c) (defs₀ (F := F)) Variants.none () Set.univ := fun t => by
  rw [bigSep_W0, bigSep_W0, defs₀_row]
  exact triple_restated (sound_body m hv c t) rfl .rfl fun _ => .rfl

/-- What the run ends with: every buffer outside the region's small arrays holds what the lines after the region make of
    what the region leaves, and every counter is at zero. -/
def RunPost (r : PUnit × MemSt nD τ sig (Elt F)) : Prop :=
  (∀ c : Dev nD, (∀ w, r.2.mem ((spec0 w).arr.view.loc (c : Thread nD τ)) = (dats m 0 c).arrAt w cfg0.N)
    ∧ ∀ b ∈ Pipeline.restRefs sig spec0, r.2.mem ((c : Thread nD τ).loc b)
      = StableHlo.after (List.flatten [hostOps1]) (Pipeline.withArrays spec0 c (Pipeline.withR (V0 m c) R0 c (G m c)) fun w => (dats m 0 c).arrAt w cfg0.N) (Proc.devRef .tc b))
  ∧ r.2.sem = fun _ => 0

set_option backward.isDefEq.respectTransparency.types false in
theorem run_main (hv : ∀ c x, (iblk m c 2 t0_0 x : BitVec 32).toInt ≤ 24576) : θ_run defs (onTc (τ := τ) (main (F := F))) (s₀ m ρ) (RunPost m) :=
  Pipeline.θ_run_frame_dmaR_aroundV (Q' := RunPost m) (hQ' := fun r h => ⟨h.1, h.2⟩) cfgs (dats m) (0 : Fin 1) launch0 osem0 defs₀ Variants.none ownSemFacts0 H0 R0 H0_sub R0_sub m ρ main
    (hbody := fun c => (body_obligation m hv c).loose) (hshare := fun c => (dats m 0 c).share_full fun _ => rfl)
    (howed := fun _ _ => rfl) (V₀ := V0 m) (opss := [hostOps1]) (hsub := sfx_sub) (hfresh := sfx_fresh) (hkeep := sfx_keeps) (G := G m) (hmain := hmainD m Variants.none) (hA := A_eq m)
    (hin := fun _ => .rfl) (hout := fun _ => .rfl)

end Cert.KernelIdeal.Hand

end
-- ==== Proof.FramesIdeal.lean ====
module

public import proofs.«01_k».proof.Proof.LaunchIdeal

@[expose] public section

set_option maxRecDepth 16384

/-! What the run leaves of the arguments. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ
variable (m : (ℓ : Loc nD τ sig) → Buf (Elt F) ℓ) (ρ : Dev nD → PrngReg)

/-- The lines after the region write four buffers only. -/
theorem tail_keeps (b : Ref sig .tc) (h2 : b ≠ main_v32) (h3 : b ≠ main_v33) (h4 : b ≠ main_v34) (h5 : b ≠ main_v35) :
    ∀ op ∈ (List.flatten [hostOps1] : List (HloOp τ sig (Elt F))), Proc.devRef .tc b ∉ op.writes := by
  refine List.forall_iff_forall_mem.mp ?_
  simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  exact ⟨StableHlo.devRef_ne_of_ne h2, StableHlo.devRef_ne_of_ne h3, StableHlo.devRef_ne_of_ne h4, StableHlo.devRef_ne_of_ne h5⟩

/-- A buffer that neither the region nor the lines after it write ends as the region found it. -/
theorem kept {r : PUnit × MemSt nD τ sig (Elt F)} (h : RunPost m r) (c : Dev nD) (b : Ref sig .tc) (hb : b ∈ Pipeline.restRefs sig spec0)
    (h2 : b ≠ main_v32) (h3 : b ≠ main_v33) (h4 : b ≠ main_v34) (h5 : b ≠ main_v35) (hw : ∀ w, Pipeline.arrRef spec0 w ≠ b) (hR : b ∉ R0) :
    r.2.mem ((c : Thread nD τ).loc b) = V m c b := by
  rw [(h.1 c).2 b hb, StableHlo.after_of_forall_not_mem (b := Proc.devRef .tc b) _ _ (tail_keeps b h2 h3 h4 h5),
    Pipeline.withArrays_of_ne _ c _ _ b hw, Pipeline.withR_of_not_mem _ _ c _ b hR]

/-- The arguments end as launched. -/
theorem args_kept {r : PUnit × MemSt nD τ sig (Elt F)} (h : RunPost m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨(kept m h c main_arg0 (Pipeline.mem_restRefs_of main_arg0 (by decide) (by decide)) (by decide) (by decide) (by decide) (by decide) (by decide) (by decide)).trans (V_main_arg0 m c),
    (kept m h c main_arg1 (Pipeline.mem_restRefs_of main_arg1 (by decide) (by decide)) (by decide) (by decide) (by decide) (by decide) (by decide) (by decide)).trans (V_main_arg1 m c),
    (kept m h c main_arg2 (Pipeline.mem_restRefs_of main_arg2 (by decide) (by decide)) (by decide) (by decide) (by decide) (by decide) (by decide) (by decide)).trans (V_main_arg2 m c),
    (kept m h c main_arg3 (Pipeline.mem_restRefs_of main_arg3 (by decide) (by decide)) (by decide) (by decide) (by decide) (by decide) (by decide) (by decide)).trans (V_main_arg3 m c),
    (kept m h c main_arg4 (Pipeline.mem_restRefs_of main_arg4 (by decide) (by decide)) (by decide) (by decide) (by decide) (by decide) (by decide) (by decide)).trans (V_main_arg4 m c),
    (kept m h c main_arg5 (Pipeline.mem_restRefs_of main_arg5 (by decide) (by decide)) (by decide) (by decide) (by decide) (by decide) (by decide) (by decide)).trans (V_main_arg5 m c),
    (kept m h c main_arg6 (Pipeline.mem_restRefs_of main_arg6 (by decide) (by decide)) (by decide) (by decide) (by decide) (by decide) (by decide) (by decide)).trans (V_main_arg6 m c),
    (kept m h c main_arg7 (Pipeline.mem_restRefs_of main_arg7 (by decide) (by decide)) (by decide) (by decide) (by decide) (by decide) (by decide) (by decide)).trans (V_main_arg7 m c),
    (kept m h c main_arg8 (Pipeline.mem_restRefs_of main_arg8 (by decide) (by decide)) (by decide) (by decide) (by decide) (by decide) (by decide) (by decide)).trans (V_main_arg8 m c),
    (kept m h c main_arg9 (Pipeline.mem_restRefs_of main_arg9 (by decide) (by decide)) (by decide) (by decide) (by decide) (by decide) (by decide) (by decide)).trans (V_main_arg9 m c),
    ((h.1 c).1 2).trans (((dats m 0 c).arrAt_in 2 rfl _).trans ((A_eq m c 2).trans (V_main_arg10 m c))),
    ((h.1 c).1 1).trans (((dats m 0 c).arrAt_in 1 rfl _).trans ((A_eq m c 1).trans (V_main_arg11 m c)))⟩

/-- The length of the prompt, as the region finds it, is the argument's. -/
theorem plen_eq (c : Dev nD) (x : S1.Idx) : ∃ y : S1.Idx, iblk m c 2 t0_0 x = m ((c.tc : Thread nD τ).loc main_arg10) y := by
  exact ⟨((cfg0.win 2).blk t0_0).view.emb x, congrFun (V_main_arg10 m c) _⟩

/-- The frame: from a fitting prompt length every run ends with the arguments as launched and every counter at zero. -/
theorem quiet (hv : ∀ c : Dev nD, ∀ x : S1.Idx, (show BitVec 32 from m ((c.tc : Thread nD τ).loc main_arg10) x).toInt ≤ 24576) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  (θ_run defs _ _).mono (fun _ h => ⟨args_kept m h, h.2⟩) (run_main m ρ fun c x => by
    obtain ⟨y, hy⟩ := plen_eq m c x
    rw [hy]
    exact hv c y)

end Cert.KernelIdeal.Hand

end
-- ==== Proof.Fits.lean ====
/- What the precondition says: the prompt's length is at most 24576. -/
module

public import proofs.«01_k».proof.Proof.Gen.Pre_prefix_fits

@[expose] public section

noncomputable section

namespace Cert.Proof

open Idealize.ShloMosaic Cert.Pre_prefix_fits

variable {F : FTy → Type} [FloatOps F]

/-- A one-element array has a single index. -/
theorem one_idx (x y : S1.Idx) : x = y := by
  funext d
  match d with
  | ⟨0, _⟩ => exact Subsingleton.elim (α := Fin 1) _ _

/-- The precondition, read as an inequality between integers. -/
theorem fits (a0 : FVec F S6x4096x40x128 .fp8e4m3) (a1 : FVec F S6x4096x40 .f32) (a2 : FVec F S24576x10x128 .fp8e4m3) (a3 : FVec F S24576x10x128 .fp8e4m3) (a4 : FVec F S24576x10 .f32) (a5 : FVec F S24576x10 .f32) (a6 : FVec F S6x4096x10x128 .fp8e4m3) (a7 : FVec F S6x4096x10x128 .fp8e4m3) (a8 : FVec F S6x4096x10 .f32) (a9 : FVec F S6x4096x10 .f32) (a10 : IVec S1 32) (a11 : IVec S6 32)
    (h : fn a0 a1 a2 a3 a4 a5 a6 a7 a8 a9 a10 a11 = fun _ => 1#1) (x : S1.Idx) : (a10 x).toInt ≤ 24576 := by
  have h0 := congrFun h (fun d => d.elim0)
  have h1 : (a10 x).sle 24576#32 = true := by
    have h2 : ∀ b : Bool, BitVec.ofBool b = 1#1 → b = true := by decide
    refine h2 _ (Eq.trans ?_ h0)
    simp only [fn, cmpi, IntOp.cmpi, constantI, shapeCast]
    rw [one_idx x]
  simpa [BitVec.sle] using h1

end Cert.Proof

end
-- ==== Proof.Flash.lean ====
/- Softmax taken all at once and softmax taken block by block, over the extended reals. -/
module

public import Idealize.ShloMosaic.Lib.Pointwise

@[expose] public section

noncomputable section

namespace Cert.Flash

open Idealize.ShloMosaic

variable {ι : Type}

/-- The largest of the scores in `T`, and of none. -/
def mx (T : Finset ι) (S : ι → EReal) : EReal := T.fold max ⊥ S
/-- The sum over `T` of the weights against the reference point `m`, each times `x`. -/
def ws (T : Finset ι) (S x : ι → EReal) (m : EReal) : EReal := ∑ j ∈ T, Ideal.exp (S j - m) * x j
/-- The sum of the weights. -/
def sm (T : Finset ι) (S : ι → EReal) (m : EReal) : EReal := ∑ j ∈ T, Ideal.exp (S j - m)

theorem le_mx {T : Finset ι} {S : ι → EReal} {j : ι} (h : j ∈ T) : S j ≤ mx T S :=
  (Finset.le_fold_max _).mpr (.inr ⟨j, h, le_rfl⟩)

theorem exp_bot_sub (m : EReal) : Ideal.exp (⊥ - m) = 0 := by
  rw [sub_eq_add_neg, EReal.bot_add, Ideal.exp_bot]

theorem exp_sub_top (a : EReal) : Ideal.exp (a - ⊤) = 0 := by
  rw [sub_eq_add_neg, EReal.neg_top, EReal.add_bot, Ideal.exp_bot]

/-- Moving the reference point of one weight. -/
theorem exp_move {a m n : EReal} (h : a ≤ m) (hn : m ≤ n) : Ideal.exp (a - m) * Ideal.exp (m - n) = Ideal.exp (a - n) := by
  induction a with
  | bot => rw [exp_bot_sub, exp_bot_sub, zero_mul]
  | top =>
    obtain rfl := top_le_iff.mp h
    obtain rfl := top_le_iff.mp hn
    rw [exp_sub_top, zero_mul]
  | coe a =>
    induction m with
    | bot => exact absurd h (by simp)
    | top =>
      obtain rfl := top_le_iff.mp hn
      rw [exp_sub_top, exp_sub_top, zero_mul]
    | coe m =>
      induction n with
      | bot => exact absurd hn (by simp)
      | top => rw [exp_sub_top, exp_sub_top, mul_zero]
      | coe n =>
        rw [← EReal.coe_sub, ← EReal.coe_sub, ← EReal.coe_sub, Ideal.exp_coe, Ideal.exp_coe, Ideal.exp_coe, ← EReal.coe_mul, ← Real.exp_add]
        congr 2; ring

/-- The factor that moves the reference point is zero or a positive real. -/
theorem exp_real {m n : EReal} (h : m ≤ n) : ∃ r : ℝ, 0 ≤ r ∧ Ideal.exp (m - n) = (r : EReal) := by
  induction m with
  | bot => exact ⟨0, le_rfl, by rw [exp_bot_sub]; rfl⟩
  | top =>
    obtain rfl := top_le_iff.mp h
    exact ⟨0, le_rfl, by rw [exp_sub_top]; rfl⟩
  | coe m =>
    induction n with
    | bot => exact absurd h (by simp)
    | top => exact ⟨0, le_rfl, by rw [exp_sub_top]; rfl⟩
    | coe n => exact ⟨Real.exp (m - n), (Real.exp_pos _).le, by rw [← EReal.coe_sub, Ideal.exp_coe]⟩

theorem sum_mul_real {T : Finset ι} (f : ι → EReal) {r : ℝ} (hr : 0 ≤ r) : (∑ j ∈ T, f j) * (r : EReal) = ∑ j ∈ T, f j * (r : EReal) := by
  classical
  induction T using Finset.induction_on with
  | empty => simp
  | insert j T hj ih =>
    rw [Finset.sum_insert hj, Finset.sum_insert hj, EReal.right_distrib_of_nonneg_of_ne_top (EReal.coe_nonneg.mpr hr) (EReal.coe_ne_top r), ih]

/-- Moving the reference point of a weighted sum. -/
theorem ws_move {T : Finset ι} {S x : ι → EReal} {n : EReal} (hn : mx T S ≤ n) :
    ws T S x (mx T S) * Ideal.exp (mx T S - n) = ws T S x n := by
  obtain ⟨r, hr, he⟩ := exp_real hn
  unfold ws
  rw [he, sum_mul_real _ hr]
  refine Finset.sum_congr rfl fun j hj => ?_
  rw [← he, mul_right_comm, exp_move (le_mx hj) hn]

theorem sm_move {T : Finset ι} {S : ι → EReal} {n : EReal} (hn : mx T S ≤ n) :
    sm T S (mx T S) * Ideal.exp (mx T S - n) = sm T S n := by
  have h := ws_move (x := fun _ => 1) hn
  simpa only [ws, sm, mul_one] using h

theorem mx_union [DecidableEq ι] {T U : Finset ι} (S : ι → EReal) : mx (T ∪ U) S = max (mx T S) (mx U S) := by
  refine eq_of_forall_ge_iff fun c => ?_
  simp only [mx, max_le_iff, Finset.fold_max_le, Finset.mem_union]
  constructor
  · rintro ⟨_, h⟩; exact ⟨⟨bot_le, fun x hx => h x (.inl hx)⟩, bot_le, fun x hx => h x (.inr hx)⟩
  · rintro ⟨⟨_, h⟩, _, k⟩; exact ⟨bot_le, fun x hx => hx.elim (h x) (k x)⟩

/-- One block more: the running sum scaled to the new reference point, and the block's own. -/
theorem ws_union [DecidableEq ι] {T U : Finset ι} (hd : Disjoint T U) (S x : ι → EReal) :
    ws T S x (mx T S) * Ideal.exp (mx T S - max (mx T S) (mx U S)) + ws U S x (max (mx T S) (mx U S)) = ws (T ∪ U) S x (mx (T ∪ U) S) := by
  rw [mx_union, ws_move (le_max_left _ _)]
  exact (Finset.sum_union hd).symm

theorem sm_union [DecidableEq ι] {T U : Finset ι} (hd : Disjoint T U) (S : ι → EReal) :
    sm T S (mx T S) * Ideal.exp (mx T S - max (mx T S) (mx U S)) + sm U S (max (mx T S) (mx U S)) = sm (T ∪ U) S (mx (T ∪ U) S) := by
  rw [mx_union, sm_move (le_max_left _ _)]
  exact (Finset.sum_union hd).symm

/-- Keys whose score is `⊥` do not count. -/
theorem mx_mono_bot {T U : Finset ι} {S : ι → EReal} (h : T ⊆ U) (hb : ∀ j ∈ U, j ∉ T → S j = ⊥) : mx T S = mx U S := by
  refine eq_of_forall_ge_iff fun c => ?_
  simp only [mx, Finset.fold_max_le]
  refine and_congr_right fun _ => ⟨fun k j hj => ?_, fun k j hj => k j (h hj)⟩
  by_cases ht : j ∈ T
  · exact k j ht
  · rw [hb j hj ht]; exact bot_le

theorem ws_mono_bot {T U : Finset ι} {S : ι → EReal} (x : ι → EReal) (m : EReal) (h : T ⊆ U) (hb : ∀ j ∈ U, j ∉ T → S j = ⊥) : ws T S x m = ws U S x m :=
  Finset.sum_subset h fun j hj ht => by rw [hb j hj ht, exp_bot_sub, zero_mul]

theorem sm_mono_bot {T U : Finset ι} {S : ι → EReal} (m : EReal) (h : T ⊆ U) (hb : ∀ j ∈ U, j ∉ T → S j = ⊥) : sm T S m = sm U S m :=
  Finset.sum_subset h fun j hj ht => by rw [hb j hj ht, exp_bot_sub]

theorem negInf : Ideal.ofBits .f32 0xFF800000#32 = ⊥ := by
  simp [Ideal.ofBits, Ideal.ieee]

/-! ## Keys in order, worked through in blocks of 128 -/

/-- The keys before `n`. -/
def upto (N n : ℕ) : Finset (Fin N) := Finset.univ.filter fun j => j.val < n

theorem mem_upto {N n : ℕ} {j : Fin N} : j ∈ upto N n ↔ j.val < n := by simp [upto]
theorem upto_zero (N : ℕ) : upto N 0 = ∅ := by ext j; simp [upto]
theorem upto_all {N n : ℕ} (h : N ≤ n) : upto N n = Finset.univ := by ext j; have := j.isLt; simp [upto]; omega

/-- The 128 keys from `n` on. -/
def blockEmb {N n : ℕ} (hn : n + 128 ≤ N) : Fin 128 ↪ Fin N := ⟨fun r => ⟨n + r.val, by omega⟩, fun a b h => by simpa [Fin.ext_iff] using h⟩

theorem upto_add {N n : ℕ} (hn : n + 128 ≤ N) : upto N (n + 128) = upto N n ∪ Finset.univ.map (blockEmb hn) := by
  ext j
  simp only [mem_upto, Finset.mem_union, Finset.mem_map, Finset.mem_univ, true_and]
  constructor
  · intro h
    by_cases hj : j.val < n
    · exact .inl hj
    · exact .inr ⟨⟨j.val - n, by omega⟩, Fin.ext (by show n + (j.val - n) = j.val; omega)⟩
  · rintro (h | ⟨r, rfl⟩)
    · omega
    · show n + r.val < n + 128; omega

theorem upto_disjoint {N n : ℕ} (hn : n + 128 ≤ N) : Disjoint (upto N n) (Finset.univ.map (blockEmb hn)) := by
  rw [Finset.disjoint_left]
  intro j hj hb
  rw [mem_upto] at hj
  obtain ⟨r, -, rfl⟩ := Finset.mem_map.mp hb
  have : n + r.val < n := hj
  omega

variable {N n : ℕ} (hn : n + 128 ≤ N) (S x : Fin N → EReal) (f y : Fin 128 → EReal) (hf : ∀ r, f r = S (blockEmb hn r)) (hy : ∀ r, y r = x (blockEmb hn r))
include hf

theorem mx_map : mx Finset.univ f = mx (Finset.univ.map (blockEmb hn)) S := by
  obtain rfl : f = fun r => S (blockEmb hn r) := funext hf
  unfold mx
  rw [Finset.fold_map]
  rfl

theorem mx_block : max (mx (upto N n) S) (mx Finset.univ f) = mx (upto N (n + 128)) S := by
  rw [upto_add hn, mx_union, mx_map hn S f hf]

theorem sm_block : sm (upto N n) S (mx (upto N n) S) * Ideal.exp (mx (upto N n) S - max (mx (upto N n) S) (mx Finset.univ f)) + ∑ r, Ideal.exp (f r - max (mx (upto N n) S) (mx Finset.univ f))
    = sm (upto N (n + 128)) S (mx (upto N (n + 128)) S) := by
  rw [mx_map hn S f hf, upto_add hn, ← sm_union (upto_disjoint hn)]
  obtain rfl : f = fun r => S (blockEmb hn r) := funext hf
  congr 1

include hy in
theorem ws_block : ws (upto N n) S x (mx (upto N n) S) * Ideal.exp (mx (upto N n) S - max (mx (upto N n) S) (mx Finset.univ f)) + ∑ r, Ideal.exp (f r - max (mx (upto N n) S) (mx Finset.univ f)) * y r
    = ws (upto N (n + 128)) S x (mx (upto N (n + 128)) S) := by
  rw [mx_map hn S f hf, upto_add hn, ← ws_union (upto_disjoint hn)]
  obtain rfl : f = fun r => S (blockEmb hn r) := funext hf
  obtain rfl : y = fun r => x (blockEmb hn r) := funext hy
  congr 1

end Cert.Flash

end
-- ==== Proof.StepsIdeal.lean ====
module

public import proofs.«01_k».proof.Proof.TileIdeal
public import proofs.«01_k».proof.Proof.Flash
public import Idealize.ShloMosaic.Lib.Pointwise

@[expose] public section

set_option maxRecDepth 16384

/-! What the kernel's payloads come to, entry by entry, over the extended reals. -/

noncomputable section

namespace Cert.KernelIdeal.Hand

open Cert.KernelIdeal Cert.KernelIdeal.Gen
open Idealize.ShloMosaic

/-- An index of a rectangle, in the array it is cut from. -/
theorem emb_eq {s : Shape} {off off' size : Fin s.rank → ℕ} {inb} {x : (Rect.unit (s := s) off size inb).shape.Idx} {y : s.Idx} (ho : off = off') (h : ∀ a, off' a + (x a).val = (y a).val) : (Rect.unit (s := s) off size inb).emb x = y := by
  funext a
  apply Fin.ext
  subst ho
  rw [Rect.emb_apply, ← h a]
  show off a + 1 * (x a).val = _
  omega

variable (i : Fin k0_t1_loop.trips) (v32 : Elt Ideal .i32) (h1 : k0_cond1 v32 = 1#1) (v : Elt Ideal .i32) (hw : k0_chk1 i v32 v) (hv : v.toInt ≤ 24576)
  (t : Fin (k0_t3_loop v).trips) (k : Fin (k0_t4_loop v t).trips)

include hv in
theorem key_lt (r : Fin 128) : t.val * 2048 + k.val * 128 + r.val < 24576 := by
  have := t3_lt v hv t; have := t4_lt v hv t k; omega

include hv
set_option maxRecDepth 400000 in
theorem chK_at (K : FVec Ideal S10x24576x128 .fp8e4m3) (h : Fin 10) (hh : h.val = i.val / 6) (r : Fin 2048) (d : Fin 128) (x : Fin 24576) (hx : x.val = t.val * 2048 + r.val) : (chK (F := Ideal) i v32 h1 v hw K t (ix2 r d) : EReal) = K (ix3 h x d) := by
  refine congrArg K (?_ : (Rect.unit (s := S10x24576x128) (k0_off6 i v t) S1x2048x128.size (k0_off6_inb i v32 v hw t h1)).emb (Shape.reshapeEquiv (s := S1x2048x128) (s' := S2048x128) rfl (ix2 r d)) = _)
  rw [show Shape.reshapeEquiv (s := S1x2048x128) (s' := S2048x128) rfl (ix2 r d) = ix3 0 r d by pointwise]
  refine emb_eq (off6_eq i v hv t) fun a => ?_
  fin_cases a
  · show i.val / 6 + 0 = h.val; omega
  · show t.val * 2048 + r.val = x.val; omega
  · show 0 + d.val = d.val; omega
set_option maxRecDepth 400000 in
theorem chV_at (K : FVec Ideal S10x192x128x128 .fp8e4m3) (h : Fin 10) (hh : h.val = i.val / 6) (r : Fin 16) (d x : Fin 128) (y : Fin 192) (hy : y.val = t.val * 16 + r.val) : (chV (F := Ideal) i v32 h1 v hw K t (ix3 r d x) : EReal) = K (ix4 h y d x) := by
  refine congrArg K (?_ : (Rect.unit (s := S10x192x128x128) (k0_off9 i v t) S1x16x128x128.size (k0_off9_inb i v32 v hw t h1)).emb (Shape.reshapeEquiv (s := S1x16x128x128) (s' := S16x128x128) rfl (ix3 r d x)) = _)
  rw [show Shape.reshapeEquiv (s := S1x16x128x128) (s' := S16x128x128) rfl (ix3 r d x) = ix4 0 r d x by pointwise]
  refine emb_eq (off9_eq i v hv t) fun a => ?_
  fin_cases a
  · show i.val / 6 + 0 = h.val; omega
  · show t.val * 16 + r.val = y.val; omega
  · show 0 + d.val = d.val; omega
  · show 0 + x.val = x.val; omega
theorem chKs_at (K : FVec Ideal S10x192x128 .f32) (h : Fin 10) (hh : h.val = i.val / 6) (r : Fin 16) (x : Fin 128) (y : Fin 192) (hy : y.val = t.val * 16 + r.val) : (chKs (F := Ideal) i v32 h1 v hw K t (ix2 r x) : EReal) = K (ix3 h y x) := by
  refine congrArg K (?_ : (Rect.unit (s := S10x192x128) (k0_off10 i) S1x192x128.size (k0_off10_inb i)).emb (Shape.reshapeEquiv (s := S1x192x128) (s' := S192x128) rfl ((Rect.unit (s := S192x128) (k0_off11 v t) S16x128.size (k0_off11_inb i v32 v hw t h1)).emb (ix2 r x))) = _)
  rw [emb_eq (y := (ix2 y x : S192x128.Idx)) (off11_eq v hv t) (by
    intro a
    fin_cases a
    · show t.val * 16 + r.val = y.val; omega
    · show 0 + x.val = x.val; omega)]
  rw [show Shape.reshapeEquiv (s := S1x192x128) (s' := S192x128) rfl (ix2 y x) = ix3 0 y x by pointwise]
  refine emb_eq rfl fun a => ?_
  fin_cases a
  · show (Words.floorW (Scf.iv 0#32 1#32 i) 6#32).toNat + 0 = h.val
    rw [head_eq _ i.isLt]; omega
  · show 0 + y.val = y.val; omega
  · show 0 + x.val = x.val; omega
theorem chVs_at (K : FVec Ideal S10x192x128 .f32) (h : Fin 10) (hh : h.val = i.val / 6) (r : Fin 16) (x : Fin 128) (y : Fin 192) (hy : y.val = t.val * 16 + r.val) : (chVs (F := Ideal) i v32 h1 v hw K t (ix2 r x) : EReal) = K (ix3 h y x) := by
  refine congrArg K (?_ : (Rect.unit (s := S10x192x128) (k0_off10 i) S1x192x128.size (k0_off10_inb i)).emb (Shape.reshapeEquiv (s := S1x192x128) (s' := S192x128) rfl ((Rect.unit (s := S192x128) (k0_off11 v t) S16x128.size (k0_off11_inb i v32 v hw t h1)).emb (ix2 r x))) = _)
  rw [emb_eq (y := (ix2 y x : S192x128.Idx)) (off11_eq v hv t) (by
    intro a
    fin_cases a
    · show t.val * 16 + r.val = y.val; omega
    · show 0 + x.val = x.val; omega)]
  rw [show Shape.reshapeEquiv (s := S1x192x128) (s' := S192x128) rfl (ix2 y x) = ix3 0 y x by pointwise]
  refine emb_eq rfl fun a => ?_
  fin_cases a
  · show (Words.floorW (Scf.iv 0#32 1#32 i) 6#32).toNat + 0 = h.val
    rw [head_eq _ i.isLt]; omega
  · show 0 + y.val = y.val; omega
  · show 0 + x.val = x.val; omega
theorem rdK_at (kf : FVec Ideal S2048x128 .fp8e4m3) (r d : Fin 128) (x : Fin 2048) (hx : x.val = k.val * 128 + r.val) : (View.readAt (Elt Ideal) kB.view (Rect.unit (s := S2048x128) (k0_off12 v t k) S128x128.size (k0_off12_inb i v32 v hw t k h1)).toLoadRect kf (ix2 r d) : EReal)
   = kf (ix2 x d) := by
  refine congrArg kf (?_ : (Rect.unit (s := S2048x128) (k0_off12 v t k) S128x128.size (k0_off12_inb i v32 v hw t k h1)).emb (ix2 r d) = _)
  refine emb_eq (off12_eq v hv t k) fun a => ?_
  fin_cases a
  · show k.val * 128 + r.val = x.val; omega
  · show 0 + d.val = d.val; omega
theorem rdV_at (vf : FVec Ideal S16x128x128 .fp8e4m3) (d x : Fin 128) (y : Fin 16) (hy : y.val = k.val) : (View.readAt (Elt Ideal) vB.view (Rect.unit (s := S16x128x128) (k0_off14 v t k) S1x128x128.size (k0_off14_inb i v32 v hw t k h1)).toLoadRect vf (ix3 0 d x) : EReal)
   = vf (ix3 y d x) := by
  refine congrArg vf (?_ : (Rect.unit (s := S16x128x128) (k0_off14 v t k) S1x128x128.size (k0_off14_inb i v32 v hw t k h1)).emb (ix3 0 d x) = _)
  refine emb_eq (off14_eq v hv t k) fun a => ?_
  fin_cases a
  · show k.val + 0 = y.val; omega
  · show 0 + d.val = d.val; omega
  · show 0 + x.val = x.val; omega
theorem rdS_at (sf : FVec Ideal S16x128 .f32) (x : Fin 128) (y : Fin 16) (hy : y.val = k.val) : (View.readAt (Elt Ideal) ksB.view (Rect.unit (s := S16x128) (k0_off13 v t k) S1x128.size (k0_off13_inb i v32 v hw t k h1)).toLoadRect sf (ix2 0 x) : EReal)
   = sf (ix2 y x) := by
  refine congrArg sf (?_ : (Rect.unit (s := S16x128) (k0_off13 v t k) S1x128.size (k0_off13_inb i v32 v hw t k h1)).emb (ix2 0 x) = _)
  refine emb_eq (off13_eq v hv t k) fun a => ?_
  fin_cases a
  · show k.val + 0 = y.val; omega
  · show 0 + x.val = x.val; omega
theorem rdSv_at (sf : FVec Ideal S16x128 .f32) (x : Fin 128) (y : Fin 16) (hy : y.val = k.val) : (View.readAt (Elt Ideal) vsB.view (Rect.unit (s := S16x128) (k0_off13 v t k) S1x128.size (k0_off13_inb i v32 v hw t k h1)).toLoadRect sf (ix2 0 x) : EReal)
   = sf (ix2 y x) := by
  refine congrArg sf (?_ : (Rect.unit (s := S16x128) (k0_off13 v t k) S1x128.size (k0_off13_inb i v32 v hw t k h1)).emb (ix2 0 x) = _)
  refine emb_eq (off13_eq v hv t k) fun a => ?_
  fin_cases a
  · show k.val + 0 = y.val; omega
  · show 0 + x.val = x.val; omega
omit hv
theorem ldRow_eq (f : FVec Ideal S1x512 .f32) : ldRow (F := Ideal) mB f = f := by
  funext x
  exact congrArg f (emb_eq rfl fun a => by fin_cases a <;> exact Nat.zero_add _)
theorem ldAcc_eq (f : FVec Ideal S128x512 .f32) : ldAcc (F := Ideal) accB f = f := by
  funext x
  exact congrArg f (emb_eq rfl fun a => by fin_cases a <;> exact Nat.zero_add _)
theorem ldRowL_eq (f : FVec Ideal S1x512 .f32) : ldRow (F := Ideal) lB f = f := by
  funext x
  exact congrArg f (emb_eq rfl fun a => by fin_cases a <;> exact Nat.zero_add _)
theorem ldRowP_eq (f : FVec Ideal S1x512 .f32) : ldRow (F := Ideal) lsepB f = f := by
  funext x
  exact congrArg f (emb_eq rfl fun a => by fin_cases a <;> exact Nat.zero_add _)
theorem ldAccO_eq (f : FVec Ideal S128x512 .f32) : ldAcc (F := Ideal) opB f = f := by
  funext x
  exact congrArg f (emb_eq rfl fun a => by fin_cases a <;> exact Nat.zero_add _)

section
variable (v56 : FVec Ideal S128x512 .fp8e4m3) (v61 : FVec Ideal S1x512 .f32) (b c0 c1 : BitVec 32) (kt : Vec Ideal S128x128 .fp8e4m3) (ks : Vec Ideal S1x128 .f32) (m l : Vec Ideal S1x512 .f32) (q : Fin 512) (r : Fin 128)

theorem pay4_at : (k0_pay4 v v56 v61 t b c0 c1 k kt ks (ix2 r q) : EReal) =
    Scalar.select (IntOp.cmpi .slt (IntOp.addi (Scalar.addi (Scalar.muli b 2048#32) (Scalar.muli (Scf.iv c0 c1 k.val) 128#32)) (BitVec.ofNat 32 r.val)) v) ((∑ x, (kt (ix2 r x) : EReal) * v56 (ix2 x q)) * v61 (ix2 0 q) * ks (ix2 0 r) * Ideal.ofBits .f32 0x3DB504F3#32) (⊥ : EReal) := by
  pointwise [k0_pay4, Flash.negInf]
  split_ifs <;> rfl
theorem pay5_at : (k0_pay5 v v56 v61 t b c0 c1 k kt ks m (ix2 0 q) : EReal) = max (m (ix2 0 q) : EReal) (Flash.mx Finset.univ fun r => (k0_pay4 v v56 v61 t b c0 c1 k kt ks (ix2 r q) : EReal)) := by
  pointwise [k0_pay5, Flash.negInf]
  rfl
theorem pay6_at : (k0_pay6 v v56 v61 t b c0 c1 k kt ks m (ix2 0 q) : EReal) = Ideal.exp (m (ix2 0 q) - k0_pay5 v v56 v61 t b c0 c1 k kt ks m (ix2 0 q)) := by
  pointwise [k0_pay6]
theorem pay7_at : (k0_pay7 v v56 v61 t b c0 c1 k kt ks m (ix2 r q) : EReal) = Ideal.exp (k0_pay4 v v56 v61 t b c0 c1 k kt ks (ix2 r q) - k0_pay5 v v56 v61 t b c0 c1 k kt ks m (ix2 0 q)) := by
  pointwise [k0_pay7]
theorem pay57_at (x y : FVec Ideal S1x512 .f32) : (k0_pay57 x y (ix2 0 q) : EReal) = x (ix2 0 q) + y (ix2 0 q) := by
  pointwise [k0_pay57]
theorem pay8_at : (k0_pay8 v v56 v61 t b c0 c1 k kt ks m l (ix2 0 q) : EReal) = l (ix2 0 q) * k0_pay6 v v56 v61 t b c0 c1 k kt ks m (ix2 0 q) := by
  pointwise [k0_pay8]
theorem pay9_at : (k0_pay9 v v56 v61 t b c0 c1 k kt ks m (ix2 0 q) : EReal) = ∑ r, (k0_pay7 v v56 v61 t b c0 c1 k kt ks m (ix2 r q) : EReal) := by
  pointwise [k0_pay9]
theorem pay59_at (m : FVec Ideal S1x512 .f32) : (k0_pay59 m (ix2 0 q) : EReal) = m (ix2 0 q) := by
  pointwise [k0_pay59]
theorem pay58_at (vs : Vec Ideal S1x128 .f32) (al : FVec Ideal S1x512 .f32) (w : FVec Ideal S128x512 .f32) (vt : Vec Ideal S1x128x128 .fp8e4m3) (acc : Vec Ideal S128x512 .f32) (d : Fin 128) :
    (k0_pay58 (k0_pay3 vs) al w vt acc (ix2 d q) : EReal) = acc (ix2 d q) * al (ix2 0 q) + ∑ r, (vt (ix3 0 d r) : EReal) * (w (ix2 r q) * vs (ix2 0 r)) := by
  pointwise [k0_pay58, k0_pay3]
  simp only [dite_eq_ite, ite_self]
end

end Cert.KernelIdeal.Hand

end
-- ==== Proof.StepsCIdeal.lean ====
module

public import proofs.«01_k».proof.Proof.StepsIdeal

@[expose] public section

set_option maxRecDepth 16384

/-! The completion's chunks and tiles, entry by entry, over the extended reals. -/

noncomputable section

namespace Cert.KernelIdeal.Hand

open Cert.KernelIdeal Cert.KernelIdeal.Gen
open Idealize.ShloMosaic

/-- The number of keys up to the end of tile `u` of the queries, as a word. -/
def keysW (u : Fin k0_t2_loop.trips) : BitVec 32 := Scalar.addi (Scalar.muli (Scf.iv 0#32 1#32 u) 128#32) 128#32

theorem keysW_toInt (u : Fin k0_t2_loop.trips) : (keysW u).toInt = u.val * 128 + 128 := by
  have hu : u.val < 32 := u.isLt
  have h : (keysW u).toNat = u.val * 128 + 128 := by
    unfold keysW Scalar.addi IntOp.addi
    rw [BitVec.toNat_add, toNat_iv_mul _ _ (by omega) (by omega) (by omega)]
    show (u.val * 128 + 128) % 2 ^ 32 = _
    omega
  rw [BitVec.toInt_eq_toNat_of_lt (by omega), h]
  push_cast
  rfl

theorem keysW_le (u : Fin k0_t2_loop.trips) : (keysW u).toInt ≤ 24576 := by
  have hu : u.val < 32 := u.isLt
  rw [keysW_toInt]; omega

theorem t9_eq (u : Fin k0_t2_loop.trips) : k0_t9_loop u = k0_t3_loop (keysW u) := rfl
theorem t10_eq (u : Fin k0_t2_loop.trips) (t : Fin (k0_t9_loop u).trips) : k0_t10_loop u t = k0_t4_loop (keysW u) t := rfl

theorem t9_trips (u : Fin k0_t2_loop.trips) : (k0_t9_loop u).trips = chunks (keysW u) := t3_trips (keysW u) (keysW_le u)
theorem t10_trips (u : Fin k0_t2_loop.trips) (t : Fin (k0_t9_loop u).trips) : (k0_t10_loop u t).trips = tiles (keysW u) t := t4_trips (keysW u) (keysW_le u) t
theorem t9_lt (u : Fin k0_t2_loop.trips) (t : Fin (k0_t9_loop u).trips) : t.val * 2048 < u.val * 128 + 128 := by
  have h := (t3_lt (keysW u) (keysW_le u) t).2
  rw [keysW_toInt] at h; omega
theorem t10_lt (u : Fin k0_t2_loop.trips) (t : Fin (k0_t9_loop u).trips) (k : Fin (k0_t10_loop u t).trips) : k.val < 16 ∧ t.val * 2048 + k.val * 128 < u.val * 128 + 128 := by
  have h1 := t9_lt u t
  have h := lt_of_lt_of_eq k.isLt (t10_trips u t)
  unfold tiles at h
  rw [keysW_toInt] at h
  omega

theorem batch_head : ∀ i : Fin k0_t1_loop.trips, k0_off38 i 0 = i.val % 6 ∧ k0_off38 i 1 = i.val / 6 := by decide +kernel

variable (i : Fin k0_t1_loop.trips) (u : Fin k0_t2_loop.trips) (t : Fin (k0_t9_loop u).trips) (k : Fin (k0_t10_loop u t).trips)

theorem off38_eq : k0_off38 i = ![i.val % 6, i.val / 6, 0, 0] := by
  have h := batch_head i
  funext a
  fin_cases a
  · exact h.1
  · exact h.2
  · rfl
  · rfl
theorem off34_eq : k0_off34 i u t = ![i.val % 6, i.val / 6, t.val * 2048, 0] := by
  have hu : u.val < 32 := u.isLt
  have ht := t9_lt u t
  have h := batch_head i
  funext a
  fin_cases a
  · exact h.1
  · exact h.2
  · exact toNat_iv_mul t.val 2048 (by omega) (by omega) (by omega)
  · rfl
theorem off37_eq : k0_off37 i u t = ![i.val % 6, i.val / 6, t.val * 16, 0, 0] := by
  have hu : u.val < 32 := u.isLt
  have ht := t9_lt u t
  have h := batch_head i
  funext a
  fin_cases a
  · exact h.1
  · exact h.2
  · exact toNat_iv_mul t.val 16 (by omega) (by omega) (by omega)
  · rfl
  · rfl
theorem off39_eq : k0_off39 u t = ![t.val * 16, 0] := by
  have hu : u.val < 32 := u.isLt
  have ht := t9_lt u t
  funext a
  fin_cases a
  · exact toNat_iv_mul t.val 16 (by omega) (by omega) (by omega)
  · rfl
theorem off40_eq : k0_off40 u t k = ![k.val * 128, 0] := by
  have hk := (t10_lt u t k).1
  funext a
  fin_cases a
  · exact toNat_iv_mul k.val 128 (by omega) (by omega) (by omega)
  · rfl
theorem off41_eq : k0_off41 u t k = ![k.val, 0] := by
  have hk := (t10_lt u t k).1
  funext a
  fin_cases a
  · exact toNat_iv k.val (by omega)
  · rfl
theorem off42_eq : k0_off42 u t k = ![k.val, 0, 0] := by
  have hk := (t10_lt u t k).1
  funext a
  fin_cases a
  · exact toNat_iv k.val (by omega)
  · rfl
  · rfl

set_option maxRecDepth 400000 in
theorem ccK_at (K : FVec Ideal S6x10x4096x128 .fp8e4m3) (b : Fin 6) (hb : b.val = i.val % 6) (h : Fin 10) (hh : h.val = i.val / 6) (r : Fin 2048) (d : Fin 128) (x : Fin 4096) (hx : x.val = t.val * 2048 + r.val) : (ccK (F := Ideal) i u K t (ix2 r d) : EReal) = K (ix4 b h x d) := by
  refine congrArg K (?_ : (Rect.unit (s := S6x10x4096x128) (k0_off34 i u t) S1x1x2048x128.size (k0_off34_inb i u t)).emb (Shape.reshapeEquiv (s := S1x1x2048x128) (s' := S2048x128) rfl (ix2 r d)) = _)
  rw [show Shape.reshapeEquiv (s := S1x1x2048x128) (s' := S2048x128) rfl (ix2 r d) = ix4 0 0 r d by pointwise]
  refine emb_eq (off34_eq i u t) fun a => ?_
  fin_cases a
  · show i.val % 6 + 0 = b.val; omega
  · show i.val / 6 + 0 = h.val; omega
  · show t.val * 2048 + r.val = x.val; omega
  · show 0 + d.val = d.val; omega
set_option maxRecDepth 400000 in
theorem ccV_at (K : FVec Ideal S6x10x32x128x128 .fp8e4m3) (b : Fin 6) (hb : b.val = i.val % 6) (h : Fin 10) (hh : h.val = i.val / 6) (r : Fin 16) (d x : Fin 128) (y : Fin 32) (hy : y.val = t.val * 16 + r.val) : (ccV (F := Ideal) i u K t (ix3 r d x) : EReal) = K (ix5 b h y d x) := by
  refine congrArg K (?_ : (Rect.unit (s := S6x10x32x128x128) (k0_off37 i u t) S1x1x16x128x128.size (k0_off37_inb i u t)).emb (Shape.reshapeEquiv (s := S1x1x16x128x128) (s' := S16x128x128) rfl (ix3 r d x)) = _)
  rw [show Shape.reshapeEquiv (s := S1x1x16x128x128) (s' := S16x128x128) rfl (ix3 r d x) = ix5 0 0 r d x by pointwise]
  refine emb_eq (off37_eq i u t) fun a => ?_
  fin_cases a
  · show i.val % 6 + 0 = b.val; omega
  · show i.val / 6 + 0 = h.val; omega
  · show t.val * 16 + r.val = y.val; omega
  · show 0 + d.val = d.val; omega
  · show 0 + x.val = x.val; omega
set_option maxRecDepth 400000 in
theorem ccKs_at (K : FVec Ideal S6x10x32x128 .f32) (b : Fin 6) (hb : b.val = i.val % 6) (h : Fin 10) (hh : h.val = i.val / 6) (r : Fin 16) (x : Fin 128) (y : Fin 32) (hy : y.val = t.val * 16 + r.val) : (ccKs (F := Ideal) i u K t (ix2 r x) : EReal) = K (ix4 b h y x) := by
  refine congrArg K (?_ : (Rect.unit (s := S6x10x32x128) (k0_off38 i) S1x1x32x128.size (k0_off38_inb i)).emb (Shape.reshapeEquiv (s := S1x1x32x128) (s' := S32x128) rfl ((Rect.unit (s := S32x128) (k0_off39 u t) S16x128.size (k0_off39_inb u t)).emb (ix2 r x))) = _)
  rw [emb_eq (y := (ix2 y x : S32x128.Idx)) (off39_eq u t) (by
    intro a
    fin_cases a
    · show t.val * 16 + r.val = y.val; omega
    · show 0 + x.val = x.val; omega)]
  rw [show Shape.reshapeEquiv (s := S1x1x32x128) (s' := S32x128) rfl (ix2 y x) = ix4 0 0 y x by pointwise]
  refine emb_eq (off38_eq i) fun a => ?_
  fin_cases a
  · show i.val % 6 + 0 = b.val; omega
  · show i.val / 6 + 0 = h.val; omega
  · show 0 + y.val = y.val; omega
  · show 0 + x.val = x.val; omega
set_option maxRecDepth 400000 in
theorem ccVs_at (K : FVec Ideal S6x10x32x128 .f32) (b : Fin 6) (hb : b.val = i.val % 6) (h : Fin 10) (hh : h.val = i.val / 6) (r : Fin 16) (x : Fin 128) (y : Fin 32) (hy : y.val = t.val * 16 + r.val) : (ccVs (F := Ideal) i u K t (ix2 r x) : EReal) = K (ix4 b h y x) := by
  refine congrArg K (?_ : (Rect.unit (s := S6x10x32x128) (k0_off38 i) S1x1x32x128.size (k0_off38_inb i)).emb (Shape.reshapeEquiv (s := S1x1x32x128) (s' := S32x128) rfl ((Rect.unit (s := S32x128) (k0_off39 u t) S16x128.size (k0_off39_inb u t)).emb (ix2 r x))) = _)
  rw [emb_eq (y := (ix2 y x : S32x128.Idx)) (off39_eq u t) (by
    intro a
    fin_cases a
    · show t.val * 16 + r.val = y.val; omega
    · show 0 + x.val = x.val; omega)]
  rw [show Shape.reshapeEquiv (s := S1x1x32x128) (s' := S32x128) rfl (ix2 y x) = ix4 0 0 y x by pointwise]
  refine emb_eq (off38_eq i) fun a => ?_
  fin_cases a
  · show i.val % 6 + 0 = b.val; omega
  · show i.val / 6 + 0 = h.val; omega
  · show 0 + y.val = y.val; omega
  · show 0 + x.val = x.val; omega
theorem rcK_at (kf : FVec Ideal S2048x128 .fp8e4m3) (r d : Fin 128) (x : Fin 2048) (hx : x.val = k.val * 128 + r.val) : (View.readAt (Elt Ideal) kB.view (Rect.unit (s := S2048x128) (k0_off40 u t k) S128x128.size (k0_off40_inb u t k)).toLoadRect kf (ix2 r d) : EReal)
   = kf (ix2 x d) := by
  refine congrArg kf (?_ : (Rect.unit (s := S2048x128) (k0_off40 u t k) S128x128.size (k0_off40_inb u t k)).emb (ix2 r d) = _)
  refine emb_eq (off40_eq u t k) fun a => ?_
  fin_cases a
  · show k.val * 128 + r.val = x.val; omega
  · show 0 + d.val = d.val; omega
theorem rcV_at (vf : FVec Ideal S16x128x128 .fp8e4m3) (d x : Fin 128) (y : Fin 16) (hy : y.val = k.val) : (View.readAt (Elt Ideal) vB.view (Rect.unit (s := S16x128x128) (k0_off42 u t k) S1x128x128.size (k0_off42_inb u t k)).toLoadRect vf (ix3 0 d x) : EReal)
   = vf (ix3 y d x) := by
  refine congrArg vf (?_ : (Rect.unit (s := S16x128x128) (k0_off42 u t k) S1x128x128.size (k0_off42_inb u t k)).emb (ix3 0 d x) = _)
  refine emb_eq (off42_eq u t k) fun a => ?_
  fin_cases a
  · show k.val + 0 = y.val; omega
  · show 0 + d.val = d.val; omega
  · show 0 + x.val = x.val; omega
theorem rcS_at (sf : FVec Ideal S16x128 .f32) (x : Fin 128) (y : Fin 16) (hy : y.val = k.val) : (View.readAt (Elt Ideal) ksB.view (Rect.unit (s := S16x128) (k0_off41 u t k) S1x128.size (k0_off41_inb u t k)).toLoadRect sf (ix2 0 x) : EReal)
   = sf (ix2 y x) := by
  refine congrArg sf (?_ : (Rect.unit (s := S16x128) (k0_off41 u t k) S1x128.size (k0_off41_inb u t k)).emb (ix2 0 x) = _)
  refine emb_eq (off41_eq u t k) fun a => ?_
  fin_cases a
  · show k.val + 0 = y.val; omega
  · show 0 + x.val = x.val; omega
theorem rcSv_at (sf : FVec Ideal S16x128 .f32) (x : Fin 128) (y : Fin 16) (hy : y.val = k.val) : (View.readAt (Elt Ideal) vsB.view (Rect.unit (s := S16x128) (k0_off41 u t k) S1x128.size (k0_off41_inb u t k)).toLoadRect sf (ix2 0 x) : EReal)
   = sf (ix2 y x) := by
  refine congrArg sf (?_ : (Rect.unit (s := S16x128) (k0_off41 u t k) S1x128.size (k0_off41_inb u t k)).emb (ix2 0 x) = _)
  refine emb_eq (off41_eq u t k) fun a => ?_
  fin_cases a
  · show k.val + 0 = y.val; omega
  · show 0 + x.val = x.val; omega

section
variable (w : BitVec 32) (v123 : FVec Ideal S128x512 .fp8e4m3) (v128 : FVec Ideal S1x512 .f32) (c b c0 c1 : BitVec 32) (kt : Vec Ideal S128x128 .fp8e4m3) (ks : Vec Ideal S1x128 .f32) (m l : Vec Ideal S1x512 .f32) (q : Fin 512) (r : Fin 128)

theorem pay32_at : (k0_pay32 u w v123 v128 t b c0 c1 k kt ks (ix2 r q) : EReal) =
    Scalar.select (IntOp.cmpi .sle (IntOp.addi (Scalar.addi (Scalar.muli b 2048#32) (Scalar.muli (Scf.iv c0 c1 k.val) 128#32)) (BitVec.ofNat 32 r.val)) (IntOp.addi w (IntOp.andi (BitVec.ofNat 32 q.val) 127#32))) ((∑ x, (kt (ix2 r x) : EReal) * v123 (ix2 x q)) * v128 (ix2 0 q) * ks (ix2 0 r) * Ideal.ofBits .f32 0x3DB504F3#32) (⊥ : EReal) := by
  pointwise [k0_pay32, Flash.negInf]
  split_ifs <;> rfl
theorem pay33_at : (k0_pay33 u w v123 v128 t b c0 c1 k kt ks m (ix2 0 q) : EReal) = max (m (ix2 0 q) : EReal) (Flash.mx Finset.univ fun r => (k0_pay32 u w v123 v128 t b c0 c1 k kt ks (ix2 r q) : EReal)) := by
  pointwise [k0_pay33, Flash.negInf]
  rfl
theorem pay34_at : (k0_pay34 u w v123 v128 t b c0 c1 k kt ks m (ix2 0 q) : EReal) = Ideal.exp (m (ix2 0 q) - k0_pay33 u w v123 v128 t b c0 c1 k kt ks m (ix2 0 q)) := by
  pointwise [k0_pay34]
theorem pay35_at : (k0_pay35 u w v123 v128 t b c0 c1 k kt ks m (ix2 r q) : EReal) = Ideal.exp (k0_pay32 u w v123 v128 t b c0 c1 k kt ks (ix2 r q) - k0_pay33 u w v123 v128 t b c0 c1 k kt ks m (ix2 0 q)) := by
  pointwise [k0_pay35]
theorem pay76_at (al : FVec Ideal S1x512 .f32) (w : FVec Ideal S128x512 .f32) : (k0_pay76 al w l (ix2 0 q) : EReal) = l (ix2 0 q) * al (ix2 0 q) + ∑ r, (w (ix2 r q) : EReal) := by
  pointwise [k0_pay76]
theorem pay78_at (m : FVec Ideal S1x512 .f32) : (k0_pay78 m (ix2 0 q) : EReal) = m (ix2 0 q) := by
  pointwise [k0_pay78]
theorem pay77_at (vs : Vec Ideal S1x128 .f32) (al : FVec Ideal S1x512 .f32) (w : FVec Ideal S128x512 .f32) (vt : Vec Ideal S1x128x128 .fp8e4m3) (acc : Vec Ideal S128x512 .f32) (d : Fin 128) :
    (k0_pay77 (k0_pay31 vs) al w vt acc (ix2 d q) : EReal) = acc (ix2 d q) * al (ix2 0 q) + ∑ r, (vt (ix3 0 d r) : EReal) * (w (ix2 r q) * vs (ix2 0 r)) := by
  pointwise [k0_pay77, k0_pay31]
  simp only [dite_eq_ite, ite_self]
end

end Cert.KernelIdeal.Hand

end
-- ==== Proof.BlocksIdeal.lean ====
module

public import proofs.«01_k».proof.Proof.StepsCIdeal
public import Idealize.ShloMosaic.Lib.VecWindow

@[expose] public section

set_option maxRecDepth 16384

/-! A tile's queries as the kernel fetches them, and its blocks as the kernel writes them. -/

noncomputable section

namespace Cert.KernelIdeal.Hand

open Cert.KernelIdeal Cert.KernelIdeal.Gen
open Idealize.ShloMosaic

variable (i : Fin k0_t1_loop.trips) (u : Fin k0_t2_loop.trips)

theorem head4 : ∀ i : Fin k0_t1_loop.trips, k0_off2 i ⟨0, by decide⟩ 1 = i.val / 6 * 4 := by decide +kernel
theorem head512 : ∀ i : Fin k0_t1_loop.trips, k0_off61 i ⟨0, by decide⟩ 2 = i.val / 6 * 512 := by decide +kernel

theorem tile_start : (v37 u).toNat = u.val * 128 := by
  have hu : u.val < 32 := u.isLt
  exact toNat_iv_mul u.val 128 (by omega) (by omega) (by omega)

theorem off2_eq : k0_off2 i u = ![i.val % 6, i.val / 6 * 4, 0, u.val * 128] := by
  have h := batch_head i
  funext a
  fin_cases a
  · exact h.1
  · exact head4 i
  · rfl
  · exact tile_start u
theorem off3_eq : k0_off3 i u = ![i.val % 6, i.val / 6, 0, u.val * 128] := by
  have h := batch_head i
  funext a
  fin_cases a
  · exact h.1
  · exact h.2
  · rfl
  · exact tile_start u
theorem off61_eq : k0_off61 i u = ![i.val % 6, u.val * 128, i.val / 6 * 512] := by
  have h := batch_head i
  funext a
  fin_cases a
  · exact h.1
  · exact tile_start u
  · exact head512 i
theorem off62_eq : k0_off62 i u = ![i.val % 6, i.val / 6, 0, u.val * 128] := by
  have h := batch_head i
  funext a
  fin_cases a
  · exact h.1
  · exact h.2
  · rfl
  · exact tile_start u

set_option maxRecDepth 400000 in
theorem fetchQ_at (Q : FVec Ideal S6x40x128x4096 .fp8e4m3) (b : Fin 6) (hb : b.val = i.val % 6) (g : Fin 4) (d r : Fin 128) (p : Fin 40) (hp : p.val = i.val / 6 * 4 + g.val) (s : Fin 4096) (hs : s.val = u.val * 128 + r.val) :
    (fetchQ (F := Ideal) i u Q (ix3 g d r) : EReal) = Q (ix4 b p d s) := by
  refine congrArg Q (?_ : (Rect.unit (s := S6x40x128x4096) (k0_off2 i u) S1x4x128x128.size (k0_off2_inb i u)).emb (Shape.reshapeEquiv (s := S1x4x128x128) (s' := S4x128x128) rfl (ix3 g d r)) = _)
  rw [show Shape.reshapeEquiv (s := S1x4x128x128) (s' := S4x128x128) rfl (ix3 g d r) = ix4 0 g d r by pointwise]
  refine emb_eq (off2_eq i u) fun a => ?_
  fin_cases a
  · show i.val % 6 + 0 = b.val; omega
  · show i.val / 6 * 4 + g.val = p.val; omega
  · show 0 + d.val = d.val; omega
  · show u.val * 128 + r.val = s.val; omega
set_option maxRecDepth 400000 in
theorem fetchQs_at (Q : FVec Ideal S6x10x4x4096 .f32) (b : Fin 6) (hb : b.val = i.val % 6) (h : Fin 10) (hh : h.val = i.val / 6) (g : Fin 4) (r : Fin 128) (s : Fin 4096) (hs : s.val = u.val * 128 + r.val) :
    (fetchQs (F := Ideal) i u Q (ix2 g r) : EReal) = Q (ix4 b h g s) := by
  refine congrArg Q (?_ : (Rect.unit (s := S6x10x4x4096) (k0_off3 i u) S1x1x4x128.size (k0_off3_inb i u)).emb (Shape.reshapeEquiv (s := S1x1x4x128) (s' := S4x128) rfl (ix2 g r)) = _)
  rw [show Shape.reshapeEquiv (s := S1x1x4x128) (s' := S4x128) rfl (ix2 g r) = ix4 0 0 g r by pointwise]
  refine emb_eq (off3_eq i u) fun a => ?_
  fin_cases a
  · show i.val % 6 + 0 = b.val; omega
  · show i.val / 6 + 0 = h.val; omega
  · show 0 + g.val = g.val; omega
  · show u.val * 128 + r.val = s.val; omega

theorem ldQ0_at (f : FVec Ideal S4x128x128 .fp8e4m3) (d r : Fin 128) : (ldQ0 (F := Ideal) f (ix3 0 d r) : EReal) = f (ix3 0 d r) :=
  congrArg f (emb_eq rfl fun a => by fin_cases a <;> exact Nat.zero_add _)
theorem ldQ1_at (f : FVec Ideal S4x128x128 .fp8e4m3) (d r : Fin 128) : (ldQ1 (F := Ideal) f (ix3 0 d r) : EReal) = f (ix3 1 d r) :=
  congrArg f (emb_eq rfl fun a => by fin_cases a <;> first | rfl | exact Nat.zero_add _)
theorem ldQ2_at (f : FVec Ideal S4x128x128 .fp8e4m3) (d r : Fin 128) : (ldQ2 (F := Ideal) f (ix3 0 d r) : EReal) = f (ix3 2 d r) :=
  congrArg f (emb_eq rfl fun a => by fin_cases a <;> first | rfl | exact Nat.zero_add _)
theorem ldQ3_at (f : FVec Ideal S4x128x128 .fp8e4m3) (d r : Fin 128) : (ldQ3 (F := Ideal) f (ix3 0 d r) : EReal) = f (ix3 3 d r) :=
  congrArg f (emb_eq rfl fun a => by fin_cases a <;> first | rfl | exact Nat.zero_add _)
theorem ldS0_at (f : FVec Ideal S4x128 .f32) (r : Fin 128) : (ldS0 (F := Ideal) f (ix2 0 r) : EReal) = f (ix2 0 r) :=
  congrArg f (emb_eq rfl fun a => by fin_cases a <;> first | rfl | exact Nat.zero_add _)
theorem ldS1_at (f : FVec Ideal S4x128 .f32) (r : Fin 128) : (ldS1 (F := Ideal) f (ix2 0 r) : EReal) = f (ix2 1 r) :=
  congrArg f (emb_eq rfl fun a => by fin_cases a <;> first | rfl | exact Nat.zero_add _)
theorem ldS2_at (f : FVec Ideal S4x128 .f32) (r : Fin 128) : (ldS2 (F := Ideal) f (ix2 0 r) : EReal) = f (ix2 2 r) :=
  congrArg f (emb_eq rfl fun a => by fin_cases a <;> first | rfl | exact Nat.zero_add _)
theorem ldS3_at (f : FVec Ideal S4x128 .f32) (r : Fin 128) : (ldS3 (F := Ideal) f (ix2 0 r) : EReal) = f (ix2 3 r) :=
  congrArg f (emb_eq rfl fun a => by fin_cases a <;> first | rfl | exact Nat.zero_add _)

end Cert.KernelIdeal.Hand

end
-- ==== Proof.BlocksBIdeal.lean ====
module

public import proofs.«01_k».proof.Proof.BlocksIdeal

@[expose] public section

set_option maxRecDepth 16384

/-! A tile's queries, and its blocks, entry by entry. -/

noncomputable section

namespace Cert.KernelIdeal.Hand

open Cert.KernelIdeal Cert.KernelIdeal.Gen
open Idealize.ShloMosaic

/-- A query column's head in its group, and its place in the tile. -/
def grp (q : Fin 512) : Fin 4 := ⟨q.val / 128, by omega⟩
def plc (q : Fin 512) : Fin 128 := ⟨q.val % 128, by omega⟩

section
variable (f : FVec Ideal S4x128x128 .fp8e4m3) (f0 f1 f2 f3 : Vec Ideal S1x128x128 .fp8e4m3) (h0 : ∀ d r, (f0 (ix3 0 d r) : EReal) = f (ix3 0 d r)) (h1 : ∀ d r, (f1 (ix3 0 d r) : EReal) = f (ix3 1 d r)) (h2 : ∀ d r, (f2 (ix3 0 d r) : EReal) = f (ix3 2 d r)) (h3 : ∀ d r, (f3 (ix3 0 d r) : EReal) = f (ix3 3 d r))
  (d : Fin 128) (q : Fin 512)
include h0 h1 h2 h3
theorem pay51_at : (k0_pay51 f0 f1 f2 f3 (ix2 d q) : EReal) = f (ix3 (grp q) d (plc q)) := by
  pointwise [k0_pay51]
  by_cases c0 : q.val < 128
  · rw [dif_pos c0, h0, show grp q = 0 from Fin.ext (by show q.val / 128 = 0; omega)]; exact congrArg (fun z => f (ix3 0 d z)) (Fin.ext (by show _ = q.val % 128; dsimp only; omega))
  rw [dif_neg c0]
  by_cases c1 : q.val - 128 < 128
  · rw [dif_pos c1, h1, show grp q = 1 from Fin.ext (by show q.val / 128 = 1; omega)]; exact congrArg (fun z => f (ix3 1 d z)) (Fin.ext (by show _ = q.val % 128; dsimp only; omega))
  rw [dif_neg c1]
  by_cases c2 : q.val - 128 - 128 < 128
  · rw [dif_pos c2, h2, show grp q = 2 from Fin.ext (by show q.val / 128 = 2; omega)]; exact congrArg (fun z => f (ix3 2 d z)) (Fin.ext (by show _ = q.val % 128; dsimp only; omega))
  rw [dif_neg c2, h3, show grp q = 3 from Fin.ext (by show q.val / 128 = 3; omega)]; exact congrArg (fun z => f (ix3 3 d z)) (Fin.ext (by show _ = q.val % 128; dsimp only; omega))
theorem pay71_at : (k0_pay71 f0 f1 f2 f3 (ix2 d q) : EReal) = f (ix3 (grp q) d (plc q)) := by
  pointwise [k0_pay71]
  by_cases c0 : q.val < 128
  · rw [dif_pos c0, h0, show grp q = 0 from Fin.ext (by show q.val / 128 = 0; omega)]; exact congrArg (fun z => f (ix3 0 d z)) (Fin.ext (by show _ = q.val % 128; dsimp only; omega))
  rw [dif_neg c0]
  by_cases c1 : q.val - 128 < 128
  · rw [dif_pos c1, h1, show grp q = 1 from Fin.ext (by show q.val / 128 = 1; omega)]; exact congrArg (fun z => f (ix3 1 d z)) (Fin.ext (by show _ = q.val % 128; dsimp only; omega))
  rw [dif_neg c1]
  by_cases c2 : q.val - 128 - 128 < 128
  · rw [dif_pos c2, h2, show grp q = 2 from Fin.ext (by show q.val / 128 = 2; omega)]; exact congrArg (fun z => f (ix3 2 d z)) (Fin.ext (by show _ = q.val % 128; dsimp only; omega))
  rw [dif_neg c2, h3, show grp q = 3 from Fin.ext (by show q.val / 128 = 3; omega)]; exact congrArg (fun z => f (ix3 3 d z)) (Fin.ext (by show _ = q.val % 128; dsimp only; omega))
end
section
variable (f : FVec Ideal S4x128 .f32) (f0 f1 f2 f3 : Vec Ideal S1x128 .f32) (h0 : ∀ r, (f0 (ix2 0 r) : EReal) = f (ix2 0 r)) (h1 : ∀ r, (f1 (ix2 0 r) : EReal) = f (ix2 1 r)) (h2 : ∀ r, (f2 (ix2 0 r) : EReal) = f (ix2 2 r)) (h3 : ∀ r, (f3 (ix2 0 r) : EReal) = f (ix2 3 r))
  (q : Fin 512)
include h0 h1 h2 h3
theorem pay52_at : (k0_pay52 f0 f1 f2 f3 (ix2 0 q) : EReal) = f (ix2 (grp q) (plc q)) := by
  pointwise [k0_pay52]
  by_cases c0 : q.val < 128
  · rw [dif_pos c0, h0, show grp q = 0 from Fin.ext (by show q.val / 128 = 0; omega)]; exact congrArg (fun z => f (ix2 0 z)) (Fin.ext (by show _ = q.val % 128; dsimp only; omega))
  rw [dif_neg c0]
  by_cases c1 : q.val - 128 < 128
  · rw [dif_pos c1, h1, show grp q = 1 from Fin.ext (by show q.val / 128 = 1; omega)]; exact congrArg (fun z => f (ix2 1 z)) (Fin.ext (by show _ = q.val % 128; dsimp only; omega))
  rw [dif_neg c1]
  by_cases c2 : q.val - 128 - 128 < 128
  · rw [dif_pos c2, h2, show grp q = 2 from Fin.ext (by show q.val / 128 = 2; omega)]; exact congrArg (fun z => f (ix2 2 z)) (Fin.ext (by show _ = q.val % 128; dsimp only; omega))
  rw [dif_neg c2, h3, show grp q = 3 from Fin.ext (by show q.val / 128 = 3; omega)]; exact congrArg (fun z => f (ix2 3 z)) (Fin.ext (by show _ = q.val % 128; dsimp only; omega))
theorem pay72_at : (k0_pay72 f0 f1 f2 f3 (ix2 0 q) : EReal) = f (ix2 (grp q) (plc q)) := by
  pointwise [k0_pay72]
  by_cases c0 : q.val < 128
  · rw [dif_pos c0, h0, show grp q = 0 from Fin.ext (by show q.val / 128 = 0; omega)]; exact congrArg (fun z => f (ix2 0 z)) (Fin.ext (by show _ = q.val % 128; dsimp only; omega))
  rw [dif_neg c0]
  by_cases c1 : q.val - 128 < 128
  · rw [dif_pos c1, h1, show grp q = 1 from Fin.ext (by show q.val / 128 = 1; omega)]; exact congrArg (fun z => f (ix2 1 z)) (Fin.ext (by show _ = q.val % 128; dsimp only; omega))
  rw [dif_neg c1]
  by_cases c2 : q.val - 128 - 128 < 128
  · rw [dif_pos c2, h2, show grp q = 2 from Fin.ext (by show q.val / 128 = 2; omega)]; exact congrArg (fun z => f (ix2 2 z)) (Fin.ext (by show _ = q.val % 128; dsimp only; omega))
  rw [dif_neg c2, h3, show grp q = 3 from Fin.ext (by show q.val / 128 = 3; omega)]; exact congrArg (fun z => f (ix2 3 z)) (Fin.ext (by show _ = q.val % 128; dsimp only; omega))
end
section
variable (x y : FVec Ideal S1x512 .f32) (w : IVec S1x512 1) (r : Fin 128)
theorem pay100_at : (k0_pay100 w x (ix2 0 r) : EReal) = k0_pay99 w x (ix2 0 ⟨r.val, by omega⟩) := by
  pointwise [k0_pay100]
theorem pay101_at : (k0_pay101 w x (ix2 0 r) : EReal) = k0_pay99 w x (ix2 0 ⟨128 + r.val, by omega⟩) := by
  pointwise [k0_pay101]
theorem pay102_at : (k0_pay102 w x (ix2 0 r) : EReal) = k0_pay99 w x (ix2 0 ⟨256 + r.val, by omega⟩) := by
  pointwise [k0_pay102]
theorem pay103_at : (k0_pay103 w x (ix2 0 r) : EReal) = k0_pay99 w x (ix2 0 ⟨384 + r.val, by omega⟩) := by
  pointwise [k0_pay103]
theorem pay99_at (q : Fin 512) : (k0_pay99 w x (ix2 0 q) : EReal) = Scalar.select (w (ix2 0 q)) (x (ix2 0 q) : EReal) 0 := by
  pointwise [k0_pay99]
theorem pay98_at (v : BitVec 32) (q : Fin 512) : (k0_pay98 (F := Ideal) x v (ix2 0 q) : EReal) = x (ix2 0 q) - Ideal.log (FloatOps.sitofp .f32 v : Ideal .f32) := by
  pointwise [k0_pay98]
theorem pay70_at (m l : FVec Ideal S1x512 .f32) (q : Fin 512) : (k0_pay70 (F := Ideal) m l (ix2 0 q) : EReal) = m (ix2 0 q) + Ideal.log (l (ix2 0 q)) := by
  pointwise [k0_pay70]
theorem pay90_at (v : BitVec 32) (q : Fin 512) : k0_pay90 v (ix2 0 q) = IntOp.addi v (IntOp.andi (BitVec.ofNat 32 q.val) 127#32) := by
  pointwise [k0_pay90]
theorem pay91_at (v c : BitVec 32) (q : Fin 512) : (k0_pay91 (F := Ideal) v c (ix2 0 q) : BitVec 1) = IntOp.cmpi .slt (IntOp.addi v (IntOp.andi (BitVec.ofNat 32 q.val) 127#32)) c := by
  rw [← pay90_at]; rfl
theorem pay97_at (v : IVec S1x512 32) (q : Fin 512) : (k0_pay97 (F := Ideal) v (ix2 0 q) : EReal) = Ideal.log (FloatOps.sitofp .f32 (IntOp.addi (v (ix2 0 q)) 1#32) : Ideal .f32) := rfl
theorem pay104_at (q : Fin 512) : (k0_pay104 (F := Ideal) x w y (ix2 0 q) : EReal) = Scalar.select (w (ix2 0 q)) (x (ix2 0 q) - y (ix2 0 q) : EReal) 0 := by
  pointwise [k0_pay104]
theorem pay105_at : (k0_pay105 (F := Ideal) x w y (ix2 0 r) : EReal) = k0_pay104 (F := Ideal) x w y (ix2 0 ⟨r.val, by omega⟩) := by
  pointwise [k0_pay105]
theorem pay106_at : (k0_pay106 (F := Ideal) x w y (ix2 0 r) : EReal) = k0_pay104 (F := Ideal) x w y (ix2 0 ⟨128 + r.val, by omega⟩) := by
  pointwise [k0_pay106]
theorem pay107_at : (k0_pay1 (k0_pay107 (F := Ideal) x w y) (ix2 0 r) : EReal) = k0_pay104 (F := Ideal) x w y (ix2 0 ⟨256 + r.val, by omega⟩) := by
  pointwise [k0_pay107, k0_pay1]
theorem pay2_at : (k0_pay2 (F := Ideal) x (ix2 0 r) : EReal) = x (ix2 0 ⟨384 + r.val, by omega⟩) := by
  pointwise [k0_pay2]
theorem pay88_at (m l : FVec Ideal S1x512 .f32) (q : Fin 512) : (k0_pay88 (F := Ideal) m l (ix2 0 q) : EReal) = m (ix2 0 q) + Ideal.log (l (ix2 0 q)) := by
  pointwise [k0_pay88]
theorem pay69_at (a : FVec Ideal S128x512 .f32) (l : FVec Ideal S1x512 .f32) (d : Fin 128) (q : Fin 512) : (k0_pay69 (F := Ideal) a l (ix2 d q) : EReal) = Ideal.div (a (ix2 d q)) (l (ix2 0 q)) := by
  pointwise [k0_pay69]
end
section
variable (v : FVec Ideal S128x512 .f32) (w : IVec S1x512 1) (r d : Fin 128)
theorem pay92_at (q : Fin 512) : (k0_pay92 (F := Ideal) v w (Scalar.ofBits .f32 0x00000000#32) (ix2 d q) : EReal) = Scalar.select (w (ix2 0 q)) (v (ix2 d q) : EReal) 0 := by
  pointwise [k0_pay92]
theorem pay93_at : (k0_pay93 (F := Ideal) v w (Scalar.ofBits .f32 0x00000000#32) (ix2 r d) : EReal) = k0_pay92 (F := Ideal) v w (Scalar.ofBits .f32 0x00000000#32) (ix2 d ⟨r.val, by omega⟩) := by
  pointwise [k0_pay93]
theorem pay94_at : (k0_pay94 (F := Ideal) v w (Scalar.ofBits .f32 0x00000000#32) (ix2 r d) : EReal) = k0_pay92 (F := Ideal) v w (Scalar.ofBits .f32 0x00000000#32) (ix2 d ⟨128 + r.val, by omega⟩) := by
  pointwise [k0_pay94]
theorem pay95_at : (k0_pay95 (F := Ideal) v w (Scalar.ofBits .f32 0x00000000#32) (ix2 r d) : EReal) = k0_pay92 (F := Ideal) v w (Scalar.ofBits .f32 0x00000000#32) (ix2 d ⟨256 + r.val, by omega⟩) := by
  pointwise [k0_pay95]
theorem pay96_at : (k0_pay96 (F := Ideal) v w (Scalar.ofBits .f32 0x00000000#32) (ix2 r d) : EReal) = k0_pay92 (F := Ideal) v w (Scalar.ofBits .f32 0x00000000#32) (ix2 d ⟨384 + r.val, by omega⟩) := by
  pointwise [k0_pay96]
end
/-- Two results with their log-sum-exps `x` and `y`, put together. -/
def mergeK (x y p c : EReal) : EReal :=
  let hi := max x y
  let l := hi + Ideal.log (Ideal.exp (x - hi) + Ideal.exp (y - hi))
  Ideal.exp (x - l) * p + Ideal.exp (y - l) * c
theorem pay89_at (a : FVec Ideal S128x512 .f32) (l m l' x : FVec Ideal S1x512 .f32) (o : FVec Ideal S128x512 .f32) (d : Fin 128) (q : Fin 512) :
    (k0_pay89 (F := Ideal) a l m l' x o (ix2 d q) : EReal) = mergeK (x (ix2 0 q)) (m (ix2 0 q) + Ideal.log (l' (ix2 0 q))) (o (ix2 d q)) (Ideal.div (a (ix2 d q)) (l (ix2 0 q))) := by
  pointwise [k0_pay89, k0_pay88]
  rfl
end Cert.KernelIdeal.Hand

end
-- ==== Proof.OutsIdeal.lean ====
module

public import proofs.«01_k».proof.Proof.BlocksBIdeal

@[expose] public section

set_option maxRecDepth 16384

/-! A tile's blocks entry by entry, and where the arrays take them. -/

noncomputable section

namespace Cert.KernelIdeal.Hand

open Cert.KernelIdeal Cert.KernelIdeal.Gen
open Idealize.ShloMosaic

/-- Column `r` of head `g` among the 512. -/
def colq (g : Fin 4) (r : Fin 128) : Fin 512 := ⟨g.val * 128 + r.val, by omega⟩

theorem rowBlk_at (w0 w1 w2 w3 : FVec Ideal S1x128 .f32) (x : FVec Ideal S1x512 .f32) (h0 : ∀ r, (w0 (ix2 0 r) : EReal) = x (ix2 0 (colq 0 r))) (h1 : ∀ r, (w1 (ix2 0 r) : EReal) = x (ix2 0 (colq 1 r)))
    (h2 : ∀ r, (w2 (ix2 0 r) : EReal) = x (ix2 0 (colq 2 r))) (h3 : ∀ r, (w3 (ix2 0 r) : EReal) = x (ix2 0 (colq 3 r))) (g : Fin 4) (r : Fin 128) :
    (rowBlk (F := Ideal) w0 w1 w2 w3 (ix2 g r) : EReal) = x (ix2 0 (colq g r)) := by
  refine (congrFun (View.read_whole (Val := Elt Ideal) cc0_scratch12 (rowBlk (F := Ideal) w0 w1 w2 w3)) (ix2 g r)).symm.trans ?_
  unfold rowBlk
  fin_cases g
  · refine (View.read_writes_cons_unit_of_not_mem _ _ _ _ _ _ rfl 0 (Or.inl (show (0:ℕ) < 3 by decide))).trans ?_
    refine (View.read_writes_cons_unit_of_not_mem _ _ _ _ _ _ rfl 0 (Or.inl (show (0:ℕ) < 2 by decide))).trans ?_
    refine (View.read_writes_cons_unit_of_not_mem _ _ _ _ _ _ rfl 0 (Or.inl (show (0:ℕ) < 1 by decide))).trans ?_
    exact (View.read_writes_cons_unit_of_mem _ _ _ _ _ _ (ix2 0 r) rfl (fun a => by fin_cases a <;> first | rfl | exact (Nat.zero_add _).symm)).trans (h0 r)
  · refine (View.read_writes_cons_unit_of_not_mem _ _ _ _ _ _ rfl 0 (Or.inl (show (1:ℕ) < 3 by decide))).trans ?_
    refine (View.read_writes_cons_unit_of_not_mem _ _ _ _ _ _ rfl 0 (Or.inl (show (1:ℕ) < 2 by decide))).trans ?_
    exact (View.read_writes_cons_unit_of_mem _ _ _ _ _ _ (ix2 0 r) rfl (fun a => by fin_cases a <;> first | rfl | exact (Nat.zero_add _).symm)).trans (h1 r)
  · refine (View.read_writes_cons_unit_of_not_mem _ _ _ _ _ _ rfl 0 (Or.inl (show (2:ℕ) < 3 by decide))).trans ?_
    exact (View.read_writes_cons_unit_of_mem _ _ _ _ _ _ (ix2 0 r) rfl (fun a => by fin_cases a <;> first | rfl | exact (Nat.zero_add _).symm)).trans (h2 r)
  · exact (View.read_writes_cons_unit_of_mem _ _ _ _ _ _ (ix2 0 r) rfl (fun a => by fin_cases a <;> first | rfl | exact (Nat.zero_add _).symm)).trans (h3 r)

theorem colBlk_at (w0 w1 w2 w3 : FVec Ideal S128x128 .bf16) (x : FVec Ideal S128x512 .f32) (h0 : ∀ r d, (w0 (ix2 r d) : EReal) = x (ix2 d (colq 0 r))) (h1 : ∀ r d, (w1 (ix2 r d) : EReal) = x (ix2 d (colq 1 r)))
    (h2 : ∀ r d, (w2 (ix2 r d) : EReal) = x (ix2 d (colq 2 r))) (h3 : ∀ r d, (w3 (ix2 r d) : EReal) = x (ix2 d (colq 3 r))) (g : Fin 4) (r d : Fin 128) :
    (colBlk (F := Ideal) w0 w1 w2 w3 (ix2 r (colq g d)) : EReal) = x (ix2 d (colq g r)) := by
  refine (congrFun (View.read_whole (Val := Elt Ideal) cc0_scratch11 (colBlk (F := Ideal) w0 w1 w2 w3)) (ix2 r (colq g d))).symm.trans ?_
  unfold colBlk
  have hd := d.isLt
  fin_cases g
  · refine (View.read_writes_cons_unit_of_not_mem _ _ _ _ _ _ rfl 1 (Or.inl (show 0 * 128 + d.val < 384 by omega))).trans ?_
    refine (View.read_writes_cons_unit_of_not_mem _ _ _ _ _ _ rfl 1 (Or.inl (show 0 * 128 + d.val < 256 by omega))).trans ?_
    refine (View.read_writes_cons_unit_of_not_mem _ _ _ _ _ _ rfl 1 (Or.inl (show 0 * 128 + d.val < 128 by omega))).trans ?_
    exact (View.read_writes_cons_unit_of_mem _ _ _ _ _ _ (ix2 r d) rfl (fun a => by fin_cases a <;> first | rfl | exact (Nat.zero_add _).symm)).trans (h0 r d)
  · refine (View.read_writes_cons_unit_of_not_mem _ _ _ _ _ _ rfl 1 (Or.inl (show 1 * 128 + d.val < 384 by omega))).trans ?_
    refine (View.read_writes_cons_unit_of_not_mem _ _ _ _ _ _ rfl 1 (Or.inl (show 1 * 128 + d.val < 256 by omega))).trans ?_
    exact (View.read_writes_cons_unit_of_mem _ _ _ _ _ _ (ix2 r d) rfl (fun a => by fin_cases a <;> first | rfl | exact (Nat.zero_add _).symm)).trans (h1 r d)
  · refine (View.read_writes_cons_unit_of_not_mem _ _ _ _ _ _ rfl 1 (Or.inl (show 2 * 128 + d.val < 384 by omega))).trans ?_
    exact (View.read_writes_cons_unit_of_mem _ _ _ _ _ _ (ix2 r d) rfl (fun a => by fin_cases a <;> first | rfl | exact (Nat.zero_add _).symm)).trans (h2 r d)
  · exact (View.read_writes_cons_unit_of_mem _ _ _ _ _ _ (ix2 r d) rfl (fun a => by fin_cases a <;> first | rfl | exact (Nat.zero_add _).symm)).trans (h3 r d)

/-! ## Where a block goes -/

variable (i : Fin k0_t1_loop.trips) (u : Fin k0_t2_loop.trips)

/-- The part of a log-sum-exp array that a tile fills. -/
abbrev winP := ((lsePM.slice (Rect.unit (s := S6x10x4x4096) (k0_off62 i u) S1x1x4x128.size (k0_off62_inb i u)) (fun _ => rfl)).squeeze S4x128 squeezes_S1x1x4x128_S4x128).view
abbrev winC := ((lseCM.slice (Rect.unit (s := S6x10x4x4096) (k0_off62 i u) S1x1x4x128.size (k0_off62_inb i u)) (fun _ => rfl)).squeeze S4x128 squeezes_S1x1x4x128_S4x128).view
abbrev winO := ((outM.slice (Rect.unit (s := S6x4096x5120) (k0_off61 i u) S1x128x512.size (k0_off61_inb i u)) (fun _ => rfl)).squeeze S128x512 squeezes_S1x128x512_S128x512).view

theorem i_lt (i : Fin k0_t1_loop.trips) : i.val < 60 := i.isLt
theorem u_lt (u : Fin k0_t2_loop.trips) : u.val < 32 := u.isLt

def bOf : Fin 6 := ⟨i.val % 6, Nat.mod_lt _ (by decide)⟩
def hOf : Fin 10 := ⟨i.val / 6, by have := i_lt i; omega⟩
def sOf (r : Fin 128) : Fin 4096 := ⟨u.val * 128 + r.val, by have := u_lt u; omega⟩
def pOf (q : Fin 512) : Fin 5120 := ⟨i.val / 6 * 512 + q.val, by have := i_lt i; omega⟩

set_option maxRecDepth 400000 in
theorem winP_emb (g : Fin 4) (r : Fin 128) : (winP i u).emb (ix2 g r) = ix4 (bOf i) (hOf i) g (sOf u r) := by
  refine (?_ : (Rect.unit (s := S6x10x4x4096) (k0_off62 i u) S1x1x4x128.size (k0_off62_inb i u)).emb (Shape.reshapeEquiv (s := S1x1x4x128) (s' := S4x128) rfl (ix2 g r)) = _)
  rw [show Shape.reshapeEquiv (s := S1x1x4x128) (s' := S4x128) rfl (ix2 g r) = ix4 0 0 g r by pointwise]
  refine emb_eq (off62_eq i u) fun a => ?_
  fin_cases a
  · rfl
  · rfl
  · show 0 + g.val = g.val; omega
  · rfl
set_option maxRecDepth 400000 in
theorem winC_emb (g : Fin 4) (r : Fin 128) : (winC i u).emb (ix2 g r) = ix4 (bOf i) (hOf i) g (sOf u r) := by
  refine (?_ : (Rect.unit (s := S6x10x4x4096) (k0_off62 i u) S1x1x4x128.size (k0_off62_inb i u)).emb (Shape.reshapeEquiv (s := S1x1x4x128) (s' := S4x128) rfl (ix2 g r)) = _)
  rw [show Shape.reshapeEquiv (s := S1x1x4x128) (s' := S4x128) rfl (ix2 g r) = ix4 0 0 g r by pointwise]
  refine emb_eq (off62_eq i u) fun a => ?_
  fin_cases a
  · rfl
  · rfl
  · show 0 + g.val = g.val; omega
  · rfl
set_option maxRecDepth 400000 in
theorem winO_emb (r : Fin 128) (q : Fin 512) : (winO i u).emb (ix2 r q) = ix3 (bOf i) (sOf u r) (pOf i q) := by
  refine (?_ : (Rect.unit (s := S6x4096x5120) (k0_off61 i u) S1x128x512.size (k0_off61_inb i u)).emb (Shape.reshapeEquiv (s := S1x128x512) (s' := S128x512) rfl (ix2 r q)) = _)
  rw [show Shape.reshapeEquiv (s := S1x128x512) (s' := S128x512) rfl (ix2 r q) = ix3 0 r q by pointwise]
  refine emb_eq (off61_eq i u) fun a => ?_
  fin_cases a
  · rfl
  · rfl
  · rfl

end Cert.KernelIdeal.Hand

end
-- ==== Proof.PointsIdeal.lean ====
module

public import proofs.«01_k».proof.Proof.OutsIdeal

@[expose] public section

set_option maxRecDepth 16384

/-! The three arrays after all the tiles: a tile's block where the tile is worked on, what was there elsewhere. -/

noncomputable section

namespace Cert.KernelIdeal.Hand

open Cert.KernelIdeal Cert.KernelIdeal.Gen
open Idealize.ShloMosaic

/-- Steps of which one sets a value and the others keep it. -/
theorem iter_hit {S : Type} {N : ℕ} (f : Fin N → S → S) (it : S → ℕ → S) (h0 : ∀ o, it o 0 = o) (hs : ∀ o k (h : k < N), it o (k + 1) = f ⟨k, h⟩ (it o k)) (get : S → EReal) (u0 : Fin N) (v : EReal)
    (hit : ∀ o, get (f u0 o) = v) (miss : ∀ u ≠ u0, ∀ o, get (f u o) = get o) (o : S) : ∀ k ≤ N, get (it o k) = if u0.val < k then v else get o
  | 0, _ => by rw [h0, if_neg (Nat.not_lt_zero _)]
  | k + 1, h => by
    have ih := iter_hit f it h0 hs get u0 v hit miss o k (by omega)
    rw [hs o k h]
    by_cases e : (⟨k, h⟩ : Fin N) = u0
    · subst e
      rw [hit, if_pos (Nat.lt_succ_self k)]
    · have ne : u0.val ≠ k := fun hk => e (Fin.ext hk.symm)
      rw [miss _ e, ih]
      by_cases hk : u0.val < k
      · rw [if_pos hk, if_pos (by omega)]
      · rw [if_neg hk, if_neg (by omega)]
/-- Steps that all keep a value. -/
theorem iter_miss {S : Type} {N : ℕ} (f : Fin N → S → S) (it : S → ℕ → S) (h0 : ∀ o, it o 0 = o) (hs : ∀ o k (h : k < N), it o (k + 1) = f ⟨k, h⟩ (it o k)) (get : S → EReal)
    (miss : ∀ u, ∀ o, get (f u o) = get o) (o : S) : ∀ k ≤ N, get (it o k) = get o
  | 0, _ => by rw [h0]
  | k + 1, h => by rw [hs o k h, miss, iter_miss f it h0 hs get miss o k (by omega)]

section
variable (i : Fin k0_t1_loop.trips) (u : Fin k0_t2_loop.trips)

theorem putP_in (O : FVec Ideal S6x10x4x4096 .f32) (w : FVec Ideal S4x128 .f32) (g : Fin 4) (r : Fin 128) : (putP (F := Ideal) i u O w (ix4 (bOf i) (hOf i) g (sOf u r)) : EReal) = w (ix2 g r) := by
  rw [← winP_emb i u g r]
  exact View.write_emb_of_mem (v := winP i u) (Val := Elt Ideal) O w (Finset.mem_univ _)
theorem putP_out (O : FVec Ideal S6x10x4x4096 .f32) (w : FVec Ideal S4x128 .f32) (b : Fin 6) (h : Fin 10) (g : Fin 4) (s : Fin 4096) (ne : b ≠ bOf i ∨ h ≠ hOf i ∨ s.val / 128 ≠ u.val) : (putP (F := Ideal) i u O w (ix4 b h g s) : EReal) = O (ix4 b h g s) := by
  refine View.write_of_not_mem (v := winP i u) (Val := Elt Ideal) O w Finset.univ fun hm => ?_
  obtain ⟨x, -, hx⟩ := Finset.mem_map.mp hm
  obtain ⟨x0, x1, rfl⟩ : ∃ (a : Fin 4) (c : Fin 128), x = ix2 a c := ⟨x 0, x 1, by funext a; fin_cases a <;> rfl⟩
  replace hx := (winP_emb i u x0 x1).symm.trans hx
  have e0 : bOf i = b := congrFun hx 0
  have e1 : hOf i = h := congrFun hx 1
  have e3 : sOf u x1 = s := congrFun hx 3
  have e3' : u.val * 128 + x1.val = s.val := congrArg Fin.val e3
  rcases ne with ne | ne | ne
  · exact ne e0.symm
  · exact ne e1.symm
  · omega

theorem putC_in (O : FVec Ideal S6x10x4x4096 .f32) (w : FVec Ideal S4x128 .f32) (g : Fin 4) (r : Fin 128) : (putC (F := Ideal) i u O w (ix4 (bOf i) (hOf i) g (sOf u r)) : EReal) = w (ix2 g r) := by
  rw [← winC_emb i u g r]
  exact View.write_emb_of_mem (v := winC i u) (Val := Elt Ideal) O w (Finset.mem_univ _)
theorem putC_out (O : FVec Ideal S6x10x4x4096 .f32) (w : FVec Ideal S4x128 .f32) (b : Fin 6) (h : Fin 10) (g : Fin 4) (s : Fin 4096) (ne : b ≠ bOf i ∨ h ≠ hOf i ∨ s.val / 128 ≠ u.val) : (putC (F := Ideal) i u O w (ix4 b h g s) : EReal) = O (ix4 b h g s) := by
  refine View.write_of_not_mem (v := winC i u) (Val := Elt Ideal) O w Finset.univ fun hm => ?_
  obtain ⟨x, -, hx⟩ := Finset.mem_map.mp hm
  obtain ⟨x0, x1, rfl⟩ : ∃ (a : Fin 4) (c : Fin 128), x = ix2 a c := ⟨x 0, x 1, by funext a; fin_cases a <;> rfl⟩
  replace hx := (winC_emb i u x0 x1).symm.trans hx
  have e0 : bOf i = b := congrFun hx 0
  have e1 : hOf i = h := congrFun hx 1
  have e3 : sOf u x1 = s := congrFun hx 3
  have e3' : u.val * 128 + x1.val = s.val := congrArg Fin.val e3
  rcases ne with ne | ne | ne
  · exact ne e0.symm
  · exact ne e1.symm
  · omega

theorem putO_in (O : FVec Ideal S6x4096x5120 .bf16) (w : FVec Ideal S128x512 .bf16) (r : Fin 128) (q : Fin 512) : (putO (F := Ideal) i u O w (ix3 (bOf i) (sOf u r) (pOf i q)) : EReal) = w (ix2 r q) := by
  rw [← winO_emb i u r q]
  exact View.write_emb_of_mem (v := winO i u) (Val := Elt Ideal) O w (Finset.mem_univ _)
theorem putO_out (O : FVec Ideal S6x4096x5120 .bf16) (w : FVec Ideal S128x512 .bf16) (b : Fin 6) (s : Fin 4096) (p : Fin 5120) (ne : b ≠ bOf i ∨ p.val / 512 ≠ (hOf i).val ∨ s.val / 128 ≠ u.val) : (putO (F := Ideal) i u O w (ix3 b s p) : EReal) = O (ix3 b s p) := by
  refine View.write_of_not_mem (v := winO i u) (Val := Elt Ideal) O w Finset.univ fun hm => ?_
  obtain ⟨x, -, hx⟩ := Finset.mem_map.mp hm
  obtain ⟨x0, x1, rfl⟩ : ∃ (a : Fin 128) (c : Fin 512), x = ix2 a c := ⟨x 0, x 1, by funext a; fin_cases a <;> rfl⟩
  replace hx := (winO_emb i u x0 x1).symm.trans hx
  have e0 : bOf i = b := congrFun hx 0
  have e1 : sOf u x0 = s := congrFun hx 1
  have e2 : pOf i x1 = p := congrFun hx 2
  have e1' : u.val * 128 + x0.val = s.val := congrArg Fin.val e1
  have e2' : i.val / 6 * 512 + x1.val = p.val := congrArg Fin.val e2
  have e3 : (hOf i).val = i.val / 6 := rfl
  rcases ne with ne | ne | ne
  · exact ne e0.symm
  · omega
  · omega

end

/-! ## All the tiles -/

section
variable (X : Ins Ideal)

theorem step_on (i : Fin k0_t1_loop.trips) (u : Fin k0_t2_loop.trips) (h1 : k0_cond1 (X.flag i u) = 1#1) (hw : k0_chk1 i (X.flag i u) X.plen) (o : Outs Ideal) :
    X.step i u o = ⟨putO i u o.O (X.blkO i u h1 hw), putP i u o.P (X.blkP i u h1 hw), putC i u o.C (X.blkC i u)⟩ := by unfold Ins.step; rw [dif_pos h1, dif_pos hw]
theorem step_off (i : Fin k0_t1_loop.trips) (u : Fin k0_t2_loop.trips) (h1 : ¬ k0_cond1 (X.flag i u) = 1#1) (o : Outs Ideal) : X.step i u o = o := by unfold Ins.step; rw [dif_neg h1]

theorem tiles_zero (i : Fin k0_t1_loop.trips) (o : Outs Ideal) : X.tiles i o 0 = o := rfl
theorem tiles_succ (i : Fin k0_t1_loop.trips) (o : Outs Ideal) (k : ℕ) (h : k < k0_t2_loop.trips) : X.tiles i o (k + 1) = X.step i ⟨k, h⟩ (X.tiles i o k) := by rw [Ins.tiles, dif_pos h]
theorem points_zero (o : Outs Ideal) : X.points o 0 = o := rfl
theorem points_succ (o : Outs Ideal) (k : ℕ) (h : k < k0_t1_loop.trips) : X.points o (k + 1) = X.tiles ⟨k, h⟩ (X.points o k) k0_t2_loop.trips := by rw [Ins.points, dif_pos h]

/-- What one step sets and every other keeps is what the steps leave. -/
theorem points_hit (get : Outs Ideal → EReal) (i0 : Fin k0_t1_loop.trips) (u0 : Fin k0_t2_loop.trips) (v : EReal) (hit : ∀ o, get (X.step i0 u0 o) = v)
    (miss : ∀ i u, (i ≠ i0 ∨ u ≠ u0) → ∀ o, get (X.step i u o) = get o) (o : Outs Ideal) : get (X.points o k0_t1_loop.trips) = v := by
  refine (iter_hit (fun i o => X.tiles i o k0_t2_loop.trips) X.points (points_zero X) (points_succ X) get i0 v (fun o => ?_) (fun i ne o => ?_) o _ le_rfl).trans (if_pos i0.isLt)
  · exact (iter_hit (X.step i0) (X.tiles i0) (tiles_zero X i0) (tiles_succ X i0) get u0 v hit (fun u ne => miss i0 u (Or.inr ne)) o _ le_rfl).trans (if_pos u0.isLt)
  · exact iter_miss (X.step i) (X.tiles i) (tiles_zero X i) (tiles_succ X i) get (fun u => miss i u (Or.inl ne)) o _ le_rfl
/-- What every step keeps stays. -/
theorem points_miss (get : Outs Ideal → EReal) (miss : ∀ i u o, get (X.step i u o) = get o) (o : Outs Ideal) : get (X.points o k0_t1_loop.trips) = get o :=
  iter_miss (fun i o => X.tiles i o k0_t2_loop.trips) X.points (points_zero X) (points_succ X) get
    (fun i o => iter_miss (X.step i) (X.tiles i) (tiles_zero X i) (tiles_succ X i) get (miss i) o _ le_rfl) o _ le_rfl

variable (hv : (X.plen : BitVec 32).toInt ≤ 24576)

theorem at_other (i i0 : Fin k0_t1_loop.trips) (u u0 : Fin k0_t2_loop.trips) (ne : i ≠ i0 ∨ u ≠ u0) : bOf i0 ≠ bOf i ∨ hOf i0 ≠ hOf i ∨ u0.val ≠ u.val := by
  by_contra hc
  simp only [not_or, not_not] at hc
  obtain ⟨c1, c2, c3⟩ := hc
  have d1 : i0.val % 6 = i.val % 6 := congrArg Fin.val c1
  have d2 : i0.val / 6 = i.val / 6 := congrArg Fin.val c2
  rcases ne with ne | ne
  · exact ne (Fin.ext (by omega))
  · exact ne (Fin.ext c3.symm)
theorem sOf_div (u : Fin k0_t2_loop.trips) (r : Fin 128) : (sOf u r).val / 128 = u.val := by
  show (u.val * 128 + r.val) / 128 = u.val
  omega
theorem pOf_div (i : Fin k0_t1_loop.trips) (q : Fin 512) : (pOf i q).val / 512 = (hOf i).val := by
  show (i.val / 6 * 512 + q.val) / 512 = i.val / 6
  omega

variable (i : Fin k0_t1_loop.trips) (u : Fin k0_t2_loop.trips) (g : Fin 4) (r : Fin 128) (o : Outs Ideal)

include hv in
/-- The prompt's log-sum-exp where a tile is worked on, -/
theorem P_on (h1 : k0_cond1 (X.flag i u) = 1#1) (hw : k0_chk1 i (X.flag i u) X.plen) :
    ((X.points o k0_t1_loop.trips).P (ix4 (bOf i) (hOf i) g (sOf u r)) : EReal) = X.blkP i u h1 hw (ix2 g r) := by
  refine points_hit X (fun o => o.P (ix4 (bOf i) (hOf i) g (sOf u r))) i u _ (fun o => ?_) (fun i' u' ne o => ?_) o
  · rw [step_on X i u h1 hw]
    exact putP_in i u o.P _ g r
  · by_cases h1' : k0_cond1 (X.flag i' u') = 1#1
    · rw [step_on X i' u' h1' (chk1 _ _ _ hv)]
      exact putP_out i' u' o.P _ _ _ _ _ (by rw [sOf_div]; exact at_other _ _ _ _ ne)
    · rw [step_off X i' u' h1']
include hv in
/-- the completion's, -/
theorem C_on (h1 : k0_cond1 (X.flag i u) = 1#1) :
    ((X.points o k0_t1_loop.trips).C (ix4 (bOf i) (hOf i) g (sOf u r)) : EReal) = X.blkC i u (ix2 g r) := by
  refine points_hit X (fun o => o.C (ix4 (bOf i) (hOf i) g (sOf u r))) i u _ (fun o => ?_) (fun i' u' ne o => ?_) o
  · rw [step_on X i u h1 (chk1 _ _ _ hv)]
    exact putC_in i u o.C _ g r
  · by_cases h1' : k0_cond1 (X.flag i' u') = 1#1
    · rw [step_on X i' u' h1' (chk1 _ _ _ hv)]
      exact putC_out i' u' o.C _ _ _ _ _ (by rw [sOf_div]; exact at_other _ _ _ _ ne)
    · rw [step_off X i' u' h1']
include hv in
/-- and the result. -/
theorem O_on (q : Fin 512) (h1 : k0_cond1 (X.flag i u) = 1#1) (hw : k0_chk1 i (X.flag i u) X.plen) :
    ((X.points o k0_t1_loop.trips).O (ix3 (bOf i) (sOf u r) (pOf i q)) : EReal) = X.blkO i u h1 hw (ix2 r q) := by
  refine points_hit X (fun o => o.O (ix3 (bOf i) (sOf u r) (pOf i q))) i u _ (fun o => ?_) (fun i' u' ne o => ?_) o
  · rw [step_on X i u h1 hw]
    exact putO_in i u o.O _ r q
  · by_cases h1' : k0_cond1 (X.flag i' u') = 1#1
    · rw [step_on X i' u' h1' (chk1 _ _ _ hv)]
      refine putO_out i' u' o.O _ _ _ _ ?_
      rw [sOf_div, pOf_div]
      rcases at_other _ _ _ _ ne with h | h | h
      · exact Or.inl h
      · exact Or.inr (Or.inl fun e => h (Fin.ext e))
      · exact Or.inr (Or.inr h)
    · rw [step_off X i' u' h1']

variable (h1 : ¬ k0_cond1 (X.flag i u) = 1#1)
include hv h1
/-- Where a tile is not worked on, all three keep what was there. -/
theorem P_off : ((X.points o k0_t1_loop.trips).P (ix4 (bOf i) (hOf i) g (sOf u r)) : EReal) = o.P (ix4 (bOf i) (hOf i) g (sOf u r)) := by
  refine points_miss X (fun o => o.P (ix4 (bOf i) (hOf i) g (sOf u r))) (fun i' u' o => ?_) o
  by_cases h1' : k0_cond1 (X.flag i' u') = 1#1
  · have ne : i' ≠ i ∨ u' ≠ u := by
      by_contra hc
      simp only [not_or, not_not] at hc
      obtain ⟨rfl, rfl⟩ := hc
      exact h1 h1'
    rw [step_on X i' u' h1' (chk1 _ _ _ hv)]
    exact putP_out i' u' o.P _ _ _ _ _ (by rw [sOf_div]; exact at_other _ _ _ _ ne)
  · rw [step_off X i' u' h1']
theorem C_off : ((X.points o k0_t1_loop.trips).C (ix4 (bOf i) (hOf i) g (sOf u r)) : EReal) = o.C (ix4 (bOf i) (hOf i) g (sOf u r)) := by
  refine points_miss X (fun o => o.C (ix4 (bOf i) (hOf i) g (sOf u r))) (fun i' u' o => ?_) o
  by_cases h1' : k0_cond1 (X.flag i' u') = 1#1
  · have ne : i' ≠ i ∨ u' ≠ u := by
      by_contra hc
      simp only [not_or, not_not] at hc
      obtain ⟨rfl, rfl⟩ := hc
      exact h1 h1'
    rw [step_on X i' u' h1' (chk1 _ _ _ hv)]
    exact putC_out i' u' o.C _ _ _ _ _ (by rw [sOf_div]; exact at_other _ _ _ _ ne)
  · rw [step_off X i' u' h1']
theorem O_off (q : Fin 512) : ((X.points o k0_t1_loop.trips).O (ix3 (bOf i) (sOf u r) (pOf i q)) : EReal) = o.O (ix3 (bOf i) (sOf u r) (pOf i q)) := by
  refine points_miss X (fun o => o.O (ix3 (bOf i) (sOf u r) (pOf i q))) (fun i' u' o => ?_) o
  by_cases h1' : k0_cond1 (X.flag i' u') = 1#1
  · have ne : i' ≠ i ∨ u' ≠ u := by
      by_contra hc
      simp only [not_or, not_not] at hc
      obtain ⟨rfl, rfl⟩ := hc
      exact h1 h1'
    rw [step_on X i' u' h1' (chk1 _ _ _ hv)]
    refine putO_out i' u' o.O _ _ _ _ ?_
    rw [sOf_div, pOf_div]
    rcases at_other _ _ _ _ ne with h | h | h
    · exact Or.inl h
    · exact Or.inr (Or.inl fun e => h (Fin.ext e))
    · exact Or.inr (Or.inr h)
  · rw [step_off X i' u' h1']
end
end Cert.KernelIdeal.Hand

end
-- ==== Proof.EndsPIdeal.lean ====
module

public import proofs.«01_k».proof.Proof.StepsIdeal

@[expose] public section

set_option maxRecDepth 16384

/-! What the kernel's loops over the prompt's keys come to: softmax's three sums over all of the keys. -/

noncomputable section

namespace Cert.KernelIdeal.Hand

open Cert.KernelIdeal Cert.KernelIdeal.Gen
open Idealize.ShloMosaic

/-- The word that counts a chunk's tile's keys. -/
theorem key_word (t k r : ℕ) : IntOp.addi (Scalar.addi (Scalar.muli (Scf.iv 0#32 1#32 t) 2048#32) (Scalar.muli (Scf.iv 0#32 1#32 k) 128#32)) (BitVec.ofNat 32 r) = BitVec.ofNat 32 (t * 2048 + k * 128 + r) := by
  unfold IntOp.addi Scalar.addi Scalar.muli IntOp.addi IntOp.muli Scf.iv
  rw [BitVec.ofNat_add, BitVec.ofNat_add, BitVec.ofNat_mul, BitVec.ofNat_mul]
  simp

theorem slt_word (v : BitVec 32) (n : ℕ) (hn : n < 2 ^ 31) : IntOp.cmpi .slt (BitVec.ofNat 32 n) v = if (n : ℤ) < v.toInt then 1#1 else 0#1 := by
  show BitVec.ofBool (BitVec.slt (BitVec.ofNat 32 n) v) = _
  rw [BitVec.slt_eq_decide, WordArith.toInt_ofNat_small n hn]
  by_cases h : (n : ℤ) < v.toInt <;> simp [h]

/-- The chunk row and the place in it of a key of the prompt. -/
def row (j : Fin 24576) : Fin 192 := ⟨j.val / 128, by omega⟩
def col (j : Fin 24576) : Fin 128 := ⟨j.val % 128, by omega⟩

variable (i : Fin k0_t1_loop.trips) (v32 : Elt Ideal .i32) (h1 : k0_cond1 v32 = 1#1) (v : Elt Ideal .i32) (hw : k0_chk1 i v32 v) (hv : v.toInt ≤ 24576)
  (v56 : FVec Ideal S128x512 .fp8e4m3) (v61 : FVec Ideal S1x512 .f32)
  (K : FVec Ideal S10x24576x128 .fp8e4m3) (V : FVec Ideal S10x192x128x128 .fp8e4m3) (Ks Vs : FVec Ideal S10x192x128 .f32)
  (h : Fin 10)

/-- The score of key `j` for query column `q`. -/
def scP (q : Fin 512) (j : Fin 24576) : EReal :=
  Scalar.select (IntOp.cmpi .slt (BitVec.ofNat 32 j.val) v) ((∑ x, (K (ix3 h j x) : EReal) * v56 (ix2 x q)) * v61 (ix2 0 q) * Ks (ix3 h (row j) (col j)) * Ideal.ofBits .f32 0x3DB504F3#32) (⊥ : EReal)
/-- The value of key `j` in dimension `d`. -/
def vlP (d : Fin 128) (j : Fin 24576) : EReal := (V (ix4 h (row j) d (col j)) : EReal) * Vs (ix3 h (row j) (col j))

/-- The running values hold the three sums over the keys before `n`. -/
structure SumsP (n : ℕ) (s : St Ideal) : Prop where
  m : ∀ q, (s.m (ix2 0 q) : EReal) = Flash.mx (Flash.upto 24576 n) (scP v v56 v61 K Ks h q)
  l : ∀ q, (s.l (ix2 0 q) : EReal) = Flash.sm (Flash.upto 24576 n) (scP v v56 v61 K Ks h q) (Flash.mx (Flash.upto 24576 n) (scP v v56 v61 K Ks h q))
  acc : ∀ d q, (s.acc (ix2 d q) : EReal) = Flash.ws (Flash.upto 24576 n) (scP v v56 v61 K Ks h q) (vlP V Vs h d) (Flash.mx (Flash.upto 24576 n) (scP v v56 v61 K Ks h q))

include hv in
/-- The scores of a tile are those of its keys. -/
theorem score_tile (hh : h.val = i.val / 6) (t : Fin (k0_t3_loop v).trips) (k : Fin (k0_t4_loop v t).trips) (hn : t.val * 2048 + k.val * 128 + 128 ≤ 24576) (q : Fin 512) (r : Fin 128) :
    (k0_pay4 v v56 v61 t (Scf.iv 0#32 1#32 t) 0#32 1#32 k
      (View.readAt (Elt Ideal) kB.view (Rect.unit (s := S2048x128) (k0_off12 v t k) S128x128.size (k0_off12_inb i v32 v hw t k h1)).toLoadRect (chK i v32 h1 v hw K t))
      (View.readAt (Elt Ideal) ksB.view (Rect.unit (s := S16x128) (k0_off13 v t k) S1x128.size (k0_off13_inb i v32 v hw t k h1)).toLoadRect (chKs i v32 h1 v hw Ks t)) (ix2 r q) : EReal)
    = scP v v56 v61 K Ks h q (Flash.blockEmb hn r) := by
  have hk := t4_lt v hv t k
  rw [pay4_at, key_word]
  unfold scP
  rw [rdS_at i v32 h1 v hw hv t k _ r ⟨k.val, hk⟩ rfl, chKs_at i v32 h1 v hw hv t Ks h hh ⟨k.val, hk⟩ r (row (Flash.blockEmb hn r)) (by show (t.val * 2048 + k.val * 128 + r.val) / 128 = t.val * 16 + k.val; omega)]
  rw [show col (Flash.blockEmb hn r) = r from Fin.ext (by show (t.val * 2048 + k.val * 128 + r.val) % 128 = r.val; omega)]
  congr 4
  refine Finset.sum_congr rfl fun x _ => ?_
  rw [rdK_at i v32 h1 v hw hv t k _ r x ⟨k.val * 128 + r.val, by omega⟩ rfl, chK_at i v32 h1 v hw hv t K h hh ⟨k.val * 128 + r.val, by omega⟩ x (Flash.blockEmb hn r) (by show t.val * 2048 + k.val * 128 + r.val = t.val * 2048 + (k.val * 128 + r.val); omega)]

include hv in
/-- One tile of keys more. -/
theorem sums_tile (hh : h.val = i.val / 6) (t : Fin (k0_t3_loop v).trips) (k : Fin (k0_t4_loop v t).trips) (s : St Ideal)
    (hs : SumsP v v56 v61 K V Ks Vs h (t.val * 2048 + k.val * 128) s) :
    SumsP v v56 v61 K V Ks Vs h (t.val * 2048 + (k.val + 1) * 128) (stepP i v32 h1 v hw v56 v61 t k (chK i v32 h1 v hw K t) (chV i v32 h1 v hw V t) (chKs i v32 h1 v hw Ks t) (chVs i v32 h1 v hw Vs t) s) := by
  have hk := t4_lt v hv t k
  have ht := (t3_lt v hv t).1
  have hn : t.val * 2048 + k.val * 128 + 128 ≤ 24576 := by omega
  have hf := fun q => score_tile i v32 h1 v hw hv v56 v61 K Ks h hh t k hn q
  rw [show t.val * 2048 + (k.val + 1) * 128 = t.val * 2048 + k.val * 128 + 128 by omega]
  constructor
  · intro q
    unfold stepP
    dsimp only
    rw [pay59_at, pay5_at, ldRow_eq, hs.m, Flash.mx_block hn _ _ (hf q)]
  · intro q
    unfold stepP
    dsimp only
    rw [pay57_at, pay8_at, pay6_at, pay9_at]
    simp only [pay7_at]
    rw [pay5_at, ldRow_eq, ldRowL_eq, hs.m, hs.l, Flash.sm_block hn _ _ (hf q)]
  · intro d q
    unfold stepP
    dsimp only
    rw [pay58_at, pay6_at]
    simp only [pay7_at]
    rw [pay5_at, ldRow_eq, ldAcc_eq, hs.m, hs.acc, ← Flash.ws_block hn _ (vlP V Vs h d) _ (fun r => vlP V Vs h d (Flash.blockEmb hn r)) (hf q) (fun r => rfl)]
    congr 1
    refine Finset.sum_congr rfl fun r _ => ?_
    unfold vlP
    rw [show col (Flash.blockEmb hn r) = r from Fin.ext (by show (t.val * 2048 + k.val * 128 + r.val) % 128 = r.val; omega)]
    rw [rdSv_at i v32 h1 v hw hv t k _ r ⟨k.val, hk⟩ rfl, chVs_at i v32 h1 v hw hv t Vs h hh ⟨k.val, hk⟩ r (row (Flash.blockEmb hn r)) (by show (t.val * 2048 + k.val * 128 + r.val) / 128 = t.val * 16 + k.val; omega)]
    rw [rdV_at i v32 h1 v hw hv t k _ d r ⟨k.val, hk⟩ rfl, chV_at i v32 h1 v hw hv t V h hh ⟨k.val, hk⟩ d r (row (Flash.blockEmb hn r)) (by show (t.val * 2048 + k.val * 128 + r.val) / 128 = t.val * 16 + k.val; omega)]
    exact mul_left_comm _ _ _

/-- Keys past the prompt's end do not count. -/
theorem scP_bot (q : Fin 512) (j : Fin 24576) (hj : v.toInt ≤ j.val) : scP v v56 v61 K Ks h q j = ⊥ := by
  unfold scP
  rw [slt_word _ _ (by omega), if_neg (by omega)]
  rfl

/-- Two counts of keys that differ only past the prompt's end. -/
theorem SumsP.mono {n n' : ℕ} (hle : n ≤ n') (hb : v.toInt ≤ n ∨ n' ≤ n) {s : St Ideal} (hs : SumsP v v56 v61 K V Ks Vs h n s) : SumsP v v56 v61 K V Ks Vs h n' s := by
  have hsub : Flash.upto 24576 n ⊆ Flash.upto 24576 n' := fun j hj => Flash.mem_upto.mpr (lt_of_lt_of_le (Flash.mem_upto.mp hj) hle)
  have hbot : ∀ q, ∀ j ∈ Flash.upto 24576 n', j ∉ Flash.upto 24576 n → scP v v56 v61 K Ks h q j = ⊥ := fun q j hj hj' => scP_bot v v56 v61 K Ks h q j (by
    rw [Flash.mem_upto] at hj hj'; omega)
  constructor
  · intro q; rw [hs.m, Flash.mx_mono_bot hsub (hbot q)]
  · intro q; rw [hs.l, Flash.mx_mono_bot hsub (hbot q), Flash.sm_mono_bot _ hsub (hbot q)]
  · intro d q; rw [hs.acc, Flash.mx_mono_bot hsub (hbot q), Flash.ws_mono_bot _ _ hsub (hbot q)]

include hv in
/-- The running values hold the sums over the keys done, all along the loops. -/
theorem sums_run (hh : h.val = i.val / 6) {n k : ℕ} {s : St Ideal} (hr : RunP i v32 h1 v hw v56 v61 K V Ks Vs n k s) : SumsP v v56 v61 K V Ks Vs h (n * 2048 + k * 128) s := by
  induction hr with
  | start =>
    constructor
    · intro q
      simp only [Nat.zero_mul, Nat.zero_add, Flash.upto_zero]
      pointwise [k0_pay54, k0_pay53, Flash.negInf]
      rfl
    · intro q
      simp only [Nat.zero_mul, Nat.zero_add, Flash.upto_zero]
      pointwise [k0_pay55]
      rfl
    · intro d q
      simp only [Nat.zero_mul, Nat.zero_add, Flash.upto_zero]
      pointwise [k0_pay56]
      rfl
  | tile t k s _ ih => exact sums_tile i v32 h1 v hw hv v56 v61 K V Ks Vs h hh t k s ih
  | next t s _ ih =>
    refine ih.mono _ _ _ _ _ _ _ _ ?_ ?_
    all_goals
      rw [t4_trips v hv t]
      have := t3_lt v hv t
      unfold tiles
      omega

include hv in
/-- The loops reach an end. -/
theorem run_ends : ∃ s, RunP i v32 h1 v hw v56 v61 K V Ks Vs (k0_t3_loop v).trips 0 s := by
  have inner : ∀ t : Fin (k0_t3_loop v).trips, (∃ s, RunP i v32 h1 v hw v56 v61 K V Ks Vs t.val 0 s) → ∀ k ≤ (k0_t4_loop v t).trips, ∃ s, RunP i v32 h1 v hw v56 v61 K V Ks Vs t.val k s := by
    intro t h0 k
    induction k with
    | zero => exact fun _ => h0
    | succ k ih =>
      intro hk
      obtain ⟨s, hs⟩ := ih (by omega)
      exact ⟨_, RunP.tile t ⟨k, hk⟩ s hs⟩
  have outer : ∀ n ≤ (k0_t3_loop v).trips, ∃ s, RunP i v32 h1 v hw v56 v61 K V Ks Vs n 0 s := by
    intro n
    induction n with
    | zero => exact fun _ => ⟨_, RunP.start⟩
    | succ n ih =>
      intro hn
      obtain ⟨s, hs⟩ := inner ⟨n, hn⟩ (ih (by omega)) _ le_rfl
      exact ⟨_, RunP.next ⟨n, hn⟩ s hs⟩
  exact outer _ le_rfl

include hv in
/-- At the end: the sums over all of the keys. -/
theorem sums_end (hh : h.val = i.val / 6) {s : St Ideal} (hr : RunP i v32 h1 v hw v56 v61 K V Ks Vs (k0_t3_loop v).trips 0 s) : SumsP v v56 v61 K V Ks Vs h 24576 s := by
  refine (sums_run i v32 h1 v hw hv v56 v61 K V Ks Vs h hh hr).mono _ _ _ _ _ _ _ _ ?_ ?_
  all_goals
    rw [t3_trips v hv]
    unfold chunks
    omega

end Cert.KernelIdeal.Hand

end
-- ==== Proof.EndsCIdeal.lean ====
module

public import proofs.«01_k».proof.Proof.StepsCIdeal
public import proofs.«01_k».proof.Proof.EndsPIdeal

@[expose] public section

set_option maxRecDepth 16384

/-! What the kernel's loops over the completion's keys come to: softmax's three sums over all of the keys. -/

noncomputable section

namespace Cert.KernelIdeal.Hand

open Cert.KernelIdeal Cert.KernelIdeal.Gen
open Idealize.ShloMosaic

/-- The chunk row and the place in it of a key of the completion. -/
def rowC (j : Fin 4096) : Fin 32 := ⟨j.val / 128, by omega⟩
def colC (j : Fin 4096) : Fin 128 := ⟨j.val % 128, by omega⟩

theorem and127 (q : ℕ) (hq : q < 512) : IntOp.andi (BitVec.ofNat 32 q) 127#32 = BitVec.ofNat 32 (q % 128) := by
  apply BitVec.eq_of_toNat_eq
  unfold IntOp.andi
  simp only [BitVec.toNat_and, BitVec.toNat_ofNat]
  rw [Nat.mod_eq_of_lt (by omega : q < 2 ^ 32), Nat.mod_eq_of_lt (by omega : q % 128 < 2 ^ 32)]
  exact Nat.and_two_pow_sub_one_eq_mod q 7

/-- The word of query column `q` of tile `u`: its place in the completion. -/
theorem query_word (u : Fin k0_t2_loop.trips) (q : Fin 512) : IntOp.addi (v37 u) (IntOp.andi (BitVec.ofNat 32 q.val) 127#32) = BitVec.ofNat 32 (u.val * 128 + q.val % 128) := by
  rw [and127 _ q.isLt]
  unfold v37 IntOp.addi Scalar.muli IntOp.muli Scf.iv
  rw [BitVec.ofNat_add, BitVec.ofNat_mul]
  simp

theorem sle_word (n k : ℕ) (hn : n < 2 ^ 31) (hk : k < 2 ^ 31) : IntOp.cmpi .sle (BitVec.ofNat 32 n) (BitVec.ofNat 32 k) = if n ≤ k then 1#1 else 0#1 := by
  show BitVec.ofBool (BitVec.sle (BitVec.ofNat 32 n) (BitVec.ofNat 32 k)) = _
  rw [BitVec.sle_eq_decide, WordArith.toInt_ofNat_small n hn, WordArith.toInt_ofNat_small k hk]
  by_cases h : n ≤ k <;> simp [h]

variable (i : Fin k0_t1_loop.trips) (u : Fin k0_t2_loop.trips)
  (v123 : FVec Ideal S128x512 .fp8e4m3) (v128 : FVec Ideal S1x512 .f32)
  (K : FVec Ideal S6x10x4096x128 .fp8e4m3) (V : FVec Ideal S6x10x32x128x128 .fp8e4m3) (Ks Vs : FVec Ideal S6x10x32x128 .f32)
  (b : Fin 6) (h : Fin 10)

/-- The score of key `j` for query column `q`. -/
def scC (q : Fin 512) (j : Fin 4096) : EReal :=
  Scalar.select (IntOp.cmpi .sle (BitVec.ofNat 32 j.val) (BitVec.ofNat 32 (u.val * 128 + q.val % 128))) ((∑ x, (K (ix4 b h j x) : EReal) * v123 (ix2 x q)) * v128 (ix2 0 q) * Ks (ix4 b h (rowC j) (colC j)) * Ideal.ofBits .f32 0x3DB504F3#32) (⊥ : EReal)
/-- The value of key `j` in dimension `d`. -/
def vlC (d : Fin 128) (j : Fin 4096) : EReal := (V (ix5 b h (rowC j) d (colC j)) : EReal) * Vs (ix4 b h (rowC j) (colC j))

/-- The running values hold the three sums over the keys before `n`. -/
structure SumsC (n : ℕ) (s : St Ideal) : Prop where
  m : ∀ q, (s.m (ix2 0 q) : EReal) = Flash.mx (Flash.upto 4096 n) (scC u v123 v128 K Ks b h q)
  l : ∀ q, (s.l (ix2 0 q) : EReal) = Flash.sm (Flash.upto 4096 n) (scC u v123 v128 K Ks b h q) (Flash.mx (Flash.upto 4096 n) (scC u v123 v128 K Ks b h q))
  acc : ∀ d q, (s.acc (ix2 d q) : EReal) = Flash.ws (Flash.upto 4096 n) (scC u v123 v128 K Ks b h q) (vlC V Vs b h d) (Flash.mx (Flash.upto 4096 n) (scC u v123 v128 K Ks b h q))

/-- The scores of a tile are those of its keys. -/
theorem score_tileC (hb : b.val = i.val % 6) (hh : h.val = i.val / 6) (t : Fin (k0_t9_loop u).trips) (k : Fin (k0_t10_loop u t).trips) (hn : t.val * 2048 + k.val * 128 + 128 ≤ 4096) (q : Fin 512) (r : Fin 128) :
    (k0_pay32 u (v37 u) v123 v128 t (Scf.iv 0#32 1#32 t) 0#32 1#32 k
      (View.readAt (Elt Ideal) kB.view (Rect.unit (s := S2048x128) (k0_off40 u t k) S128x128.size (k0_off40_inb u t k)).toLoadRect (ccK i u K t))
      (View.readAt (Elt Ideal) ksB.view (Rect.unit (s := S16x128) (k0_off41 u t k) S1x128.size (k0_off41_inb u t k)).toLoadRect (ccKs i u Ks t)) (ix2 r q) : EReal)
    = scC u v123 v128 K Ks b h q (Flash.blockEmb hn r) := by
  have hk := (t10_lt u t k).1
  rw [pay32_at, key_word, query_word]
  unfold scC
  rw [rcS_at u t k _ r ⟨k.val, hk⟩ rfl, ccKs_at i u t Ks b hb h hh ⟨k.val, hk⟩ r (rowC (Flash.blockEmb hn r)) (by show (t.val * 2048 + k.val * 128 + r.val) / 128 = t.val * 16 + k.val; omega)]
  rw [show colC (Flash.blockEmb hn r) = r from Fin.ext (by show (t.val * 2048 + k.val * 128 + r.val) % 128 = r.val; omega)]
  congr 4
  refine Finset.sum_congr rfl fun x _ => ?_
  rw [rcK_at u t k _ r x ⟨k.val * 128 + r.val, by omega⟩ rfl, ccK_at i u t K b hb h hh ⟨k.val * 128 + r.val, by omega⟩ x (Flash.blockEmb hn r) (by show t.val * 2048 + k.val * 128 + r.val = t.val * 2048 + (k.val * 128 + r.val); omega)]

/-- One tile of keys more. -/
theorem sums_tileC (hb : b.val = i.val % 6) (hh : h.val = i.val / 6) (t : Fin (k0_t9_loop u).trips) (k : Fin (k0_t10_loop u t).trips) (s : St Ideal)
    (hs : SumsC u v123 v128 K V Ks Vs b h (t.val * 2048 + k.val * 128) s) :
    SumsC u v123 v128 K V Ks Vs b h (t.val * 2048 + (k.val + 1) * 128) (stepC i u (v37 u) v123 v128 t k (ccK i u K t) (ccV i u V t) (ccKs i u Ks t) (ccVs i u Vs t) s) := by
  have hk := (t10_lt u t k).1
  have ht := t10_lt u t k
  have hu : u.val < 32 := u.isLt
  have hn : t.val * 2048 + k.val * 128 + 128 ≤ 4096 := by omega
  have hf := fun q => score_tileC i u v123 v128 K Ks b h hb hh t k hn q
  rw [show t.val * 2048 + (k.val + 1) * 128 = t.val * 2048 + k.val * 128 + 128 by omega]
  constructor
  · intro q
    unfold stepC
    dsimp only
    rw [pay78_at, pay33_at, ldRow_eq, hs.m, Flash.mx_block hn _ _ (hf q)]
  · intro q
    unfold stepC
    dsimp only
    rw [pay76_at, pay34_at]
    simp only [pay35_at]
    rw [pay33_at, ldRow_eq, ldRowL_eq, hs.m, hs.l, Flash.sm_block hn _ _ (hf q)]
  · intro d q
    unfold stepC
    dsimp only
    rw [pay77_at, pay34_at]
    simp only [pay35_at]
    rw [pay33_at, ldRow_eq, ldAcc_eq, hs.m, hs.acc, ← Flash.ws_block hn _ (vlC V Vs b h d) _ (fun r => vlC V Vs b h d (Flash.blockEmb hn r)) (hf q) (fun r => rfl)]
    congr 1
    refine Finset.sum_congr rfl fun r _ => ?_
    unfold vlC
    rw [show colC (Flash.blockEmb hn r) = r from Fin.ext (by show (t.val * 2048 + k.val * 128 + r.val) % 128 = r.val; omega)]
    rw [rcSv_at u t k _ r ⟨k.val, hk⟩ rfl, ccVs_at i u t Vs b hb h hh ⟨k.val, hk⟩ r (rowC (Flash.blockEmb hn r)) (by show (t.val * 2048 + k.val * 128 + r.val) / 128 = t.val * 16 + k.val; omega)]
    rw [rcV_at u t k _ d r ⟨k.val, hk⟩ rfl, ccV_at i u t V b hb h hh ⟨k.val, hk⟩ d r (rowC (Flash.blockEmb hn r)) (by show (t.val * 2048 + k.val * 128 + r.val) / 128 = t.val * 16 + k.val; omega)]
    exact mul_left_comm _ _ _

/-- Keys past the tile of the queries do not count. -/
theorem scC_bot (q : Fin 512) (j : Fin 4096) (hj : u.val * 128 + 128 ≤ j.val) : scC u v123 v128 K Ks b h q j = ⊥ := by
  unfold scC
  have hu : u.val < 32 := u.isLt
  rw [sle_word _ _ (by omega) (by omega), if_neg (by omega)]
  rfl

/-- Two counts of keys that differ only past the tile of the queries. -/
theorem SumsC.mono {n n' : ℕ} (hle : n ≤ n') (hb : u.val * 128 + 128 ≤ n ∨ n' ≤ n) {s : St Ideal} (hs : SumsC u v123 v128 K V Ks Vs b h n s) : SumsC u v123 v128 K V Ks Vs b h n' s := by
  have hsub : Flash.upto 4096 n ⊆ Flash.upto 4096 n' := fun j hj => Flash.mem_upto.mpr (lt_of_lt_of_le (Flash.mem_upto.mp hj) hle)
  have hbot : ∀ q, ∀ j ∈ Flash.upto 4096 n', j ∉ Flash.upto 4096 n → scC u v123 v128 K Ks b h q j = ⊥ := fun q j hj hj' => scC_bot u v123 v128 K Ks b h q j (by
    rw [Flash.mem_upto] at hj hj'; omega)
  constructor
  · intro q; rw [hs.m, Flash.mx_mono_bot hsub (hbot q)]
  · intro q; rw [hs.l, Flash.mx_mono_bot hsub (hbot q), Flash.sm_mono_bot _ hsub (hbot q)]
  · intro d q; rw [hs.acc, Flash.mx_mono_bot hsub (hbot q), Flash.ws_mono_bot _ _ hsub (hbot q)]

/-- The running values hold the sums over the keys done, all along the loops. -/
theorem sums_runC (hb : b.val = i.val % 6) (hh : h.val = i.val / 6) {n k : ℕ} {s : St Ideal} (hr : RunC i u (v37 u) v123 v128 K V Ks Vs n k s) : SumsC u v123 v128 K V Ks Vs b h (n * 2048 + k * 128) s := by
  induction hr with
  | start =>
    constructor
    · intro q
      simp only [Nat.zero_mul, Nat.zero_add, Flash.upto_zero]
      pointwise [k0_pay73, Flash.negInf]
      rfl
    · intro q
      simp only [Nat.zero_mul, Nat.zero_add, Flash.upto_zero]
      pointwise [k0_pay74]
      rfl
    · intro d q
      simp only [Nat.zero_mul, Nat.zero_add, Flash.upto_zero]
      pointwise [k0_pay75]
      rfl
  | tile t k s _ ih => exact sums_tileC i u v123 v128 K V Ks Vs b h hb hh t k s ih
  | next t s _ ih =>
    refine ih.mono _ _ _ _ _ _ _ _ _ ?_ ?_
    all_goals
      rw [t10_trips u t]
      have := t9_lt u t
      unfold tiles
      rw [keysW_toInt]
      omega

/-- The loops reach an end. -/
theorem runC_ends : ∃ s, RunC i u (v37 u) v123 v128 K V Ks Vs (k0_t9_loop u).trips 0 s := by
  have inner : ∀ t : Fin (k0_t9_loop u).trips, (∃ s, RunC i u (v37 u) v123 v128 K V Ks Vs t.val 0 s) → ∀ k ≤ (k0_t10_loop u t).trips, ∃ s, RunC i u (v37 u) v123 v128 K V Ks Vs t.val k s := by
    intro t h0 k
    induction k with
    | zero => exact fun _ => h0
    | succ k ih =>
      intro hk
      obtain ⟨s, hs⟩ := ih (by omega)
      exact ⟨_, RunC.tile t ⟨k, hk⟩ s hs⟩
  have outer : ∀ n ≤ (k0_t9_loop u).trips, ∃ s, RunC i u (v37 u) v123 v128 K V Ks Vs n 0 s := by
    intro n
    induction n with
    | zero => exact fun _ => ⟨_, RunC.start⟩
    | succ n ih =>
      intro hn
      obtain ⟨s, hs⟩ := inner ⟨n, hn⟩ (ih (by omega)) _ le_rfl
      exact ⟨_, RunC.next ⟨n, hn⟩ s hs⟩
  exact outer _ le_rfl

/-- At the end: the sums over all of the keys. -/
theorem sums_endC (hb : b.val = i.val % 6) (hh : h.val = i.val / 6) {s : St Ideal} (hr : RunC i u (v37 u) v123 v128 K V Ks Vs (k0_t9_loop u).trips 0 s) : SumsC u v123 v128 K V Ks Vs b h 4096 s := by
  refine (sums_runC i u v123 v128 K V Ks Vs b h hb hh hr).mono _ _ _ _ _ _ _ _ _ ?_ ?_
  all_goals
    have hu : u.val < 32 := u.isLt
    rw [t9_trips u]
    unfold chunks
    rw [keysW_toInt]
    omega

end Cert.KernelIdeal.Hand

end
-- ==== Proof.Merge.lean ====
module

public import proofs.«01_k».proof.Proof.Flash

@[expose] public section

/-! Two log-sum-exps put together: the two ways of writing it agree. -/

noncomputable section

namespace Cert.Flash

open Idealize.ShloMosaic

variable {N : ℕ}

/-- The log-sum-exp of scores. -/
def lse (S : Fin N → EReal) : EReal := mx Finset.univ S + Ideal.log (sm Finset.univ S (mx Finset.univ S))

theorem log_ne_top {x : EReal} (h : x ≠ ⊤) : Ideal.log x ≠ ⊤ := by
  induction x with
  | bot => simp
  | top => exact absurd rfl h
  | coe r =>
    rw [Ideal.log_coe]
    split_ifs <;> simp

theorem sum_ne_top {ι : Type} (T : Finset ι) (f : ι → EReal) (h : ∀ j ∈ T, f j ≠ ⊤) : ∑ j ∈ T, f j ≠ ⊤ := by
  classical
  induction T using Finset.induction_on with
  | empty => simp
  | insert a T ha ih =>
    rw [Finset.sum_insert ha]
    exact EReal.add_ne_top (h a (Finset.mem_insert_self _ _)) (ih fun j hj => h j (Finset.mem_insert_of_mem hj))

theorem exp_ne_top {x : EReal} (h : x ≠ ⊤) : Ideal.exp x ≠ ⊤ := by
  induction x with
  | bot => simp
  | top => exact absurd rfl h
  | coe r => simp

/-- A log-sum-exp is never `+inf`. -/
theorem lse_ne_top (S : Fin N → EReal) : lse S ≠ ⊤ := by
  unfold lse
  generalize hM : mx Finset.univ S = M
  induction M with
  | bot => simp
  | top =>
    have : sm Finset.univ S ⊤ = 0 := Finset.sum_eq_zero fun j _ => exp_sub_top _
    rw [this, show Ideal.log (0 : EReal) = ⊥ from (Ideal.log_coe 0).trans (if_pos le_rfl)]
    simp
  | coe M =>
    refine EReal.add_ne_top (EReal.coe_ne_top _) (log_ne_top (sum_ne_top _ _ fun j hj => exp_ne_top ?_))
    have h : S j ≤ (M : EReal) := hM ▸ le_mx hj
    intro e
    generalize S j = x at h e
    induction x with
    | bot => simp at e
    | top => simp at h
    | coe r =>
      rw [← EReal.coe_sub] at e
      exact EReal.coe_ne_top _ e

/-- The values averaged with the weights of the scores. -/
def avg (S x : Fin N → EReal) : EReal := Ideal.div (ws Finset.univ S x (mx Finset.univ S)) (sm Finset.univ S (mx Finset.univ S))

/-- Two results with their log-sum-exps, put together. -/
def merge (l x y p c : EReal) : EReal := Ideal.exp (x - l) * p + Ideal.exp (y - l) * c

theorem log_one : Ideal.log (1 : EReal) = 0 := by
  rw [← EReal.coe_one, Ideal.log_coe, if_neg (by norm_num : ¬ (1 : ℝ) ≤ 0), Real.log_one, EReal.coe_zero]

theorem exp_zero : Ideal.exp (0 : EReal) = 1 := by
  rw [← EReal.coe_zero, Ideal.exp_coe, Real.exp_zero, EReal.coe_one]

theorem logadd_le (a b : ℝ) (h : b ≤ a) :
    Ideal.log1p (Ideal.exp (-(max ((a : EReal) - b) (-((a : EReal) - b))))) = Ideal.log (Ideal.exp ((a : EReal) - a) + Ideal.exp ((b : EReal) - a)) := by
  have e : max ((a : EReal) - b) (-((a : EReal) - b)) = ((a - b : ℝ) : EReal) := by
    rw [← EReal.coe_sub, ← EReal.coe_neg]
    exact max_eq_left (EReal.coe_le_coe_iff.2 (by linarith))
  rw [e, ← EReal.coe_neg, ← EReal.coe_sub, ← EReal.coe_sub, sub_self, EReal.coe_zero, exp_zero, neg_sub]
  rfl

/-- The log-sum-exp of both, through the larger of the two or through their distance. -/
theorem logadd (A B : EReal) (hA : A ≠ ⊤) (hB : B ≠ ⊤) :
    max A B + Ideal.log1p (Ideal.exp (-(FloatOps.absf (F := Ideal) (φ := .f32) (A - B) : EReal))) = max A B + Ideal.log (Ideal.exp (A - max A B) + Ideal.exp (B - max A B)) := by
  show max A B + Ideal.log1p (Ideal.exp (-(max (A - B) (-(A - B))))) = _
  induction A with
  | top => exact absurd rfl hA
  | bot =>
    induction B with
    | top => exact absurd rfl hB
    | bot => simp
    | coe b => simp [Ideal.log1p, log_one, exp_zero, ← EReal.coe_sub]
  | coe a =>
    induction B with
    | top => exact absurd rfl hB
    | bot => simp [Ideal.log1p, log_one, exp_zero, ← EReal.coe_sub]
    | coe b =>
      rcases le_total b a with h | h
      · rw [max_eq_left (EReal.coe_le_coe_iff.2 h), logadd_le a b h]
      · rw [max_eq_right (EReal.coe_le_coe_iff.2 h), add_comm (Ideal.exp _), ← logadd_le b a h]
        congr 4
        rw [← EReal.coe_sub, ← EReal.coe_sub, ← EReal.coe_neg, ← EReal.coe_neg, neg_sub, neg_sub, max_comm]

end Cert.Flash

end
-- ==== Proof.ValuesIdeal.lean ====
module

public import proofs.«01_k».proof.Proof.PointsIdeal
public import proofs.«01_k».proof.Proof.EndsPIdeal
public import proofs.«01_k».proof.Proof.EndsCIdeal
public import proofs.«01_k».proof.Proof.Merge

@[expose] public section

set_option maxRecDepth 16384

/-! What a tile's blocks come to. -/

noncomputable section

namespace Cert.KernelIdeal.Hand

open Cert.KernelIdeal Cert.KernelIdeal.Gen
open Idealize.ShloMosaic

section
variable (X : Ins Ideal) (i : Fin k0_t1_loop.trips) (u : Fin k0_t2_loop.trips) (h1 : k0_cond1 (X.flag i u) = 1#1) (hw : k0_chk1 i (X.flag i u) X.plen) (hv : (X.plen : BitVec 32).toInt ≤ 24576)

/-- A tile's scores: against the prompt's keys, -/
def tP (q : Fin 512) : Fin 24576 → EReal := scP X.plen (X.v56 i u) (X.v61 i u) X.K X.Ks (hOf i) q
/-- and against the completion's. -/
def tC (q : Fin 512) : Fin 4096 → EReal := scC u (X.v123 i u) (X.v128 i u) X.CK X.CKs (bOf i) (hOf i) q

include hv in
theorem endP_sums : SumsP X.plen (X.v56 i u) (X.v61 i u) X.K X.V X.Ks X.Vs (hOf i) 24576 (X.endP i u h1 hw) := by
  obtain ⟨s, hs⟩ := run_ends i (X.flag i u) h1 X.plen hw hv (X.v56 i u) (X.v61 i u) X.K X.V X.Ks X.Vs
  rw [X.endP_eq i u h1 hw hs]
  exact sums_end i (X.flag i u) h1 X.plen hw hv (X.v56 i u) (X.v61 i u) X.K X.V X.Ks X.Vs (hOf i) rfl hs
theorem endC_sums : SumsC u (X.v123 i u) (X.v128 i u) X.CK X.CV X.CKs X.CVs (bOf i) (hOf i) 4096 (X.endC i u) := by
  obtain ⟨s, hs⟩ := runC_ends i u (X.v123 i u) (X.v128 i u) X.CK X.CV X.CKs X.CVs
  rw [X.endC_eq i u hs]
  exact sums_endC i u (X.v123 i u) (X.v128 i u) X.CK X.CV X.CKs X.CVs (bOf i) (hOf i) rfl rfl hs

include hv in
theorem lsep_at (q : Fin 512) : (X.lsep i u h1 hw (ix2 0 q) : EReal) = Flash.lse (tP X i u q) := by
  have hs := endP_sums X i u h1 hw hv
  unfold Ins.lsep
  rw [pay70_at, ldRow_eq, ldRowL_eq, hs.m, hs.l, Flash.upto_all le_rfl]
  rfl
theorem lsec_at (q : Fin 512) : (X.lsec i u (ix2 0 q) : EReal) = Flash.lse (tC X i u q) := by
  have hs := endC_sums X i u
  unfold Ins.lsec
  rw [pay88_at, ldRow_eq, ldRowL_eq, hs.m, hs.l, Flash.upto_all le_rfl]
  rfl
include hv in
theorem op_at (d : Fin 128) (q : Fin 512) : (X.op i u h1 hw (ix2 d q) : EReal) = Flash.avg (tP X i u q) (vlP X.V X.Vs (hOf i) d) := by
  have hs := endP_sums X i u h1 hw hv
  unfold Ins.op
  rw [pay69_at, ldAcc_eq, ldRowL_eq, hs.acc, hs.l, Flash.upto_all le_rfl]
  rfl
include hv in
theorem v193_at (d : Fin 128) (q : Fin 512) : (X.v193 i u h1 hw (ix2 d q) : EReal) =
    mergeK (Flash.lse (tP X i u q)) (Flash.lse (tC X i u q)) (Flash.avg (tP X i u q) (vlP X.V X.Vs (hOf i) d)) (Flash.avg (tC X i u q) (vlC X.CV X.CVs (bOf i) (hOf i) d)) := by
  have hs := endC_sums X i u
  unfold Ins.v193
  rw [pay89_at, ldAcc_eq, ldRow_eq, ldRowL_eq, ldRowP_eq, ldAccO_eq, hs.acc, hs.m, hs.l, Flash.upto_all le_rfl, lsep_at X i u h1 hw hv, op_at X i u h1 hw hv]
  rfl
/-- Whether the completion has the tile's query `r`. -/
theorem v202_at (q : Fin 512) : (X.v202 i u (ix2 0 q) : BitVec 1) = IntOp.cmpi .slt (BitVec.ofNat 32 (u.val * 128 + q.val % 128)) (X.clen i) := by
  unfold Ins.v202
  rw [pay91_at, query_word]

theorem colq_mod (g : Fin 4) (r : Fin 128) : (colq g r).val % 128 = r.val := by
  show (g.val * 128 + r.val) % 128 = r.val
  omega

include hv in
theorem blkP_at (g : Fin 4) (r : Fin 128) : (X.blkP i u h1 hw (ix2 g r) : EReal) =
    Scalar.select (IntOp.cmpi .slt (BitVec.ofNat 32 (sOf u r).val) (X.clen i)) (Flash.lse (tP X i u (colq g r)) - Ideal.log (FloatOps.sitofp .f32 (X.plen : BitVec 32) : Ideal .f32)) (0 : EReal) := by
  unfold Ins.blkP
  refine (rowBlk_at _ _ _ _ (k0_pay99 (X.v202 i u) (k0_pay98 (ldRow (F := Ideal) lsepB (X.lsep i u h1 hw)) X.plen)) (fun r => ?_) (fun r => ?_) (fun r => ?_) (fun r => ?_) g r).trans ?_
  · exact (pay100_at _ _ r).trans (congrArg (fun z => (k0_pay99 (X.v202 i u) (k0_pay98 (ldRow (F := Ideal) lsepB (X.lsep i u h1 hw)) X.plen) (ix2 0 z) : EReal)) (Fin.ext (by show r.val = 0 * 128 + r.val; omega)))
  · exact pay101_at _ _ r
  · exact pay102_at _ _ r
  · exact pay103_at _ _ r
  · rw [pay99_at, pay98_at, ldRowP_eq, v202_at, colq_mod, lsep_at X i u h1 hw hv]
    rfl
theorem blkC_at (g : Fin 4) (r : Fin 128) : (X.blkC i u (ix2 g r) : EReal) =
    Scalar.select (IntOp.cmpi .slt (BitVec.ofNat 32 (sOf u r).val) (X.clen i)) (Flash.lse (tC X i u (colq g r)) - Ideal.log (FloatOps.sitofp .f32 (IntOp.addi (BitVec.ofNat 32 (sOf u r).val) 1#32) : Ideal .f32)) (0 : EReal) := by
  unfold Ins.blkC
  refine (rowBlk_at _ _ _ _ (k0_pay104 (X.lsec i u) (X.v202 i u) (k0_pay97 (F := Ideal) (k0_pay90 (v37 u)))) (fun r => ?_) (fun r => ?_) (fun r => ?_) (fun r => ?_) g r).trans ?_
  · exact (pay105_at _ _ _ r).trans (congrArg (fun z => (k0_pay104 (X.lsec i u) (X.v202 i u) (k0_pay97 (F := Ideal) (k0_pay90 (v37 u))) (ix2 0 z) : EReal)) (Fin.ext (by show r.val = 0 * 128 + r.val; omega)))
  · exact pay106_at _ _ _ r
  · exact pay107_at _ _ _ r
  · exact pay2_at _ r
  · rw [pay104_at, pay97_at, pay90_at, query_word, v202_at, colq_mod, lsec_at]
    rfl
include hv in
theorem blkO_at (g : Fin 4) (r d : Fin 128) : (X.blkO i u h1 hw (ix2 r (colq g d)) : EReal) =
    Scalar.select (IntOp.cmpi .slt (BitVec.ofNat 32 (sOf u r).val) (X.clen i)) (mergeK (Flash.lse (tP X i u (colq g r))) (Flash.lse (tC X i u (colq g r))) (Flash.avg (tP X i u (colq g r)) (vlP X.V X.Vs (hOf i) d)) (Flash.avg (tC X i u (colq g r)) (vlC X.CV X.CVs (bOf i) (hOf i) d))) (0 : EReal) := by
  unfold Ins.blkO
  refine (colBlk_at _ _ _ _ (k0_pay92 (F := Ideal) (X.v193 i u h1 hw) (X.v202 i u) (Scalar.ofBits .f32 0x00000000#32)) (fun r d => ?_) (fun r d => ?_) (fun r d => ?_) (fun r d => ?_) g r d).trans ?_
  · exact (pay93_at _ _ r d).trans (congrArg (fun z => (k0_pay92 (F := Ideal) (X.v193 i u h1 hw) (X.v202 i u) (Scalar.ofBits .f32 0x00000000#32) (ix2 d z) : EReal)) (Fin.ext (by show r.val = 0 * 128 + r.val; omega)))
  · exact pay94_at _ _ r d
  · exact pay95_at _ _ r d
  · exact pay96_at _ _ r d
  · rw [pay92_at, v202_at, colq_mod, v193_at X i u h1 hw hv]
    rfl
end

end Cert.KernelIdeal.Hand

end
-- ==== Proof.Spec.lean ====
module

public import proofs.«01_k».proof.Proof.Merge
public import Idealize.ShloMosaic.Lib.Pointwise

@[expose] public section

/-! The three results as functions of the arguments: shared-prompt attention over the extended reals. -/

noncomputable section

namespace Cert.Flash

open Idealize.ShloMosaic

/-- Head `g` of group `h`. -/
def head (h : Fin 10) (g : Fin 4) : Fin 40 := ⟨h.val * 4 + g.val, by omega⟩

/-- The arguments, entry by entry. -/
structure Data where
  q : Fin 6 → Fin 4096 → Fin 40 → Fin 128 → EReal
  qs : Fin 6 → Fin 4096 → Fin 40 → EReal
  pk : Fin 24576 → Fin 10 → Fin 128 → EReal
  pv : Fin 24576 → Fin 10 → Fin 128 → EReal
  pks : Fin 24576 → Fin 10 → EReal
  pvs : Fin 24576 → Fin 10 → EReal
  ck : Fin 6 → Fin 4096 → Fin 10 → Fin 128 → EReal
  cv : Fin 6 → Fin 4096 → Fin 10 → Fin 128 → EReal
  cks : Fin 6 → Fin 4096 → Fin 10 → EReal
  cvs : Fin 6 → Fin 4096 → Fin 10 → EReal
  n : BitVec 32
  len : Fin 6 → BitVec 32

namespace Data

/-- The entries of the arguments' arrays. -/
def of (a0 : Shape.Idx ⟨4, ![6, 4096, 40, 128]⟩ → EReal) (a1 : Shape.Idx ⟨3, ![6, 4096, 40]⟩ → EReal) (a2 a3 : Shape.Idx ⟨3, ![24576, 10, 128]⟩ → EReal) (a4 a5 : Shape.Idx ⟨2, ![24576, 10]⟩ → EReal)
    (a6 a7 : Shape.Idx ⟨4, ![6, 4096, 10, 128]⟩ → EReal) (a8 a9 : Shape.Idx ⟨3, ![6, 4096, 10]⟩ → EReal) (a10 : Shape.Idx ⟨1, ![1]⟩ → BitVec 32) (a11 : Shape.Idx ⟨1, ![6]⟩ → BitVec 32) : Data where
  q b s p d := a0 (ix4 b s p d)
  qs b s p := a1 (ix3 b s p)
  pk x h d := a2 (ix3 x h d)
  pv x h d := a3 (ix3 x h d)
  pks x h := a4 (ix2 x h)
  pvs x h := a5 (ix2 x h)
  ck b x h d := a6 (ix4 b x h d)
  cv b x h d := a7 (ix4 b x h d)
  cks b x h := a8 (ix3 b x h)
  cvs b x h := a9 (ix3 b x h)
  n := a10 (ix1 0)
  len b := a11 (ix1 b)

variable (D : Data) (b : Fin 6) (s : Fin 4096) (h : Fin 10) (g : Fin 4) (d : Fin 128)

/-- The scaled scores of a query against the prompt's keys, `-inf` past the prompt's length. -/
def sp (x : Fin 24576) : EReal :=
  Scalar.select (IntOp.cmpi .slt (BitVec.ofNat 32 x.val) D.n) ((∑ y, D.pk x h y * D.q b s (head h g) y) * D.qs b s (head h g) * D.pks x h * Ideal.ofBits .f32 0x3DB504F3#32) (⊥ : EReal)
/-- Against the completion's keys, `-inf` after the query. -/
def sc (x : Fin 4096) : EReal :=
  Scalar.select (IntOp.cmpi .sle (BitVec.ofNat 32 x.val) (BitVec.ofNat 32 s.val)) ((∑ y, D.ck b x h y * D.q b s (head h g) y) * D.qs b s (head h g) * D.cks b x h * Ideal.ofBits .f32 0x3DB504F3#32) (⊥ : EReal)
/-- The prompt's values in dimension `d`, and the completion's. -/
def vp (x : Fin 24576) : EReal := D.pv x h d * D.pvs x h
def vc (x : Fin 4096) : EReal := D.cv b x h d * D.cvs b x h
/-- Whether the completion has the query. -/
def has : BitVec 1 := IntOp.cmpi .slt (BitVec.ofNat 32 s.val) (D.len b)

/-- The log-sum-exp of the prompt's scores less the logarithm of the prompt's length, -/
def lseP : EReal := Scalar.select (D.has b s) (lse (D.sp b s h g) - Ideal.log (FloatOps.sitofp .f32 D.n : Ideal .f32)) (0 : EReal)
/-- of the completion's less the logarithm of the number of keys seen, -/
def lseC : EReal := Scalar.select (D.has b s) (lse (D.sc b s h g) - Ideal.log (FloatOps.sitofp .f32 (IntOp.addi (BitVec.ofNat 32 s.val) 1#32) : Ideal .f32)) (0 : EReal)
/-- and the two attentions put together by their log-sum-exps. -/
def out : EReal :=
  let x := lse (D.sp b s h g)
  let y := lse (D.sc b s h g)
  Scalar.select (D.has b s) (merge (max x y + Ideal.log (Ideal.exp (x - max x y) + Ideal.exp (y - max x y))) x y (avg (D.sp b s h g) (D.vp h d)) (avg (D.sc b s h g) (D.vc b h d))) (0 : EReal)

end Data

end Cert.Flash

end
-- ==== Proof.ResultsIdeal.lean ====
module

public import proofs.«01_k».proof.Proof.ValuesIdeal
public import proofs.«01_k».proof.Proof.Spec

@[expose] public section

set_option maxRecDepth 16384

/-! What the kernel leaves in its three arrays. -/

noncomputable section

namespace Cert.KernelIdeal.Hand

open Cert.KernelIdeal Cert.KernelIdeal.Gen
open Idealize.ShloMosaic

/-- The kernel's operands hold the arguments' entries. -/
structure Loaded (X : Ins Ideal) (D : Flash.Data) : Prop where
  Q : ∀ b p d s, (X.Q (ix4 b p d s) : EReal) = D.q b s p d
  Qs : ∀ b h g s, (X.Qs (ix4 b h g s) : EReal) = D.qs b s (Flash.head h g)
  K : ∀ h j d, (X.K (ix3 h j d) : EReal) = D.pk j h d
  V : ∀ h n d r, (X.V (ix4 h n d r) : EReal) = D.pv ⟨n.val * 128 + r.val, by omega⟩ h d
  Ks : ∀ h n r, (X.Ks (ix3 h n r) : EReal) = D.pks ⟨n.val * 128 + r.val, by omega⟩ h
  Vs : ∀ h n r, (X.Vs (ix3 h n r) : EReal) = D.pvs ⟨n.val * 128 + r.val, by omega⟩ h
  CK : ∀ b h j d, (X.CK (ix4 b h j d) : EReal) = D.ck b j h d
  CV : ∀ b h n d r, (X.CV (ix5 b h n d r) : EReal) = D.cv b ⟨n.val * 128 + r.val, by omega⟩ h d
  CKs : ∀ b h n r, (X.CKs (ix4 b h n r) : EReal) = D.cks b ⟨n.val * 128 + r.val, by omega⟩ h
  CVs : ∀ b h n r, (X.CVs (ix4 b h n r) : EReal) = D.cvs b ⟨n.val * 128 + r.val, by omega⟩ h
  plen : X.plen = D.n
  clen : ∀ i, X.clen i = D.len (bOf i)
  flag : ∀ i u, X.flag i u = BitVec.setWidth 32 (IntOp.cmpi .slt (IntOp.muli (BitVec.ofNat 32 u.val) 128#32) (D.len (bOf i)))

section
variable {X : Ins Ideal} {D : Flash.Data} (L : Loaded X D) (i : Fin k0_t1_loop.trips) (u : Fin k0_t2_loop.trips) (g : Fin 4) (r d : Fin 128)

theorem grp_colq : grp (colq g r) = g := Fin.ext (by show (g.val * 128 + r.val) / 128 = g.val; omega)
theorem plc_colq : plc (colq g r) = r := Fin.ext (colq_mod g r)

include L

theorem v56_at : (X.v56 i u (ix2 d (colq g r)) : EReal) = D.q (bOf i) (sOf u r) (Flash.head (hOf i) g) d := by
  unfold Ins.v56
  refine (pay51_at (f := fetchQ i u X.Q) (h0 := ldQ0_at _) (h1 := ldQ1_at _) (h2 := ldQ2_at _) (h3 := ldQ3_at _) ..).trans ?_
  rw [grp_colq, plc_colq, fetchQ_at i u X.Q (bOf i) rfl g d r (Flash.head (hOf i) g) rfl (sOf u r) rfl, L.Q]
theorem v123_at : (X.v123 i u (ix2 d (colq g r)) : EReal) = D.q (bOf i) (sOf u r) (Flash.head (hOf i) g) d := by
  unfold Ins.v123
  refine (pay71_at (f := fetchQ i u X.Q) (h0 := ldQ0_at _) (h1 := ldQ1_at _) (h2 := ldQ2_at _) (h3 := ldQ3_at _) ..).trans ?_
  rw [grp_colq, plc_colq, fetchQ_at i u X.Q (bOf i) rfl g d r (Flash.head (hOf i) g) rfl (sOf u r) rfl, L.Q]
theorem v61_at : (X.v61 i u (ix2 0 (colq g r)) : EReal) = D.qs (bOf i) (sOf u r) (Flash.head (hOf i) g) := by
  unfold Ins.v61
  refine (pay52_at (f := fetchQs i u X.Qs) (h0 := ldS0_at _) (h1 := ldS1_at _) (h2 := ldS2_at _) (h3 := ldS3_at _) ..).trans ?_
  rw [grp_colq, plc_colq, fetchQs_at i u X.Qs (bOf i) rfl (hOf i) rfl g r (sOf u r) rfl, L.Qs]
theorem v128_at : (X.v128 i u (ix2 0 (colq g r)) : EReal) = D.qs (bOf i) (sOf u r) (Flash.head (hOf i) g) := by
  unfold Ins.v128
  refine (pay72_at (f := fetchQs i u X.Qs) (h0 := ldS0_at _) (h1 := ldS1_at _) (h2 := ldS2_at _) (h3 := ldS3_at _) ..).trans ?_
  rw [grp_colq, plc_colq, fetchQs_at i u X.Qs (bOf i) rfl (hOf i) rfl g r (sOf u r) rfl, L.Qs]

omit L in
theorem row_col (j : Fin 24576) (h : (row j).val * 128 + (col j).val < 24576) : (⟨(row j).val * 128 + (col j).val, h⟩ : Fin 24576) = j := Fin.ext (by show j.val / 128 * 128 + j.val % 128 = j.val; omega)
omit L in
theorem rowC_colC (j : Fin 4096) (h : (rowC j).val * 128 + (colC j).val < 4096) : (⟨(rowC j).val * 128 + (colC j).val, h⟩ : Fin 4096) = j := Fin.ext (by show j.val / 128 * 128 + j.val % 128 = j.val; omega)

theorem tP_eq : tP X i u (colq g r) = D.sp (bOf i) (sOf u r) (hOf i) g := by
  funext j
  unfold tP scP Flash.Data.sp
  rw [v61_at L, L.Ks, L.plen, row_col, Finset.sum_congr rfl fun x _ => congrArg₂ (fun a b : EReal => a * b) (L.K (hOf i) j x) (v56_at L i u g r x)]
theorem tC_eq : tC X i u (colq g r) = D.sc (bOf i) (sOf u r) (hOf i) g := by
  funext j
  unfold tC scC Flash.Data.sc
  rw [v128_at L, L.CKs, colq_mod, rowC_colC, Finset.sum_congr rfl fun x _ => congrArg₂ (fun a b : EReal => a * b) (L.CK (bOf i) (hOf i) j x) (v123_at L i u g r x)]
  rfl
theorem vlP_eq : vlP X.V X.Vs (hOf i) d = D.vp (hOf i) d := by
  funext j
  unfold vlP Flash.Data.vp
  rw [L.V, L.Vs, row_col]
theorem vlC_eq : vlC X.CV X.CVs (bOf i) (hOf i) d = D.vc (bOf i) (hOf i) d := by
  funext j
  unfold vlC Flash.Data.vc
  rw [L.CV, L.CVs, rowC_colC]

omit L in
theorem cond1_flag : ∀ w : BitVec 1, k0_cond1 (BitVec.setWidth 32 w) = w := by decide
omit L in
theorem toInt_small (n : ℕ) (h : n < 2147483648) : (BitVec.ofNat 32 n).toInt = n := by
  have e : (BitVec.ofNat 32 n).toNat = n := by rw [BitVec.toNat_ofNat]; omega
  rw [BitVec.toInt_eq_toNat_of_lt (by omega), e]

/-- A tile left out has no query of the completion. -/
theorem off_has (h1 : ¬ k0_cond1 (X.flag i u) = 1#1) : D.has (bOf i) (sOf u r) = 0#1 := by
  rw [L.flag, cond1_flag] at h1
  have hu := u_lt u
  unfold Flash.Data.has
  have e : IntOp.muli (BitVec.ofNat 32 u.val) 128#32 = BitVec.ofNat 32 (u.val * 128) := (BitVec.ofNat_mul u.val 128).symm
  rw [e] at h1
  unfold IntOp.cmpi BitVec.slt at h1 ⊢
  rw [toInt_small _ (by omega)] at h1
  rw [toInt_small _ (by have := (sOf u r).isLt; omega)]
  have h2 : ¬ ((u.val * 128 : ℕ) : ℤ) < (D.len (bOf i)).toInt := fun h => h1 (by
    show BitVec.ofBool (decide _) = 1#1
    rw [decide_eq_true h]
    rfl)
  have h3 : ¬ (((sOf u r).val : ℕ) : ℤ) < (D.len (bOf i)).toInt := fun h => h2 (by
    have : (sOf u r).val = u.val * 128 + r.val := rfl
    omega)
  show BitVec.ofBool (decide _) = 0#1
  rw [decide_eq_false h3]
  rfl

variable (o : Outs Ideal) (hn : D.n.toInt ≤ 24576)

include hn

theorem P_all (h0 : (show EReal from o.P (ix4 (bOf i) (hOf i) g (sOf u r))) = (0 : EReal)) :
    ((X.points o k0_t1_loop.trips).P (ix4 (bOf i) (hOf i) g (sOf u r)) : EReal) = D.lseP (bOf i) (sOf u r) (hOf i) g := by
  have hv : X.plen.toInt ≤ 24576 := by rw [L.plen]; exact hn
  by_cases h1 : k0_cond1 (X.flag i u) = 1#1
  · rw [P_on X hv i u g r o h1 (chk1 i _ _ hv), blkP_at X i u h1 (chk1 i _ _ hv) hv, tP_eq L, L.clen, L.plen]
    rfl
  · rw [P_off X hv i u g r o h1]
    refine Eq.trans h0 ?_
    unfold Flash.Data.lseP
    rw [off_has L i u r h1]
    rfl
theorem C_all (h0 : (show EReal from o.C (ix4 (bOf i) (hOf i) g (sOf u r))) = (0 : EReal)) :
    ((X.points o k0_t1_loop.trips).C (ix4 (bOf i) (hOf i) g (sOf u r)) : EReal) = D.lseC (bOf i) (sOf u r) (hOf i) g := by
  have hv : X.plen.toInt ≤ 24576 := by rw [L.plen]; exact hn
  by_cases h1 : k0_cond1 (X.flag i u) = 1#1
  · rw [C_on X hv i u g r o h1, blkC_at X i u, tC_eq L, L.clen]
    rfl
  · rw [C_off X hv i u g r o h1]
    refine Eq.trans h0 ?_
    unfold Flash.Data.lseC
    rw [off_has L i u r h1]
    rfl
theorem O_all (h0 : (show EReal from o.O (ix3 (bOf i) (sOf u r) (pOf i (colq g d)))) = (0 : EReal)) :
    ((X.points o k0_t1_loop.trips).O (ix3 (bOf i) (sOf u r) (pOf i (colq g d))) : EReal) = D.out (bOf i) (sOf u r) (hOf i) g d := by
  have hv : X.plen.toInt ≤ 24576 := by rw [L.plen]; exact hn
  by_cases h1 : k0_cond1 (X.flag i u) = 1#1
  · rw [O_on X hv i u r o (colq g d) h1 (chk1 i _ _ hv), blkO_at X i u h1 (chk1 i _ _ hv) hv, tP_eq L, tC_eq L, vlP_eq L, vlC_eq L, L.clen]
    rfl
  · rw [O_off X hv i u r o h1 (colq g d)]
    refine Eq.trans h0 ?_
    unfold Flash.Data.out
    dsimp only
    rw [off_has L i u r h1]
    rfl
end

end Cert.KernelIdeal.Hand

end
-- ==== Proof.HostIdeal.lean ====
module

public import proofs.«01_k».proof.Proof.PointsIdeal
public import proofs.«01_k».proof.Proof.FramesIdeal
public import Idealize.ShloMosaic.Lib.StableHlo.ReadAt

@[expose] public section

set_option maxRecDepth 16384

/-! The host's lines before the kernel and after it, entry by entry. -/

noncomputable section

namespace Cert.KernelIdeal.Hand

open Cert.KernelIdeal Cert.KernelIdeal.Gen
open Idealize.ShloMosaic

variable (W : Valuation τ sig (Elt Ideal))

section
variable (b : Fin 6) (s : Fin 4096) (p : Fin 40) (h : Fin 10) (g : Fin 4) (d : Fin 128) (j : Fin 24576) (n : Fin 192) (r : Fin 128) (e : Fin 32)
theorem pre0 : (StableHlo.after (List.flatten [hostOps0]) W (Proc.devRef .tc main_v0) (ix4 b p d s) : EReal) = (W (Proc.devRef .tc main_arg0) (ix4 b s p d) : EReal) := by
  after_reads_at
theorem pre2 : (StableHlo.after (List.flatten [hostOps0]) W (Proc.devRef .tc main_v2) (ix4 b h g s) : EReal) = (W (Proc.devRef .tc main_arg1) (ix3 b s ⟨h.val * 4 + g.val, by omega⟩) : EReal) := by
  after_reads_at
theorem pre3 : (StableHlo.after (List.flatten [hostOps0]) W (Proc.devRef .tc main_v3) (ix3 h j d) : EReal) = (W (Proc.devRef .tc main_arg2) (ix3 j h d) : EReal) := by
  after_reads_at
theorem pre5 : (StableHlo.after (List.flatten [hostOps0]) W (Proc.devRef .tc main_v5) (ix4 h n d r) : EReal) = (W (Proc.devRef .tc main_arg3) (ix3 ⟨n.val * 128 + r.val, by omega⟩ h d) : EReal) := by
  after_reads_at
theorem pre7 : (StableHlo.after (List.flatten [hostOps0]) W (Proc.devRef .tc main_v7) (ix3 h n r) : EReal) = (W (Proc.devRef .tc main_arg4) (ix2 ⟨n.val * 128 + r.val, by omega⟩ h) : EReal) := by
  after_reads_at
theorem pre9 : (StableHlo.after (List.flatten [hostOps0]) W (Proc.devRef .tc main_v9) (ix3 h n r) : EReal) = (W (Proc.devRef .tc main_arg5) (ix2 ⟨n.val * 128 + r.val, by omega⟩ h) : EReal) := by
  after_reads_at
theorem pre10 : (StableHlo.after (List.flatten [hostOps0]) W (Proc.devRef .tc main_v10) (ix4 b h s d) : EReal) = (W (Proc.devRef .tc main_arg6) (ix4 b s h d) : EReal) := by
  after_reads_at
theorem pre12 : (StableHlo.after (List.flatten [hostOps0]) W (Proc.devRef .tc main_v12) (ix5 b h e d r) : EReal) = (W (Proc.devRef .tc main_arg7) (ix4 b ⟨e.val * 128 + r.val, by omega⟩ h d) : EReal) := by
  after_reads_at
theorem pre14 : (StableHlo.after (List.flatten [hostOps0]) W (Proc.devRef .tc main_v14) (ix4 b h e r) : EReal) = (W (Proc.devRef .tc main_arg8) (ix3 b ⟨e.val * 128 + r.val, by omega⟩ h) : EReal) := by
  after_reads_at
theorem pre16 : (StableHlo.after (List.flatten [hostOps0]) W (Proc.devRef .tc main_v16) (ix4 b h e r) : EReal) = (W (Proc.devRef .tc main_arg9) (ix3 b ⟨e.val * 128 + r.val, by omega⟩ h) : EReal) := by
  after_reads_at
theorem pre30 : (StableHlo.after (List.flatten [hostOps0]) W (Proc.devRef .tc main_v30) (ix3 h b e) : BitVec 32) = BitVec.setWidth 32 (IntOp.cmpi .slt (IntOp.muli (BitVec.ofNat 32 e.val) 128#32) (W (Proc.devRef .tc main_arg11) (ix1 b))) := by
  after_reads_at
theorem preO (q : Fin 5120) : (show EReal from StableHlo.after (List.flatten [hostOps0]) W (Proc.devRef .tc main_v31_0) (ix3 b s q)) = (0 : EReal) := by
  after_reads_at
  exact Ideal.ofBits_zero .bf16
theorem preP : (show EReal from StableHlo.after (List.flatten [hostOps0]) W (Proc.devRef .tc main_v31_1) (ix4 b h g s)) = (0 : EReal) := by
  after_reads_at
  exact Ideal.ofBits_zero .f32
theorem preC : (show EReal from StableHlo.after (List.flatten [hostOps0]) W (Proc.devRef .tc main_v31_2) (ix4 b h g s)) = (0 : EReal) := by
  after_reads_at
  exact Ideal.ofBits_zero .f32
theorem post33 : (StableHlo.after (List.flatten [hostOps1]) W (Proc.devRef .tc main_v33) (ix3 b s ⟨h.val * 4 + g.val, by omega⟩) : EReal) = (W (Proc.devRef .tc main_v31_1) (ix4 b h g s) : EReal) := by
  after_reads_at
  exact congrArg₂ (fun x y => W (Proc.devRef .tc main_v31_1) (ix4 b x y s)) (Fin.ext (by show (h.val * 4 + g.val) / 4 = h.val; omega)) (Fin.ext (by show (h.val * 4 + g.val) % 4 = g.val; omega))
theorem post35 : (StableHlo.after (List.flatten [hostOps1]) W (Proc.devRef .tc main_v35) (ix3 b s ⟨h.val * 4 + g.val, by omega⟩) : EReal) = (W (Proc.devRef .tc main_v31_2) (ix4 b h g s) : EReal) := by
  after_reads_at
  exact congrArg₂ (fun x y => W (Proc.devRef .tc main_v31_2) (ix4 b x y s)) (Fin.ext (by show (h.val * 4 + g.val) / 4 = h.val; omega)) (Fin.ext (by show (h.val * 4 + g.val) % 4 = g.val; omega))
end

end Cert.KernelIdeal.Hand

end
-- ==== Proof.EndIdeal.lean ====
module

public import proofs.«01_k».proof.Proof.ResultsIdeal
public import proofs.«01_k».proof.Proof.HostIdeal
public import Idealize.ShloMosaic.Lib.Pipeline.ValueKit

@[expose] public section

set_option maxRecDepth 16384

/-! The kernel's three results at the end of its run. -/

noncomputable section

namespace Cert.KernelIdeal.Hand

open Cert.KernelIdeal Cert.KernelIdeal.Gen
open Idealize.ShloMosaic

section
variable (b : Fin 6) (s : Fin 4096) (h : Fin 10) (g : Fin 4) (d : Fin 128)

/-- Which pass of the kernel's loops fills an entry. -/
def passOf (b : Fin 6) (h : Fin 10) : Fin k0_t1_loop.trips := ⟨h.val * 6 + b.val, show h.val * 6 + b.val < 60 by omega⟩
def tileOf (s : Fin 4096) : Fin k0_t2_loop.trips := ⟨s.val / 128, show s.val / 128 < 32 by omega⟩
def inTile (s : Fin 4096) : Fin 128 := ⟨s.val % 128, by omega⟩
/-- The column of the joined result where dimension `d` of a head stands. -/
def place (h : Fin 10) (g : Fin 4) (d : Fin 128) : Fin 5120 := ⟨h.val * 512 + (g.val * 128 + d.val), by omega⟩
theorem bOf_pass : bOf (passOf b h) = b := Fin.ext (by show (h.val * 6 + b.val) % 6 = b.val; omega)
theorem hOf_pass : hOf (passOf b h) = h := Fin.ext (by show (h.val * 6 + b.val) / 6 = h.val; omega)
theorem sOf_tile : sOf (tileOf s) (inTile s) = s := Fin.ext (by show s.val / 128 * 128 + s.val % 128 = s.val; omega)
theorem pOf_pass : pOf (passOf b h) (colq g d) = place h g d := Fin.ext (by show (h.val * 6 + b.val) / 6 * 512 + (g.val * 128 + d.val) = h.val * 512 + (g.val * 128 + d.val); omega)

end

section
variable (X : Ins Ideal) (D : Flash.Data) (L : Loaded X D) (hn : D.n.toInt ≤ 24576) (o : Outs Ideal) (b : Fin 6) (s : Fin 4096) (h : Fin 10) (g : Fin 4) (d : Fin 128)

include L hn

theorem points_P (h0 : ∀ b h g s, (show EReal from o.P (ix4 b h g s)) = (0 : EReal)) : ((X.points o k0_t1_loop.trips).P (ix4 b h g s) : EReal) = D.lseP b s h g := by
  have e := P_all L (passOf b h) (tileOf s) g (inTile s) o hn (h0 _ _ _ _)
  rw [bOf_pass, hOf_pass, sOf_tile] at e
  exact e
theorem points_C (h0 : ∀ b h g s, (show EReal from o.C (ix4 b h g s)) = (0 : EReal)) : ((X.points o k0_t1_loop.trips).C (ix4 b h g s) : EReal) = D.lseC b s h g := by
  have e := C_all L (passOf b h) (tileOf s) g (inTile s) o hn (h0 _ _ _ _)
  rw [bOf_pass, hOf_pass, sOf_tile] at e
  exact e
theorem points_O (h0 : ∀ b s q, (show EReal from o.O (ix3 b s q)) = (0 : EReal)) : ((X.points o k0_t1_loop.trips).O (ix3 b s (place h g d)) : EReal) = D.out b s h g d := by
  have e := O_all L (passOf b h) (tileOf s) g (inTile s) d o hn (h0 _ _ _)
  rw [bOf_pass, hOf_pass, sOf_tile, pOf_pass] at e
  exact e
end

/-- The operands hold the arguments' entries if the buffers they are do. -/
theorem loaded_of (A : (b : Ref sig .tc) → BufTy.Contents (Elt Ideal) b.ty) (w0 : S10x6x32.Idx → Elt Ideal .i32) (w1 : S6.Idx → Elt Ideal .i32) (w2 : S1.Idx → Elt Ideal .i32) (D : Flash.Data)
    (hQ : ∀ b p d s, (A main_v0 (ix4 b p d s) : EReal) = D.q b s p d)
    (hQs : ∀ b h g s, (A main_v2 (ix4 b h g s) : EReal) = D.qs b s (Flash.head h g))
    (hK : ∀ h j d, (A main_v3 (ix3 h j d) : EReal) = D.pk j h d)
    (hV : ∀ h (n : Fin 192) d (r : Fin 128), (A main_v5 (ix4 h n d r) : EReal) = D.pv ⟨n.val * 128 + r.val, by omega⟩ h d)
    (hKs : ∀ h (n : Fin 192) (r : Fin 128), (A main_v7 (ix3 h n r) : EReal) = D.pks ⟨n.val * 128 + r.val, by omega⟩ h)
    (hVs : ∀ h (n : Fin 192) (r : Fin 128), (A main_v9 (ix3 h n r) : EReal) = D.pvs ⟨n.val * 128 + r.val, by omega⟩ h)
    (hCK : ∀ b h j d, (A main_v10 (ix4 b h j d) : EReal) = D.ck b j h d)
    (hCV : ∀ b h (n : Fin 32) d (r : Fin 128), (A main_v12 (ix5 b h n d r) : EReal) = D.cv b ⟨n.val * 128 + r.val, by omega⟩ h d)
    (hCKs : ∀ b h (n : Fin 32) (r : Fin 128), (A main_v14 (ix4 b h n r) : EReal) = D.cks b ⟨n.val * 128 + r.val, by omega⟩ h)
    (hCVs : ∀ b h (n : Fin 32) (r : Fin 128), (A main_v16 (ix4 b h n r) : EReal) = D.cvs b ⟨n.val * 128 + r.val, by omega⟩ h)
    (hp : (insOf (F := Ideal) w0 w1 w2 A).plen = D.n)
    (hc : ∀ i, (insOf (F := Ideal) w0 w1 w2 A).clen i = D.len (bOf i))
    (hf : ∀ i u, (insOf (F := Ideal) w0 w1 w2 A).flag i u = BitVec.setWidth 32 (IntOp.cmpi .slt (IntOp.muli (BitVec.ofNat 32 u.val) 128#32) (D.len (bOf i)))) :
    Loaded (insOf w0 w1 w2 A) D :=
  ⟨hQ, hQs, hK, hV, hKs, hVs, hCK, hCV, hCKs, hCVs, hp, hc, hf⟩

section
variable (i : Fin k0_t1_loop.trips) (u : Fin k0_t2_loop.trips)

theorem flag_tile : ∀ u : Fin k0_t2_loop.trips, k0_off1 ⟨0, by decide⟩ u 2 = u.val := by decide +kernel
theorem flag_idx : ((cfg0.win 0).blk t0_0).view.emb ((Rect.unit (s := S10x6x32) (k0_off1 i u) S1x1x1.size (k0_off1_inb i u)).toLoadRect.idx (Shape.Idx.first (numel1_S1x1x1.symm ▸ Nat.one_pos))) = ix3 (hOf i) (bOf i) ⟨u.val, u_lt u⟩ := by
  have h := batch_head i
  have e0 : k0_off1 i u 0 = i.val / 6 := h.2
  have e1 : k0_off1 i u 1 = i.val % 6 := h.1
  have e2 : k0_off1 i u 2 = u.val := flag_tile u
  funext a
  refine Fin.ext ?_
  fin_cases a
  · blk_simp []
    rw [show win0_0.index t0_0 0 = 0 from rfl]
    show 0 * 10 + (k0_off1 i u 0 + 1 * 0) = i.val / 6
    omega
  · blk_simp []
    rw [show win0_0.index t0_0 1 = 0 from rfl]
    show 0 * 6 + (k0_off1 i u 1 + 1 * 0) = i.val % 6
    omega
  · blk_simp []
    rw [show win0_0.index t0_0 2 = 0 from rfl]
    show 0 * 32 + (k0_off1 i u 2 + 1 * 0) = u.val
    omega
theorem clen_idx : ((cfg0.win 1).blk t0_0).view.emb ((Rect.unit (s := S6) (k0_off60 i) S1.size (k0_off60_inb i)).toLoadRect.idx (Shape.Idx.first (numel1_S1.symm ▸ Nat.one_pos))) = ix1 (bOf i) := by
  have h := batch_head i
  have e0 : k0_off60 i 0 = i.val % 6 := h.1
  funext a
  refine Fin.ext ?_
  fin_cases a
  blk_simp []
  rw [show win0_1.index t0_0 0 = 0 from rfl]
  show 0 * 6 + (k0_off60 i 0 + 1 * 0) = i.val % 6
  omega
theorem one_idx' (x y : S1.Idx) : x = y := by
  funext d
  match d with
  | ⟨0, _⟩ => exact Subsingleton.elim (α := Fin 1) _ _
end

variable (m : (ℓ : Loc nD τ sig) → Buf (Elt Ideal) ℓ) (c : Dev nD)

/-- The arguments as the kernel is launched with them. -/
def kdata : Flash.Data := Flash.Data.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

theorem flag_eq (i : Fin k0_t1_loop.trips) (u : Fin k0_t2_loop.trips) : (iblk m c 0 t0_0 ((Rect.unit (s := S10x6x32) (k0_off1 i u) S1x1x1.size (k0_off1_inb i u)).toLoadRect.idx (Shape.Idx.first (numel1_S1x1x1.symm ▸ Nat.one_pos))) : BitVec 32) =
    BitVec.setWidth 32 (IntOp.cmpi .slt (IntOp.muli (BitVec.ofNat 32 u.val) 128#32) ((kdata m c).len (bOf i))) :=
  (congrArg (V m c main_v30) (flag_idx i u)).trans (pre30 (fun b => m (c, b)) (bOf i) (hOf i) ⟨u.val, u_lt u⟩)
theorem clen_eq (i : Fin k0_t1_loop.trips) : (iblk m c 1 t0_0 ((Rect.unit (s := S6) (k0_off60 i) S1.size (k0_off60_inb i)).toLoadRect.idx (Shape.Idx.first (numel1_S1.symm ▸ Nat.one_pos))) : BitVec 32) = (kdata m c).len (bOf i) :=
  (congrArg (V m c main_arg11) (clen_idx i)).trans (congrFun (V_main_arg11 m c) _)
theorem plen_eq' (x : S1.Idx) : (iblk m c 2 t0_0 x : BitVec 32) = (kdata m c).n :=
  (congrArg (V m c main_arg10) (one_idx' _ (ix1 0))).trans (congrFun (V_main_arg10 m c) _)

theorem loaded : Loaded (ins m c) (kdata m c) := by
  unfold ins
  refine loaded_of _ _ _ _ _ ?_ ?_ ?_ ?_ ?_ ?_ ?_ ?_ ?_ ?_ ?_ ?_ ?_
  · exact fun b p d s => pre0 (fun b => m (c, b)) b s p d
  · exact fun b h g s => pre2 (fun b => m (c, b)) b s h g
  · exact fun h j d => pre3 (fun b => m (c, b)) h d j
  · exact fun h n d r => pre5 (fun b => m (c, b)) h d n r
  · exact fun h n r => pre7 (fun b => m (c, b)) h n r
  · exact fun h n r => pre9 (fun b => m (c, b)) h n r
  · exact fun b h j d => pre10 (fun b => m (c, b)) b j h d
  · exact fun b h n d r => pre12 (fun b => m (c, b)) b h d r n
  · exact fun b h n r => pre14 (fun b => m (c, b)) b h r n
  · exact fun b h n r => pre16 (fun b => m (c, b)) b h r n
  · exact plen_eq' m c _
  · exact fun i => clen_eq m c i
  · exact fun i u => flag_eq m c i u

end Cert.KernelIdeal.Hand

end
-- ==== Proof.LastIdeal.lean ====
module

public import proofs.«01_k».proof.Proof.EndIdeal

@[expose] public section

set_option maxRecDepth 16384

/-! The kernel's three results where a run ends. -/

noncomputable section

namespace Cert.KernelIdeal.Hand

open Cert.KernelIdeal Cert.KernelIdeal.Gen
open Idealize.ShloMosaic

variable (m : (ℓ : Loc nD τ sig) → Buf (Elt Ideal) ℓ) (c : Dev nD) (hn : (kdata m c).n.toInt ≤ 24576)

/-- The arrays start at 0. -/
theorem zeros_P (b : Fin 6) (h : Fin 10) (g : Fin 4) (s : Fin 4096) : (show EReal from (outs0 m c).P (ix4 b h g s)) = (0 : EReal) := preP (fun b => m (c, b)) b s h g
theorem zeros_C (b : Fin 6) (h : Fin 10) (g : Fin 4) (s : Fin 4096) : (show EReal from (outs0 m c).C (ix4 b h g s)) = (0 : EReal) := preC (fun b => m (c, b)) b s h g
theorem zeros_O (b : Fin 6) (s : Fin 4096) (q : Fin 5120) : (show EReal from (outs0 m c).O (ix3 b s q)) = (0 : EReal) := preO (fun b => m (c, b)) b s q

variable (b : Fin 6) (s : Fin 4096) (h : Fin 10) (g : Fin 4) (d : Fin 128)
include hn

theorem outs_P : (show EReal from (outs1 m c).P (ix4 b h g s)) = (kdata m c).lseP b s h g := by
  have L := loaded m c
  have z := zeros_P m c
  unfold outs1
  generalize ins m c = X at L ⊢
  generalize outs0 m c = o at z ⊢
  exact points_P X _ L hn o b s h g z
theorem outs_C : (show EReal from (outs1 m c).C (ix4 b h g s)) = (kdata m c).lseC b s h g := by
  have L := loaded m c
  have z := zeros_C m c
  unfold outs1
  generalize ins m c = X at L ⊢
  generalize outs0 m c = o at z ⊢
  exact points_C X _ L hn o b s h g z
theorem outs_O : (show EReal from (outs1 m c).O (ix3 b s (place h g d))) = (kdata m c).out b s h g d := by
  have L := loaded m c
  have z := zeros_O m c
  unfold outs1
  generalize ins m c = X at L ⊢
  generalize outs0 m c = o at z ⊢
  exact points_O X _ L hn o b s h g d z

omit hn in
theorem mem_O {r : PUnit × MemSt nD τ sig (Elt Ideal)} (hr : RunPost m r) : r.2.mem ((c.tc : Thread nD τ).loc main_v31_0) = (outs1 m c).O := by
  refine ((hr.1 c).2 main_v31_0 (Pipeline.mem_restRefs_of main_v31_0 (by decide) (by decide))).trans ?_
  rw [StableHlo.after_of_forall_not_mem (b := Proc.devRef .tc main_v31_0) _ _ (tail_keeps main_v31_0 (by decide) (by decide) (by decide) (by decide)),
    Pipeline.withArrays_of_ne _ c _ _ main_v31_0 (by decide), Pipeline.withR_of_mem _ _ c _ main_v31_0 (by decide), G_0]

theorem end_out {r : PUnit × MemSt nD τ sig (Elt Ideal)} (hr : RunPost m r) : (show EReal from r.2.mem ((c.tc : Thread nD τ).loc main_v31_0) (ix3 b s (place h g d))) = (kdata m c).out b s h g d :=
  (congrFun (mem_O m c hr) _).trans (outs_O m c hn b s h g d)
theorem end_lseP {r : PUnit × MemSt nD τ sig (Elt Ideal)} (hr : RunPost m r) : (show EReal from r.2.mem ((c.tc : Thread nD τ).loc main_v33) (ix3 b s (Flash.head h g))) = (kdata m c).lseP b s h g := by
  refine (congrFun ((hr.1 c).2 main_v33 (Pipeline.mem_restRefs_of main_v33 (by decide) (by decide))) _).trans ((post33 _ b s h g).trans ?_)
  rw [Pipeline.withArrays_of_ne _ c _ _ main_v31_1 (by decide), Pipeline.withR_of_mem _ _ c _ main_v31_1 (by decide), G_1]
  exact outs_P m c hn b s h g
theorem end_lseC {r : PUnit × MemSt nD τ sig (Elt Ideal)} (hr : RunPost m r) : (show EReal from r.2.mem ((c.tc : Thread nD τ).loc main_v35) (ix3 b s (Flash.head h g))) = (kdata m c).lseC b s h g := by
  refine (congrFun ((hr.1 c).2 main_v35 (Pipeline.mem_restRefs_of main_v35 (by decide) (by decide))) _).trans ((post35 _ b s h g).trans ?_)
  rw [Pipeline.withArrays_of_ne _ c _ _ main_v31_2 (by decide), Pipeline.withR_of_mem _ _ c _ main_v31_2 (by decide), G_2]
  exact outs_C m c hn b s h g

end Cert.KernelIdeal.Hand

end
-- ==== Proof.RefOps.lean ====
/- The reference's operations read off its line of host operations, and each at an index. -/
module

public import proofs.«01_k».proof.Proof.Gen.ReferenceIdeal.Frame
public import proofs.«01_k».proof.Proof.Flash
public import Idealize.ShloMosaic.Lib.Pointwise
public import Idealize.ShloMosaic.Lib.StableHlo.ReadAt

@[expose] public section

set_option maxRecDepth 16384

noncomputable section

namespace Cert.ReferenceIdeal.Hand

open Cert.ReferenceIdeal Cert.ReferenceIdeal.Gen
open Idealize.ShloMosaic

/-! ## The prompt: largest score, weights, their sum, the weighted values, the log-sum-exp -/

def p20 (S : FVec Ideal S6x4096x10x4x24576 .f32) : FVec Ideal S6x4096x10x4 .f32 :=
  Host.reduce FloatOps.maximumf S (constant S_ .f32 0xFF800000#32) reducesTo_S6x4096x10x4x24576_S6x4096x10x4_d4 h_S_
def p24 (S : FVec Ideal S6x4096x10x4x24576 .f32) : FVec Ideal S6x4096x10x4x24576 .f32 :=
  Host.exp (subf S (broadcastInDim S6x4096x10x4x24576 ![0, 1, 2, 3, 4] bcast_S6x4096x10x4x1_S6x4096x10x4x24576_0_1_2_3_4 (broadcastInDim S6x4096x10x4x1 ![0, 1, 2, 3] bcast_S6x4096x10x4_S6x4096x10x4x1_0_1_2_3 (p20 S))))
def p25 (S : FVec Ideal S6x4096x10x4x24576 .f32) : FVec Ideal S6x4096x10x4 .f32 :=
  Host.reduceAdd (p24 S) (constant S_ .f32 0x00000000#32) reducesTo_S6x4096x10x4x24576_S6x4096x10x4_d4 h_S_
def p37 (S : FVec Ideal S6x4096x10x4x24576 .f32) : FVec Ideal S6x4096x10x4 .f32 :=
  addf (p20 S) (Host.log (p25 S))
def p35 (S : FVec Ideal S6x4096x10x4x24576 .f32) (vs : FVec Ideal S24576x10 .f32) (v : FVec Ideal S24576x10x128 .bf16) : FVec Ideal S6x4096x10x4x128 .f32 :=
  Host.divf (transpose S6x4096x10x4x128 [2, 3, 0, 4, 1] (Host.dotGeneral dot_S24576x10x128_S6x4096x10x4x24576_S10x128x6x4096x4_0_4_2_013_1_2 none v
      (truncf .bf16 (mulf (p24 S) (broadcastInDim S6x4096x10x4x24576 ![0, 1, 2, 3, 4] bcast_S1x1x10x1x24576_S6x4096x10x4x24576_0_1_2_3_4 (broadcastInDim S1x1x10x1x24576 ![2, 4] bcast_S10x24576_S1x1x10x1x24576_2_4 (transpose S10x24576 [1, 0] vs transposes_S24576x10_S10x24576_1_0)))) bitsLt_bf16_f32)) transposes_S10x128x6x4096x4_S6x4096x10x4x128_2_3_0_4_1)
    (broadcastInDim S6x4096x10x4x128 ![0, 1, 2, 3, 4] bcast_S6x4096x10x4x1_S6x4096x10x4x128_0_1_2_3_4 (broadcastInDim S6x4096x10x4x1 ![0, 1, 2, 3] bcast_S6x4096x10x4_S6x4096x10x4x1_0_1_2_3 (p25 S)))

/-! ## The completion: the same -/

def c57 (S : FVec Ideal S6x4096x10x4x4096 .f32) : FVec Ideal S6x4096x10x4 .f32 :=
  Host.reduce FloatOps.maximumf S (constant S_ .f32 0xFF800000#32) reducesTo_S6x4096x10x4x4096_S6x4096x10x4_d4 h_S_
def c61 (S : FVec Ideal S6x4096x10x4x4096 .f32) : FVec Ideal S6x4096x10x4x4096 .f32 :=
  Host.exp (subf S (broadcastInDim S6x4096x10x4x4096 ![0, 1, 2, 3, 4] bcast_S6x4096x10x4x1_S6x4096x10x4x4096_0_1_2_3_4 (broadcastInDim S6x4096x10x4x1 ![0, 1, 2, 3] bcast_S6x4096x10x4_S6x4096x10x4x1_0_1_2_3 (c57 S))))
def c62 (S : FVec Ideal S6x4096x10x4x4096 .f32) : FVec Ideal S6x4096x10x4 .f32 :=
  Host.reduceAdd (c61 S) (constant S_ .f32 0x00000000#32) reducesTo_S6x4096x10x4x4096_S6x4096x10x4_d4 h_S_
def c74 (S : FVec Ideal S6x4096x10x4x4096 .f32) : FVec Ideal S6x4096x10x4 .f32 :=
  addf (c57 S) (Host.log (c62 S))
def c72 (S : FVec Ideal S6x4096x10x4x4096 .f32) (vs : FVec Ideal S6x4096x10 .f32) (v : FVec Ideal S6x4096x10x128 .bf16) : FVec Ideal S6x4096x10x4x128 .f32 :=
  Host.divf (transpose S6x4096x10x4x128 [0, 3, 1, 4, 2] (Host.dotGeneral dot_S6x4096x10x128_S6x4096x10x4x4096_S6x10x128x4096x4_1_4_3_13_02_02 none v
      (truncf .bf16 (mulf (c61 S) (broadcastInDim S6x4096x10x4x4096 ![0, 1, 2, 3, 4] bcast_S6x1x10x1x4096_S6x4096x10x4x4096_0_1_2_3_4 (broadcastInDim S6x1x10x1x4096 ![0, 2, 4] bcast_S6x10x4096_S6x1x10x1x4096_0_2_4 (transpose S6x10x4096 [0, 2, 1] vs transposes_S6x4096x10_S6x10x4096_0_2_1)))) bitsLt_bf16_f32)) transposes_S6x10x128x4096x4_S6x4096x10x4x128_0_3_1_4_2)
    (broadcastInDim S6x4096x10x4x128 ![0, 1, 2, 3, 4] bcast_S6x4096x10x4x1_S6x4096x10x4x128_0_1_2_3_4 (broadcastInDim S6x4096x10x4x1 ![0, 1, 2, 3] bcast_S6x4096x10x4_S6x4096x10x4x1_0_1_2_3 (c62 S)))

/-! ## The two put together -/

def l84 (a b : FVec Ideal S6x4096x10x4 .f32) : FVec Ideal S6x4096x10x4 .f32 :=
  select (cmpf .une (subf a b) (subf a b)) (addf a b) (addf (maximumf a b) (Host.log1p (Host.exp (Host.negf (Host.absf (subf a b))))))
def o95 (a b : FVec Ideal S6x4096x10x4 .f32) (x y : FVec Ideal S6x4096x10x4x128 .f32) : FVec Ideal S6x4096x10x4x128 .f32 :=
  addf (mulf (broadcastInDim S6x4096x10x4x128 ![0, 1, 2, 3, 4] bcast_S6x4096x10x4x1_S6x4096x10x4x128_0_1_2_3_4 (broadcastInDim S6x4096x10x4x1 ![0, 1, 2, 3] bcast_S6x4096x10x4_S6x4096x10x4x1_0_1_2_3 (Host.exp (subf a (l84 a b))))) x)
    (mulf (broadcastInDim S6x4096x10x4x128 ![0, 1, 2, 3, 4] bcast_S6x4096x10x4x1_S6x4096x10x4x128_0_1_2_3_4 (broadcastInDim S6x4096x10x4x1 ![0, 1, 2, 3] bcast_S6x4096x10x4_S6x4096x10x4x1_0_1_2_3 (Host.exp (subf b (l84 a b))))) y)

theorem addLog (X Y : FVec Ideal S6x4096x10x4 .f32) (i : S6x4096x10x4.Idx) : (addf X (Host.log Y) i : EReal) = X i + Ideal.log (Y i) := rfl

section At
variable (b : Fin 6) (s : Fin 4096) (h : Fin 10) (g : Fin 4) (d : Fin 128)

section
variable (S : FVec Ideal S6x4096x10x4x24576 .f32) (x : Fin 24576)
theorem p20_at : (p20 S (ix4 b s h g) : EReal) = Flash.mx Finset.univ fun x => (S (ix5 b s h g x) : EReal) := by
  pointwise [p20]
  simp only [Flash.mx, Flash.negInf]
theorem p24_at : (p24 S (ix5 b s h g x) : EReal) = Ideal.exp (S (ix5 b s h g x) - p20 S (ix4 b s h g)) := by
  pointwise [p24]
theorem p25_at : (p25 S (ix4 b s h g) : EReal) = Flash.sm Finset.univ (fun x => (S (ix5 b s h g x) : EReal)) (p20 S (ix4 b s h g)) := by
  pointwise [p25]
  unfold Flash.sm
  simp only [p24_at]
theorem p37_at : (p37 S (ix4 b s h g) : EReal) = p20 S (ix4 b s h g) + Ideal.log (p25 S (ix4 b s h g)) := by
  unfold p37
  rw [addLog]
theorem p35_at (vs : FVec Ideal S24576x10 .f32) (v : FVec Ideal S24576x10x128 .bf16) :
    (p35 S vs v (ix5 b s h g d) : EReal) = Ideal.div (∑ x, (v (ix3 x h d) : EReal) * (p24 S (ix5 b s h g x) * vs (ix2 x h))) (p25 S (ix4 b s h g)) := by
  pointwise [p35]
end
section
variable (S : FVec Ideal S6x4096x10x4x4096 .f32) (x : Fin 4096)
theorem c57_at : (c57 S (ix4 b s h g) : EReal) = Flash.mx Finset.univ fun x => (S (ix5 b s h g x) : EReal) := by
  pointwise [c57]
  simp only [Flash.mx, Flash.negInf]
theorem c61_at : (c61 S (ix5 b s h g x) : EReal) = Ideal.exp (S (ix5 b s h g x) - c57 S (ix4 b s h g)) := by
  pointwise [c61]
theorem c62_at : (c62 S (ix4 b s h g) : EReal) = Flash.sm Finset.univ (fun x => (S (ix5 b s h g x) : EReal)) (c57 S (ix4 b s h g)) := by
  pointwise [c62]
  unfold Flash.sm
  simp only [c61_at]
theorem c74_at : (c74 S (ix4 b s h g) : EReal) = c57 S (ix4 b s h g) + Ideal.log (c62 S (ix4 b s h g)) := by
  unfold c74
  rw [addLog]
theorem c72_at (vs : FVec Ideal S6x4096x10 .f32) (v : FVec Ideal S6x4096x10x128 .bf16) :
    (c72 S vs v (ix5 b s h g d) : EReal) = Ideal.div (∑ x, (v (ix4 b x h d) : EReal) * (c61 S (ix5 b s h g x) * vs (ix3 b x h))) (c62 S (ix4 b s h g)) := by
  pointwise [c72]
end
theorem l84_at (A B : FVec Ideal S6x4096x10x4 .f32) : (l84 A B (ix4 b s h g) : EReal) = max (A (ix4 b s h g) : EReal) (B (ix4 b s h g)) + Ideal.log1p (Ideal.exp (-(FloatOps.absf (F := Ideal) (A (ix4 b s h g) - B (ix4 b s h g) : EReal) : EReal))) := by
  pointwise [l84]
  rw [if_neg (fun h => h rfl)]
theorem o95_at (A B : FVec Ideal S6x4096x10x4 .f32) (x y : FVec Ideal S6x4096x10x4x128 .f32) :
    (o95 A B x y (ix5 b s h g d) : EReal) = Ideal.exp (A (ix4 b s h g) - l84 A B (ix4 b s h g)) * x (ix5 b s h g d) + Ideal.exp (B (ix4 b s h g) - l84 A B (ix4 b s h g)) * y (ix5 b s h g d) := by
  pointwise [o95]
end At

end Cert.ReferenceIdeal.Hand

end
-- ==== Proof.RefReads.lean ====
module

public import proofs.«01_k».proof.Proof.RefOps
public import proofs.«01_k».proof.Proof.Gen.ReferenceIdeal.Frame
public import Idealize.ShloMosaic.Lib.StableHlo.ReadAt

@[expose] public section

set_option maxRecDepth 16384

/-! The reference's stages, read as whole arrays. -/

noncomputable section

namespace Cert.ReferenceIdeal.Hand

open Cert.ReferenceIdeal Cert.ReferenceIdeal.Gen
open Idealize.ShloMosaic

/-- The query head of place `g` in group `h`. -/
def hd (h : Fin 10) (g : Fin 4) : Fin 40 := ⟨h.val * 4 + g.val, by omega⟩

section
variable (b : Fin 6) (s : Fin 4096) (h : Fin 10) (g : Fin 4)
/-- The scaled score of the prompt's key `x`, `-inf` from key `n` on. -/
def scR (n : BitVec 32) (K : FVec Ideal S24576x10x128 .bf16) (Q : FVec Ideal S6x4096x40x128 .bf16) (qs : FVec Ideal S6x4096x40 .f32) (ks : FVec Ideal S24576x10 .f32) (x : Fin 24576) : EReal :=
  Scalar.select (IntOp.cmpi .slt (BitVec.ofNat 32 x.val) n) ((∑ y : Fin 128, (K (ix3 x h y) : EReal) * Q (ix4 b s (hd h g) y)) * qs (ix3 b s (hd h g)) * ks (ix2 x h) * Ideal.ofBits .f32 0x3DB504F3#32) (⊥ : EReal)
/-- The scaled score of the completion's key `x`, `-inf` after the query. -/
def scD (K : FVec Ideal S6x4096x10x128 .bf16) (Q : FVec Ideal S6x4096x10x4x128 .bf16) (qs : FVec Ideal S6x4096x10x4 .f32) (ks : FVec Ideal S6x4096x10 .f32) (x : Fin 4096) : EReal :=
  Scalar.select (IntOp.cmpi .sle (BitVec.ofNat 32 x.val) (BitVec.ofNat 32 s.val)) ((∑ y : Fin 128, (K (ix4 b x h y) : EReal) * Q (ix5 b s h g y)) * qs (ix4 b s h g) * ks (ix3 b x h) * Ideal.ofBits .f32 0x3DB504F3#32) (⊥ : EReal)
/-- A log-sum-exp less the logarithm of `n`, 0 for a query that is not there. -/
def lseR (w : BitVec 1) (A : FVec Ideal S6x4096x10x4 .f32) (n : BitVec 32) : EReal := Scalar.select w ((A (ix4 b s h g) : EReal) - Ideal.log (FloatOps.sitofp .f32 n : Ideal .f32)) (0 : EReal)
end

variable (W : Valuation τ sig (Elt Ideal))

theorem read37 : StableHlo.after (List.flatten [hostOps1_2]) W (Proc.devRef .tc main_v37) = p37 (W (Proc.devRef .tc main_v19)) := by
  after_reads_simp
  rfl
theorem read35 : StableHlo.after (List.flatten [hostOps1_2]) W (Proc.devRef .tc main_v35) = p35 (W (Proc.devRef .tc main_v19)) (W (Proc.devRef .tc main_arg5)) (W (Proc.devRef .tc main_v0_2)) := by
  after_reads_simp
  rfl
theorem read74 : StableHlo.after (List.flatten [hostOps1_4]) W (Proc.devRef .tc main_v74) = c74 (W (Proc.devRef .tc main_v56)) := by
  after_reads_simp
  rfl
theorem read102 : StableHlo.after (List.flatten [hostOps1_4]) W (Proc.devRef .tc main_v102) =
    shapeCast S6x4096x5120 (o95 (W (Proc.devRef .tc main_v37)) (c74 (W (Proc.devRef .tc main_v56))) (W (Proc.devRef .tc main_v35)) (c72 (W (Proc.devRef .tc main_v56)) (W (Proc.devRef .tc main_arg9)) (W (Proc.devRef .tc main_v0_4)))) shapeCasts_S6x4096x10x4x128_S6x4096x5120 := by
  after_reads_simp
  rfl
theorem read101 (b : Fin 6) (s : Fin 4096) : StableHlo.after (List.flatten [hostOps1_4]) W (Proc.devRef .tc main_v101) (ix3 b s 0) = IntOp.cmpi .slt (W (Proc.devRef .tc main_v49) (ix1 s)) (W (Proc.devRef .tc main_arg11) (ix1 b)) := by
  after_reads_at
theorem readc7 : StableHlo.after (List.flatten [hostOps1_4]) W (Proc.devRef .tc main_cst_7) = constant (F := Ideal) S_ .f32 0x00000000#32 := by
  after_reads_simp
theorem read49 (s : Fin 4096) : StableHlo.after (List.flatten [hostOps1_2, hostOps1_3]) W (Proc.devRef .tc main_v49) (ix1 s) = BitVec.ofNat 32 s.val := by
  after_reads_at

section
variable (b : Fin 6) (s : Fin 4096) (h : Fin 10) (g : Fin 4)
theorem read19 (x : Fin 24576) : (StableHlo.after (List.flatten [hostOps1, hostOps1_1]) W (Proc.devRef .tc main_v19) (ix5 b s h g x) : EReal) =
    scR b s h g ((W (Proc.devRef .tc main_arg10)) (ix1 0)) (W (Proc.devRef .tc main_v0_1)) (W (Proc.devRef .tc main_v0_0)) (W (Proc.devRef .tc main_arg1)) (W (Proc.devRef .tc main_arg4)) x := by
  after_reads_at
  rw [show (id (constant (F := Ideal) S_ FTy.f32 4286578688#32) ix0 : EReal) = ⊥ from Flash.negInf]
  rfl
theorem read1 (d : Fin 128) : (StableHlo.after (List.flatten [hostOps1, hostOps1_1]) W (Proc.devRef .tc main_v1) (ix5 b s h g d) : EReal) = ((W (Proc.devRef .tc main_v0_0)) (ix4 b s (hd h g) d) : EReal) := by
  after_reads_at
  rfl
theorem read2 : (StableHlo.after (List.flatten [hostOps1, hostOps1_1]) W (Proc.devRef .tc main_v2) (ix4 b s h g) : EReal) = ((W (Proc.devRef .tc main_arg1)) (ix3 b s (hd h g)) : EReal) := by
  after_reads_at
  rfl
theorem read56 (x : Fin 4096) : (StableHlo.after (List.flatten [hostOps1_2, hostOps1_3]) W (Proc.devRef .tc main_v56) (ix5 b s h g x) : EReal) =
    scD b s h g (W (Proc.devRef .tc main_v0_3)) (W (Proc.devRef .tc main_v1)) (W (Proc.devRef .tc main_v2)) (W (Proc.devRef .tc main_arg8)) x := by
  after_reads_at
  rw [show (id (constant (F := Ideal) S_ FTy.f32 4286578688#32) ix0 : EReal) = ⊥ from Flash.negInf]
  rfl
theorem read104 (p : Fin 5120) : (StableHlo.after (List.flatten [hostOps1_5, hostOps1_6, hostOps1_7, hostOps1_8, hostOps1_9]) W (Proc.devRef .tc main_v104) (ix3 b s p) : EReal) =
    Scalar.select ((W (Proc.devRef .tc main_v101)) (ix3 b s 0) : BitVec 1) ((W (Proc.devRef .tc main_v102)) (ix3 b s p) : EReal) ((W (Proc.devRef .tc main_cst_7)) ix0 : EReal) := by
  after_reads_at
  rfl
theorem hd_div : (⟨(hd h g).val / 4, by have := (hd h g).isLt; omega⟩ : Fin 10) = h := Fin.ext (by show (h.val * 4 + g.val) / 4 = h.val; omega)
theorem hd_mod : (⟨(hd h g).val % 4, by omega⟩ : Fin 4) = g := Fin.ext (by show (h.val * 4 + g.val) % 4 = g.val; omega)
theorem read111' (p : Fin 40) (e1 : (⟨p.val / 4, by omega⟩ : Fin 10) = h) (e2 : (⟨p.val % 4, by omega⟩ : Fin 4) = g) : (StableHlo.after (List.flatten [hostOps1_5, hostOps1_6, hostOps1_7, hostOps1_8, hostOps1_9]) W (Proc.devRef .tc main_v111) (ix3 b s p) : EReal) =
    lseR b s h g ((W (Proc.devRef .tc main_v101)) (ix3 b s 0)) (W (Proc.devRef .tc main_v37)) ((W (Proc.devRef .tc main_arg10)) (ix1 0)) := by
  subst e1 e2
  after_reads_at
  rw [show (id (constant (F := Ideal) S_ FTy.f32 0#32) ix0 : EReal) = 0 from Ideal.ofBits_zero .f32]
  rfl
theorem read121' (p : Fin 40) (e1 : (⟨p.val / 4, by omega⟩ : Fin 10) = h) (e2 : (⟨p.val % 4, by omega⟩ : Fin 4) = g) : (StableHlo.after (List.flatten [hostOps1_5, hostOps1_6, hostOps1_7, hostOps1_8, hostOps1_9]) W (Proc.devRef .tc main_v121) (ix3 b s p) : EReal) =
    lseR b s h g ((W (Proc.devRef .tc main_v101)) (ix3 b s 0)) (W (Proc.devRef .tc main_v74)) (IntOp.addi 1#32 (BitVec.ofNat 32 s.val)) := by
  subst e1 e2
  after_reads_at
  rw [show (id (constant (F := Ideal) S_ FTy.f32 0#32) ix0 : EReal) = 0 from Ideal.ofBits_zero .f32]
  rfl
end

end Cert.ReferenceIdeal.Hand

end
-- ==== Proof.RefFinal.lean ====
module

public import proofs.«01_k».proof.Proof.RefReads
public import proofs.«01_k».proof.Proof.Spec

@[expose] public section

set_option maxRecDepth 16384

/-! The reference's three results as functions of what its host operations read. -/

noncomputable section

namespace Cert.ReferenceIdeal.Hand

open Cert.ReferenceIdeal Cert.ReferenceIdeal.Gen
open Idealize.ShloMosaic

variable (W : Valuation τ sig (Elt Ideal))

/-- What the host operations read. -/
def rdata : Flash.Data := Flash.Data.of (W (Proc.devRef .tc main_v0_0)) (W (Proc.devRef .tc main_arg1)) (W (Proc.devRef .tc main_v0_1)) (W (Proc.devRef .tc main_v0_2)) (W (Proc.devRef .tc main_arg4)) (W (Proc.devRef .tc main_arg5))
  (W (Proc.devRef .tc main_v0_3)) (W (Proc.devRef .tc main_v0_4)) (W (Proc.devRef .tc main_arg8)) (W (Proc.devRef .tc main_arg9)) (W (Proc.devRef .tc main_arg10)) (W (Proc.devRef .tc main_arg11))

/-- The contents after each group of operations. -/
def W1 : Valuation τ sig (Elt Ideal) := StableHlo.after (List.flatten [hostOps1, hostOps1_1]) W
def W2 : Valuation τ sig (Elt Ideal) := StableHlo.after (List.flatten [hostOps1_2, hostOps1_3]) (W1 W)
def W3 : Valuation τ sig (Elt Ideal) := StableHlo.after (List.flatten [hostOps1_4]) (W2 W)

theorem all_eq : StableHlo.after (List.flatten [hostOps1, hostOps1_1, hostOps1_2, hostOps1_3, hostOps1_4, hostOps1_5, hostOps1_6, hostOps1_7, hostOps1_8, hostOps1_9]) W
    = StableHlo.after (List.flatten [hostOps1_5, hostOps1_6, hostOps1_7, hostOps1_8, hostOps1_9]) (W3 W) := by
  unfold W3 W2 W1
  simp only [List.flatten_cons, List.flatten_nil, List.append_nil, StableHlo.after_append]

theorem kept1 (r : Ref sig .tc) (h : r ∉ hostOps1_W) (h' : r ∉ hostOps1_1_W) : W1 W (Proc.devRef .tc r) = W (Proc.devRef .tc r) := by
  unfold W1
  simp only [List.flatten_cons, List.flatten_nil, List.append_nil, StableHlo.after_append]
  rw [StableHlo.after_of_writes_sub (r := r) hostOps1_1 _ hostOps1_1_writes h', StableHlo.after_of_writes_sub (r := r) hostOps1 _ hostOps1_writes h]
theorem kept3' (r : Ref sig .tc) (h' : r ∉ hostOps1_3_W) : W2 W (Proc.devRef .tc r) = StableHlo.after (List.flatten [hostOps1_2]) (W1 W) (Proc.devRef .tc r) := by
  unfold W2
  simp only [List.flatten_cons, List.flatten_nil, List.append_nil, StableHlo.after_append]
  rw [StableHlo.after_of_writes_sub (r := r) hostOps1_3 _ hostOps1_3_writes h']
theorem kept2 (r : Ref sig .tc) (h : r ∉ hostOps1_2_W) (h' : r ∉ hostOps1_3_W) : W2 W (Proc.devRef .tc r) = W1 W (Proc.devRef .tc r) := by
  rw [kept3' W r h']
  simp only [List.flatten_cons, List.flatten_nil, List.append_nil]
  rw [StableHlo.after_of_writes_sub (r := r) hostOps1_2 _ hostOps1_2_writes h]
theorem kept3 (r : Ref sig .tc) (h : r ∉ hostOps1_4_W) : W3 W (Proc.devRef .tc r) = W2 W (Proc.devRef .tc r) := by
  unfold W3
  simp only [List.flatten_cons, List.flatten_nil, List.append_nil]
  rw [StableHlo.after_of_writes_sub (r := r) hostOps1_4 _ hostOps1_4_writes h]

theorem W3_arg10 : W3 W (Proc.devRef .tc main_arg10) = W (Proc.devRef .tc main_arg10) := by
  rw [kept3 W _ (by decide +kernel), kept2 W _ (by decide +kernel) (by decide +kernel), kept1 W _ (by decide +kernel) (by decide +kernel)]
theorem W2_arg11 : W2 W (Proc.devRef .tc main_arg11) = W (Proc.devRef .tc main_arg11) := by
  rw [kept2 W _ (by decide +kernel) (by decide +kernel), kept1 W _ (by decide +kernel) (by decide +kernel)]
theorem W2_arg9 : W2 W (Proc.devRef .tc main_arg9) = W (Proc.devRef .tc main_arg9) := by
  rw [kept2 W _ (by decide +kernel) (by decide +kernel), kept1 W _ (by decide +kernel) (by decide +kernel)]
theorem W2_v0_4 : W2 W (Proc.devRef .tc main_v0_4) = W (Proc.devRef .tc main_v0_4) := by
  rw [kept2 W _ (by decide +kernel) (by decide +kernel), kept1 W _ (by decide +kernel) (by decide +kernel)]
theorem W1_arg5 : W1 W (Proc.devRef .tc main_arg5) = W (Proc.devRef .tc main_arg5) := kept1 W _ (by decide +kernel) (by decide +kernel)
theorem W1_arg8 : W1 W (Proc.devRef .tc main_arg8) = W (Proc.devRef .tc main_arg8) := kept1 W _ (by decide +kernel) (by decide +kernel)
theorem W1_v0_2 : W1 W (Proc.devRef .tc main_v0_2) = W (Proc.devRef .tc main_v0_2) := kept1 W _ (by decide +kernel) (by decide +kernel)
theorem W1_v0_3 : W1 W (Proc.devRef .tc main_v0_3) = W (Proc.devRef .tc main_v0_3) := kept1 W _ (by decide +kernel) (by decide +kernel)
theorem W2_v37 : W2 W (Proc.devRef .tc main_v37) = p37 (W1 W (Proc.devRef .tc main_v19)) :=
  (kept3' W _ (by decide +kernel)).trans (read37 (W1 W))
theorem W2_v35 : W2 W (Proc.devRef .tc main_v35) = p35 (W1 W (Proc.devRef .tc main_v19)) (W (Proc.devRef .tc main_arg5)) (W (Proc.devRef .tc main_v0_2)) :=
  (kept3' W _ (by decide +kernel)).trans ((read35 (W1 W)).trans (by rw [W1_arg5, W1_v0_2]))
theorem W3_v37 : W3 W (Proc.devRef .tc main_v37) = p37 (W1 W (Proc.devRef .tc main_v19)) :=
  (kept3 W _ (by decide +kernel)).trans (W2_v37 W)
theorem W3_v74 : W3 W (Proc.devRef .tc main_v74) = c74 (W2 W (Proc.devRef .tc main_v56)) := read74 (W2 W)

section
variable (b : Fin 6) (s : Fin 4096) (h : Fin 10) (g : Fin 4) (d : Fin 128)

/-- The scores. -/
theorem v19_eq : (fun x => (W1 W (Proc.devRef .tc main_v19) (ix5 b s h g x) : EReal)) = (rdata W).sp b s h g :=
  funext fun x => read19 W b s h g x
theorem v56_eq : (fun x => (W2 W (Proc.devRef .tc main_v56) (ix5 b s h g x) : EReal)) = (rdata W).sc b s h g := by
  funext x
  refine (read56 (W1 W) b s h g x).trans ?_
  rw [W1_v0_3, W1_arg8]
  unfold scD Flash.Data.sc
  exact congrArg₂ (fun z w : EReal => Scalar.select (IntOp.cmpi .sle (BitVec.ofNat 32 x.val) (BitVec.ofNat 32 s.val)) (z * w * (rdata W).cks b x h * Ideal.ofBits .f32 0x3DB504F3#32) (⊥ : EReal))
    (Finset.sum_congr rfl fun y _ => congrArg (fun z : EReal => (rdata W).ck b x h y * z) (read1 W b s h g y)) (read2 W b s h g)
/-- Whether the completion has the query. -/
theorem v101_eq : W3 W (Proc.devRef .tc main_v101) (ix3 b s 0) = (rdata W).has b s := by
  refine (read101 (W2 W) b s).trans ?_
  rw [W2_arg11]
  exact congrArg (fun z => IntOp.cmpi .slt z _) (read49 (W1 W) s)

theorem v37_eq (S : FVec Ideal S6x4096x10x4x24576 .f32) : (p37 S (ix4 b s h g) : EReal) = Flash.lse fun x => (S (ix5 b s h g x) : EReal) := by
  rw [p37_at, p25_at, p20_at]
  rfl
theorem v74_eq (S : FVec Ideal S6x4096x10x4x4096 .f32) : (c74 S (ix4 b s h g) : EReal) = Flash.lse fun x => (S (ix5 b s h g x) : EReal) := by
  rw [c74_at, c62_at, c57_at]
  rfl
theorem v35_eq (S : FVec Ideal S6x4096x10x4x24576 .f32) (vs : FVec Ideal S24576x10 .f32) (v : FVec Ideal S24576x10x128 .bf16) :
    (p35 S vs v (ix5 b s h g d) : EReal) = Flash.avg (fun x => (S (ix5 b s h g x) : EReal)) fun x => (v (ix3 x h d) : EReal) * vs (ix2 x h) := by
  rw [p35_at, p25_at]
  rw [Finset.sum_congr rfl fun x _ => (show (v (ix3 x h d) : EReal) * (p24 S (ix5 b s h g x) * vs (ix2 x h)) = Ideal.exp ((S (ix5 b s h g x) : EReal) - p20 S (ix4 b s h g)) * ((v (ix3 x h d) : EReal) * vs (ix2 x h)) by
    rw [p24_at]; exact mul_left_comm _ _ _), p20_at]
  rfl
theorem v72_eq (S : FVec Ideal S6x4096x10x4x4096 .f32) (vs : FVec Ideal S6x4096x10 .f32) (v : FVec Ideal S6x4096x10x128 .bf16) :
    (c72 S vs v (ix5 b s h g d) : EReal) = Flash.avg (fun x => (S (ix5 b s h g x) : EReal)) fun x => (v (ix4 b x h d) : EReal) * vs (ix3 b x h) := by
  rw [c72_at, c62_at]
  rw [Finset.sum_congr rfl fun x _ => (show (v (ix4 b x h d) : EReal) * (c61 S (ix5 b s h g x) * vs (ix3 b x h)) = Ideal.exp ((S (ix5 b s h g x) : EReal) - c57 S (ix4 b s h g)) * ((v (ix4 b x h d) : EReal) * vs (ix3 b x h)) by
    rw [c61_at]; exact mul_left_comm _ _ _), c57_at]
  rfl

theorem ref111 : (StableHlo.after (List.flatten [hostOps1, hostOps1_1, hostOps1_2, hostOps1_3, hostOps1_4, hostOps1_5, hostOps1_6, hostOps1_7, hostOps1_8, hostOps1_9]) W (Proc.devRef .tc main_v111) (ix3 b s (hd h g)) : EReal) = (rdata W).lseP b s h g := by
  rw [all_eq]
  refine (read111' (W3 W) b s h g (hd h g) (hd_div h g) (hd_mod h g)).trans ?_
  rw [v101_eq, W3_v37, W3_arg10]
  unfold lseR
  rw [v37_eq]
  exact congrArg (fun z => Scalar.select _ (Flash.lse z - _ : EReal) (0 : EReal)) (v19_eq W b s h g)
theorem ref121 : (StableHlo.after (List.flatten [hostOps1, hostOps1_1, hostOps1_2, hostOps1_3, hostOps1_4, hostOps1_5, hostOps1_6, hostOps1_7, hostOps1_8, hostOps1_9]) W (Proc.devRef .tc main_v121) (ix3 b s (hd h g)) : EReal) = (rdata W).lseC b s h g := by
  rw [all_eq]
  refine (read121' (W3 W) b s h g (hd h g) (hd_div h g) (hd_mod h g)).trans ?_
  rw [v101_eq, W3_v74, show IntOp.addi 1#32 (BitVec.ofNat 32 s.val) = IntOp.addi (BitVec.ofNat 32 s.val) 1#32 from BitVec.add_comm _ _]
  unfold lseR
  rw [v74_eq]
  exact congrArg (fun z => Scalar.select _ (Flash.lse z - _ : EReal) (0 : EReal)) (v56_eq W b s h g)

theorem congrArg₃ {α β γ δ : Type} (f : α → β → γ → δ) {a a' : α} {b b' : β} {c c' : γ} (ha : a = a') (hb : b = b') (hc : c = c') : f a b c = f a' b' c' := by
  subst ha hb hc
  rfl

/-- The column of the joined result where dimension `d` of a head stands. -/
def place : Fin 5120 := ⟨h.val * 512 + (g.val * 128 + d.val), by omega⟩

theorem o95_eq (A B : FVec Ideal S6x4096x10x4 .f32) (x y : FVec Ideal S6x4096x10x4x128 .f32) (hA : (A (ix4 b s h g) : EReal) ≠ ⊤) (hB : (B (ix4 b s h g) : EReal) ≠ ⊤) :
    (o95 A B x y (ix5 b s h g d) : EReal) = (fun A B x y : EReal => Flash.merge (max A B + Ideal.log (Ideal.exp (A - max A B) + Ideal.exp (B - max A B))) A B x y) (A (ix4 b s h g)) (B (ix4 b s h g)) (x (ix5 b s h g d)) (y (ix5 b s h g d)) := by
  rw [o95_at, l84_at, Flash.logadd _ _ hA hB]
  rfl
theorem flat_at (x : FVec Ideal S6x4096x10x4x128 .f32) (hc) : (shapeCast S6x4096x5120 x hc (ix3 b s (place h g d)) : EReal) = x (ix5 b s h g d) := by
  pointwise []
  exact congrArg₃ (fun p q r => x (ix5 b s p q r)) (Fin.ext (by show _ = h.val; unfold place; dsimp only; omega)) (Fin.ext (by show _ = g.val; unfold place; dsimp only; omega)) (Fin.ext (by show _ = d.val; unfold place; dsimp only; omega))

theorem ref104 : (StableHlo.after (List.flatten [hostOps1, hostOps1_1, hostOps1_2, hostOps1_3, hostOps1_4, hostOps1_5, hostOps1_6, hostOps1_7, hostOps1_8, hostOps1_9]) W (Proc.devRef .tc main_v104) (ix3 b s (place h g d)) : EReal) = (rdata W).out b s h g d := by
  have eA : (p37 (W1 W (Proc.devRef .tc main_v19)) (ix4 b s h g) : EReal) = Flash.lse ((rdata W).sp b s h g) := (v37_eq b s h g _).trans (congrArg Flash.lse (v19_eq W b s h g))
  have eB : (c74 (W2 W (Proc.devRef .tc main_v56)) (ix4 b s h g) : EReal) = Flash.lse ((rdata W).sc b s h g) := (v74_eq b s h g _).trans (congrArg Flash.lse (v56_eq W b s h g))
  have eX := (v35_eq b s h g d (W1 W (Proc.devRef .tc main_v19)) (W (Proc.devRef .tc main_arg5)) (W (Proc.devRef .tc main_v0_2))).trans (congrArg (fun z => Flash.avg z _) (v19_eq W b s h g))
  have eY := (v72_eq b s h g d (W2 W (Proc.devRef .tc main_v56)) (W (Proc.devRef .tc main_arg9)) (W (Proc.devRef .tc main_v0_4))).trans (congrArg (fun z => Flash.avg z _) (v56_eq W b s h g))
  have e : (W3 W (Proc.devRef .tc main_v102) (ix3 b s (place h g d)) : EReal) = (fun A B x y : EReal => Flash.merge (max A B + Ideal.log (Ideal.exp (A - max A B) + Ideal.exp (B - max A B))) A B x y) (Flash.lse ((rdata W).sp b s h g)) (Flash.lse ((rdata W).sc b s h g))
      (Flash.avg ((rdata W).sp b s h g) ((rdata W).vp h d)) (Flash.avg ((rdata W).sc b s h g) ((rdata W).vc b h d)) := by
    refine (congrFun (read102 (W2 W)) _).trans ?_
    rw [W2_v37, W2_v35, W2_arg9, W2_v0_4]
    refine (flat_at b s h g d _ _).trans ?_
    refine (o95_eq b s h g d _ _ _ _ (eA ▸ Flash.lse_ne_top _) (eB ▸ Flash.lse_ne_top _)).trans ?_
    rw [eA, eB, eX, eY]
    rfl
  rw [all_eq]
  refine (read104 (W3 W) b s (place h g d)).trans ?_
  rw [v101_eq, e, show (W3 W (Proc.devRef .tc main_cst_7) ix0 : EReal) = (0 : EReal) from (congrFun (readc7 (W2 W)) ix0).trans (Ideal.ofBits_zero .f32)]
  rfl
end

end Cert.ReferenceIdeal.Hand

end
-- ==== Proof.RefRun.lean ====
module

public import proofs.«01_k».proof.Proof.RefFinal
public import Idealize.ShloMosaic.Lib.Pipeline.ValueKit

@[expose] public section

set_option maxRecDepth 16384

/-! The reference's three results where a run ends. -/

noncomputable section

namespace Cert.ReferenceIdeal.Hand

open Cert.ReferenceIdeal Cert.ReferenceIdeal.Gen
open Idealize.ShloMosaic

variable (m : (ℓ : Loc nD τ sig) → Buf (Elt Ideal) ℓ) (c : Dev nD)

theorem off4 : (![0, 0, 0, 0] : Fin 4 → ℕ) = fun _ => 0 := by
  funext a
  fin_cases a <;> rfl
theorem off3 : (![0, 0, 0] : Fin 3 → ℕ) = fun _ => 0 := by
  funext a
  fin_cases a <;> rfl

/-- A block read, decoded and stored whole is the block. -/
theorem out5 (x0 x1 x2 x3 x4) (j : S6x4096x40x128.Idx) : (show EReal from out0_5 (F := Ideal) x0 x1 x2 x3 x4 j) = x0 j := by
  unfold out0_5
  rw [View.canon_unit_zero off4]
  show (View.ld x0 r0_0 j : EReal) = x0 j
  rw [View.ld_unit_zero off4]
theorem out6 (x0 x1 x2 x3 x4) (j : S24576x10x128.Idx) : (show EReal from out0_6 (F := Ideal) x0 x1 x2 x3 x4 j) = x1 j := by
  unfold out0_6
  rw [View.canon_unit_zero off3]
  show (View.ld x1 r0_1 j : EReal) = x1 j
  rw [View.ld_unit_zero off3]
theorem out7 (x0 x1 x2 x3 x4) (j : S24576x10x128.Idx) : (show EReal from out0_7 (F := Ideal) x0 x1 x2 x3 x4 j) = x2 j := by
  unfold out0_7
  rw [View.canon_unit_zero off3]
  show (View.ld x2 r0_1 j : EReal) = x2 j
  rw [View.ld_unit_zero off3]
theorem out8 (x0 x1 x2 x3 x4) (j : S6x4096x10x128.Idx) : (show EReal from out0_8 (F := Ideal) x0 x1 x2 x3 x4 j) = x3 j := by
  unfold out0_8
  rw [View.canon_unit_zero off4]
  show (View.ld x3 r0_2 j : EReal) = x3 j
  rw [View.ld_unit_zero off4]
theorem out9 (x0 x1 x2 x3 x4) (j : S6x4096x10x128.Idx) : (show EReal from out0_9 (F := Ideal) x0 x1 x2 x3 x4 j) = x4 j := by
  unfold out0_9
  rw [View.canon_unit_zero off4]
  show (View.ld x4 r0_2 j : EReal) = x4 j
  rw [View.ld_unit_zero off4]

/-- The blocks are the whole arguments. -/
theorem blk0 (j : S6x4096x40x128.Idx) : (show EReal from iblk m c 0 t0_0 j) = (show EReal from m ((c.tc : Thread nD τ).loc main_arg0) j) := by
  refine congrArg (m ((c.tc : Thread nD τ).loc main_arg0)) (?_ : ((cfg0.win 0).blk t0_0).view.emb j = j)
  funext a
  refine Fin.ext ?_
  fin_cases a
  · blk_simp []
    rw [show win0_0.index t0_0 0 = 0 from rfl]
    omega
  · blk_simp []
    rw [show win0_0.index t0_0 1 = 0 from rfl]
    omega
  · blk_simp []
    rw [show win0_0.index t0_0 2 = 0 from rfl]
    omega
  · blk_simp []
    rw [show win0_0.index t0_0 3 = 0 from rfl]
    omega
theorem blk1 (j : S24576x10x128.Idx) : (show EReal from iblk m c 1 t0_0 j) = (show EReal from m ((c.tc : Thread nD τ).loc main_arg2) j) := by
  refine congrArg (m ((c.tc : Thread nD τ).loc main_arg2)) (?_ : ((cfg0.win 1).blk t0_0).view.emb j = j)
  funext a
  refine Fin.ext ?_
  fin_cases a
  · blk_simp []
    rw [show win0_1.index t0_0 0 = 0 from rfl]
    omega
  · blk_simp []
    rw [show win0_1.index t0_0 1 = 0 from rfl]
    omega
  · blk_simp []
    rw [show win0_1.index t0_0 2 = 0 from rfl]
    omega
theorem blk2 (j : S24576x10x128.Idx) : (show EReal from iblk m c 2 t0_0 j) = (show EReal from m ((c.tc : Thread nD τ).loc main_arg3) j) := by
  refine congrArg (m ((c.tc : Thread nD τ).loc main_arg3)) (?_ : ((cfg0.win 2).blk t0_0).view.emb j = j)
  funext a
  refine Fin.ext ?_
  fin_cases a
  · blk_simp []
    rw [show win0_2.index t0_0 0 = 0 from rfl]
    omega
  · blk_simp []
    rw [show win0_2.index t0_0 1 = 0 from rfl]
    omega
  · blk_simp []
    rw [show win0_2.index t0_0 2 = 0 from rfl]
    omega
theorem blk3 (j : S6x4096x10x128.Idx) : (show EReal from iblk m c 3 t0_0 j) = (show EReal from m ((c.tc : Thread nD τ).loc main_arg6) j) := by
  refine congrArg (m ((c.tc : Thread nD τ).loc main_arg6)) (?_ : ((cfg0.win 3).blk t0_0).view.emb j = j)
  funext a
  refine Fin.ext ?_
  fin_cases a
  · blk_simp []
    rw [show win0_3.index t0_0 0 = 0 from rfl]
    omega
  · blk_simp []
    rw [show win0_3.index t0_0 1 = 0 from rfl]
    omega
  · blk_simp []
    rw [show win0_3.index t0_0 2 = 0 from rfl]
    omega
  · blk_simp []
    rw [show win0_3.index t0_0 3 = 0 from rfl]
    omega
theorem blk4 (j : S6x4096x10x128.Idx) : (show EReal from iblk m c 4 t0_0 j) = (show EReal from m ((c.tc : Thread nD τ).loc main_arg7) j) := by
  refine congrArg (m ((c.tc : Thread nD τ).loc main_arg7)) (?_ : ((cfg0.win 4).blk t0_0).view.emb j = j)
  funext a
  refine Fin.ext ?_
  fin_cases a
  · blk_simp []
    rw [show win0_4.index t0_0 0 = 0 from rfl]
    omega
  · blk_simp []
    rw [show win0_4.index t0_0 1 = 0 from rfl]
    omega
  · blk_simp []
    rw [show win0_4.index t0_0 2 = 0 from rfl]
    omega
  · blk_simp []
    rw [show win0_4.index t0_0 3 = 0 from rfl]
    omega

/-- The decoded arrays hold the codes' values. -/
theorem dec0 : (dats m 0 c).arrAt 5 cfg0.N = (m ((c.tc : Thread nD τ).loc main_arg0) : S6x4096x40x128.Idx → EReal) := by
  refine (dats m 0 c).arrAt_eq_of_after_last 5 t0_0 (by decide +kernel) _ fun j => ?_
  blk_simp
  rw [after0_5]
  exact (out5 _ _ _ _ _ j).trans (blk0 m c j)
theorem dec1 : (dats m 0 c).arrAt 6 cfg0.N = (m ((c.tc : Thread nD τ).loc main_arg2) : S24576x10x128.Idx → EReal) := by
  refine (dats m 0 c).arrAt_eq_of_after_last 6 t0_0 (by decide +kernel) _ fun j => ?_
  blk_simp
  rw [after0_6]
  exact (out6 _ _ _ _ _ j).trans (blk1 m c j)
theorem dec2 : (dats m 0 c).arrAt 7 cfg0.N = (m ((c.tc : Thread nD τ).loc main_arg3) : S24576x10x128.Idx → EReal) := by
  refine (dats m 0 c).arrAt_eq_of_after_last 7 t0_0 (by decide +kernel) _ fun j => ?_
  blk_simp
  rw [after0_7]
  exact (out7 _ _ _ _ _ j).trans (blk2 m c j)
theorem dec3 : (dats m 0 c).arrAt 8 cfg0.N = (m ((c.tc : Thread nD τ).loc main_arg6) : S6x4096x10x128.Idx → EReal) := by
  refine (dats m 0 c).arrAt_eq_of_after_last 8 t0_0 (by decide +kernel) _ fun j => ?_
  blk_simp
  rw [after0_8]
  exact (out8 _ _ _ _ _ j).trans (blk3 m c j)
theorem dec4 : (dats m 0 c).arrAt 9 cfg0.N = (m ((c.tc : Thread nD τ).loc main_arg7) : S6x4096x10x128.Idx → EReal) := by
  refine (dats m 0 c).arrAt_eq_of_after_last 9 t0_0 (by decide +kernel) _ fun j => ?_
  blk_simp
  rw [after0_9]
  exact (out9 _ _ _ _ _ j).trans (blk4 m c j)

/-- The arguments as the reference is launched with them. -/
def mdata : Flash.Data := Flash.Data.of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- What the host operations after the region start from: the decoded arrays and, elsewhere, the launch memory. -/
def Wend : Valuation τ sig (Elt Ideal) := Pipeline.withArrays (cfgs 0).spec c (V0 m c) fun w => (dats m 0 c).arrAt w (cfgs 0).N

theorem Wend_arg1 : Wend m c (Proc.devRef .tc main_arg1) = m ((c.tc : Thread nD τ).loc main_arg1) := Pipeline.withArrays_of_ne _ c _ _ main_arg1 (by decide)
theorem Wend_arg4 : Wend m c (Proc.devRef .tc main_arg4) = m ((c.tc : Thread nD τ).loc main_arg4) := Pipeline.withArrays_of_ne _ c _ _ main_arg4 (by decide)
theorem Wend_arg5 : Wend m c (Proc.devRef .tc main_arg5) = m ((c.tc : Thread nD τ).loc main_arg5) := Pipeline.withArrays_of_ne _ c _ _ main_arg5 (by decide)
theorem Wend_arg8 : Wend m c (Proc.devRef .tc main_arg8) = m ((c.tc : Thread nD τ).loc main_arg8) := Pipeline.withArrays_of_ne _ c _ _ main_arg8 (by decide)
theorem Wend_arg9 : Wend m c (Proc.devRef .tc main_arg9) = m ((c.tc : Thread nD τ).loc main_arg9) := Pipeline.withArrays_of_ne _ c _ _ main_arg9 (by decide)
theorem Wend_arg10 : Wend m c (Proc.devRef .tc main_arg10) = m ((c.tc : Thread nD τ).loc main_arg10) := Pipeline.withArrays_of_ne _ c _ _ main_arg10 (by decide)
theorem Wend_arg11 : Wend m c (Proc.devRef .tc main_arg11) = m ((c.tc : Thread nD τ).loc main_arg11) := Pipeline.withArrays_of_ne _ c _ _ main_arg11 (by decide)
theorem Wend_v0_0 : Wend m c (Proc.devRef .tc main_v0_0) = (m ((c.tc : Thread nD τ).loc main_arg0) : S6x4096x40x128.Idx → EReal) :=
  (Pipeline.withArrays_arr (cfgs 0).spec winFacts0.2 c _ _ 5).trans (dec0 m c)
theorem Wend_v0_1 : Wend m c (Proc.devRef .tc main_v0_1) = (m ((c.tc : Thread nD τ).loc main_arg2) : S24576x10x128.Idx → EReal) :=
  (Pipeline.withArrays_arr (cfgs 0).spec winFacts0.2 c _ _ 6).trans (dec1 m c)
theorem Wend_v0_2 : Wend m c (Proc.devRef .tc main_v0_2) = (m ((c.tc : Thread nD τ).loc main_arg3) : S24576x10x128.Idx → EReal) :=
  (Pipeline.withArrays_arr (cfgs 0).spec winFacts0.2 c _ _ 7).trans (dec2 m c)
theorem Wend_v0_3 : Wend m c (Proc.devRef .tc main_v0_3) = (m ((c.tc : Thread nD τ).loc main_arg6) : S6x4096x10x128.Idx → EReal) :=
  (Pipeline.withArrays_arr (cfgs 0).spec winFacts0.2 c _ _ 8).trans (dec3 m c)
theorem Wend_v0_4 : Wend m c (Proc.devRef .tc main_v0_4) = (m ((c.tc : Thread nD τ).loc main_arg7) : S6x4096x10x128.Idx → EReal) :=
  (Pipeline.withArrays_arr (cfgs 0).spec winFacts0.2 c _ _ 9).trans (dec4 m c)

theorem rdata_Wend : rdata (Wend m c) = mdata m c := by
  unfold rdata mdata
  rw [Wend_v0_0, Wend_arg1, Wend_v0_1, Wend_v0_2, Wend_arg4, Wend_arg5, Wend_v0_3, Wend_v0_4, Wend_arg8, Wend_arg9, Wend_arg10, Wend_arg11]

/-- The three results where a run ends. -/
def Post (r : PUnit × MemSt nD τ sig (Elt Ideal)) : Prop :=
  Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9]) r

variable {m} {r : PUnit × MemSt nD τ sig (Elt Ideal)} (hr : Post m r) (b : Fin 6) (s : Fin 4096) (h : Fin 10) (g : Fin 4) (d : Fin 128)
include hr

theorem end_out : (show EReal from r.2.mem ((c.tc : Thread nD τ).loc main_v104) (ix3 b s (place h g d))) = (mdata m c).out b s h g d := by
  refine (congrFun ((hr c).2 main_v104 (Pipeline.mem_restRefs_of main_v104 (by decide) (by decide))) _).trans ?_
  unfold Pipeline.afterTail₀
  rw [← rdata_Wend]
  exact ref104 (Wend m c) b s h g d
theorem end_lseP : (show EReal from r.2.mem ((c.tc : Thread nD τ).loc main_v111) (ix3 b s (hd h g))) = (mdata m c).lseP b s h g := by
  refine (congrFun ((hr c).2 main_v111 (Pipeline.mem_restRefs_of main_v111 (by decide) (by decide))) _).trans ?_
  unfold Pipeline.afterTail₀
  rw [← rdata_Wend]
  exact ref111 (Wend m c) b s h g
theorem end_lseC : (show EReal from r.2.mem ((c.tc : Thread nD τ).loc main_v121) (ix3 b s (hd h g))) = (mdata m c).lseC b s h g := by
  refine (congrFun ((hr c).2 main_v121 (Pipeline.mem_restRefs_of main_v121 (by decide) (by decide))) _).trans ?_
  unfold Pipeline.afterTail₀
  rw [← rdata_Wend]
  exact ref121 (Wend m c) b s h g

end Cert.ReferenceIdeal.Hand

end
-- ==== Proof.Algebra.lean ====
module

public import proofs.«01_k».proof.Defs
public import proofs.«01_k».proof.Proof.Fits
public import proofs.«01_k».proof.Proof.FramesIdeal
public import proofs.«01_k».proof.Proof.LastIdeal
public import proofs.«01_k».proof.Proof.RefRun

@[expose] public section

/-! The kernel and the reference end with the same three arrays. -/

noncomputable section

namespace Cert.Flash

open Idealize.ShloMosaic

/-- Where a column of the joined result comes from, and where a query head does. -/
def colH (q : Fin 5120) : Fin 10 := ⟨q.val / 512, by omega⟩
def colG (q : Fin 5120) : Fin 4 := ⟨q.val % 512 / 128, by omega⟩
def colD (q : Fin 5120) : Fin 128 := ⟨q.val % 128, by omega⟩
def col (h : Fin 10) (g : Fin 4) (d : Fin 128) : Fin 5120 := ⟨h.val * 512 + (g.val * 128 + d.val), by omega⟩
theorem col_eq (q : Fin 5120) : q = col (colH q) (colG q) (colD q) := Fin.ext (by show q.val = q.val / 512 * 512 + (q.val % 512 / 128 * 128 + q.val % 128); omega)
def headH (q : Fin 40) : Fin 10 := ⟨q.val / 4, by omega⟩
def headG (q : Fin 40) : Fin 4 := ⟨q.val % 4, by omega⟩
theorem head_eq (q : Fin 40) : q = head (headH q) (headG q) := Fin.ext (by show q.val = q.val / 4 * 4 + q.val % 4; omega)

theorem split3 {n0 n1 n2 : ℕ} (x : (⟨3, ![n0, n1, n2]⟩ : Shape).Idx) : x = ix3 (x 0) (x 1) (x 2) := by
  funext i
  fin_cases i <;> rfl

/-- The three results as whole arrays. -/
def Data.outs (D : Data) : (⟨3, ![6, 4096, 5120]⟩ : Shape).Idx → EReal := fun x => D.out (x 0) (x 1) (colH (x 2)) (colG (x 2)) (colD (x 2))
def Data.lsePs (D : Data) : (⟨3, ![6, 4096, 40]⟩ : Shape).Idx → EReal := fun x => D.lseP (x 0) (x 1) (headH (x 2)) (headG (x 2))
def Data.lseCs (D : Data) : (⟨3, ![6, 4096, 40]⟩ : Shape).Idx → EReal := fun x => D.lseC (x 0) (x 1) (headH (x 2)) (headG (x 2))

/-- An array with the right entries at every head and column is the whole result. -/
theorem eq_cols {A : (⟨3, ![6, 4096, 5120]⟩ : Shape).Idx → EReal} {f : Fin 6 → Fin 4096 → Fin 10 → Fin 4 → Fin 128 → EReal}
    (hA : ∀ b s h g d, A (ix3 b s (col h g d)) = f b s h g d) : A = fun x => f (x 0) (x 1) (colH (x 2)) (colG (x 2)) (colD (x 2)) := by
  funext x
  exact (congrArg A ((split3 x).trans (congrArg (ix3 (x 0) (x 1)) (col_eq (x 2))))).trans (hA _ _ _ _ _)
theorem eq_heads {A : (⟨3, ![6, 4096, 40]⟩ : Shape).Idx → EReal} {f : Fin 6 → Fin 4096 → Fin 10 → Fin 4 → EReal}
    (hA : ∀ b s h g, A (ix3 b s (head h g)) = f b s h g) : A = fun x => f (x 0) (x 1) (headH (x 2)) (headG (x 2)) := by
  funext x
  exact (congrArg A ((split3 x).trans (congrArg (ix3 (x 0) (x 1)) (head_eq (x 2))))).trans (hA _ _ _ _)

end Cert.Flash

namespace Cert.KernelIdeal.Hand

open Cert.KernelIdeal Cert.KernelIdeal.Gen
open Idealize.ShloMosaic Idealize.SL.Sem

variable (m : (ℓ : Loc nD τ sig) → Buf (Elt Ideal) ℓ) (c : Dev nD) (hn : (kdata m c).n.toInt ≤ 24576)
variable {r : PUnit × MemSt nD τ sig (Elt Ideal)} (hr : RunPost m r)
include hn hr

/-- The kernel's three results, whole. -/
theorem whole_out : r.2.mem ((c.tc : Thread nD τ).loc main_v31_0) = (kdata m c).outs := Flash.eq_cols fun b s h g d => end_out m c hn b s h g d hr
theorem whole_lseP : r.2.mem ((c.tc : Thread nD τ).loc main_v33) = (kdata m c).lsePs := Flash.eq_heads fun b s h g => end_lseP m c hn b s h g hr
theorem whole_lseC : r.2.mem ((c.tc : Thread nD τ).loc main_v35) = (kdata m c).lseCs := Flash.eq_heads fun b s h g => end_lseC m c hn b s h g hr

end Cert.KernelIdeal.Hand

namespace Cert.ReferenceIdeal.Hand

open Cert.ReferenceIdeal Cert.ReferenceIdeal.Gen
open Idealize.ShloMosaic Idealize.SL.Sem

variable {m : (ℓ : Loc nD τ sig) → Buf (Elt Ideal) ℓ} (c : Dev nD)
variable {r : PUnit × MemSt nD τ sig (Elt Ideal)} (hr : Post m r)
include hr

/-- The reference's three results, whole. -/
theorem whole_out : r.2.mem ((c.tc : Thread nD τ).loc main_v104) = (mdata m c).outs := Flash.eq_cols fun b s h g d => end_out c hr b s h g d
theorem whole_lseP : r.2.mem ((c.tc : Thread nD τ).loc main_v111) = (mdata m c).lsePs := Flash.eq_heads fun b s h g => end_lseP c hr b s h g
theorem whole_lseC : r.2.mem ((c.tc : Thread nD τ).loc main_v121) = (mdata m c).lseCs := Flash.eq_heads fun b s h g => end_lseC c hr b s h g

end Cert.ReferenceIdeal.Hand

namespace Cert.Proof

open Idealize.ShloMosaic Idealize.SL.Sem

theorem algebraic : Cert.algebraic_KernelIdeal_ReferenceIdeal (hKernelIdeal := Cert.KernelIdeal.Gen.facts) (hReferenceIdeal := Cert.ReferenceIdeal.Gen.facts) (hPre_prefix_fits := Cert.Pre_prefix_fits.Gen.facts) := by
  intro m g m' g' hpre hargs
  have hn : ∀ c, (Cert.KernelIdeal.Hand.kdata m c).n.toInt ≤ 24576 := fun c => fits _ _ _ _ _ _ _ _ _ _ _ _ (hpre c) (ix1 0)
  have hD : ∀ c, Cert.ReferenceIdeal.Hand.mdata m' c = Cert.KernelIdeal.Hand.kdata m c := fun c => by
    obtain ⟨h0, h1, h2, h3, h4, h5, h6, h7, h8, h9, h10, h11⟩ := hargs c
    unfold Cert.ReferenceIdeal.Hand.mdata Cert.KernelIdeal.Hand.kdata
    rw [h0, h1, h2, h3, h4, h5, h6, h7, h8, h9, h10, h11]
  refine ⟨fun c => (Cert.KernelIdeal.Hand.kdata m c).outs, fun c => (Cert.KernelIdeal.Hand.kdata m c).lsePs, fun c => (Cert.KernelIdeal.Hand.kdata m c).lseCs, ?_, ?_⟩
  · refine (θ_run _ _ _).mono (fun r hr c => ⟨Cert.KernelIdeal.Hand.whole_out m c (hn c) hr, Cert.KernelIdeal.Hand.whole_lseP m c (hn c) hr, Cert.KernelIdeal.Hand.whole_lseC m c (hn c) hr, Cert.KernelIdeal.Hand.args_kept m hr c⟩)
      (Cert.KernelIdeal.Hand.run_main m g fun c x => ?_)
    rw [Cert.KernelIdeal.Hand.plen_eq']
    exact hn c
  · refine (θ_run _ _ _).mono (fun r hr c => ⟨(Cert.ReferenceIdeal.Hand.whole_out c hr.1).trans (congrArg Flash.Data.outs (hD c)), (Cert.ReferenceIdeal.Hand.whole_lseP c hr.1).trans (congrArg Flash.Data.lsePs (hD c)), (Cert.ReferenceIdeal.Hand.whole_lseC c hr.1).trans (congrArg Flash.Data.lseCs (hD c)), hr.2 c⟩)
      (Idealize.ShloMosaic.θ_run_and (Cert.ReferenceIdeal.Gen.run_main m' g') (Cert.ReferenceIdeal.Gen.unchanged m' g'))

end Cert.Proof

end
-- ==== Proof.lean ====
module

public import proofs.«01_k».proof.Defs
public import proofs.«01_k».proof.Proof.Frames
public import proofs.«01_k».proof.Proof.FramesIdeal
public import proofs.«01_k».proof.Proof.Fits
public import proofs.«01_k».proof.Proof.Algebra
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_prefix_fits

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_prefix_fits.Gen.facts,
  fun m g h => Cert.Kernel.Hand.quiet m g fun c x => fits _ _ _ _ _ _ _ _ _ _ _ _ (h c) x,
  fun m g h => Cert.KernelIdeal.Hand.quiet m g fun c x => fits _ _ _ _ _ _ _ _ _ _ _ _ (h c) x,
  fun m g _ => Cert.ReferenceIdeal.Gen.frame m g,
  fun m g _ => Cert.ReferenceIdeal.Gen.frame m g,
  trivial,
  algebraic⟩

end Cert.Proof

end
